-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_Disc (m : (ℓ : Loc Cert.Disc.nD Cert.Disc.τ Cert.Disc.sig) → Buf (Elt Bits) ℓ) : Prop :=
  True

def Pre_DiscIdeal (m : (ℓ : Loc Cert.DiscIdeal.nD Cert.DiscIdeal.τ Cert.DiscIdeal.sig) → Buf (Elt Ideal) ℓ) : Prop :=
  True

def Pre_DiscReferenceIdeal (m : (ℓ : Loc Cert.DiscReferenceIdeal.nD Cert.DiscReferenceIdeal.τ Cert.DiscReferenceIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolReferenceIdeal (m : (ℓ : Loc Cert.PoolReferenceIdeal.nD Cert.PoolReferenceIdeal.τ Cert.PoolReferenceIdeal.sig) → Buf (Elt Ideal) ℓ) : Prop :=
  True

def Pre_Bias (m : (ℓ : Loc Cert.Bias.nD Cert.Bias.τ Cert.Bias.sig) → Buf (Elt Bits) ℓ) : Prop :=
  True

def Pre_BiasIdeal (m : (ℓ : Loc Cert.BiasIdeal.nD Cert.BiasIdeal.τ Cert.BiasIdeal.sig) → Buf (Elt Ideal) ℓ) : Prop :=
  True

def Pre_BiasReferenceIdeal (m : (ℓ : Loc Cert.BiasReferenceIdeal.nD Cert.BiasReferenceIdeal.τ Cert.BiasReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2))
      ∧ r.2.sem = fun _ => 0)

def quiescent_Disc [hDisc : Cert.Disc.Facts] : Prop :=
  ∀ (m : (ℓ : Loc Cert.Disc.nD Cert.Disc.τ Cert.Disc.sig) → Buf (Elt Bits) ℓ) (g : Dev Cert.Disc.nD → PrngReg), Pre_Disc m →
    θ_run (Cert.Disc.defs (F := Bits)) (onTc (τ := Cert.Disc.τ) (Cert.Disc.main (F := Bits))) ⟨m, fun _ => 0, g⟩ (fun r => (∀ c : Dev Cert.Disc.nD,
      r.2.mem ((c.tc : Thread Cert.Disc.nD Cert.Disc.τ).loc Cert.Disc.main_arg0) = m ((c.tc : Thread Cert.Disc.nD Cert.Disc.τ).loc Cert.Disc.main_arg0)
      ∧ r.2.mem ((c.tc : Thread Cert.Disc.nD Cert.Disc.τ).loc Cert.Disc.main_arg1) = m ((c.tc : Thread Cert.Disc.nD Cert.Disc.τ).loc Cert.Disc.main_arg1)
      ∧ r.2.mem ((c.tc : Thread Cert.Disc.nD Cert.Disc.τ).loc Cert.Disc.main_arg2) = m ((c.tc : Thread Cert.Disc.nD Cert.Disc.τ).loc Cert.Disc.main_arg2)
      ∧ r.2.mem ((c.tc : Thread Cert.Disc.nD Cert.Disc.τ).loc Cert.Disc.main_arg3) = m ((c.tc : Thread Cert.Disc.nD Cert.Disc.τ).loc Cert.Disc.main_arg3)
      ∧ r.2.mem ((c.tc : Thread Cert.Disc.nD Cert.Disc.τ).loc Cert.Disc.main_arg4) = m ((c.tc : Thread Cert.Disc.nD Cert.Disc.τ).loc Cert.Disc.main_arg4))
      ∧ r.2.sem = fun _ => 0)

def quiescent_DiscIdeal [hDiscIdeal : Cert.DiscIdeal.Facts] : Prop :=
  ∀ (m : (ℓ : Loc Cert.DiscIdeal.nD Cert.DiscIdeal.τ Cert.DiscIdeal.sig) → Buf (Elt Ideal) ℓ) (g : Dev Cert.DiscIdeal.nD → PrngReg), Pre_DiscIdeal m →
    θ_run (Cert.DiscIdeal.defs (F := Ideal)) (onTc (τ := Cert.DiscIdeal.τ) (Cert.DiscIdeal.main (F := Ideal))) ⟨m, fun _ => 0, g⟩ (fun r => (∀ c : Dev Cert.DiscIdeal.nD,
      r.2.mem ((c.tc : Thread Cert.DiscIdeal.nD Cert.DiscIdeal.τ).loc Cert.DiscIdeal.main_arg0) = m ((c.tc : Thread Cert.DiscIdeal.nD Cert.DiscIdeal.τ).loc Cert.DiscIdeal.main_arg0)
      ∧ r.2.mem ((c.tc : Thread Cert.DiscIdeal.nD Cert.DiscIdeal.τ).loc Cert.DiscIdeal.main_arg1) = m ((c.tc : Thread Cert.DiscIdeal.nD Cert.DiscIdeal.τ).loc Cert.DiscIdeal.main_arg1)
      ∧ r.2.mem ((c.tc : Thread Cert.DiscIdeal.nD Cert.DiscIdeal.τ).loc Cert.DiscIdeal.main_arg2) = m ((c.tc : Thread Cert.DiscIdeal.nD Cert.DiscIdeal.τ).loc Cert.DiscIdeal.main_arg2)
      ∧ r.2.mem ((c.tc : Thread Cert.DiscIdeal.nD Cert.DiscIdeal.τ).loc Cert.DiscIdeal.main_arg3) = m ((c.tc : Thread Cert.DiscIdeal.nD Cert.DiscIdeal.τ).loc Cert.DiscIdeal.main_arg3)
      ∧ r.2.mem ((c.tc : Thread Cert.DiscIdeal.nD Cert.DiscIdeal.τ).loc Cert.DiscIdeal.main_arg4) = m ((c.tc : Thread Cert.DiscIdeal.nD Cert.DiscIdeal.τ).loc Cert.DiscIdeal.main_arg4))
      ∧ r.2.sem = fun _ => 0)

def quiescent_DiscReferenceIdeal [hDiscReferenceIdeal : Cert.DiscReferenceIdeal.Facts] : Prop :=
  ∀ (m : (ℓ : Loc Cert.DiscReferenceIdeal.nD Cert.DiscReferenceIdeal.τ Cert.DiscReferenceIdeal.sig) → Buf (Elt Ideal) ℓ) (g : Dev Cert.DiscReferenceIdeal.nD → PrngReg), Pre_DiscReferenceIdeal m →
    θ_run (Cert.DiscReferenceIdeal.defs (F := Ideal)) (onTc (τ := Cert.DiscReferenceIdeal.τ) (Cert.DiscReferenceIdeal.main (F := Ideal))) ⟨m, fun _ => 0, g⟩ (fun r => (∀ c : Dev Cert.DiscReferenceIdeal.nD,
      r.2.mem ((c.tc : Thread Cert.DiscReferenceIdeal.nD Cert.DiscReferenceIdeal.τ).loc Cert.DiscReferenceIdeal.main_arg0) = m ((c.tc : Thread Cert.DiscReferenceIdeal.nD Cert.DiscReferenceIdeal.τ).loc Cert.DiscReferenceIdeal.main_arg0)
      ∧ r.2.mem ((c.tc : Thread Cert.DiscReferenceIdeal.nD Cert.DiscReferenceIdeal.τ).loc Cert.DiscReferenceIdeal.main_arg1) = m ((c.tc : Thread Cert.DiscReferenceIdeal.nD Cert.DiscReferenceIdeal.τ).loc Cert.DiscReferenceIdeal.main_arg1)
      ∧ r.2.mem ((c.tc : Thread Cert.DiscReferenceIdeal.nD Cert.DiscReferenceIdeal.τ).loc Cert.DiscReferenceIdeal.main_arg2) = m ((c.tc : Thread Cert.DiscReferenceIdeal.nD Cert.DiscReferenceIdeal.τ).loc Cert.DiscReferenceIdeal.main_arg2)
      ∧ r.2.mem ((c.tc : Thread Cert.DiscReferenceIdeal.nD Cert.DiscReferenceIdeal.τ).loc Cert.DiscReferenceIdeal.main_arg3) = m ((c.tc : Thread Cert.DiscReferenceIdeal.nD Cert.DiscReferenceIdeal.τ).loc Cert.DiscReferenceIdeal.main_arg3)
      ∧ r.2.mem ((c.tc : Thread Cert.DiscReferenceIdeal.nD Cert.DiscReferenceIdeal.τ).loc Cert.DiscReferenceIdeal.main_arg4) = m ((c.tc : Thread Cert.DiscReferenceIdeal.nD Cert.DiscReferenceIdeal.τ).loc Cert.DiscReferenceIdeal.main_arg4))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ r.2.sem = fun _ => 0)

def quiescent_PoolReferenceIdeal [hPoolReferenceIdeal : Cert.PoolReferenceIdeal.Facts] : Prop :=
  ∀ (m : (ℓ : Loc Cert.PoolReferenceIdeal.nD Cert.PoolReferenceIdeal.τ Cert.PoolReferenceIdeal.sig) → Buf (Elt Ideal) ℓ) (g : Dev Cert.PoolReferenceIdeal.nD → PrngReg), Pre_PoolReferenceIdeal m →
    θ_run (Cert.PoolReferenceIdeal.defs (F := Ideal)) (onTc (τ := Cert.PoolReferenceIdeal.τ) (Cert.PoolReferenceIdeal.main (F := Ideal))) ⟨m, fun _ => 0, g⟩ (fun r => (∀ c : Dev Cert.PoolReferenceIdeal.nD,
      r.2.mem ((c.tc : Thread Cert.PoolReferenceIdeal.nD Cert.PoolReferenceIdeal.τ).loc Cert.PoolReferenceIdeal.main_arg0) = m ((c.tc : Thread Cert.PoolReferenceIdeal.nD Cert.PoolReferenceIdeal.τ).loc Cert.PoolReferenceIdeal.main_arg0)
      ∧ r.2.mem ((c.tc : Thread Cert.PoolReferenceIdeal.nD Cert.PoolReferenceIdeal.τ).loc Cert.PoolReferenceIdeal.main_arg1) = m ((c.tc : Thread Cert.PoolReferenceIdeal.nD Cert.PoolReferenceIdeal.τ).loc Cert.PoolReferenceIdeal.main_arg1)
      ∧ r.2.mem ((c.tc : Thread Cert.PoolReferenceIdeal.nD Cert.PoolReferenceIdeal.τ).loc Cert.PoolReferenceIdeal.main_arg2) = m ((c.tc : Thread Cert.PoolReferenceIdeal.nD Cert.PoolReferenceIdeal.τ).loc Cert.PoolReferenceIdeal.main_arg2))
      ∧ r.2.sem = fun _ => 0)

def quiescent_Bias [hBias : Cert.Bias.Facts] : Prop :=
  ∀ (m : (ℓ : Loc Cert.Bias.nD Cert.Bias.τ Cert.Bias.sig) → Buf (Elt Bits) ℓ) (g : Dev Cert.Bias.nD → PrngReg), Pre_Bias m →
    θ_run (Cert.Bias.defs (F := Bits)) (onTc (τ := Cert.Bias.τ) (Cert.Bias.main (F := Bits))) ⟨m, fun _ => 0, g⟩ (fun r => (∀ c : Dev Cert.Bias.nD,
      r.2.mem ((c.tc : Thread Cert.Bias.nD Cert.Bias.τ).loc Cert.Bias.main_arg0) = m ((c.tc : Thread Cert.Bias.nD Cert.Bias.τ).loc Cert.Bias.main_arg0))
      ∧ r.2.sem = fun _ => 0)

def quiescent_BiasIdeal [hBiasIdeal : Cert.BiasIdeal.Facts] : Prop :=
  ∀ (m : (ℓ : Loc Cert.BiasIdeal.nD Cert.BiasIdeal.τ Cert.BiasIdeal.sig) → Buf (Elt Ideal) ℓ) (g : Dev Cert.BiasIdeal.nD → PrngReg), Pre_BiasIdeal m →
    θ_run (Cert.BiasIdeal.defs (F := Ideal)) (onTc (τ := Cert.BiasIdeal.τ) (Cert.BiasIdeal.main (F := Ideal))) ⟨m, fun _ => 0, g⟩ (fun r => (∀ c : Dev Cert.BiasIdeal.nD,
      r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0))
      ∧ r.2.sem = fun _ => 0)

def quiescent_BiasReferenceIdeal [hBiasReferenceIdeal : Cert.BiasReferenceIdeal.Facts] : Prop :=
  ∀ (m : (ℓ : Loc Cert.BiasReferenceIdeal.nD Cert.BiasReferenceIdeal.τ Cert.BiasReferenceIdeal.sig) → Buf (Elt Ideal) ℓ) (g : Dev Cert.BiasReferenceIdeal.nD → PrngReg), Pre_BiasReferenceIdeal m →
    θ_run (Cert.BiasReferenceIdeal.defs (F := Ideal)) (onTc (τ := Cert.BiasReferenceIdeal.τ) (Cert.BiasReferenceIdeal.main (F := Ideal))) ⟨m, fun _ => 0, g⟩ (fun r => (∀ c : Dev Cert.BiasReferenceIdeal.nD,
      r.2.mem ((c.tc : Thread Cert.BiasReferenceIdeal.nD Cert.BiasReferenceIdeal.τ).loc Cert.BiasReferenceIdeal.main_arg0) = m ((c.tc : Thread Cert.BiasReferenceIdeal.nD Cert.BiasReferenceIdeal.τ).loc Cert.BiasReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v32) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v25)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v25) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v62) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v20_0)) (v1 : (c : Dev Cert.InProjIdeal.nD) → Buf (Elt Ideal) ((c.tc : Thread Cert.InProjIdeal.nD Cert.InProjIdeal.τ).loc Cert.InProjIdeal.main_v20_1)) (v2 : (c : Dev Cert.InProjIdeal.nD) → Buf (Elt Ideal) ((c.tc : Thread Cert.InProjIdeal.nD Cert.InProjIdeal.τ).loc Cert.InProjIdeal.main_v20_2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v20_0) = v0 c
          ∧ r.2.mem ((c.tc : Thread Cert.InProjIdeal.nD Cert.InProjIdeal.τ).loc Cert.InProjIdeal.main_v20_1) = v1 c
          ∧ r.2.mem ((c.tc : Thread Cert.InProjIdeal.nD Cert.InProjIdeal.τ).loc Cert.InProjIdeal.main_v20_2) = v2 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v24) = v0 c
          ∧ r.2.mem ((c.tc : Thread Cert.InProjReferenceIdeal.nD Cert.InProjReferenceIdeal.τ).loc Cert.InProjReferenceIdeal.main_v29) = v1 c
          ∧ r.2.mem ((c.tc : Thread Cert.InProjReferenceIdeal.nD Cert.InProjReferenceIdeal.τ).loc Cert.InProjReferenceIdeal.main_v30) = v2 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2))

def preserves_Disc_DiscIdeal : Prop :=
  True

def algebraic_DiscIdeal_DiscReferenceIdeal [hDiscIdeal : Cert.DiscIdeal.Facts] [hDiscReferenceIdeal : Cert.DiscReferenceIdeal.Facts] : Prop :=
  ∀ (m : (ℓ : Loc Cert.DiscIdeal.nD Cert.DiscIdeal.τ Cert.DiscIdeal.sig) → Buf (Elt Ideal) ℓ) (g : Dev Cert.DiscIdeal.nD → PrngReg)
    (m' : (ℓ : Loc Cert.DiscReferenceIdeal.nD Cert.DiscReferenceIdeal.τ Cert.DiscReferenceIdeal.sig) → Buf (Elt Ideal) ℓ) (g' : Dev Cert.DiscReferenceIdeal.nD → PrngReg), Pre_DiscIdeal m →
    (∀ c : Dev Cert.DiscIdeal.nD,
      m' ((c.tc : Thread Cert.DiscReferenceIdeal.nD Cert.DiscReferenceIdeal.τ).loc Cert.DiscReferenceIdeal.main_arg0) = m ((c.tc : Thread Cert.DiscIdeal.nD Cert.DiscIdeal.τ).loc Cert.DiscIdeal.main_arg0)
      ∧ m' ((c.tc : Thread Cert.DiscReferenceIdeal.nD Cert.DiscReferenceIdeal.τ).loc Cert.DiscReferenceIdeal.main_arg1) = m ((c.tc : Thread Cert.DiscIdeal.nD Cert.DiscIdeal.τ).loc Cert.DiscIdeal.main_arg1)
      ∧ m' ((c.tc : Thread Cert.DiscReferenceIdeal.nD Cert.DiscReferenceIdeal.τ).loc Cert.DiscReferenceIdeal.main_arg2) = m ((c.tc : Thread Cert.DiscIdeal.nD Cert.DiscIdeal.τ).loc Cert.DiscIdeal.main_arg2)
      ∧ m' ((c.tc : Thread Cert.DiscReferenceIdeal.nD Cert.DiscReferenceIdeal.τ).loc Cert.DiscReferenceIdeal.main_arg3) = m ((c.tc : Thread Cert.DiscIdeal.nD Cert.DiscIdeal.τ).loc Cert.DiscIdeal.main_arg3)
      ∧ m' ((c.tc : Thread Cert.DiscReferenceIdeal.nD Cert.DiscReferenceIdeal.τ).loc Cert.DiscReferenceIdeal.main_arg4) = m ((c.tc : Thread Cert.DiscIdeal.nD Cert.DiscIdeal.τ).loc Cert.DiscIdeal.main_arg4)) →
    ∃ (v0 : (c : Dev Cert.DiscIdeal.nD) → Buf (Elt Ideal) ((c.tc : Thread Cert.DiscIdeal.nD Cert.DiscIdeal.τ).loc Cert.DiscIdeal.main_v5_0)) (v1 : (c : Dev Cert.DiscIdeal.nD) → Buf (Elt Ideal) ((c.tc : Thread Cert.DiscIdeal.nD Cert.DiscIdeal.τ).loc Cert.DiscIdeal.main_v5_1)) (v2 : (c : Dev Cert.DiscIdeal.nD) → Buf (Elt Ideal) ((c.tc : Thread Cert.DiscIdeal.nD Cert.DiscIdeal.τ).loc Cert.DiscIdeal.main_v5_2)) (v3 : (c : Dev Cert.DiscIdeal.nD) → Buf (Elt Ideal) ((c.tc : Thread Cert.DiscIdeal.nD Cert.DiscIdeal.τ).loc Cert.DiscIdeal.main_v5_3)),
      θ_run (Cert.DiscIdeal.defs (F := Ideal)) (onTc (τ := Cert.DiscIdeal.τ) (Cert.DiscIdeal.main (F := Ideal))) ⟨m, fun _ => 0, g⟩ (fun r => ∀ c : Dev Cert.DiscIdeal.nD,
          r.2.mem ((c.tc : Thread Cert.DiscIdeal.nD Cert.DiscIdeal.τ).loc Cert.DiscIdeal.main_v5_0) = v0 c
          ∧ r.2.mem ((c.tc : Thread Cert.DiscIdeal.nD Cert.DiscIdeal.τ).loc Cert.DiscIdeal.main_v5_1) = v1 c
          ∧ r.2.mem ((c.tc : Thread Cert.DiscIdeal.nD Cert.DiscIdeal.τ).loc Cert.DiscIdeal.main_v5_2) = v2 c
          ∧ r.2.mem ((c.tc : Thread Cert.DiscIdeal.nD Cert.DiscIdeal.τ).loc Cert.DiscIdeal.main_v5_3) = v3 c
          ∧ r.2.mem ((c.tc : Thread Cert.DiscIdeal.nD Cert.DiscIdeal.τ).loc Cert.DiscIdeal.main_arg0) = m ((c.tc : Thread Cert.DiscIdeal.nD Cert.DiscIdeal.τ).loc Cert.DiscIdeal.main_arg0)
          ∧ r.2.mem ((c.tc : Thread Cert.DiscIdeal.nD Cert.DiscIdeal.τ).loc Cert.DiscIdeal.main_arg1) = m ((c.tc : Thread Cert.DiscIdeal.nD Cert.DiscIdeal.τ).loc Cert.DiscIdeal.main_arg1)
          ∧ r.2.mem ((c.tc : Thread Cert.DiscIdeal.nD Cert.DiscIdeal.τ).loc Cert.DiscIdeal.main_arg2) = m ((c.tc : Thread Cert.DiscIdeal.nD Cert.DiscIdeal.τ).loc Cert.DiscIdeal.main_arg2)
          ∧ r.2.mem ((c.tc : Thread Cert.DiscIdeal.nD Cert.DiscIdeal.τ).loc Cert.DiscIdeal.main_arg3) = m ((c.tc : Thread Cert.DiscIdeal.nD Cert.DiscIdeal.τ).loc Cert.DiscIdeal.main_arg3)
          ∧ r.2.mem ((c.tc : Thread Cert.DiscIdeal.nD Cert.DiscIdeal.τ).loc Cert.DiscIdeal.main_arg4) = m ((c.tc : Thread Cert.DiscIdeal.nD Cert.DiscIdeal.τ).loc Cert.DiscIdeal.main_arg4))
      ∧ θ_run (Cert.DiscReferenceIdeal.defs (F := Ideal)) (onTc (τ := Cert.DiscReferenceIdeal.τ) (Cert.DiscReferenceIdeal.main (F := Ideal))) ⟨m', fun _ => 0, g'⟩ (fun r => ∀ c : Dev Cert.DiscReferenceIdeal.nD,
          r.2.mem ((c.tc : Thread Cert.DiscReferenceIdeal.nD Cert.DiscReferenceIdeal.τ).loc Cert.DiscReferenceIdeal.main_v42) = v0 c
          ∧ r.2.mem ((c.tc : Thread Cert.DiscReferenceIdeal.nD Cert.DiscReferenceIdeal.τ).loc Cert.DiscReferenceIdeal.main_v43) = v1 c
          ∧ r.2.mem ((c.tc : Thread Cert.DiscReferenceIdeal.nD Cert.DiscReferenceIdeal.τ).loc Cert.DiscReferenceIdeal.main_v44) = v2 c
          ∧ r.2.mem ((c.tc : Thread Cert.DiscReferenceIdeal.nD Cert.DiscReferenceIdeal.τ).loc Cert.DiscReferenceIdeal.main_v45) = v3 c
          ∧ r.2.mem ((c.tc : Thread Cert.DiscReferenceIdeal.nD Cert.DiscReferenceIdeal.τ).loc Cert.DiscReferenceIdeal.main_arg0) = m' ((c.tc : Thread Cert.DiscReferenceIdeal.nD Cert.DiscReferenceIdeal.τ).loc Cert.DiscReferenceIdeal.main_arg0)
          ∧ r.2.mem ((c.tc : Thread Cert.DiscReferenceIdeal.nD Cert.DiscReferenceIdeal.τ).loc Cert.DiscReferenceIdeal.main_arg1) = m' ((c.tc : Thread Cert.DiscReferenceIdeal.nD Cert.DiscReferenceIdeal.τ).loc Cert.DiscReferenceIdeal.main_arg1)
          ∧ r.2.mem ((c.tc : Thread Cert.DiscReferenceIdeal.nD Cert.DiscReferenceIdeal.τ).loc Cert.DiscReferenceIdeal.main_arg2) = m' ((c.tc : Thread Cert.DiscReferenceIdeal.nD Cert.DiscReferenceIdeal.τ).loc Cert.DiscReferenceIdeal.main_arg2)
          ∧ r.2.mem ((c.tc : Thread Cert.DiscReferenceIdeal.nD Cert.DiscReferenceIdeal.τ).loc Cert.DiscReferenceIdeal.main_arg3) = m' ((c.tc : Thread Cert.DiscReferenceIdeal.nD Cert.DiscReferenceIdeal.τ).loc Cert.DiscReferenceIdeal.main_arg3)
          ∧ r.2.mem ((c.tc : Thread Cert.DiscReferenceIdeal.nD Cert.DiscReferenceIdeal.τ).loc Cert.DiscReferenceIdeal.main_arg4) = m' ((c.tc : Thread Cert.DiscReferenceIdeal.nD Cert.DiscReferenceIdeal.τ).loc Cert.DiscReferenceIdeal.main_arg4))

def preserves_Pool_PoolIdeal : Prop :=
  True

def algebraic_PoolIdeal_PoolReferenceIdeal [hPoolIdeal : Cert.PoolIdeal.Facts] [hPoolReferenceIdeal : Cert.PoolReferenceIdeal.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolReferenceIdeal.nD Cert.PoolReferenceIdeal.τ Cert.PoolReferenceIdeal.sig) → Buf (Elt Ideal) ℓ) (g' : Dev Cert.PoolReferenceIdeal.nD → PrngReg), Pre_PoolIdeal m →
    (∀ c : Dev Cert.PoolIdeal.nD,
      m' ((c.tc : Thread Cert.PoolReferenceIdeal.nD Cert.PoolReferenceIdeal.τ).loc Cert.PoolReferenceIdeal.main_arg0) = m ((c.tc : Thread Cert.PoolIdeal.nD Cert.PoolIdeal.τ).loc Cert.PoolIdeal.main_arg0)
      ∧ m' ((c.tc : Thread Cert.PoolReferenceIdeal.nD Cert.PoolReferenceIdeal.τ).loc Cert.PoolReferenceIdeal.main_arg1) = m ((c.tc : Thread Cert.PoolIdeal.nD Cert.PoolIdeal.τ).loc Cert.PoolIdeal.main_arg1)
      ∧ m' ((c.tc : Thread Cert.PoolReferenceIdeal.nD Cert.PoolReferenceIdeal.τ).loc Cert.PoolReferenceIdeal.main_arg2) = m ((c.tc : Thread Cert.PoolIdeal.nD Cert.PoolIdeal.τ).loc Cert.PoolIdeal.main_arg2)) →
    ∃ (v0 : (c : Dev Cert.PoolIdeal.nD) → Buf (Elt Ideal) ((c.tc : Thread Cert.PoolIdeal.nD Cert.PoolIdeal.τ).loc Cert.PoolIdeal.main_v2)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v2) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ θ_run (Cert.PoolReferenceIdeal.defs (F := Ideal)) (onTc (τ := Cert.PoolReferenceIdeal.τ) (Cert.PoolReferenceIdeal.main (F := Ideal))) ⟨m', fun _ => 0, g'⟩ (fun r => ∀ c : Dev Cert.PoolReferenceIdeal.nD,
          r.2.mem ((c.tc : Thread Cert.PoolReferenceIdeal.nD Cert.PoolReferenceIdeal.τ).loc Cert.PoolReferenceIdeal.main_v59) = v0 c
          ∧ r.2.mem ((c.tc : Thread Cert.PoolReferenceIdeal.nD Cert.PoolReferenceIdeal.τ).loc Cert.PoolReferenceIdeal.main_arg0) = m' ((c.tc : Thread Cert.PoolReferenceIdeal.nD Cert.PoolReferenceIdeal.τ).loc Cert.PoolReferenceIdeal.main_arg0)
          ∧ r.2.mem ((c.tc : Thread Cert.PoolReferenceIdeal.nD Cert.PoolReferenceIdeal.τ).loc Cert.PoolReferenceIdeal.main_arg1) = m' ((c.tc : Thread Cert.PoolReferenceIdeal.nD Cert.PoolReferenceIdeal.τ).loc Cert.PoolReferenceIdeal.main_arg1)
          ∧ r.2.mem ((c.tc : Thread Cert.PoolReferenceIdeal.nD Cert.PoolReferenceIdeal.τ).loc Cert.PoolReferenceIdeal.main_arg2) = m' ((c.tc : Thread Cert.PoolReferenceIdeal.nD Cert.PoolReferenceIdeal.τ).loc Cert.PoolReferenceIdeal.main_arg2))

def preserves_Bias_BiasIdeal : Prop :=
  True

def algebraic_BiasIdeal_BiasReferenceIdeal [hBiasIdeal : Cert.BiasIdeal.Facts] [hBiasReferenceIdeal : Cert.BiasReferenceIdeal.Facts] : Prop :=
  ∀ (m : (ℓ : Loc Cert.BiasIdeal.nD Cert.BiasIdeal.τ Cert.BiasIdeal.sig) → Buf (Elt Ideal) ℓ) (g : Dev Cert.BiasIdeal.nD → PrngReg)
    (m' : (ℓ : Loc Cert.BiasReferenceIdeal.nD Cert.BiasReferenceIdeal.τ Cert.BiasReferenceIdeal.sig) → Buf (Elt Ideal) ℓ) (g' : Dev Cert.BiasReferenceIdeal.nD → PrngReg), Pre_BiasIdeal m →
    (∀ c : Dev Cert.BiasIdeal.nD,
      m' ((c.tc : Thread Cert.BiasReferenceIdeal.nD Cert.BiasReferenceIdeal.τ).loc Cert.BiasReferenceIdeal.main_arg0) = m ((c.tc : Thread Cert.BiasIdeal.nD Cert.BiasIdeal.τ).loc Cert.BiasIdeal.main_arg0)) →
    ∃ (v0 : (c : Dev Cert.BiasIdeal.nD) → Buf (Elt Ideal) ((c.tc : Thread Cert.BiasIdeal.nD Cert.BiasIdeal.τ).loc Cert.BiasIdeal.main_v0)),
      θ_run (Cert.BiasIdeal.defs (F := Ideal)) (onTc (τ := Cert.BiasIdeal.τ) (Cert.BiasIdeal.main (F := Ideal))) ⟨m, fun _ => 0, g⟩ (fun r => ∀ c : Dev Cert.BiasIdeal.nD,
          r.2.mem ((c.tc : Thread Cert.BiasIdeal.nD Cert.BiasIdeal.τ).loc Cert.BiasIdeal.main_v0) = v0 c
          ∧ r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0))
      ∧ θ_run (Cert.BiasReferenceIdeal.defs (F := Ideal)) (onTc (τ := Cert.BiasReferenceIdeal.τ) (Cert.BiasReferenceIdeal.main (F := Ideal))) ⟨m', fun _ => 0, g'⟩ (fun r => ∀ c : Dev Cert.BiasReferenceIdeal.nD,
          r.2.mem ((c.tc : Thread Cert.BiasReferenceIdeal.nD Cert.BiasReferenceIdeal.τ).loc Cert.BiasReferenceIdeal.main_v48) = v0 c
          ∧ r.2.mem ((c.tc : Thread Cert.BiasReferenceIdeal.nD Cert.BiasReferenceIdeal.τ).loc Cert.BiasReferenceIdeal.main_arg0) = m' ((c.tc : Thread Cert.BiasReferenceIdeal.nD Cert.BiasReferenceIdeal.τ).loc Cert.BiasReferenceIdeal.main_arg0))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hMerge : Cert.Merge.Facts) (hMergeIdeal : Cert.MergeIdeal.Facts) (hMergeReferenceIdeal : Cert.MergeReferenceIdeal.Facts) (hInProj : Cert.InProj.Facts) (hInProjIdeal : Cert.InProjIdeal.Facts) (hInProjReferenceIdeal : Cert.InProjReferenceIdeal.Facts) (hDisc : Cert.Disc.Facts) (hDiscIdeal : Cert.DiscIdeal.Facts) (hDiscReferenceIdeal : Cert.DiscReferenceIdeal.Facts) (hPool : Cert.Pool.Facts) (hPoolIdeal : Cert.PoolIdeal.Facts) (hPoolReferenceIdeal : Cert.PoolReferenceIdeal.Facts) (hBias : Cert.Bias.Facts) (hBiasIdeal : Cert.BiasIdeal.Facts) (hBiasReferenceIdeal : Cert.BiasReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ quiescent_Disc (hDisc := hDisc)
    ∧ quiescent_DiscIdeal (hDiscIdeal := hDiscIdeal)
    ∧ quiescent_DiscReferenceIdeal (hDiscReferenceIdeal := hDiscReferenceIdeal)
    ∧ quiescent_Pool (hPool := hPool)
    ∧ quiescent_PoolIdeal (hPoolIdeal := hPoolIdeal)
    ∧ quiescent_PoolReferenceIdeal (hPoolReferenceIdeal := hPoolReferenceIdeal)
    ∧ quiescent_Bias (hBias := hBias)
    ∧ quiescent_BiasIdeal (hBiasIdeal := hBiasIdeal)
    ∧ quiescent_BiasReferenceIdeal (hBiasReferenceIdeal := hBiasReferenceIdeal)
    ∧ preserves_Kernel_KernelIdeal
    ∧ algebraic_KernelIdeal_ReferenceIdeal (hKernelIdeal := hKernelIdeal) (hReferenceIdeal := hReferenceIdeal)
    ∧ preserves_Ffn_FfnIdeal
    ∧ algebraic_FfnIdeal_FfnReferenceIdeal (hFfnIdeal := hFfnIdeal) (hFfnReferenceIdeal := hFfnReferenceIdeal)
    ∧ preserves_Merge_MergeIdeal
    ∧ algebraic_MergeIdeal_MergeReferenceIdeal (hMergeIdeal := hMergeIdeal) (hMergeReferenceIdeal := hMergeReferenceIdeal)
    ∧ preserves_InProj_InProjIdeal
    ∧ algebraic_InProjIdeal_InProjReferenceIdeal (hInProjIdeal := hInProjIdeal) (hInProjReferenceIdeal := hInProjReferenceIdeal)
    ∧ preserves_Disc_DiscIdeal
    ∧ algebraic_DiscIdeal_DiscReferenceIdeal (hDiscIdeal := hDiscIdeal) (hDiscReferenceIdeal := hDiscReferenceIdeal)
    ∧ preserves_Pool_PoolIdeal
    ∧ algebraic_PoolIdeal_PoolReferenceIdeal (hPoolIdeal := hPoolIdeal) (hPoolReferenceIdeal := hPoolReferenceIdeal)
    ∧ preserves_Bias_BiasIdeal
    ∧ algebraic_BiasIdeal_BiasReferenceIdeal (hBiasIdeal := hBiasIdeal) (hBiasReferenceIdeal := hBiasReferenceIdeal)
-- ==== Kernel.lean ====
abbrev S8x2048x2048 : Shape := ⟨3, ![8, 2048, 2048]⟩
abbrev S32x16x64 : Shape := ⟨3, ![32, 16, 64]⟩
abbrev S32x1x64 : Shape := ⟨3, ![32, 1, 64]⟩
abbrev S512 : Shape := ⟨1, ![512]⟩
abbrev S32x32 : Shape := ⟨2, ![32, 32]⟩
abbrev S_ : Shape := ⟨0, ![]⟩
abbrev S32x16x1x64 : Shape := ⟨4, ![32, 16, 1, 64]⟩
abbrev S32x1x32x1 : Shape := ⟨4, ![32, 1, 32, 1]⟩
abbrev S32x16x32x64 : Shape := ⟨4, ![32, 16, 32, 64]⟩
abbrev S512x2048 : Shape := ⟨2, ![512, 2048]⟩
abbrev S32x64x16 : Shape := ⟨3, ![32, 64, 16]⟩
abbrev S32x64x1x16 : Shape := ⟨4, ![32, 64, 1, 16]⟩
abbrev S32x64x32x16 : Shape := ⟨4, ![32, 64, 32, 16]⟩
abbrev S2048x512 : Shape := ⟨2, ![2048, 512]⟩
abbrev S1x2048 : Shape := ⟨2, ![1, 2048]⟩
abbrev S1x512 : Shape := ⟨2, ![1, 512]⟩
abbrev S8x2048x512 : Shape := ⟨3, ![8, 2048, 512]⟩
abbrev S8x64x512 : Shape := ⟨3, ![8, 64, 512]⟩
abbrev S4x512x128 : Shape := ⟨3, ![4, 512, 128]⟩
abbrev S8x2048 : Shape := ⟨2, ![8, 2048]⟩
abbrev S1x64x128 : Shape := ⟨3, ![1, 64, 128]⟩
abbrev S64x128 : Shape := ⟨2, ![64, 128]⟩
abbrev S1x512x128 : Shape := ⟨3, ![1, 512, 128]⟩
abbrev S512x128 : Shape := ⟨2, ![512, 128]⟩
abbrev S512x512 : Shape := ⟨2, ![512, 512]⟩
abbrev S128x512 : Shape := ⟨2, ![128, 512]⟩
abbrev S1x1024 : Shape := ⟨2, ![1, 1024]⟩
abbrev S8x1024 : Shape := ⟨2, ![8, 1024]⟩
abbrev S1x128 : Shape := ⟨2, ![1, 128]⟩

abbrev nBuf : Space → Nat
  | .hbm => 70
  | .vmem => 17
  | .smem => 0
  | _ => 0

abbrev bufTy : (tb : Table) → Fin (tcTables nBuf tb) → BufTy
  | .hbm, ⟨0, _⟩ => ⟨S8x2048x2048, .f32⟩
  | .hbm, ⟨1, _⟩ => ⟨S32x16x64, .f32⟩
  | .hbm, ⟨2, _⟩ => ⟨S32x16x64, .f32⟩
  | .hbm, ⟨3, _⟩ => ⟨S32x16x64, .f32⟩
  | .hbm, ⟨4, _⟩ => ⟨S32x16x64, .f32⟩
  | .hbm, ⟨5, _⟩ => ⟨S32x1x64, .f32⟩
  | .hbm, ⟨6, _⟩ => ⟨S32x1x64, .f32⟩
  | .hbm, ⟨7, _⟩ => ⟨S512, .f32⟩
  | .hbm, ⟨8, _⟩ => ⟨S32x32, .i32⟩
  | .hbm, ⟨9, _⟩ => ⟨S32x32, .i32⟩
  | .hbm, ⟨10, _⟩ => ⟨S_, .i32⟩
  | .hbm, ⟨11, _⟩ => ⟨S32x32, .i32⟩
  | .hbm, ⟨12, _⟩ => ⟨S32x32, .i32⟩
  | .hbm, ⟨13, _⟩ => ⟨S32x32, .i1⟩
  | .hbm, ⟨14, _⟩ => ⟨S32x32, .f32⟩
  | .hbm, ⟨15, _⟩ => ⟨S32x16x1x64, .f32⟩
  | .hbm, ⟨16, _⟩ => ⟨S32x1x32x1, .f32⟩
  | .hbm, ⟨17, _⟩ => ⟨S32x16x32x64, .f32⟩
  | .hbm, ⟨18, _⟩ => ⟨S32x16x32x64, .f32⟩
  | .hbm, ⟨19, _⟩ => ⟨S32x16x32x64, .f32⟩
  | .hbm, ⟨20, _⟩ => ⟨S512x2048, .f32⟩
  | .hbm, ⟨21, _⟩ => ⟨S512x2048, .bf16⟩
  | .hbm, ⟨22, _⟩ => ⟨S32x32, .i32⟩
  | .hbm, ⟨23, _⟩ => ⟨S32x32, .i32⟩
  | .hbm, ⟨24, _⟩ => ⟨S_, .i32⟩
  | .hbm, ⟨25, _⟩ => ⟨S32x32, .i32⟩
  | .hbm, ⟨26, _⟩ => ⟨S32x32, .i32⟩
  | .hbm, ⟨27, _⟩ => ⟨S32x32, .i1⟩
  | .hbm, ⟨28, _⟩ => ⟨S32x32, .f32⟩
  | .hbm, ⟨29, _⟩ => ⟨S32x16x1x64, .f32⟩
  | .hbm, ⟨30, _⟩ => ⟨S32x1x32x1, .f32⟩
  | .hbm, ⟨31, _⟩ => ⟨S32x16x32x64, .f32⟩
  | .hbm, ⟨32, _⟩ => ⟨S32x16x32x64, .f32⟩
  | .hbm, ⟨33, _⟩ => ⟨S32x16x32x64, .f32⟩
  | .hbm, ⟨34, _⟩ => ⟨S512x2048, .f32⟩
  | .hbm, ⟨35, _⟩ => ⟨S512x2048, .bf16⟩
  | .hbm, ⟨36, _⟩ => ⟨S32x64x16, .f32⟩
  | .hbm, ⟨37, _⟩ => ⟨S32x32, .i32⟩
  | .hbm, ⟨38, _⟩ => ⟨S32x32, .i32⟩
  | .hbm, ⟨39, _⟩ => ⟨S_, .i32⟩
  | .hbm, ⟨40, _⟩ => ⟨S32x32, .i32⟩
  | .hbm, ⟨41, _⟩ => ⟨S32x32, .i32⟩
  | .hbm, ⟨42, _⟩ => ⟨S32x32, .i1⟩
  | .hbm, ⟨43, _⟩ => ⟨S32x32, .f32⟩
  | .hbm, ⟨44, _⟩ => ⟨S32x64x1x16, .f32⟩
  | .hbm, ⟨45, _⟩ => ⟨S32x1x32x1, .f32⟩
  | .hbm, ⟨46, _⟩ => ⟨S32x64x32x16, .f32⟩
  | .hbm, ⟨47, _⟩ => ⟨S32x64x32x16, .f32⟩
  | .hbm, ⟨48, _⟩ => ⟨S32x64x32x16, .f32⟩
  | .hbm, ⟨49, _⟩ => ⟨S2048x512, .f32⟩
  | .hbm, ⟨50, _⟩ => ⟨S2048x512, .bf16⟩
  | .hbm, ⟨51, _⟩ => ⟨S32x64x16, .f32⟩
  | .hbm, ⟨52, _⟩ => ⟨S32x32, .i32⟩
  | .hbm, ⟨53, _⟩ => ⟨S32x32, .i32⟩
  | .hbm, ⟨54, _⟩ => ⟨S_, .i32⟩
  | .hbm, ⟨55, _⟩ => ⟨S32x32, .i32⟩
  | .hbm, ⟨56, _⟩ => ⟨S32x32, .i32⟩
  | .hbm, ⟨57, _⟩ => ⟨S32x32, .i1⟩
  | .hbm, ⟨58, _⟩ => ⟨S32x32, .f32⟩
  | .hbm, ⟨59, _⟩ => ⟨S32x64x1x16, .f32⟩
  | .hbm, ⟨60, _⟩ => ⟨S32x1x32x1, .f32⟩
  | .hbm, ⟨61, _⟩ => ⟨S32x64x32x16, .f32⟩
  | .hbm, ⟨62, _⟩ => ⟨S32x64x32x16, .f32⟩
  | .hbm, ⟨63, _⟩ => ⟨S32x64x32x16, .f32⟩
  | .hbm, ⟨64, _⟩ => ⟨S2048x512, .f32⟩
  | .hbm, ⟨65, _⟩ => ⟨S2048x512, .bf16⟩
  | .hbm, ⟨66, _⟩ => ⟨S1x2048, .f32⟩
  | .hbm, ⟨67, _⟩ => ⟨S1x2048, .f32⟩
  | .hbm, ⟨68, _⟩ => ⟨S1x512, .f32⟩
  | .hbm, ⟨69, _⟩ => ⟨S8x2048x512, .bf16⟩
  | .local _ .vmem, ⟨0, _⟩ => ⟨S8x64x512, .f32⟩
  | .local _ .vmem, ⟨1, _⟩ => ⟨S8x64x512, .f32⟩
  | .local _ .vmem, ⟨2, _⟩ => ⟨S512x2048, .bf16⟩
  | .local _ .vmem, ⟨3, _⟩ => ⟨S512x2048, .bf16⟩
  | .local _ .vmem, ⟨4, _⟩ => ⟨S2048x512, .bf16⟩
  | .local _ .vmem, ⟨5, _⟩ => ⟨S2048x512, .bf16⟩
  | .local _ .vmem, ⟨6, _⟩ => ⟨S1x2048, .f32⟩
  | .local _ .vmem, ⟨7, _⟩ => ⟨S1x2048, .f32⟩
  | .local _ .vmem, ⟨8, _⟩ => ⟨S1x512, .f32⟩
  | .local _ .vmem, ⟨9, _⟩ => ⟨S8x64x512, .bf16⟩
  | .local _ .vmem, ⟨10, _⟩ => ⟨S8x64x512, .bf16⟩
  | .local _ .vmem, ⟨11, _⟩ => ⟨S4x512x128, .f32⟩
  | .local _ .vmem, ⟨12, _⟩ => ⟨S512x2048, .f32⟩
  | .local _ .vmem, ⟨13, _⟩ => ⟨S512x2048, .f32⟩
  | .local _ .vmem, ⟨14, _⟩ => ⟨S8x2048, .f32⟩
  | .local _ .vmem, ⟨15, _⟩ => ⟨S8x2048, .f32⟩
  | .local _ .vmem, ⟨16, _⟩ => ⟨S4x512x128, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_1 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_c_2 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_238 : BitVec 32 := 0#32
  let c64_i32 : BitVec 32 := 64#32
  let v239 : BitVec 32 := Scalar.addi c0_i32_238 c64_i32
  let c1_i32 : BitVec 32 := 1#32
  ⟨c0_i32_238, v239, c1_i32⟩
def k0_mult1 (k0_t1 : Fin k0_t1_loop.trips) : BitVec 32 :=
  let c0_i32_238 : BitVec 32 := 0#32
  let c1_i32 : BitVec 32 := 1#32
  let arg16 : BitVec 32 := Scf.iv c0_i32_238 c1_i32 k0_t1
  let c8_i32 : BitVec 32 := 8#32
  let v589 : BitVec 32 := Scalar.muli arg16 c8_i32
  v589
def k0_off1 (k0_t1 : Fin k0_t1_loop.trips) : Fin 2 → Nat :=
  let c0_i32_238 : BitVec 32 := 0#32
  let c1_i32 : BitVec 32 := 1#32
  let arg16 : BitVec 32 := Scf.iv c0_i32_238 c1_i32 k0_t1
  let c8_i32 : BitVec 32 := 8#32
  let v589 : BitVec 32 := Scalar.muli arg16 c8_i32
  let v590 : BitVec 32 := v589
  let v594 : Index := Scalar.indexCast v590
  let c0_528 : Index := 0#32
  ![v594.toNat, 0]
@[reducible] def k0_t2_loop : Scf.Loop 32 :=
  let c0_i32_252 : BitVec 32 := 0#32
  let c64_i32_253 : BitVec 32 := 64#32
  let v257 : BitVec 32 := Scalar.addi c0_i32_252 c64_i32_253
  let c1_i32_254 : BitVec 32 := 1#32
  ⟨c0_i32_252, v257, c1_i32_254⟩
def k0_mult2 (k0_t2 : Fin k0_t2_loop.trips) : BitVec 32 :=
  let c0_i32_252 : BitVec 32 := 0#32
  let c1_i32_254 : BitVec 32 := 1#32
  let arg16 : BitVec 32 := Scf.iv c0_i32_252 c1_i32_254 k0_t2
  let c8_i32 : BitVec 32 := 8#32
  let v589 : BitVec 32 := Scalar.muli arg16 c8_i32
  v589
def k0_off2 (k0_t2 : Fin k0_t2_loop.trips) : Fin 2 → Nat :=
  let c0_i32_252 : BitVec 32 := 0#32
  let c1_i32_254 : BitVec 32 := 1#32
  let arg16 : BitVec 32 := Scf.iv c0_i32_252 c1_i32_254 k0_t2
  let c8_i32 : BitVec 32 := 8#32
  let v589 : BitVec 32 := Scalar.muli arg16 c8_i32
  let v590 : BitVec 32 := v589
  let v594 : Index := Scalar.indexCast v590
  let c1024_528 : Index := 1024#32
  ![v594.toNat, 1024]
def cc0_transform_0 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![c0_i32.toNat, arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8x64x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S8x2048x2048 : Shape := ⟨3, ![8, 2048, 2048]⟩
abbrev S32x16x64 : Shape := ⟨3, ![32, 16, 64]⟩
abbrev S32x1x64 : Shape := ⟨3, ![32, 1, 64]⟩
abbrev S512 : Shape := ⟨1, ![512]⟩
abbrev S8x2048x512 : Shape := ⟨3, ![8, 2048, 512]⟩
abbrev S8x2048x32x16 : Shape := ⟨4, ![8, 2048, 32, 16]⟩
abbrev S32x64x8x2048 : Shape := ⟨4, ![32, 64, 8, 2048]⟩
abbrev S8x2048x32x64 : Shape := ⟨4, ![8, 2048, 32, 64]⟩
abbrev S32x64 : Shape := ⟨2, ![32, 64]⟩
abbrev S_ : Shape := ⟨0, ![]⟩
abbrev S8x32x64 : Shape := ⟨3, ![8, 32, 64]⟩
abbrev S2048x8x32x64 : Shape := ⟨4, ![2048, 8, 32, 64]⟩
abbrev S1x8x32x64 : Shape := ⟨4, ![1, 8, 32, 64]⟩
abbrev S1x32x64 : Shape := ⟨3, ![1, 32, 64]⟩
abbrev S32x16x2048x8 : Shape := ⟨4, ![32, 16, 2048, 8]⟩
abbrev S1x1x512 : Shape := ⟨3, ![1, 1, 512]⟩

abbrev nBuf : Space → Nat
  | .hbm => 102
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S32x16x64, .f32⟩
  | .hbm, ⟨2, _⟩ => ⟨S32x16x64, .f32⟩
  | .hbm, ⟨3, _⟩ => ⟨S32x16x64, .f32⟩
  | .hbm, ⟨4, _⟩ => ⟨S32x16x64, .f32⟩
  | .hbm, ⟨5, _⟩ => ⟨S32x1x64, .f32⟩
  | .hbm, ⟨6, _⟩ => ⟨S32x1x64, .f32⟩
  | .hbm, ⟨7, _⟩ => ⟨S512, .f32⟩
  | .hbm, ⟨8, _⟩ => ⟨S8x2048x512, .f32⟩
  | .hbm, ⟨9, _⟩ => ⟨S8x2048x32x16, .f32⟩
  | .hbm, ⟨10, _⟩ => ⟨S32x64x8x2048, .f32⟩
  | .hbm, ⟨11, _⟩ => ⟨S8x2048x32x64, .f32⟩
  | .hbm, ⟨12, _⟩ => ⟨S32x64x8x2048, .f32⟩
  | .hbm, ⟨13, _⟩ => ⟨S8x2048x32x64, .f32⟩
  | .hbm, ⟨14, _⟩ => ⟨S32x64, .f32⟩
  | .hbm, ⟨15, _⟩ => ⟨S32x64, .f32⟩
  | .hbm, ⟨16, _⟩ => ⟨S_, .f32⟩
  | .hbm, ⟨17, _⟩ => ⟨S8x32x64, .f32⟩
  | .hbm, ⟨18, _⟩ => ⟨S2048x8x32x64, .f32⟩
  | .hbm, ⟨19, _⟩ => ⟨S2048x8x32x64, .f32⟩
  | .hbm, ⟨20, _⟩ => ⟨S_, .f32⟩
  | .hbm, ⟨21, _⟩ => ⟨S2048x8x32x64, .f32⟩
  | .hbm, ⟨22, _⟩ => ⟨S_, .f32⟩
  | .hbm, ⟨23, _⟩ => ⟨S2048x8x32x64, .f32⟩
  | .hbm, ⟨24, _⟩ => ⟨S_, .i32⟩
  | .hbm, ⟨25, _⟩ => ⟨S2048x8x32x64, .f32⟩
  | .hbm, ⟨26, _⟩ => ⟨S2048x8x32x64, .f32⟩
  | .hbm, ⟨27, _⟩ => ⟨S32x64, .f32⟩
  | .hbm, ⟨28, _⟩ => ⟨S32x64, .f32⟩
  | .hbm, ⟨29, _⟩ => ⟨S_, .i32⟩
  | .hbm, ⟨30, _⟩ => ⟨S8x32x64, .f32⟩
  | .hbm, ⟨31, _⟩ => ⟨S8x32x64, .f32⟩
  | .hbm, ⟨32, _⟩ => ⟨S2048x8x32x64, .f32⟩
  | .hbm, ⟨33, _⟩ => ⟨S2048x8x32x64, .f32⟩
  | .hbm, ⟨34, _⟩ => ⟨S_, .i32⟩
  | .hbm, ⟨35, _⟩ => ⟨S_, .i1⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S1x8x32x64, .f32⟩
  | .hbm, ⟨40, _⟩ => ⟨S8x32x64, .f32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S1x8x32x64, .f32⟩
  | .hbm, ⟨45, _⟩ => ⟨S8x32x64, .f32⟩
  | .hbm, ⟨46, _⟩ => ⟨S1x32x64, .f32⟩
  | .hbm, ⟨47, _⟩ => ⟨S8x32x64, .f32⟩
  | .hbm, ⟨48, _⟩ => ⟨S8x32x64, .f32⟩
  | .hbm, ⟨49, _⟩ => ⟨S1x32x64, .f32⟩
  | .hbm, ⟨50, _⟩ => ⟨S8x32x64, .f32⟩
  | .hbm, ⟨51, _⟩ => ⟨S8x32x64, .f32⟩
  | .hbm, ⟨52, _⟩ => ⟨S8x32x64, .f32⟩
  | .hbm, ⟨53, _⟩ => ⟨S8x32x64, .f32⟩
  | .hbm, ⟨54, _⟩ => ⟨S1x32x64, .f32⟩
  | .hbm, ⟨55, _⟩ => ⟨S8x32x64, .f32⟩
  | .hbm, ⟨56, _⟩ => ⟨S8x32x64, .f32⟩
  | .hbm, ⟨57, _⟩ => ⟨S1x32x64, .f32⟩
  | .hbm, ⟨58, _⟩ => ⟨S8x32x64, .f32⟩
  | .hbm, ⟨59, _⟩ => ⟨S8x32x64, .f32⟩
  | .hbm, ⟨60, _⟩ => ⟨S8x32x64, .f32⟩
  | .hbm, ⟨61, _⟩ => ⟨S8x32x64, .f32⟩
  | .hbm, ⟨62, _⟩ => ⟨S1x8x32x64, .f32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S2048x8x32x64, .f32⟩
  | .hbm, ⟨67, _⟩ => ⟨S1x8x32x64, .f32⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S2048x8x32x64, .f32⟩
  | .hbm, ⟨72, _⟩ => ⟨S_, .i32⟩
  | .hbm, ⟨73, _⟩ => ⟨S_, .i32⟩
  | .hbm, ⟨74, _⟩ => ⟨S32x16x2048x8, .f32⟩
  | .hbm, ⟨75, _⟩ => ⟨S8x2048x32x16, .f32⟩
  | .hbm, ⟨76, _⟩ => ⟨S32x16x2048x8, .f32⟩
  | .hbm, ⟨77, _⟩ => ⟨S8x2048x32x16, .f32⟩
  | .hbm, ⟨78, _⟩ => ⟨S8x2048x32x16, .f32⟩
  | .hbm, ⟨79, _⟩ => ⟨S8x2048x512, .f32⟩
  | .hbm, ⟨80, _⟩ => ⟨S1x1x512, .f32⟩
  | .hbm, ⟨81, _⟩ => ⟨S8x2048x512, .f32⟩
  | .hbm, ⟨82, _⟩ => ⟨S8x2048x512, .f32⟩
  | .hbm, ⟨83, _⟩ => ⟨S8x2048x512, .f32⟩
  | .hbm, ⟨84, _⟩ => ⟨S8x2048x512, .f32⟩
  | .hbm, ⟨85, _⟩ => ⟨S8x2048x512, .f32⟩
  | .hbm, ⟨86, _⟩ => ⟨S_, .f32⟩
  | .hbm, ⟨87, _⟩ => ⟨S8x2048x512, .f32⟩
  | .hbm, ⟨88, _⟩ => ⟨S8x2048x512, .f32⟩
  | .hbm, ⟨89, _⟩ => ⟨S8x2048x512, .f32⟩
  | .hbm, ⟨90, _⟩ => ⟨S_, .f32⟩
  | .hbm, ⟨91, _⟩ => ⟨S8x2048x512, .f32⟩
  | .hbm, ⟨92, _⟩ => ⟨S8x2048x512, .f32⟩
  | .hbm, ⟨93, _⟩ => ⟨S8x2048x512, .f32⟩
  | .hbm, ⟨94, _⟩ => ⟨S_, .f32⟩
  | .hbm, ⟨95, _⟩ => ⟨S8x2048x512, .f32⟩
  | .hbm, ⟨96, _⟩ => ⟨S8x2048x512, .f32⟩
  | .hbm, ⟨97, _⟩ => ⟨S_, .f32⟩
  | .hbm, ⟨98, _⟩ => ⟨S8x2048x512, .f32⟩
  | .hbm, ⟨99, _⟩ => ⟨S8x2048x512, .f32⟩
  | .hbm, ⟨100, _⟩ => ⟨S8x2048x512, .f32⟩
  | .hbm, ⟨101, _⟩ => ⟨S8x2048x512, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_c : Ref sig .tc := ⟨.hbm, 24, rfl⟩
abbrev main_v13_0 : Ref sig .tc := ⟨.hbm, 25, rfl⟩
abbrev main_v13_1 : Ref sig .tc := ⟨.hbm, 26, rfl⟩
abbrev main_v13_2 : Ref sig .tc := ⟨.hbm, 27, rfl⟩
abbrev main_v13_3 : Ref sig .tc := ⟨.hbm, 28, rfl⟩
abbrev main_v13_4 : Ref sig .tc := ⟨.hbm, 29, rfl⟩
abbrev main_v13_5 : Ref sig .tc := ⟨.hbm, 30, rfl⟩
abbrev main_v13_6 : Ref sig .tc := ⟨.hbm, 31, rfl⟩
abbrev main_v13_7 : Ref sig .tc := ⟨.hbm, 32, rfl⟩
abbrev main_v13_8 : Ref sig .tc := ⟨.hbm, 33, rfl⟩
abbrev main_while0c_c_14 : Ref sig .tc := ⟨.hbm, 34, rfl⟩
abbrev main_while0c_v38 : Ref sig .tc := ⟨.hbm, 35, rfl⟩
abbrev main_while0b_call0_c : Ref sig .tc := ⟨.hbm, 36, rfl⟩
abbrev main_while0b_call0_c_0 : Ref sig .tc := ⟨.hbm, 37, rfl⟩
abbrev main_while0b_call0_c_1 : Ref sig .tc := ⟨.hbm, 38, rfl⟩
abbrev main_while0b_call0_v0 : Ref sig .tc := ⟨.hbm, 39, rfl⟩
abbrev main_while0b_v38 : Ref sig .tc := ⟨.hbm, 40, rfl⟩
abbrev main_while0b_call1_c : Ref sig .tc := ⟨.hbm, 41, rfl⟩
abbrev main_while0b_call1_c_0 : Ref sig .tc := ⟨.hbm, 42, rfl⟩
abbrev main_while0b_call1_c_1 : Ref sig .tc := ⟨.hbm, 43, rfl⟩
abbrev main_while0b_call1_v0 : Ref sig .tc := ⟨.hbm, 44, rfl⟩
abbrev main_while0b_v39 : Ref sig .tc := ⟨.hbm, 45, rfl⟩
abbrev main_while0b_v40 : Ref sig .tc := ⟨.hbm, 46, rfl⟩
abbrev main_while0b_v41 : Ref sig .tc := ⟨.hbm, 47, rfl⟩
abbrev main_while0b_v42 : Ref sig .tc := ⟨.hbm, 48, rfl⟩
abbrev main_while0b_v43 : Ref sig .tc := ⟨.hbm, 49, rfl⟩
abbrev main_while0b_v44 : Ref sig .tc := ⟨.hbm, 50, rfl⟩
abbrev main_while0b_v45 : Ref sig .tc := ⟨.hbm, 51, rfl⟩
abbrev main_while0b_v46 : Ref sig .tc := ⟨.hbm, 52, rfl⟩
abbrev main_while0b_v47 : Ref sig .tc := ⟨.hbm, 53, rfl⟩
abbrev main_while0b_v48 : Ref sig .tc := ⟨.hbm, 54, rfl⟩
abbrev main_while0b_v49 : Ref sig .tc := ⟨.hbm, 55, rfl⟩
abbrev main_while0b_v50 : Ref sig .tc := ⟨.hbm, 56, rfl⟩
abbrev main_while0b_v51 : Ref sig .tc := ⟨.hbm, 57, rfl⟩
abbrev main_while0b_v52 : Ref sig .tc := ⟨.hbm, 58, rfl⟩
abbrev main_while0b_v53 : Ref sig .tc := ⟨.hbm, 59, rfl⟩
abbrev main_while0b_v54 : Ref sig .tc := ⟨.hbm, 60, rfl⟩
abbrev main_while0b_v55 : Ref sig .tc := ⟨.hbm, 61, rfl⟩
abbrev main_while0b_call2_v0 : Ref sig .tc := ⟨.hbm, 62, rfl⟩
abbrev main_while0b_call2_c : Ref sig .tc := ⟨.hbm, 63, rfl⟩
abbrev main_while0b_call2_c_0 : Ref sig .tc := ⟨.hbm, 64, rfl⟩
abbrev main_while0b_call2_c_1 : Ref sig .tc := ⟨.hbm, 65, rfl⟩
abbrev main_while0b_v56 : Ref sig .tc := ⟨.hbm, 66, rfl⟩
abbrev main_while0b_call3_v0 : Ref sig .tc := ⟨.hbm, 67, rfl⟩
abbrev main_while0b_call3_c : Ref sig .tc := ⟨.hbm, 68, rfl⟩
abbrev main_while0b_call3_c_0 : Ref sig .tc := ⟨.hbm, 69, rfl⟩
abbrev main_while0b_call3_c_1 : Ref sig .tc := ⟨.hbm, 70, rfl⟩
abbrev main_while0b_v57 : Ref sig .tc := ⟨.hbm, 71, rfl⟩
abbrev main_while0b_c_14 : Ref sig .tc := ⟨.hbm, 72, rfl⟩
abbrev main_while0b_v58 : Ref sig .tc := ⟨.hbm, 73, rfl⟩
abbrev main_v14 : Ref sig .tc := ⟨.hbm, 74, rfl⟩
abbrev main_v15 : Ref sig .tc := ⟨.hbm, 75, rfl⟩
abbrev main_v16 : Ref sig .tc := ⟨.hbm, 76, rfl⟩
abbrev main_v17 : Ref sig .tc := ⟨.hbm, 77, rfl⟩
abbrev main_v18 : Ref sig .tc := ⟨.hbm, 78, rfl⟩
abbrev main_v19 : Ref sig .tc := ⟨.hbm, 79, rfl⟩
abbrev main_v20 : Ref sig .tc := ⟨.hbm, 80, rfl⟩
abbrev main_v21 : Ref sig .tc := ⟨.hbm, 81, rfl⟩
abbrev main_v22 : Ref sig .tc := ⟨.hbm, 82, rfl⟩
abbrev main_v23 : Ref sig .tc := ⟨.hbm, 83, rfl⟩
abbrev main_v24 : Ref sig .tc := ⟨.hbm, 84, rfl⟩
abbrev main_v25 : Ref sig .tc := ⟨.hbm, 85, rfl⟩
abbrev main_cst_2 : Ref sig .tc := ⟨.hbm, 86, rfl⟩
abbrev main_v26 : Ref sig .tc := ⟨.hbm, 87, rfl⟩
abbrev main_v27 : Ref sig .tc := ⟨.hbm, 88, rfl⟩
abbrev main_v28 : Ref sig .tc := ⟨.hbm, 89, rfl⟩
abbrev main_cst_3 : Ref sig .tc := ⟨.hbm, 90, rfl⟩
abbrev main_v29 : Ref sig .tc := ⟨.hbm, 91, rfl⟩
abbrev main_v30 : Ref sig .tc := ⟨.hbm, 92, rfl⟩
abbrev main_v31 : Ref sig .tc := ⟨.hbm, 93, rfl⟩
abbrev main_cst_4 : Ref sig .tc := ⟨.hbm, 94, rfl⟩
abbrev main_v32 : Ref sig .tc := ⟨.hbm, 95, rfl⟩
abbrev main_v33 : Ref sig .tc := ⟨.hbm, 96, rfl⟩
abbrev main_cst_5 : Ref sig .tc := ⟨.hbm, 97, rfl⟩
abbrev main_v34 : Ref sig .tc := ⟨.hbm, 98, rfl⟩
abbrev main_v35 : Ref sig .tc := ⟨.hbm, 99, rfl⟩
abbrev main_v36 : Ref sig .tc := ⟨.hbm, 100, rfl⟩
abbrev main_v37 : Ref sig .tc := ⟨.hbm, 101, rfl⟩

abbrev nD : Nat := 1
abbrev τ : Topo := Topo.v7x

variable {F : FTy → Type} [FloatOps F]

abbrev main_while0_count : Scf.Loop 32 := ⟨0#32, 2048#32, 1#32⟩
-- ==== Ffn.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 10
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1x1024, .f32⟩
  | .hbm, ⟨6, _⟩ => ⟨S1024x5632, .bf16⟩
  | .hbm, ⟨7, _⟩ => ⟨S2816x1024, .bf16⟩
  | .hbm, ⟨8, _⟩ => ⟨S1x1024, .f32⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnReferenceIdeal.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩

abbrev nBuf : Space → Nat
  | .hbm => 52
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x5632, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S_, .f32⟩
  | .hbm, ⟨27, _⟩ => ⟨S16384x2816, .f32⟩
  | .hbm, ⟨28, _⟩ => ⟨S16384x2816, .f32⟩
  | .hbm, ⟨29, _⟩ => ⟨S_, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S16384x1, .f32⟩
  | .hbm, ⟨46, _⟩ => ⟨S16384x1024, .f32⟩
  | .hbm, ⟨47, _⟩ => ⟨S16384x1024, .f32⟩
  | .hbm, ⟨48, _⟩ => ⟨S1x1024, .f32⟩
  | .hbm, ⟨49, _⟩ => ⟨S16384x1024, .f32⟩
  | .hbm, ⟨50, _⟩ => ⟨S16384x1024, .f32⟩
  | .hbm, ⟨51, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩

abbrev nD : Nat := 1
abbrev τ : Topo := Topo.v7x

variable {F : FTy → Type} [FloatOps F]
-- ==== Merge.lean ====
abbrev S16384x1024 : Shape := ⟨2, ![16384, 1024]⟩
abbrev S1024 : Shape := ⟨1, ![1024]⟩
abbrev S1024x5832 : Shape := ⟨2, ![1024, 5832]⟩
abbrev S16384x512 : Shape := ⟨2, ![16384, 512]⟩
abbrev S512x1024 : Shape := ⟨2, ![512, 1024]⟩
abbrev S1024x1024 : Shape := ⟨2, ![1024, 1024]⟩
abbrev S512x2048 : Shape := ⟨2, ![512, 2048]⟩
abbrev S1024x512 : Shape := ⟨2, ![1024, 512]⟩
abbrev S1024x64 : Shape := ⟨2, ![1024, 64]⟩
abbrev S1024x8 : Shape := ⟨2, ![1024, 8]⟩
abbrev S1024x3072 : Shape := ⟨2, ![1024, 3072]⟩
abbrev S_ : Shape := ⟨0, ![]⟩
abbrev S1024x128 : Shape := ⟨2, ![1024, 128]⟩
abbrev S1024x2432 : Shape := ⟨2, ![1024, 2432]⟩
abbrev S1024x16 : Shape := ⟨2, ![1024, 16]⟩
abbrev S1024x528 : Shape := ⟨2, ![1024, 528]⟩
abbrev S528x1024 : Shape := ⟨2, ![528, 1024]⟩
abbrev S1x1024 : Shape := ⟨2, ![1, 1024]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S256x3072 : Shape := ⟨2, ![256, 3072]⟩
abbrev S256x2048 : Shape := ⟨2, ![256, 2048]⟩

abbrev nBuf : Space → Nat
  | .hbm => 45
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5832, .f32⟩
  | .hbm, ⟨3, _⟩ => ⟨S16384x512, .bf16⟩
  | .hbm, ⟨4, _⟩ => ⟨S512x1024, .f32⟩
  | .hbm, ⟨5, _⟩ => ⟨S16384x1024, .bf16⟩
  | .hbm, ⟨6, _⟩ => ⟨S1024x1024, .f32⟩
  | .hbm, ⟨7, _⟩ => ⟨S16384x512, .bf16⟩
  | .hbm, ⟨8, _⟩ => ⟨S512x2048, .f32⟩
  | .hbm, ⟨9, _⟩ => ⟨S1024x1024, .f32⟩
  | .hbm, ⟨10, _⟩ => ⟨S1024, .f32⟩
  | .hbm, ⟨11, _⟩ => ⟨S1024x512, .f32⟩
  | .hbm, ⟨12, _⟩ => ⟨S1024x1024, .f32⟩
  | .hbm, ⟨13, _⟩ => ⟨S1024x64, .f32⟩
  | .hbm, ⟨14, _⟩ => ⟨S1024x64, .f32⟩
  | .hbm, ⟨15, _⟩ => ⟨S1024x512, .f32⟩
  | .hbm, ⟨16, _⟩ => ⟨S1024x64, .f32⟩
  | .hbm, ⟨17, _⟩ => ⟨S1024x8, .f32⟩
  | .hbm, ⟨18, _⟩ => ⟨S1024x512, .f32⟩
  | .hbm, ⟨19, _⟩ => ⟨S1024x3072, .f32⟩
  | .hbm, ⟨20, _⟩ => ⟨S_, .i32⟩
  | .hbm, ⟨21, _⟩ => ⟨S_, .f32⟩
  | .hbm, ⟨22, _⟩ => ⟨S1024x128, .f32⟩
  | .hbm, ⟨23, _⟩ => ⟨S_, .i32⟩
  | .hbm, ⟨24, _⟩ => ⟨S_, .f32⟩
  | .hbm, ⟨25, _⟩ => ⟨S1024x128, .f32⟩
  | .hbm, ⟨26, _⟩ => ⟨S_, .i32⟩
  | .hbm, ⟨27, _⟩ => ⟨S_, .f32⟩
  | .hbm, ⟨28, _⟩ => ⟨S1024x128, .f32⟩
  | .hbm, ⟨29, _⟩ => ⟨S1024x2432, .f32⟩
  | .hbm, ⟨30, _⟩ => ⟨S_, .i32⟩
  | .hbm, ⟨31, _⟩ => ⟨S_, .f32⟩
  | .hbm, ⟨32, _⟩ => ⟨S1024x16, .f32⟩
  | .hbm, ⟨33, _⟩ => ⟨S1024x528, .f32⟩
  | .hbm, ⟨34, _⟩ => ⟨S528x1024, .f32⟩
  | .hbm, ⟨35, _⟩ => ⟨S1024x2432, .bf16⟩
  | .hbm, ⟨36, _⟩ => ⟨S528x1024, .bf16⟩
  | .hbm, ⟨37, _⟩ => ⟨S1024x3072, .bf16⟩
  | .hbm, ⟨38, _⟩ => ⟨S1x1024, .f32⟩
  | .hbm, ⟨39, _⟩ => ⟨S512x1024, .bf16⟩
  | .hbm, ⟨40, _⟩ => ⟨S1024x1024, .bf16⟩
  | .hbm, ⟨41, _⟩ => ⟨S512x2048, .bf16⟩
  | .hbm, ⟨42, _⟩ => ⟨S1024x1024, .bf16⟩
  | .hbm, ⟨43, _⟩ => ⟨S1x1024, .f32⟩
  | .hbm, ⟨44, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3072, .bf16⟩
  | .local _ .vmem, ⟨4, _⟩ => ⟨S256x512, .bf16⟩
  | .local _ .vmem, ⟨5, _⟩ => ⟨S256x512, .bf16⟩
  | .local _ .vmem, ⟨6, _⟩ => ⟨S512x1024, .bf16⟩
  | .local _ .vmem, ⟨7, _⟩ => ⟨S256x1024, .bf16⟩
  | .local _ .vmem, ⟨8, _⟩ => ⟨S256x1024, .bf16⟩
  | .local _ .vmem, ⟨9, _⟩ => ⟨S1024x1024, .bf16⟩
  | .local _ .vmem, ⟨10, _⟩ => ⟨S256x512, .bf16⟩
  | .local _ .vmem, ⟨11, _⟩ => ⟨S256x512, .bf16⟩
  | .local _ .vmem, ⟨12, _⟩ => ⟨S512x2048, .bf16⟩
  | .local _ .vmem, ⟨13, _⟩ => ⟨S1024x1024, .bf16⟩
  | .local _ .vmem, ⟨14, _⟩ => ⟨S1x1024, .f32⟩
  | .local _ .vmem, ⟨15, _⟩ => ⟨S256x1024, .f32⟩
  | .local _ .vmem, ⟨16, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_call0_v0 : Ref sig .tc := ⟨.hbm, 21, rfl⟩
abbrev main_v9 : Ref sig .tc := ⟨.hbm, 22, rfl⟩
abbrev main_c_0 : Ref sig .tc := ⟨.hbm, 23, rfl⟩
abbrev main_call1_v0 : Ref sig .tc := ⟨.hbm, 24, rfl⟩
abbrev main_v10 : Ref sig .tc := ⟨.hbm, 25, rfl⟩
abbrev main_c_1 : Ref sig .tc := ⟨.hbm, 26, rfl⟩
abbrev main_call2_v0 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_call3_v0 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S512x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MergeReferenceIdeal.lean ====
abbrev S16384x1024 : Shape := ⟨2, ![16384, 1024]⟩
abbrev S1024 : Shape := ⟨1, ![1024]⟩
abbrev S1024x5832 : Shape := ⟨2, ![1024, 5832]⟩
abbrev S16384x512 : Shape := ⟨2, ![16384, 512]⟩
abbrev S512x1024 : Shape := ⟨2, ![512, 1024]⟩
abbrev S1024x1024 : Shape := ⟨2, ![1024, 1024]⟩
abbrev S512x2048 : Shape := ⟨2, ![512, 2048]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5832 : Shape := ⟨2, ![16384, 5832]⟩
abbrev S16384x3072 : Shape := ⟨2, ![16384, 3072]⟩
abbrev S16384x2048 : Shape := ⟨2, ![16384, 2048]⟩
abbrev S16384x3x1024 : Shape := ⟨3, ![16384, 3, 1024]⟩
abbrev S16384x1x1024 : Shape := ⟨3, ![16384, 1, 1024]⟩

abbrev nBuf : Space → Nat
  | .hbm => 84
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5832, .f32⟩
  | .hbm, ⟨3, _⟩ => ⟨S16384x512, .bf16⟩
  | .hbm, ⟨4, _⟩ => ⟨S512x1024, .f32⟩
  | .hbm, ⟨5, _⟩ => ⟨S16384x1024, .bf16⟩
  | .hbm, ⟨6, _⟩ => ⟨S1024x1024, .f32⟩
  | .hbm, ⟨7, _⟩ => ⟨S16384x512, .bf16⟩
  | .hbm, ⟨8, _⟩ => ⟨S512x2048, .f32⟩
  | .hbm, ⟨9, _⟩ => ⟨S1024x1024, .f32⟩
  | .hbm, ⟨10, _⟩ => ⟨S1024, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S16384x5832, .f32⟩
  | .hbm, ⟨28, _⟩ => ⟨S16384x3072, .f32⟩
  | .hbm, ⟨29, _⟩ => ⟨S16384x512, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x512, .f32⟩
  | .hbm, ⟨34, _⟩ => ⟨S16384x2048, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S_, .f32⟩
  | .hbm, ⟨40, _⟩ => ⟨S16384x1024, .f32⟩
  | .hbm, ⟨41, _⟩ => ⟨S16384x1024, .f32⟩
  | .hbm, ⟨42, _⟩ => ⟨S_, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x3x1024, .f32⟩
  | .hbm, ⟨47, _⟩ => ⟨S16384x3x1024, .f32⟩
  | .hbm, ⟨48, _⟩ => ⟨S16384x3x1024, .f32⟩
  | .hbm, ⟨49, _⟩ => ⟨S_, .f32⟩
  | .hbm, ⟨50, _⟩ => ⟨S16384x3x1024, .f32⟩
  | .hbm, ⟨51, _⟩ => ⟨S16384x3x1024, .f32⟩
  | .hbm, ⟨52, _⟩ => ⟨S_, .f32⟩
  | .hbm, ⟨53, _⟩ => ⟨S16384x3x1024, .f32⟩
  | .hbm, ⟨54, _⟩ => ⟨S16384x3x1024, .f32⟩
  | .hbm, ⟨55, _⟩ => ⟨S16384x1x1024, .f32⟩
  | .hbm, ⟨56, _⟩ => ⟨S16384x1024, .f32⟩
  | .hbm, ⟨57, _⟩ => ⟨S16384x1024, .f32⟩
  | .hbm, ⟨58, _⟩ => ⟨S16384x1x1024, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S16384x1x1024, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S_, .f32⟩
  | .hbm, ⟨69, _⟩ => ⟨S16384, .f32⟩
  | .hbm, ⟨70, _⟩ => ⟨S16384x1, .f32⟩
  | .hbm, ⟨71, _⟩ => ⟨S_, .f32⟩
  | .hbm, ⟨72, _⟩ => ⟨S16384x1, .f32⟩
  | .hbm, ⟨73, _⟩ => ⟨S16384x1, .f32⟩
  | .hbm, ⟨74, _⟩ => ⟨S_, .f32⟩
  | .hbm, ⟨75, _⟩ => ⟨S16384x1, .f32⟩
  | .hbm, ⟨76, _⟩ => ⟨S16384x1, .f32⟩
  | .hbm, ⟨77, _⟩ => ⟨S16384x1, .f32⟩
  | .hbm, ⟨78, _⟩ => ⟨S16384x1024, .f32⟩
  | .hbm, ⟨79, _⟩ => ⟨S16384x1024, .f32⟩
  | .hbm, ⟨80, _⟩ => ⟨S1x1024, .f32⟩
  | .hbm, ⟨81, _⟩ => ⟨S16384x1024, .f32⟩
  | .hbm, ⟨82, _⟩ => ⟨S16384x1024, .f32⟩
  | .hbm, ⟨83, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_2 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_4 : Ref sig .tc := ⟨.hbm, 49, rfl⟩
abbrev main_v33 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_6 : Ref sig .tc := ⟨.hbm, 68, rfl⟩
abbrev main_v50 : Ref sig .tc := ⟨.hbm, 69, rfl⟩
abbrev main_v51 : Ref sig .tc := ⟨.hbm, 70, rfl⟩
abbrev main_cst_7 : Ref sig .tc := ⟨.hbm, 71, rfl⟩
abbrev main_v52 : Ref sig .tc := ⟨.hbm, 72, rfl⟩
abbrev main_v53 : Ref sig .tc := ⟨.hbm, 73, rfl⟩
abbrev main_cst_8 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩

abbrev nD : Nat := 1
abbrev τ : Topo := Topo.v7x

variable {F : FTy → Type} [FloatOps F]
-- ==== InProj.lean ====
abbrev S16384x1024 : Shape := ⟨2, ![16384, 1024]⟩
abbrev S1024 : Shape := ⟨1, ![1024]⟩
abbrev S1024x5832 : Shape := ⟨2, ![1024, 5832]⟩
abbrev S1024x512 : Shape := ⟨2, ![1024, 512]⟩
abbrev S1024x1024 : Shape := ⟨2, ![1024, 1024]⟩
abbrev S1024x64 : Shape := ⟨2, ![1024, 64]⟩
abbrev S1024x8 : Shape := ⟨2, ![1024, 8]⟩
abbrev S1024x3072 : Shape := ⟨2, ![1024, 3072]⟩
abbrev S_ : Shape := ⟨0, ![]⟩
abbrev S1024x128 : Shape := ⟨2, ![1024, 128]⟩
abbrev S1024x2432 : Shape := ⟨2, ![1024, 2432]⟩
abbrev S1024x16 : Shape := ⟨2, ![1024, 16]⟩
abbrev S1024x528 : Shape := ⟨2, ![1024, 528]⟩
abbrev S528x1024 : Shape := ⟨2, ![528, 1024]⟩
abbrev S1x1024 : Shape := ⟨2, ![1, 1024]⟩
abbrev S16384x2048 : Shape := ⟨2, ![16384, 2048]⟩
abbrev S16384x384 : Shape := ⟨2, ![16384, 384]⟩
abbrev S528x16384 : Shape := ⟨2, ![528, 16384]⟩
abbrev S512x1024 : Shape := ⟨2, ![512, 1024]⟩
abbrev S512x2048 : Shape := ⟨2, ![512, 2048]⟩
abbrev S512x384 : Shape := ⟨2, ![512, 384]⟩
abbrev S528x512 : Shape := ⟨2, ![528, 512]⟩
abbrev S512 : Shape := ⟨1, ![512]⟩
abbrev S512x1 : Shape := ⟨2, ![512, 1]⟩
abbrev S512x2432 : Shape := ⟨2, ![512, 2432]⟩

abbrev nBuf : Space → Nat
  | .hbm => 34
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5832, .f32⟩
  | .hbm, ⟨3, _⟩ => ⟨S1024x512, .f32⟩
  | .hbm, ⟨4, _⟩ => ⟨S1024x1024, .f32⟩
  | .hbm, ⟨5, _⟩ => ⟨S1024x64, .f32⟩
  | .hbm, ⟨6, _⟩ => ⟨S1024x64, .f32⟩
  | .hbm, ⟨7, _⟩ => ⟨S1024x512, .f32⟩
  | .hbm, ⟨8, _⟩ => ⟨S1024x64, .f32⟩
  | .hbm, ⟨9, _⟩ => ⟨S1024x8, .f32⟩
  | .hbm, ⟨10, _⟩ => ⟨S1024x512, .f32⟩
  | .hbm, ⟨11, _⟩ => ⟨S1024x3072, .f32⟩
  | .hbm, ⟨12, _⟩ => ⟨S_, .i32⟩
  | .hbm, ⟨13, _⟩ => ⟨S_, .f32⟩
  | .hbm, ⟨14, _⟩ => ⟨S1024x128, .f32⟩
  | .hbm, ⟨15, _⟩ => ⟨S_, .i32⟩
  | .hbm, ⟨16, _⟩ => ⟨S_, .f32⟩
  | .hbm, ⟨17, _⟩ => ⟨S1024x128, .f32⟩
  | .hbm, ⟨18, _⟩ => ⟨S_, .i32⟩
  | .hbm, ⟨19, _⟩ => ⟨S_, .f32⟩
  | .hbm, ⟨20, _⟩ => ⟨S1024x128, .f32⟩
  | .hbm, ⟨21, _⟩ => ⟨S1024x2432, .f32⟩
  | .hbm, ⟨22, _⟩ => ⟨S_, .i32⟩
  | .hbm, ⟨23, _⟩ => ⟨S_, .f32⟩
  | .hbm, ⟨24, _⟩ => ⟨S1024x16, .f32⟩
  | .hbm, ⟨25, _⟩ => ⟨S1024x528, .f32⟩
  | .hbm, ⟨26, _⟩ => ⟨S528x1024, .f32⟩
  | .hbm, ⟨27, _⟩ => ⟨S1024x2432, .bf16⟩
  | .hbm, ⟨28, _⟩ => ⟨S528x1024, .bf16⟩
  | .hbm, ⟨29, _⟩ => ⟨S1024x3072, .bf16⟩
  | .hbm, ⟨30, _⟩ => ⟨S1x1024, .f32⟩
  | .hbm, ⟨31, _⟩ => ⟨S16384x2048, .f32⟩
  | .hbm, ⟨32, _⟩ => ⟨S16384x384, .bf16⟩
  | .hbm, ⟨33, _⟩ => ⟨S528x16384, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2432, .bf16⟩
  | .local _ .vmem, ⟨4, _⟩ => ⟨S528x1024, .bf16⟩
  | .local _ .vmem, ⟨5, _⟩ => ⟨S512x2048, .f32⟩
  | .local _ .vmem, ⟨6, _⟩ => ⟨S512x2048, .f32⟩
  | .local _ .vmem, ⟨7, _⟩ => ⟨S512x384, .bf16⟩
  | .local _ .vmem, ⟨8, _⟩ => ⟨S512x384, .bf16⟩
  | .local _ .vmem, ⟨9, _⟩ => ⟨S528x512, .f32⟩
  | .local _ .vmem, ⟨10, _⟩ => ⟨S528x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_call0_v0 : Ref sig .tc := ⟨.hbm, 13, rfl⟩
abbrev main_v9 : Ref sig .tc := ⟨.hbm, 14, rfl⟩
abbrev main_c_0 : Ref sig .tc := ⟨.hbm, 15, rfl⟩
abbrev main_call1_v0 : Ref sig .tc := ⟨.hbm, 16, rfl⟩
abbrev main_v10 : Ref sig .tc := ⟨.hbm, 17, rfl⟩
abbrev main_c_1 : Ref sig .tc := ⟨.hbm, 18, rfl⟩
abbrev main_call2_v0 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_call3_v0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20_0 : Ref sig .tc := ⟨.hbm, 31, rfl⟩
abbrev main_v20_1 : Ref sig .tc := ⟨.hbm, 32, rfl⟩
abbrev main_v20_2 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2432 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S528x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S528x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== InProjReferenceIdeal.lean ====
abbrev S16384x1024 : Shape := ⟨2, ![16384, 1024]⟩
abbrev S1024 : Shape := ⟨1, ![1024]⟩
abbrev S1024x5832 : Shape := ⟨2, ![1024, 5832]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5832 : Shape := ⟨2, ![16384, 5832]⟩
abbrev S16384x512 : Shape := ⟨2, ![16384, 512]⟩
abbrev S16384x64 : Shape := ⟨2, ![16384, 64]⟩
abbrev S16384x8 : Shape := ⟨2, ![16384, 8]⟩
abbrev S16384x2048 : Shape := ⟨2, ![16384, 2048]⟩
abbrev S16384x63 : Shape := ⟨2, ![16384, 63]⟩
abbrev S16384x384 : Shape := ⟨2, ![16384, 384]⟩
abbrev S16384x528 : Shape := ⟨2, ![16384, 528]⟩
abbrev S528x16384 : Shape := ⟨2, ![528, 16384]⟩

abbrev nBuf : Space → Nat
  | .hbm => 39
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5832, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x5832, .f32⟩
  | .hbm, ⟨20, _⟩ => ⟨S16384x512, .f32⟩
  | .hbm, ⟨21, _⟩ => ⟨S16384x1024, .f32⟩
  | .hbm, ⟨22, _⟩ => ⟨S16384x64, .f32⟩
  | .hbm, ⟨23, _⟩ => ⟨S16384x64, .f32⟩
  | .hbm, ⟨24, _⟩ => ⟨S16384x512, .f32⟩
  | .hbm, ⟨25, _⟩ => ⟨S16384x64, .f32⟩
  | .hbm, ⟨26, _⟩ => ⟨S16384x8, .f32⟩
  | .hbm, ⟨27, _⟩ => ⟨S16384x512, .f32⟩
  | .hbm, ⟨28, _⟩ => ⟨S_, .f32⟩
  | .hbm, ⟨29, _⟩ => ⟨S16384x64, .f32⟩
  | .hbm, ⟨30, _⟩ => ⟨S_, .f32⟩
  | .hbm, ⟨31, _⟩ => ⟨S16384x1, .f32⟩
  | .hbm, ⟨32, _⟩ => ⟨S16384x2048, .f32⟩
  | .hbm, ⟨33, _⟩ => ⟨S16384x63, .f32⟩
  | .hbm, ⟨34, _⟩ => ⟨S16384x384, .f32⟩
  | .hbm, ⟨35, _⟩ => ⟨S16384x8, .f32⟩
  | .hbm, ⟨36, _⟩ => ⟨S16384x528, .f32⟩
  | .hbm, ⟨37, _⟩ => ⟨S16384x384, .bf16⟩
  | .hbm, ⟨38, _⟩ => ⟨S528x16384, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]
-- ==== Disc.lean ====
abbrev S32x64 : Shape := ⟨2, ![32, 64]⟩
abbrev S32 : Shape := ⟨1, ![32]⟩
abbrev S32x64x16 : Shape := ⟨3, ![32, 64, 16]⟩
abbrev S32x1x64 : Shape := ⟨3, ![32, 1, 64]⟩
abbrev S32x1x1 : Shape := ⟨3, ![32, 1, 1]⟩
abbrev S32x16x64 : Shape := ⟨3, ![32, 16, 64]⟩

abbrev nBuf : Space → Nat
  | .hbm => 14
  | .vmem => 9
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32, .f32⟩
  | .hbm, ⟨3, _⟩ => ⟨S32x64x16, .f32⟩
  | .hbm, ⟨4, _⟩ => ⟨S32x64x16, .f32⟩
  | .hbm, ⟨5, _⟩ => ⟨S32x1x64, .f32⟩
  | .hbm, ⟨6, _⟩ => ⟨S32x1x64, .f32⟩
  | .hbm, ⟨7, _⟩ => ⟨S32x1x1, .f32⟩
  | .hbm, ⟨8, _⟩ => ⟨S32x16x64, .f32⟩
  | .hbm, ⟨9, _⟩ => ⟨S32x16x64, .f32⟩
  | .hbm, ⟨10, _⟩ => ⟨S32x1x64, .f32⟩
  | .hbm, ⟨11, _⟩ => ⟨S32x1x64, .f32⟩
  | .hbm, ⟨12, _⟩ => ⟨S32x16x64, .f32⟩
  | .hbm, ⟨13, _⟩ => ⟨S32x16x64, .f32⟩
  | .local _ .vmem, ⟨0, _⟩ => ⟨S32x1x64, .f32⟩
  | .local _ .vmem, ⟨1, _⟩ => ⟨S32x1x64, .f32⟩
  | .local _ .vmem, ⟨2, _⟩ => ⟨S32x1x1, .f32⟩
  | .local _ .vmem, ⟨3, _⟩ => ⟨S32x16x64, .f32⟩
  | .local _ .vmem, ⟨4, _⟩ => ⟨S32x16x64, .f32⟩
  | .local _ .vmem, ⟨5, _⟩ => ⟨S32x1x64, .f32⟩
  | .local _ .vmem, ⟨6, _⟩ => ⟨S32x1x64, .f32⟩
  | .local _ .vmem, ⟨7, _⟩ => ⟨S32x16x64, .f32⟩
  | .local _ .vmem, ⟨8, _⟩ => ⟨S32x16x64, .f32⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S32x1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x16x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x16x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== DiscReferenceIdeal.lean ====
abbrev S32x64 : Shape := ⟨2, ![32, 64]⟩
abbrev S32 : Shape := ⟨1, ![32]⟩
abbrev S32x64x16 : Shape := ⟨3, ![32, 64, 16]⟩
abbrev S32x1 : Shape := ⟨2, ![32, 1]⟩
abbrev S_ : Shape := ⟨0, ![]⟩
abbrev S32x64x1 : Shape := ⟨3, ![32, 64, 1]⟩
abbrev S32x1x64 : Shape := ⟨3, ![32, 1, 64]⟩
abbrev S32x16x64 : Shape := ⟨3, ![32, 16, 64]⟩

abbrev nBuf : Space → Nat
  | .hbm => 53
  | .vmem => 0
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32, .f32⟩
  | .hbm, ⟨3, _⟩ => ⟨S32x64x16, .f32⟩
  | .hbm, ⟨4, _⟩ => ⟨S32x64x16, .f32⟩
  | .hbm, ⟨5, _⟩ => ⟨S32, .f32⟩
  | .hbm, ⟨6, _⟩ => ⟨S32x1, .f32⟩
  | .hbm, ⟨7, _⟩ => ⟨S32x64, .f32⟩
  | .hbm, ⟨8, _⟩ => ⟨S32x64, .f32⟩
  | .hbm, ⟨9, _⟩ => ⟨S32x64, .f32⟩
  | .hbm, ⟨10, _⟩ => ⟨S32x64, .f32⟩
  | .hbm, ⟨11, _⟩ => ⟨S32x64, .f32⟩
  | .hbm, ⟨12, _⟩ => ⟨S32x64, .f32⟩
  | .hbm, ⟨13, _⟩ => ⟨S32x64, .f32⟩
  | .hbm, ⟨14, _⟩ => ⟨S32x64, .f32⟩
  | .hbm, ⟨15, _⟩ => ⟨S32x64, .f32⟩
  | .hbm, ⟨16, _⟩ => ⟨S32x64, .f32⟩
  | .hbm, ⟨17, _⟩ => ⟨S32x64, .f32⟩
  | .hbm, ⟨18, _⟩ => ⟨S32x64, .f32⟩
  | .hbm, ⟨19, _⟩ => ⟨S32x64, .f32⟩
  | .hbm, ⟨20, _⟩ => ⟨S32x64, .f32⟩
  | .hbm, ⟨21, _⟩ => ⟨S_, .f32⟩
  | .hbm, ⟨22, _⟩ => ⟨S32x64, .f32⟩
  | .hbm, ⟨23, _⟩ => ⟨S32x64, .f32⟩
  | .hbm, ⟨24, _⟩ => ⟨S32x64, .f32⟩
  | .hbm, ⟨25, _⟩ => ⟨S32x64, .f32⟩
  | .hbm, ⟨26, _⟩ => ⟨S32x64, .f32⟩
  | .hbm, ⟨27, _⟩ => ⟨S32x64, .f32⟩
  | .hbm, ⟨28, _⟩ => ⟨S32x64, .f32⟩
  | .hbm, ⟨29, _⟩ => ⟨S_, .f32⟩
  | .hbm, ⟨30, _⟩ => ⟨S32x64, .f32⟩
  | .hbm, ⟨31, _⟩ => ⟨S32x64, .f32⟩
  | .hbm, ⟨32, _⟩ => ⟨S32x64, .f32⟩
  | .hbm, ⟨33, _⟩ => ⟨S32x64, .f32⟩
  | .hbm, ⟨34, _⟩ => ⟨S32x64, .f32⟩
  | .hbm, ⟨35, _⟩ => ⟨S32x64x1, .f32⟩
  | .hbm, ⟨36, _⟩ => ⟨S32x64x16, .f32⟩
  | .hbm, ⟨37, _⟩ => ⟨S32x64x16, .f32⟩
  | .hbm, ⟨38, _⟩ => ⟨S32x64x1, .f32⟩
  | .hbm, ⟨39, _⟩ => ⟨S32x64x16, .f32⟩
  | .hbm, ⟨40, _⟩ => ⟨S32x64x16, .f32⟩
  | .hbm, ⟨41, _⟩ => ⟨S32x64x16, .f32⟩
  | .hbm, ⟨42, _⟩ => ⟨S32x64x1, .f32⟩
  | .hbm, ⟨43, _⟩ => ⟨S32x64x16, .f32⟩
  | .hbm, ⟨44, _⟩ => ⟨S32x64x16, .f32⟩
  | .hbm, ⟨45, _⟩ => ⟨S32x64x1, .f32⟩
  | .hbm, ⟨46, _⟩ => ⟨S32x64x16, .f32⟩
  | .hbm, ⟨47, _⟩ => ⟨S32x64x16, .f32⟩
  | .hbm, ⟨48, _⟩ => ⟨S32x64x16, .f32⟩
  | .hbm, ⟨49, _⟩ => ⟨S32x1x64, .f32⟩
  | .hbm, ⟨50, _⟩ => ⟨S32x1x64, .f32⟩
  | .hbm, ⟨51, _⟩ => ⟨S32x16x64, .f32⟩
  | .hbm, ⟨52, _⟩ => ⟨S32x16x64, .f32⟩
  | _, _ => ⟨S32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_0 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩

abbrev nD : Nat := 1
abbrev τ : Topo := Topo.v7x

variable {F : FTy → Type} [FloatOps F]
-- ==== Pool.lean ====
abbrev S8x2048x2048 : Shape := ⟨3, ![8, 2048, 2048]⟩
abbrev S4x128x128 : Shape := ⟨3, ![4, 128, 128]⟩
abbrev S512 : Shape := ⟨1, ![512]⟩
abbrev S1x512 : Shape := ⟨2, ![1, 512]⟩
abbrev S8x2048x512 : Shape := ⟨3, ![8, 2048, 512]⟩
abbrev S1x2048x512 : Shape := ⟨3, ![1, 2048, 512]⟩
abbrev S2064x128 : Shape := ⟨2, ![2064, 128]⟩
abbrev S16x128 : Shape := ⟨2, ![16, 128]⟩
abbrev S2048x128 : Shape := ⟨2, ![2048, 128]⟩
abbrev S1x2048x128 : Shape := ⟨3, ![1, 2048, 128]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 6
  | .vmem => 7
  | .smem => 0
  | _ => 0

abbrev bufTy : (tb : Table) → Fin (tcTables nBuf tb) → BufTy
  | .hbm, ⟨0, _⟩ => ⟨S8x2048x2048, .f32⟩
  | .hbm, ⟨1, _⟩ => ⟨S4x128x128, .f32⟩
  | .hbm, ⟨2, _⟩ => ⟨S512, .f32⟩
  | .hbm, ⟨3, _⟩ => ⟨S4x128x128, .bf16⟩
  | .hbm, ⟨4, _⟩ => ⟨S1x512, .f32⟩
  | .hbm, ⟨5, _⟩ => ⟨S8x2048x512, .bf16⟩
  | .local _ .vmem, ⟨0, _⟩ => ⟨S1x2048x512, .f32⟩
  | .local _ .vmem, ⟨1, _⟩ => ⟨S1x2048x512, .f32⟩
  | .local _ .vmem, ⟨2, _⟩ => ⟨S4x128x128, .bf16⟩
  | .local _ .vmem, ⟨3, _⟩ => ⟨S1x512, .f32⟩
  | .local _ .vmem, ⟨4, _⟩ => ⟨S1x2048x512, .bf16⟩
  | .local _ .vmem, ⟨5, _⟩ => ⟨S1x2048x512, .bf16⟩
  | .local _ .vmem, ⟨6, _⟩ => ⟨S2064x128, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PoolReferenceIdeal.lean ====
abbrev S8x2048x2048 : Shape := ⟨3, ![8, 2048, 2048]⟩
abbrev S4x128x128 : Shape := ⟨3, ![4, 128, 128]⟩
abbrev S512 : Shape := ⟨1, ![512]⟩
abbrev S8x2048x512 : Shape := ⟨3, ![8, 2048, 512]⟩
abbrev S2048 : Shape := ⟨1, ![2048]⟩
abbrev S2048x1 : Shape := ⟨2, ![2048, 1]⟩
abbrev S8x2048x128 : Shape := ⟨3, ![8, 2048, 128]⟩
abbrev S_ : Shape := ⟨0, ![]⟩
abbrev S1x2048x1 : Shape := ⟨3, ![1, 2048, 1]⟩
abbrev S8x2048x1x128 : Shape := ⟨4, ![8, 2048, 1, 128]⟩
abbrev S8x2048x4x128 : Shape := ⟨4, ![8, 2048, 4, 128]⟩
abbrev S4x128x8x2048 : Shape := ⟨4, ![4, 128, 8, 2048]⟩
abbrev S1x1x512 : Shape := ⟨3, ![1, 1, 512]⟩

abbrev nBuf : Space → Nat
  | .hbm => 75
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S4x128x128, .f32⟩
  | .hbm, ⟨2, _⟩ => ⟨S512, .f32⟩
  | .hbm, ⟨3, _⟩ => ⟨S8x2048x512, .f32⟩
  | .hbm, ⟨4, _⟩ => ⟨S2048, .i32⟩
  | .hbm, ⟨5, _⟩ => ⟨S2048, .f32⟩
  | .hbm, ⟨6, _⟩ => ⟨S2048x1, .f32⟩
  | .hbm, ⟨7, _⟩ => ⟨S8x2048x128, .f32⟩
  | .hbm, ⟨8, _⟩ => ⟨S_, .f32⟩
  | .hbm, ⟨9, _⟩ => ⟨S_, .f32⟩
  | .hbm, ⟨10, _⟩ => ⟨S8x2048x128, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S1x2048x1, .f32⟩
  | .hbm, ⟨18, _⟩ => ⟨S8x2048x128, .f32⟩
  | .hbm, ⟨19, _⟩ => ⟨S8x2048x128, .f32⟩
  | .hbm, ⟨20, _⟩ => ⟨S8x2048x128, .f32⟩
  | .hbm, ⟨21, _⟩ => ⟨S8x2048x128, .f32⟩
  | .hbm, ⟨22, _⟩ => ⟨S_, .f32⟩
  | .hbm, ⟨23, _⟩ => ⟨S_, .f32⟩
  | .hbm, ⟨24, _⟩ => ⟨S8x2048x128, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S_, .f32⟩
  | .hbm, ⟨29, _⟩ => ⟨S2048x1, .f32⟩
  | .hbm, ⟨30, _⟩ => ⟨S2048x1, .f32⟩
  | .hbm, ⟨31, _⟩ => ⟨S1x2048x1, .f32⟩
  | .hbm, ⟨32, _⟩ => ⟨S8x2048x128, .f32⟩
  | .hbm, ⟨33, _⟩ => ⟨S8x2048x128, .f32⟩
  | .hbm, ⟨34, _⟩ => ⟨S8x2048x128, .f32⟩
  | .hbm, ⟨35, _⟩ => ⟨S8x2048x128, .f32⟩
  | .hbm, ⟨36, _⟩ => ⟨S_, .f32⟩
  | .hbm, ⟨37, _⟩ => ⟨S_, .f32⟩
  | .hbm, ⟨38, _⟩ => ⟨S8x2048x128, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S_, .f32⟩
  | .hbm, ⟨43, _⟩ => ⟨S2048x1, .f32⟩
  | .hbm, ⟨44, _⟩ => ⟨S2048x1, .f32⟩
  | .hbm, ⟨45, _⟩ => ⟨S1x2048x1, .f32⟩
  | .hbm, ⟨46, _⟩ => ⟨S8x2048x128, .f32⟩
  | .hbm, ⟨47, _⟩ => ⟨S8x2048x128, .f32⟩
  | .hbm, ⟨48, _⟩ => ⟨S8x2048x128, .f32⟩
  | .hbm, ⟨49, _⟩ => ⟨S8x2048x128, .f32⟩
  | .hbm, ⟨50, _⟩ => ⟨S_, .f32⟩
  | .hbm, ⟨51, _⟩ => ⟨S_, .f32⟩
  | .hbm, ⟨52, _⟩ => ⟨S8x2048x128, .f32⟩
  | .hbm, ⟨53, _⟩ => ⟨S_, .f32⟩
  | .hbm, ⟨54, _⟩ => ⟨S2048x1, .f32⟩
  | .hbm, ⟨55, _⟩ => ⟨S2048x1, .f32⟩
  | .hbm, ⟨56, _⟩ => ⟨S_, .f32⟩
  | .hbm, ⟨57, _⟩ => ⟨S2048x1, .f32⟩
  | .hbm, ⟨58, _⟩ => ⟨S2048x1, .f32⟩
  | .hbm, ⟨59, _⟩ => ⟨S1x2048x1, .f32⟩
  | .hbm, ⟨60, _⟩ => ⟨S8x2048x128, .f32⟩
  | .hbm, ⟨61, _⟩ => ⟨S8x2048x128, .f32⟩
  | .hbm, ⟨62, _⟩ => ⟨S8x2048x128, .f32⟩
  | .hbm, ⟨63, _⟩ => ⟨S8x2048x1x128, .f32⟩
  | .hbm, ⟨64, _⟩ => ⟨S8x2048x1x128, .f32⟩
  | .hbm, ⟨65, _⟩ => ⟨S8x2048x1x128, .f32⟩
  | .hbm, ⟨66, _⟩ => ⟨S8x2048x1x128, .f32⟩
  | .hbm, ⟨67, _⟩ => ⟨S8x2048x4x128, .f32⟩
  | .hbm, ⟨68, _⟩ => ⟨S4x128x8x2048, .f32⟩
  | .hbm, ⟨69, _⟩ => ⟨S8x2048x4x128, .f32⟩
  | .hbm, ⟨70, _⟩ => ⟨S8x2048x512, .f32⟩
  | .hbm, ⟨71, _⟩ => ⟨S1x1x512, .f32⟩
  | .hbm, ⟨72, _⟩ => ⟨S8x2048x512, .f32⟩
  | .hbm, ⟨73, _⟩ => ⟨S8x2048x512, .f32⟩
  | .hbm, ⟨74, _⟩ => ⟨S8x2048x512, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_8 : Ref sig .tc := ⟨.hbm, 50, rfl⟩
abbrev main_v38 : Ref sig .tc := ⟨.hbm, 51, rfl⟩
abbrev main_v39 : Ref sig .tc := ⟨.hbm, 52, rfl⟩
abbrev main_cst_9 : Ref sig .tc := ⟨.hbm, 53, rfl⟩
abbrev main_v40 : Ref sig .tc := ⟨.hbm, 54, rfl⟩
abbrev main_v41 : Ref sig .tc := ⟨.hbm, 55, rfl⟩
abbrev main_cst_10 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩

abbrev nD : Nat := 1
abbrev τ : Topo := Topo.v7x

variable {F : FTy → Type} [FloatOps F]
-- ==== Bias.lean ====
abbrev S32x16 : Shape := ⟨2, ![32, 16]⟩
abbrev S2x16x128x256 : Shape := ⟨4, ![2, 16, 128, 256]⟩
abbrev S1x16x128x256 : Shape := ⟨4, ![1, 16, 128, 256]⟩
abbrev S128x256 : Shape := ⟨2, ![128, 256]⟩
abbrev S1x1 : Shape := ⟨2, ![1, 1]⟩
abbrev S1x1x128x256 : Shape := ⟨4, ![1, 1, 128, 256]⟩

abbrev nBuf : Space → Nat
  | .hbm => 2
  | .vmem => 2
  | .smem => 1
  | _ => 0

abbrev bufTy : (tb : Table) → Fin (tcTables nBuf tb) → BufTy
  | .hbm, ⟨0, _⟩ => ⟨S32x16, .f32⟩
  | .hbm, ⟨1, _⟩ => ⟨S2x16x128x256, .f32⟩
  | .local _ .vmem, ⟨0, _⟩ => ⟨S1x16x128x256, .f32⟩
  | .local _ .vmem, ⟨1, _⟩ => ⟨S1x16x128x256, .f32⟩
  | .local _ .smem, ⟨0, _⟩ => ⟨S32x16, .f32⟩
  | _, _ => ⟨S32x16, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg1_0 : Ref sig .tc := ⟨.vmem, 0, rfl⟩
abbrev cc0_stg1_1 : Ref sig .tc := ⟨.vmem, 1, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S32x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x16x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== BiasReferenceIdeal.lean ====
abbrev S32x16 : Shape := ⟨2, ![32, 16]⟩
abbrev S2 : Shape := ⟨1, ![2]⟩
abbrev S2x1x1 : Shape := ⟨3, ![2, 1, 1]⟩
abbrev S_ : Shape := ⟨0, ![]⟩
abbrev S128 : Shape := ⟨1, ![128]⟩
abbrev S1x128x1 : Shape := ⟨3, ![1, 128, 1]⟩
abbrev S256 : Shape := ⟨1, ![256]⟩
abbrev S1x1x256 : Shape := ⟨3, ![1, 1, 256]⟩
abbrev S2x128x1 : Shape := ⟨3, ![2, 128, 1]⟩
abbrev S2x128x256 : Shape := ⟨3, ![2, 128, 256]⟩
abbrev S2x128x256x1 : Shape := ⟨4, ![2, 128, 256, 1]⟩
abbrev S2x128x256x16 : Shape := ⟨4, ![2, 128, 256, 16]⟩
abbrev S1x16 : Shape := ⟨2, ![1, 16]⟩
abbrev S16 : Shape := ⟨1, ![16]⟩
abbrev S1x1x1x16 : Shape := ⟨4, ![1, 1, 1, 16]⟩
abbrev S2x16x128x256 : Shape := ⟨4, ![2, 16, 128, 256]⟩

abbrev nBuf : Space → Nat
  | .hbm => 62
  | .vmem => 0
  | .smem => 0
  | _ => 0

abbrev bufTy : (tb : Table) → Fin (tcTables nBuf tb) → BufTy
  | .hbm, ⟨0, _⟩ => ⟨S32x16, .f32⟩
  | .hbm, ⟨1, _⟩ => ⟨S2, .i32⟩
  | .hbm, ⟨2, _⟩ => ⟨S2x1x1, .i32⟩
  | .hbm, ⟨3, _⟩ => ⟨S_, .i32⟩
  | .hbm, ⟨4, _⟩ => ⟨S2x1x1, .i32⟩
  | .hbm, ⟨5, _⟩ => ⟨S2x1x1, .i32⟩
  | .hbm, ⟨6, _⟩ => ⟨S128, .i32⟩
  | .hbm, ⟨7, _⟩ => ⟨S1x128x1, .i32⟩
  | .hbm, ⟨8, _⟩ => ⟨S256, .i32⟩
  | .hbm, ⟨9, _⟩ => ⟨S1x1x256, .i32⟩
  | .hbm, ⟨10, _⟩ => ⟨S2x128x1, .i32⟩
  | .hbm, ⟨11, _⟩ => ⟨S2x128x1, .i32⟩
  | .hbm, ⟨12, _⟩ => ⟨S2x128x1, .i32⟩
  | .hbm, ⟨13, _⟩ => ⟨S2x128x256, .i32⟩
  | .hbm, ⟨14, _⟩ => ⟨S2x128x256, .i32⟩
  | .hbm, ⟨15, _⟩ => ⟨S2x128x256, .i32⟩
  | .hbm, ⟨16, _⟩ => ⟨S_, .i32⟩
  | .hbm, ⟨17, _⟩ => ⟨S2x128x256, .i32⟩
  | .hbm, ⟨18, _⟩ => ⟨S2x128x256, .i32⟩
  | .hbm, ⟨19, _⟩ => ⟨S_, .i32⟩
  | .hbm, ⟨20, _⟩ => ⟨S2x128x256, .i32⟩
  | .hbm, ⟨21, _⟩ => ⟨S2x128x256, .i32⟩
  | .hbm, ⟨22, _⟩ => ⟨S2x128x256, .f32⟩
  | .hbm, ⟨23, _⟩ => ⟨S_, .f32⟩
  | .hbm, ⟨24, _⟩ => ⟨S2x128x256, .f32⟩
  | .hbm, ⟨25, _⟩ => ⟨S2x128x256, .f32⟩
  | .hbm, ⟨26, _⟩ => ⟨S2x128x256, .f32⟩
  | .hbm, ⟨27, _⟩ => ⟨S_, .f32⟩
  | .hbm, ⟨28, _⟩ => ⟨S2x128x256, .f32⟩
  | .hbm, ⟨29, _⟩ => ⟨S2x128x256, .f32⟩
  | .hbm, ⟨30, _⟩ => ⟨S_, .f32⟩
  | .hbm, ⟨31, _⟩ => ⟨S2x128x256, .f32⟩
  | .hbm, ⟨32, _⟩ => ⟨S2x128x256, .f32⟩
  | .hbm, ⟨33, _⟩ => ⟨S2x128x256, .i32⟩
  | .hbm, ⟨34, _⟩ => ⟨S_, .i32⟩
  | .hbm, ⟨35, _⟩ => ⟨S2x128x256, .i32⟩
  | .hbm, ⟨36, _⟩ => ⟨S2x128x256, .i32⟩
  | .hbm, ⟨37, _⟩ => ⟨S_, .i32⟩
  | .hbm, ⟨38, _⟩ => ⟨S2x128x256, .i32⟩
  | .hbm, ⟨39, _⟩ => ⟨S2x128x256, .i32⟩
  | .hbm, ⟨40, _⟩ => ⟨S_, .i32⟩
  | .hbm, ⟨41, _⟩ => ⟨S2x128x256, .i32⟩
  | .hbm, ⟨42, _⟩ => ⟨S2x128x256, .i1⟩
  | .hbm, ⟨43, _⟩ => ⟨S2x128x256, .i32⟩
  | .hbm, ⟨44, _⟩ => ⟨S_, .i32⟩
  | .hbm, ⟨45, _⟩ => ⟨S2x128x256, .i32⟩
  | .hbm, ⟨46, _⟩ => ⟨S2x128x256, .i1⟩
  | .hbm, ⟨47, _⟩ => ⟨S_, .i32⟩
  | .hbm, ⟨48, _⟩ => ⟨S2x128x256, .i32⟩
  | .hbm, ⟨49, _⟩ => ⟨S2x128x256, .i32⟩
  | .hbm, ⟨50, _⟩ => ⟨S2x128x256, .i32⟩
  | .hbm, ⟨51, _⟩ => ⟨S2x128x256x1, .i32⟩
  | .hbm, ⟨52, _⟩ => ⟨S2x128x256x16, .f32⟩
  | .hbm, ⟨53, _⟩ => ⟨S1x16, .f32⟩
  | .hbm, ⟨54, _⟩ => ⟨S16, .f32⟩
  | .hbm, ⟨55, _⟩ => ⟨S1x1x1x16, .f32⟩
  | .hbm, ⟨56, _⟩ => ⟨S2x128x256x16, .f32⟩
  | .hbm, ⟨57, _⟩ => ⟨S2x128x256x16, .f32⟩
  | .hbm, ⟨58, _⟩ => ⟨S2x16x128x256, .f32⟩
  | .hbm, ⟨59, _⟩ => ⟨S_, .f32⟩
  | .hbm, ⟨60, _⟩ => ⟨S2x16x128x256, .f32⟩
  | .hbm, ⟨61, _⟩ => ⟨S2x16x128x256, .f32⟩
  | _, _ => ⟨S32x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_c_0 : Ref sig .tc := ⟨.hbm, 16, rfl⟩
abbrev main_v14 : Ref sig .tc := ⟨.hbm, 17, rfl⟩
abbrev main_v15 : Ref sig .tc := ⟨.hbm, 18, rfl⟩
abbrev main_c_1 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_2 : Ref sig .tc := ⟨.hbm, 27, rfl⟩
abbrev main_v22 : Ref sig .tc := ⟨.hbm, 28, rfl⟩
abbrev main_v23 : Ref sig .tc := ⟨.hbm, 29, rfl⟩
abbrev main_cst_3 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_c_4 : Ref sig .tc := ⟨.hbm, 34, rfl⟩
abbrev main_v27 : Ref sig .tc := ⟨.hbm, 35, rfl⟩
abbrev main_v28 : Ref sig .tc := ⟨.hbm, 36, rfl⟩
abbrev main_c_5 : Ref sig .tc := ⟨.hbm, 37, rfl⟩
abbrev main_v29 : Ref sig .tc := ⟨.hbm, 38, rfl⟩
abbrev main_v30 : Ref sig .tc := ⟨.hbm, 39, rfl⟩
abbrev main_c_6 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c_7 : Ref sig .tc := ⟨.hbm, 44, rfl⟩
abbrev main_v34 : Ref sig .tc := ⟨.hbm, 45, rfl⟩
abbrev main_v35 : Ref sig .tc := ⟨.hbm, 46, rfl⟩
abbrev main_c_8 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_9 : Ref sig .tc := ⟨.hbm, 59, rfl⟩
abbrev main_v47 : Ref sig .tc := ⟨.hbm, 60, rfl⟩
abbrev main_v48 : Ref sig .tc := ⟨.hbm, 61, rfl⟩

abbrev nD : Nat := 1
abbrev τ : Topo := Topo.v7x

variable {F : FTy → Type} [FloatOps F]
-- ==== Proof.S5Scan.lean ====
module

public import proofs.«01_k».proof.Proof.Gen.KernelIdeal.Loops
public import Idealize.ShloMosaic.Lib.Pipeline.ValueKit
public import Idealize.ShloMosaic.Lib.Pointwise

@[expose] public section

set_option maxRecDepth 16384

noncomputable section

namespace Cert.KernelIdeal.S5

open Cert.KernelIdeal.Gen
open Idealize.ShloMosaic Idealize.ShloMosaic.TcCoe Idealize.SL.Sem
open scoped BigOperators

/-- The complex recurrence `s ↦ a·s + x`, real and imaginary parts, after `n` steps from `s`. -/
def lin (a a' : EReal) (x y : ℕ → EReal) (s : EReal × EReal) : ℕ → EReal × EReal
  | 0 => s
  | n + 1 => (a * (lin a a' x y s n).1 - a' * (lin a a' x y s n).2 + x n, a * (lin a a' x y s n).2 + a' * (lin a a' x y s n).1 + y n)

/-- The recurrence continued from where it stood. -/
theorem lin_add (a a' : EReal) (x y : ℕ → EReal) (s : EReal × EReal) (n : ℕ) : ∀ k,
    lin a a' x y s (n + k) = lin a a' (fun j => x (n + j)) (fun j => y (n + j)) (lin a a' x y s n) k
  | 0 => rfl
  | k + 1 => by
    rw [show n + (k + 1) = (n + k) + 1 from rfl, lin, lin_add a a' x y s n k]; rfl

/-- The recurrence reads its inputs up to the last step only. -/
theorem lin_congr (a a' : EReal) (x y x' y' : ℕ → EReal) (s : EReal × EReal) : ∀ n, (∀ j, j < n → x j = x' j ∧ y j = y' j) →
    lin a a' x y s n = lin a a' x' y' s n
  | 0, _ => rfl
  | n + 1, h => by
    rw [lin, lin, lin_congr a a' x y x' y' s n fun j hj => h j (by omega), (h n (by omega)).1, (h n (by omega)).2]

/-- Row `8·n + b` of a buffer of 512 rows, at one lane. -/
def rows8 (X : Vec Ideal S512x2048 .f32) (b : Fin 8) (l : Fin 2048) (n : ℕ) : EReal :=
  if h : 8 * n + b.val < 512 then X (ix2 ⟨8 * n + b.val, h⟩ l) else 0

theorem rows8_of (X : Vec Ideal S512x2048 .f32) (b : Fin 8) (l : Fin 2048) (n : ℕ) (h : 8 * n + b.val < 512) :
    rows8 X b l n = X (ix2 ⟨8 * n + b.val, h⟩ l) := dif_pos h

/-- One trip's new real part. -/
theorem pay57_at (a a' : Vec Ideal S1x1024 .f32) (s s' x : Vec Ideal S8x1024 .f32) (b : Fin 8) (l : Fin 1024) :
    k0_pay57 (F := Ideal) a a' s s' x (ix2 b l) = a (ix2 0 l) * s (ix2 b l) - a' (ix2 0 l) * s' (ix2 b l) + x (ix2 b l) := by
  pointwise [k0_pay57, k0_pay55, k0_pay56]

/-- One trip's new imaginary part. -/
theorem pay58_at (a a' : Vec Ideal S1x1024 .f32) (s s' x : Vec Ideal S8x1024 .f32) (b : Fin 8) (l : Fin 1024) :
    k0_pay58 (F := Ideal) a a' s s' x (ix2 b l) = a (ix2 0 l) * s' (ix2 b l) + a' (ix2 0 l) * s (ix2 b l) + x (ix2 b l) := by
  pointwise [k0_pay58, k0_pay55, k0_pay56]

/-- What is stored is what is carried. -/
theorem pay59_eq (a a' : Vec Ideal S1x1024 .f32) (s s' x : Vec Ideal S8x1024 .f32) :
    k0_pay59 (F := Ideal) a a' s s' x = k0_pay57 a a' s s' x := shapeCast_self _ _
theorem pay60_eq (a a' : Vec Ideal S1x1024 .f32) (s s' x : Vec Ideal S8x1024 .f32) :
    k0_pay60 (F := Ideal) a a' s s' x = k0_pay58 a a' s s' x := shapeCast_self _ _

/-- Reading a buffer whose last store is eight rows of 1024 lanes. -/
theorem canon_rows (k o : ℕ) (off : Fin 2 → ℕ) (hoff : off = ![8 * k, o]) (inb : ∀ a, off a + S8x1024.size a ≤ S512x2048.size a)
    (w : Vec Ideal S8x1024 .f32) (L : List (View.Piece (Elt Ideal) S512x2048 .f32)) (r : Fin 512) (l : Fin 2048) :
    View.canon ((⟨Rect.unit (s := S512x2048) off S8x1024.size inb, w⟩ : View.Piece (Elt Ideal) S512x2048 .f32) :: L) (ix2 r l)
      = if h : (8 * k ≤ r.val ∧ r.val < 8 * k + 8) ∧ o ≤ l.val ∧ l.val < o + 1024 then
          w (ix2 ⟨r.val - 8 * k, by omega⟩ ⟨l.val - o, by omega⟩) else View.canon L (ix2 r l) := by
  subst hoff
  split
  · rename_i h
    have e : (ix2 r l : S512x2048.Idx) = (Rect.unit (s := S512x2048) ![8 * k, o] S8x1024.size inb).emb
        (ix2 (n0 := 8) (n1 := 1024) ⟨r.val - 8 * k, by omega⟩ ⟨l.val - o, by omega⟩) := by
      funext a; apply Fin.ext; rw [Rect.emb_apply]
      match a with
      | 0 => show r.val = 8 * k + 1 * (r.val - 8 * k); omega
      | 1 => show l.val = o + 1 * (l.val - o); omega
    rw [e]
    exact View.canon_cons_emb (Rect.unit (s := S512x2048) ![8 * k, o] S8x1024.size inb) w L _
  · rename_i h
    refine View.canon_cons_of_not_mem _ L fun hm => h ?_
    have hm := (Rect.mem_set_unit (inb := inb)).mp hm
    have h0 := hm 0
    have h1 := hm 1
    exact ⟨⟨h0.1, h0.2⟩, h1.1, h1.2⟩

/-- A load of eight rows of 1024 lanes. -/
theorem idx_rows (k o : ℕ) (off : Fin 2 → ℕ) (hoff : off = ![8 * k, o]) (inb : ∀ a, off a + S8x1024.size a ≤ S512x2048.size a)
    (b : Fin 8) (l : Fin 1024) (r : Fin 512) (l' : Fin 2048) (hr : r.val = 8 * k + b.val) (hl : l'.val = o + l.val) :
    (Rect.unit (s := S512x2048) off S8x1024.size inb).toLoadRect.idx (ix2 (n0 := 8) (n1 := 1024) b l) = ix2 r l' := by
  subst hoff
  funext a; apply Fin.ext
  match a with
  | 0 => show 8 * k + 1 * b.val = r.val; omega
  | 1 => show o + 1 * l.val = l'.val; omega

set_option maxHeartbeats 400000 in
/-- The state that a loop over the rows carries, and what it leaves in the two buffers: after `k` trips the carried
    values are the recurrence after `k` steps, and the first `8·k` rows hold its states; the other rows are as found. -/
theorem loop_state (o : ℕ) (ho : o + 1024 ≤ 2048) (a a' : Vec Ideal S1x1024 .f32) (H H' : List (View.Piece (Elt Ideal) S512x2048 .f32))
    (init : Vec Ideal S8x1024 .f32 × Vec Ideal S8x1024 .f32)
    (st : ℕ → (Vec Ideal S8x1024 .f32 × Vec Ideal S8x1024 .f32) × List (View.Piece (Elt Ideal) S512x2048 .f32) × List (View.Piece (Elt Ideal) S512x2048 .f32))
    (off : Fin 64 → Fin 2 → ℕ) (hoff : ∀ k, off k = ![8 * k.val, o]) (inb : ∀ k a, off k a + S8x1024.size a ≤ S512x2048.size a)
    (h0 : st 0 = (init, [], []))
    (hs : ∀ k : Fin 64, st (k.val + 1) =
      ((k0_pay57 a a' (st k.val).1.1 (st k.val).1.2 (fun x => View.canon ((st k.val).2.1 ++ H) ((Rect.unit (s := S512x2048) (off k) S8x1024.size (inb k)).toLoadRect.idx x)),
        k0_pay58 a a' (st k.val).1.1 (st k.val).1.2 (fun x => View.canon ((st k.val).2.2 ++ H') ((Rect.unit (s := S512x2048) (off k) S8x1024.size (inb k)).toLoadRect.idx x))),
       ⟨Rect.unit (s := S512x2048) (off k) S8x1024.size (inb k),
         k0_pay59 a a' (st k.val).1.1 (st k.val).1.2 (fun x => View.canon ((st k.val).2.1 ++ H) ((Rect.unit (s := S512x2048) (off k) S8x1024.size (inb k)).toLoadRect.idx x))⟩ :: (st k.val).2.1,
       ⟨Rect.unit (s := S512x2048) (off k) S8x1024.size (inb k),
         k0_pay60 a a' (st k.val).1.1 (st k.val).1.2 (fun x => View.canon ((st k.val).2.2 ++ H') ((Rect.unit (s := S512x2048) (off k) S8x1024.size (inb k)).toLoadRect.idx x))⟩ :: (st k.val).2.2)) :
    ∀ k, k ≤ 64 →
      (∀ (b : Fin 8) (l : Fin 1024) (l' : Fin 2048), l'.val = o + l.val →
        ((st k).1.1 (ix2 b l), (st k).1.2 (ix2 b l)) = lin (a (ix2 0 l)) (a' (ix2 0 l)) (rows8 (View.canon H) b l') (rows8 (View.canon H') b l') (init.1 (ix2 b l), init.2 (ix2 b l)) k)
      ∧ (∀ (r : Fin 512) (l' : Fin 2048), ¬ (r.val < 8 * k ∧ o ≤ l'.val ∧ l'.val < o + 1024) →
        View.canon ((st k).2.1 ++ H) (ix2 r l') = View.canon H (ix2 r l') ∧ View.canon ((st k).2.2 ++ H') (ix2 r l') = View.canon H' (ix2 r l'))
      ∧ (∀ (r : Fin 512) (b : Fin 8) (n : ℕ) (l : Fin 1024) (l' : Fin 2048), r.val < 8 * k → r.val = 8 * n + b.val → l'.val = o + l.val →
        (View.canon ((st k).2.1 ++ H) (ix2 r l'), View.canon ((st k).2.2 ++ H') (ix2 r l'))
          = lin (a (ix2 0 l)) (a' (ix2 0 l)) (rows8 (View.canon H) b l') (rows8 (View.canon H') b l') (init.1 (ix2 b l), init.2 (ix2 b l)) (n + 1)) := by
  intro k
  induction k with
  | zero =>
    intro _
    rw [h0]
    exact ⟨fun b l l' _ => rfl, fun r l' _ => ⟨rfl, rfl⟩, fun r b n l l' h => by omega⟩
  | succ k ih =>
    intro hk
    obtain ⟨i1, i2, i3⟩ := ih (by omega)
    have e : st (k + 1) = _ := hs ⟨k, by omega⟩
    have key : ∀ (b : Fin 8) (l : Fin 1024) (l' : Fin 2048), l'.val = o + l.val →
        ((st (k + 1)).1.1 (ix2 b l), (st (k + 1)).1.2 (ix2 b l)) = lin (a (ix2 0 l)) (a' (ix2 0 l)) (rows8 (View.canon H) b l') (rows8 (View.canon H') b l') (init.1 (ix2 b l), init.2 (ix2 b l)) (k + 1) := by
      intro b l l' hl
      have hb : 8 * k + b.val < 512 := by omega
      have hi := idx_rows k o _ (hoff ⟨k, by omega⟩) (inb ⟨k, by omega⟩) b l ⟨8 * k + b.val, hb⟩ l' rfl hl
      have h2 := i2 ⟨8 * k + b.val, hb⟩ l' (fun h => absurd h.1 (by simp))
      rw [lin, ← i1 b l l' hl, rows8_of _ _ _ _ hb, rows8_of _ _ _ _ hb, e]
      simp only [pay57_at, pay58_at]
      rw [hi, h2.1, h2.2]
    refine ⟨key, ?_, ?_⟩
    · intro r l' h
      have := i2 r l' (fun h' => h ⟨by omega, h'.2⟩)
      rw [← this.1, ← this.2, e]
      constructor
      · rw [List.cons_append, canon_rows k o _ (hoff ⟨k, by omega⟩), dif_neg (fun h' => h ⟨by omega, h'.2⟩)]
      · rw [List.cons_append, canon_rows k o _ (hoff ⟨k, by omega⟩), dif_neg (fun h' => h ⟨by omega, h'.2⟩)]
    · intro r b n l l' hr hn hl
      by_cases hrk : r.val < 8 * k
      · rw [← i3 r b n l l' hrk hn hl, e]
        refine congrArg₂ Prod.mk ?_ ?_
        · rw [List.cons_append, canon_rows k o _ (hoff ⟨k, by omega⟩), dif_neg (fun h' => by omega)]
        · rw [List.cons_append, canon_rows k o _ (hoff ⟨k, by omega⟩), dif_neg (fun h' => by omega)]
      · have hnk : n = k := by omega
        subst hnk
        rw [← key b l l' hl, e]
        have hc : (8 * n ≤ r.val ∧ r.val < 8 * n + 8) ∧ o ≤ l'.val ∧ l'.val < o + 1024 := by omega
        have hx : (ix2 (⟨r.val - 8 * n, by omega⟩ : Fin 8) (⟨l'.val - o, by omega⟩ : Fin 1024) : S8x1024.Idx) = ix2 b l := by
          rw [show (⟨r.val - 8 * n, by omega⟩ : Fin 8) = b from Fin.ext (by show r.val - 8 * n = b.val; omega), show (⟨l'.val - o, by omega⟩ : Fin 1024) = l from Fin.ext (by show l'.val - o = l.val; omega)]
        refine congrArg₂ Prod.mk ?_ ?_
        · rw [List.cons_append, canon_rows n o _ (hoff ⟨n, by omega⟩), dif_pos hc, pay59_eq, hx]
        · rw [List.cons_append, canon_rows n o _ (hoff ⟨n, by omega⟩), dif_pos hc, pay60_eq, hx]

end Cert.KernelIdeal.S5

end
-- ==== Proof.S5Pay.lean ====
module

public import proofs.«01_k».proof.Proof.S5Scan
public import Idealize.ShloMosaic.Lib.Pointwise

@[expose] public section

set_option maxRecDepth 16384

noncomputable section

namespace Cert.KernelIdeal.S5

open Cert.KernelIdeal.Gen
open Idealize.ShloMosaic Idealize.ShloMosaic.TcCoe Idealize.SL.Sem
open scoped BigOperators

/-- The kernel's activation of one value. -/
def act (x : EReal) : EReal :=
  x * (Ideal.ofBits .f32 1056964608#32 * (Ideal.ofBits .f32 1065353216#32 + Ideal.tanh (Ideal.ofBits .f32 1061962282#32 * (x + Ideal.ofBits .f32 1027024659#32 * (x * (x * x))))))

/-- The four slabs of 128 columns beside each other. -/
theorem u_at (v0 v1 v2 v3 : Vec Ideal S1x512x128 .f32) (W : Fin 512 → Fin 512 → EReal)
    (h0 : ∀ (r : Fin 512) (q : Fin 128), v0 (ix3 0 r q) = W r ⟨q.val, by omega⟩) (h1 : ∀ (r : Fin 512) (q : Fin 128), v1 (ix3 0 r q) = W r ⟨128 + q.val, by omega⟩)
    (h2 : ∀ (r : Fin 512) (q : Fin 128), v2 (ix3 0 r q) = W r ⟨256 + q.val, by omega⟩) (h3 : ∀ (r : Fin 512) (q : Fin 128), v3 (ix3 0 r q) = W r ⟨384 + q.val, by omega⟩)
    (r l : Fin 512) : k0_pay43 (F := Ideal) v0 v1 v2 v3 (ix2 r l) = W r l := by
  pointwise [k0_pay43, h0, h1, h2, h3]
  repeat' split
  all_goals first | rfl | (congr 1; apply Fin.ext; simp only; omega)

theorem pay44_at (v0 v1 v2 v3 : Vec Ideal S1x512x128 .f32) (r l : Fin 512) : k0_pay44 (F := Ideal) v0 v1 v2 v3 (ix2 r l) = k0_pay43 (F := Ideal) v0 v1 v2 v3 (ix2 r l) := by
  pointwise [k0_pay44]

/-- One group's columns times that group's rows of the input matrix. -/
theorem pay45_at (v0 v1 v2 v3 : Vec Ideal S1x512x128 .f32) (b : Vec Ideal S128x512 .bf16) (r l : Fin 512) :
    k0_pay46 (F := Ideal) (k0_pay45 v0 v1 v2 v3 b) (ix2 r l) = ∑ k : Fin 128, k0_pay43 (F := Ideal) v0 v1 v2 v3 (ix2 r ⟨k.val, by omega⟩) * b (ix2 k l) := by
  pointwise [k0_pay46, k0_pay45, k0_pay44]

theorem pay47_at (X : FVec Ideal S512x512 .bf16) (b : Vec Ideal S128x512 .bf16) (r l : Fin 512) :
    k0_pay47 (F := Ideal) X b (ix2 r l) = ∑ k : Fin 128, X (ix2 r ⟨k.val, by omega⟩) * b (ix2 k l) := by
  pointwise [k0_pay47]

theorem pay48_at (X : FVec Ideal S512x512 .bf16) (b : Vec Ideal S128x512 .bf16) (r l : Fin 512) :
    k0_pay48 (F := Ideal) X b (ix2 r l) = ∑ k : Fin 128, X (ix2 r ⟨128 + k.val, by omega⟩) * b (ix2 k l) := by
  pointwise [k0_pay48]

theorem pay50_at (X : FVec Ideal S512x512 .bf16) (b : Vec Ideal S128x512 .bf16) (r l : Fin 512) :
    k0_pay50 (F := Ideal) X b (ix2 r l) = ∑ k : Fin 128, X (ix2 r ⟨256 + k.val, by omega⟩) * b (ix2 k l) := by
  pointwise [k0_pay50]

theorem pay53_at (X : FVec Ideal S512x512 .bf16) (b : Vec Ideal S128x512 .bf16) (r l : Fin 512) :
    k0_pay53 (F := Ideal) X b (ix2 r l) = ∑ k : Fin 128, X (ix2 r ⟨384 + k.val, by omega⟩) * b (ix2 k l) := by
  pointwise [k0_pay53]

theorem pay49_at (X : FVec Ideal S512x512 .bf16) (b : Vec Ideal S128x512 .bf16) (r l : Fin 512) :
    k0_pay49 (F := Ideal) X b (ix2 r l) = ∑ k : Fin 128, X (ix2 r ⟨128 + k.val, by omega⟩) * b (ix2 k l) := by
  pointwise [k0_pay49]

theorem pay54_at (X : FVec Ideal S512x512 .bf16) (b : Vec Ideal S128x512 .bf16) (r l : Fin 512) :
    k0_pay54 (F := Ideal) X b (ix2 r l) = ∑ k : Fin 128, X (ix2 r ⟨384 + k.val, by omega⟩) * b (ix2 k l) := by
  pointwise [k0_pay54]

theorem pay52_at (X : FVec Ideal S512x512 .bf16) (b : Vec Ideal S128x512 .bf16) (r l : Fin 512) :
    k0_pay52 (F := Ideal) (k0_pay51 X) b (ix2 r l) = ∑ k : Fin 128, X (ix2 r ⟨256 + k.val, by omega⟩) * b (ix2 k l) := by
  pointwise [k0_pay52, k0_pay51]

/-- The read-out of group 0. -/
theorem y0_at (X : FVec Ideal S512x512 .f32) (v v' : Vec Ideal S512x512 .f32) (w w' : Vec Ideal S512x128 .bf16) (d : Vec Ideal S1x128 .f32) (r : Fin 512) (q : Fin 128) :
    k0_pay72 (F := Ideal) X (k0_pay71 v w) v' w' d (ix3 0 r q) = act (∑ k : Fin 512, v (ix2 r k) * w (ix2 k q) - ∑ k : Fin 512, v' (ix2 r k) * w' (ix2 k q) + d (ix2 0 q) * X (ix2 r ⟨q.val, by omega⟩)) := by
  pointwise [k0_pay72, k0_pay71, act]

/-- The read-out of group 1. -/
theorem y1_at (X : FVec Ideal S512x512 .f32) (v v' : Vec Ideal S512x512 .f32) (w w' : Vec Ideal S512x128 .bf16) (d : Vec Ideal S1x128 .f32) (r : Fin 512) (q : Fin 128) :
    k0_pay76 (F := Ideal) X (k0_pay73 v w) (k0_pay74 v') (k0_pay75 w') d (ix3 0 r q) = act (∑ k : Fin 512, v (ix2 r k) * w (ix2 k q) - ∑ k : Fin 512, v' (ix2 r k) * w' (ix2 k q) + d (ix2 0 q) * X (ix2 r ⟨128 + q.val, by omega⟩)) := by
  pointwise [k0_pay76, k0_pay73, k0_pay74, k0_pay75, act]

/-- The read-out of group 2. -/
theorem y2_at (X : FVec Ideal S512x512 .f32) (v v' : Vec Ideal S512x512 .f32) (w w' : Vec Ideal S512x128 .bf16) (d : Vec Ideal S1x128 .f32) (r : Fin 512) (q : Fin 128) :
    k0_pay79 (F := Ideal) X (k0_pay77 v w v' w') (k0_pay78 d) (ix3 0 r q) = act (∑ k : Fin 512, v (ix2 r k) * w (ix2 k q) - ∑ k : Fin 512, v' (ix2 r k) * w' (ix2 k q) + d (ix2 0 q) * X (ix2 r ⟨256 + q.val, by omega⟩)) := by
  pointwise [k0_pay79, k0_pay77, k0_pay78, act]

/-- The read-out of group 3. -/
theorem y3_at (X : FVec Ideal S512x512 .f32) (v v' : Vec Ideal S512x512 .f32) (w w' : Vec Ideal S512x128 .bf16) (d : Vec Ideal S1x128 .f32) (r : Fin 512) (q : Fin 128) :
    k0_pay82 (F := Ideal) (k0_pay80 X v w v' w' d) (k0_pay81 X v w v' w' d) (Ideal.ofBits .f32 1027024659#32) (ix3 0 r q) = act (∑ k : Fin 512, v (ix2 r k) * w (ix2 k q) - ∑ k : Fin 512, v' (ix2 r k) * w' (ix2 k q) + d (ix2 0 q) * X (ix2 r ⟨384 + q.val, by omega⟩)) := by
  pointwise [k0_pay82, k0_pay80, k0_pay81, act]

theorem pay83_at (v : Vec Ideal S1x64x128 .f32) (t : Fin 64) (q : Fin 128) : k0_pay83 (F := Ideal) v (ix3 0 t q) = v (ix3 0 t q) := by
  pointwise [k0_pay83]
theorem pay5_at (v : Vec Ideal S1x64x128 .f32) (t : Fin 64) (q : Fin 128) : k0_pay5 (F := Ideal) v (ix3 0 t q) = v (ix3 0 t q) := by
  pointwise [k0_pay5]

end Cert.KernelIdeal.S5

end
-- ==== Proof.S5Loops.lean ====
module

public import proofs.«01_k».proof.Proof.S5Scan
public import Idealize.ShloMosaic.Lib.WholeRead

@[expose] public section

set_option maxRecDepth 16384

noncomputable section

namespace Cert.KernelIdeal.S5

open Cert.KernelIdeal.Gen
open Idealize.ShloMosaic Idealize.ShloMosaic.TcCoe Idealize.SL.Sem
open scoped BigOperators

variable (c : Dev nD) (i : grid0.Coords) (arg1 : Memref sig .tc .vmem S8x64x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x512 .f32) (harg8 : arg8.IsWhole) (arg9 : Memref sig .tc .vmem S8x64x512 .bf16) (harg9 : arg9.IsWhole) (arg10 : Memref sig .tc .vmem S4x512x128 .f32) (harg10 : arg10.IsWhole) (arg11 : Memref sig .tc .vmem S512x2048 .f32) (harg11 : arg11.IsWhole) (arg12 : Memref sig .tc .vmem S512x2048 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S4x512x128 .f32) (harg15 : arg15.IsWhole)

/-- Eight rows of a buffer filled by stores, loaded. -/
theorem readAt_stores {M : Memref sig .tc .vmem S512x2048 .f32} (L H : List (View.Piece (Elt Ideal) S512x2048 .f32)) (B : LoadRect S512x2048) :
    View.readAt (Elt Ideal) M.view B (M.view.writes (Elt Ideal) (M.view.writes (Elt Ideal) M.view.junk H) L) = fun j => View.canon (L ++ H) (B.idx j) := by
  rw [← View.writes_append]
  exact View.readAt_writes_junk_eq_canon _ _ _

/-- What one trip of the first loop carries on. -/
theorem trip1_R (v172 : FVec Ideal S512x512 .bf16) (v208 : FVec Ideal S512x128 .bf16) (a a' : Vec Ideal S1x1024 .f32) (k : Fin k0_t1_loop.trips) (acc : Vec Ideal S8x1024 .f32 × Vec Ideal S8x1024 .f32)
    (f : BufTy.Contents (Elt Ideal) arg11.view.ty) (g : BufTy.Contents (Elt Ideal) arg12.view.ty) :
    tripR_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v172 v208 a a' k acc f g
      = (k0_pay57 a a' acc.1 acc.2 (View.readAt (Elt Ideal) arg11.view (Rect.unit (s := S512x2048) (k0_off1 k) S8x1024.size (k0_off1_inb k)).toLoadRect f),
         k0_pay58 a a' acc.1 acc.2 (View.readAt (Elt Ideal) arg12.view (Rect.unit (s := S512x2048) (k0_off1 k) S8x1024.size (k0_off1_inb k)).toLoadRect g)) := by
  unfold tripR_k0_t1 trip_k0_t1; rfl

/-- What one trip of the first loop stores. -/
theorem trip1_L (v172 : FVec Ideal S512x512 .bf16) (v208 : FVec Ideal S512x128 .bf16) (a a' : Vec Ideal S1x1024 .f32) (k : Fin k0_t1_loop.trips) (acc : Vec Ideal S8x1024 .f32 × Vec Ideal S8x1024 .f32)
    (f : BufTy.Contents (Elt Ideal) arg11.view.ty) (g : BufTy.Contents (Elt Ideal) arg12.view.ty) :
    tripL_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v172 v208 a a' k acc f g
      = ([⟨Rect.unit (s := S512x2048) (k0_off1 k) S8x1024.size (k0_off1_inb k), k0_pay59 a a' acc.1 acc.2 (View.readAt (Elt Ideal) arg11.view (Rect.unit (s := S512x2048) (k0_off1 k) S8x1024.size (k0_off1_inb k)).toLoadRect f)⟩],
         [⟨Rect.unit (s := S512x2048) (k0_off1 k) S8x1024.size (k0_off1_inb k), k0_pay60 a a' acc.1 acc.2 (View.readAt (Elt Ideal) arg12.view (Rect.unit (s := S512x2048) (k0_off1 k) S8x1024.size (k0_off1_inb k)).toLoadRect g)⟩]) := by
  unfold tripL_k0_t1 trip_k0_t1; rfl

theorem off1_eq : ∀ k : Fin 64, k0_off1 k = ![8 * k.val, 0] := by
  intro k
  have h := (by decide +kernel : ∀ k : Fin 64, (k0_off1 k (0 : Fin 2) : ℕ) = 8 * k.val ∧ (k0_off1 k (1 : Fin 2) : ℕ) = 0) k
  funext a
  match a with
  | 0 => exact h.1
  | 1 => exact h.2

set_option maxHeartbeats 1000000 in
/-- The first loop: the recurrence over the lanes it covers. -/
theorem loop1 (v172 : FVec Ideal S512x512 .bf16) (v208 : FVec Ideal S512x128 .bf16) (a a' : Vec Ideal S1x1024 .f32) (H H' : List (View.Piece (Elt Ideal) S512x2048 .f32)) (init : Vec Ideal S8x1024 .f32 × Vec Ideal S8x1024 .f32)
    (st : ℕ → (Vec Ideal S8x1024 .f32 × Vec Ideal S8x1024 .f32) × List (View.Piece (Elt Ideal) S512x2048 .f32) × List (View.Piece (Elt Ideal) S512x2048 .f32))
    (hst : st = st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v172 v208 a a' (arg11.view.writes (Elt Ideal) arg11.view.junk H) (arg12.view.writes (Elt Ideal) arg12.view.junk H') init) :
      (∀ (b : Fin 8) (l : Fin 1024) (l' : Fin 2048), l'.val = 0 + l.val →
        ((st 64).1.1 (ix2 b l), (st 64).1.2 (ix2 b l)) = lin (a (ix2 0 l)) (a' (ix2 0 l)) (rows8 (View.canon H) b l') (rows8 (View.canon H') b l') (init.1 (ix2 b l), init.2 (ix2 b l)) 64)
      ∧ (∀ (r : Fin 512) (l' : Fin 2048), ¬ (r.val < 8 * 64 ∧ 0 ≤ l'.val ∧ l'.val < 0 + 1024) →
        View.canon ((st 64).2.1 ++ H) (ix2 r l') = View.canon H (ix2 r l') ∧ View.canon ((st 64).2.2 ++ H') (ix2 r l') = View.canon H' (ix2 r l'))
      ∧ (∀ (r : Fin 512) (b : Fin 8) (n : ℕ) (l : Fin 1024) (l' : Fin 2048), r.val < 8 * 64 → r.val = 8 * n + b.val → l'.val = 0 + l.val →
        (View.canon ((st 64).2.1 ++ H) (ix2 r l'), View.canon ((st 64).2.2 ++ H') (ix2 r l'))
          = lin (a (ix2 0 l)) (a' (ix2 0 l)) (rows8 (View.canon H) b l') (rows8 (View.canon H') b l') (init.1 (ix2 b l), init.2 (ix2 b l)) (n + 1)) := by
  refine loop_state 0 (by omega) a a' H H' init st (fun k : Fin 64 => k0_off1 k) off1_eq (fun k => k0_off1_inb k) ?_ ?_ 64 (le_refl _)
  · rw [hst]; rfl
  · show ∀ k : Fin k0_t1_loop.trips, _
    intro k
    have h := st_k0_t1_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v172 v208 a a' (arg11.view.writes (Elt Ideal) arg11.view.junk H) (arg12.view.writes (Elt Ideal) arg12.view.junk H') init k
    rw [← hst, trip1_R, trip1_L, readAt_stores, readAt_stores] at h
    exact h

/-- What one trip of the second loop carries on. -/
theorem trip2_R (v172 v208 : Vec Ideal S8x1024 .f32) (a a' : Vec Ideal S1x1024 .f32) (k : Fin k0_t2_loop.trips) (acc : Vec Ideal S8x1024 .f32 × Vec Ideal S8x1024 .f32)
    (f : BufTy.Contents (Elt Ideal) arg11.view.ty) (g : BufTy.Contents (Elt Ideal) arg12.view.ty) :
    tripR_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v172 v208 a a' k acc f g
      = (k0_pay57 a a' acc.1 acc.2 (View.readAt (Elt Ideal) arg11.view (Rect.unit (s := S512x2048) (k0_off2 k) S8x1024.size (k0_off2_inb k)).toLoadRect f),
         k0_pay58 a a' acc.1 acc.2 (View.readAt (Elt Ideal) arg12.view (Rect.unit (s := S512x2048) (k0_off2 k) S8x1024.size (k0_off2_inb k)).toLoadRect g)) := by
  unfold tripR_k0_t2 trip_k0_t2; rfl

/-- What one trip of the second loop stores. -/
theorem trip2_L (v172 v208 : Vec Ideal S8x1024 .f32) (a a' : Vec Ideal S1x1024 .f32) (k : Fin k0_t2_loop.trips) (acc : Vec Ideal S8x1024 .f32 × Vec Ideal S8x1024 .f32)
    (f : BufTy.Contents (Elt Ideal) arg11.view.ty) (g : BufTy.Contents (Elt Ideal) arg12.view.ty) :
    tripL_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v172 v208 a a' k acc f g
      = ([⟨Rect.unit (s := S512x2048) (k0_off2 k) S8x1024.size (k0_off2_inb k), k0_pay59 a a' acc.1 acc.2 (View.readAt (Elt Ideal) arg11.view (Rect.unit (s := S512x2048) (k0_off2 k) S8x1024.size (k0_off2_inb k)).toLoadRect f)⟩],
         [⟨Rect.unit (s := S512x2048) (k0_off2 k) S8x1024.size (k0_off2_inb k), k0_pay60 a a' acc.1 acc.2 (View.readAt (Elt Ideal) arg12.view (Rect.unit (s := S512x2048) (k0_off2 k) S8x1024.size (k0_off2_inb k)).toLoadRect g)⟩]) := by
  unfold tripL_k0_t2 trip_k0_t2; rfl

theorem off2_eq : ∀ k : Fin 64, k0_off2 k = ![8 * k.val, 1024] := by
  intro k
  have h := (by decide +kernel : ∀ k : Fin 64, (k0_off2 k (0 : Fin 2) : ℕ) = 8 * k.val ∧ (k0_off2 k (1 : Fin 2) : ℕ) = 1024) k
  funext a
  match a with
  | 0 => exact h.1
  | 1 => exact h.2

set_option maxHeartbeats 1000000 in
/-- The second loop: the recurrence over the lanes it covers. -/
theorem loop2 (v172 v208 : Vec Ideal S8x1024 .f32) (a a' : Vec Ideal S1x1024 .f32) (H H' : List (View.Piece (Elt Ideal) S512x2048 .f32)) (init : Vec Ideal S8x1024 .f32 × Vec Ideal S8x1024 .f32)
    (st : ℕ → (Vec Ideal S8x1024 .f32 × Vec Ideal S8x1024 .f32) × List (View.Piece (Elt Ideal) S512x2048 .f32) × List (View.Piece (Elt Ideal) S512x2048 .f32))
    (hst : st = st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v172 v208 a a' (arg11.view.writes (Elt Ideal) arg11.view.junk H) (arg12.view.writes (Elt Ideal) arg12.view.junk H') init) :
      (∀ (b : Fin 8) (l : Fin 1024) (l' : Fin 2048), l'.val = 1024 + l.val →
        ((st 64).1.1 (ix2 b l), (st 64).1.2 (ix2 b l)) = lin (a (ix2 0 l)) (a' (ix2 0 l)) (rows8 (View.canon H) b l') (rows8 (View.canon H') b l') (init.1 (ix2 b l), init.2 (ix2 b l)) 64)
      ∧ (∀ (r : Fin 512) (l' : Fin 2048), ¬ (r.val < 8 * 64 ∧ 1024 ≤ l'.val ∧ l'.val < 1024 + 1024) →
        View.canon ((st 64).2.1 ++ H) (ix2 r l') = View.canon H (ix2 r l') ∧ View.canon ((st 64).2.2 ++ H') (ix2 r l') = View.canon H' (ix2 r l'))
      ∧ (∀ (r : Fin 512) (b : Fin 8) (n : ℕ) (l : Fin 1024) (l' : Fin 2048), r.val < 8 * 64 → r.val = 8 * n + b.val → l'.val = 1024 + l.val →
        (View.canon ((st 64).2.1 ++ H) (ix2 r l'), View.canon ((st 64).2.2 ++ H') (ix2 r l'))
          = lin (a (ix2 0 l)) (a' (ix2 0 l)) (rows8 (View.canon H) b l') (rows8 (View.canon H') b l') (init.1 (ix2 b l), init.2 (ix2 b l)) (n + 1)) := by
  refine loop_state 1024 (by omega) a a' H H' init st (fun k : Fin 64 => k0_off2 k) off2_eq (fun k => k0_off2_inb k) ?_ ?_ 64 (le_refl _)
  · rw [hst]; rfl
  · show ∀ k : Fin k0_t2_loop.trips, _
    intro k
    have h := st_k0_t2_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v172 v208 a a' (arg11.view.writes (Elt Ideal) arg11.view.junk H) (arg12.view.writes (Elt Ideal) arg12.view.junk H') init k
    rw [← hst, trip2_R, trip2_L, readAt_stores, readAt_stores] at h
    exact h

end Cert.KernelIdeal.S5

end
-- ==== Proof.S5Tiles.lean ====
module

public import proofs.«01_k».proof.Proof.S5Pay
public import proofs.«01_k».proof.Proof.S5Loops

@[expose] public section

set_option maxRecDepth 16384

noncomputable section

namespace Cert.KernelIdeal.S5

open Cert.KernelIdeal.Gen
open Idealize.ShloMosaic Idealize.ShloMosaic.TcCoe Idealize.SL.Sem
open scoped BigOperators

/-- Slab and batch row of the `k`-th of 32 stores, last first. -/
theorem slab_inb (k : Fin 32) : ∀ a : Fin 3, S1x64x128.size a = 0 ∨ (![3 - k.val % 4, 7 - k.val / 4, 0] : Fin 3 → ℕ) a + (![1, 8, 1] : Fin 3 → ℕ) a * (S1x64x128.size a - 1) < S4x512x128.size a := by
  intro a
  match a with
  | 0 => right; show 3 - k.val % 4 + 1 * (1 - 1) < 4; omega
  | 1 => right; show 7 - k.val / 4 + 8 * (64 - 1) < 512; omega
  | 2 => right; show 0 + 1 * (128 - 1) < 128; omega

/-- One batch row of one slab: every eighth row. -/
abbrev slab (k : Fin 32) : Rect S4x512x128 where
  off := ![3 - k.val % 4, 7 - k.val / 4, 0]
  size := S1x64x128.size
  stride := ![1, 8, 1]
  inb := slab_inb k
  stride_pos := spos_1_8_1

theorem tile_inb (k : Fin 32) : ∀ a : Fin 3, (![7 - k.val / 4, 0, 128 * (3 - k.val % 4)] : Fin 3 → ℕ) a + S1x64x128.size a ≤ S8x64x512.size a := by
  intro a
  match a with
  | 0 => show 7 - k.val / 4 + 1 ≤ 8; omega
  | 1 => show 0 + 64 ≤ 64; omega
  | 2 => show 128 * (3 - k.val % 4) + 128 ≤ 512; omega

/-- One batch row's 128 columns of a block. -/
abbrev tile (k : Fin 32) : Rect S8x64x512 := Rect.unit (s := S8x64x512) ![7 - k.val / 4, 0, 128 * (3 - k.val % 4)] S1x64x128.size (tile_inb k)

theorem slab_emb (k : Fin 32) (t : Fin 64) (q : Fin 128) (g : Fin 4) (r : Fin 512) (hg : g.val = 3 - k.val % 4) (hr : r.val = 8 * t.val + (7 - k.val / 4)) :
    (slab k).emb (ix3 (n0 := 1) (n1 := 64) (n2 := 128) 0 t q) = ix3 g r q := by
  funext a; apply Fin.ext; refine (Rect.emb_apply _ _ _).trans ?_
  match a with
  | 0 => show 3 - k.val % 4 + 1 * 0 = g.val; omega
  | 1 => show 7 - k.val / 4 + 8 * t.val = r.val; omega
  | 2 => show 0 + 1 * q.val = q.val; omega

theorem tile_emb (k : Fin 32) (t : Fin 64) (q : Fin 128) (b : Fin 8) (l : Fin 512) (hb : b.val = 7 - k.val / 4) (hl : l.val = 128 * (3 - k.val % 4) + q.val) :
    (tile k).emb (ix3 (n0 := 1) (n1 := 64) (n2 := 128) 0 t q) = ix3 b t l := by
  funext a; apply Fin.ext; refine (Rect.emb_apply _ _ _).trans ?_
  match a with
  | 0 => show 7 - k.val / 4 + 1 * 0 = b.val; omega
  | 1 => show 0 + 1 * t.val = t.val; omega
  | 2 => show 128 * (3 - k.val % 4) + 1 * q.val = l.val; omega

/-- The 32 stores into the slabs, read back. -/
theorem canon_slabs (W : Fin 32 → Vec Ideal S1x64x128 .f32) (k : Fin 32) (t : Fin 64) (q : Fin 128) (g : Fin 4) (r : Fin 512)
    (hg : g.val = 3 - k.val % 4) (hr : r.val = 8 * t.val + (7 - k.val / 4)) :
    View.canon (List.ofFn fun k : Fin 32 => (⟨slab k, W k⟩ : View.Piece (Elt Ideal) S4x512x128 .f32)) (ix3 g r q) = W k (ix3 0 t q) := by
  refine View.canon_ofFn_eq_of_forall slab W _ _ ⟨k, ?_⟩ ?_
  · rw [← slab_emb k t q g r hg hr]; exact (slab k).idx_mem _
  · intro k' x hx
    have h0 : (3 - k'.val % 4) + 1 * (x 0).val = g.val := by have := congrArg Fin.val (congrFun hx 0); exact (Rect.emb_apply _ _ _).symm.trans this
    have h1 : (7 - k'.val / 4) + 8 * (x 1).val = r.val := by have := congrArg Fin.val (congrFun hx 1); exact (Rect.emb_apply _ _ _).symm.trans this
    have h2 : 0 + 1 * (x 2).val = q.val := by have := congrArg Fin.val (congrFun hx 2); exact (Rect.emb_apply _ _ _).symm.trans this
    have x0 : (x 0).val < 1 := (x 0).isLt
    have x1 : (x 1).val < 64 := (x 1).isLt
    have hk : k' = k := Fin.ext (by omega)
    subst hk
    refine congrArg (W k') (funext fun a => Fin.ext ?_)
    match a with
    | 0 => show (x 0).val = 0; omega
    | 1 => show (x 1).val = t.val; omega
    | 2 => show (x 2).val = q.val; omega

/-- The 32 stores into the output block, read back. -/
theorem canon_tiles32 (W : Fin 32 → Vec Ideal S1x64x128 .bf16) (k : Fin 32) (t : Fin 64) (q : Fin 128) (b : Fin 8) (l : Fin 512)
    (hb : b.val = 7 - k.val / 4) (hl : l.val = 128 * (3 - k.val % 4) + q.val) :
    View.canon (List.ofFn fun k : Fin 32 => (⟨tile k, W k⟩ : View.Piece (Elt Ideal) S8x64x512 .bf16)) (ix3 b t l) = W k (ix3 0 t q) := by
  refine View.canon_ofFn_eq_of_forall tile W _ _ ⟨k, ?_⟩ ?_
  · rw [← tile_emb k t q b l hb hl]; exact (tile k).idx_mem _
  · intro k' x hx
    have h0 : (7 - k'.val / 4) + 1 * (x 0).val = b.val := by have := congrArg Fin.val (congrFun hx 0); exact (Rect.emb_apply _ _ _).symm.trans this
    have h1 : 0 + 1 * (x 1).val = t.val := by have := congrArg Fin.val (congrFun hx 1); exact (Rect.emb_apply _ _ _).symm.trans this
    have h2 : 128 * (3 - k'.val % 4) + 1 * (x 2).val = l.val := by have := congrArg Fin.val (congrFun hx 2); exact (Rect.emb_apply _ _ _).symm.trans this
    have x0 : (x 0).val < 1 := (x 0).isLt
    have x2 : (x 2).val < 128 := (x 2).isLt
    have hk : k' = k := Fin.ext (by omega)
    subst hk
    refine congrArg (W k') (funext fun a => Fin.ext ?_)
    match a with
    | 0 => show (x 0).val = 0; omega
    | 1 => show (x 1).val = t.val; omega
    | 2 => show (x 2).val = q.val; omega

theorem cols_inb (k : Fin 4) : ∀ a : Fin 2, (![0, 512 * (3 - k.val)] : Fin 2 → ℕ) a + S512x512.size a ≤ S512x2048.size a := by
  intro a
  match a with
  | 0 => show 0 + 512 ≤ 512; omega
  | 1 => show 512 * (3 - k.val) + 512 ≤ 2048; omega

/-- 512 lanes of a buffer. -/
abbrev cols (k : Fin 4) : Rect S512x2048 := Rect.unit (s := S512x2048) ![0, 512 * (3 - k.val)] S512x512.size (cols_inb k)

/-- Four stores of 512 lanes, read back. -/
theorem canon_cols (W : Fin 4 → Vec Ideal S512x512 .f32) (k : Fin 4) (r l : Fin 512) (l' : Fin 2048) (hl : l'.val = 512 * (3 - k.val) + l.val) :
    View.canon (List.ofFn fun k : Fin 4 => (⟨cols k, W k⟩ : View.Piece (Elt Ideal) S512x2048 .f32)) (ix2 r l') = W k (ix2 r l) := by
  have e : ∀ k : Fin 4, ∀ l : Fin 512, l'.val = 512 * (3 - k.val) + l.val → (cols k).emb (ix2 (n0 := 512) (n1 := 512) r l) = ix2 r l' := by
    intro k l hl
    funext a; apply Fin.ext; refine (Rect.emb_apply _ _ _).trans ?_
    match a with
    | 0 => show 0 + 1 * r.val = r.val; omega
    | 1 => show 512 * (3 - k.val) + 1 * l.val = l'.val; omega
  refine View.canon_ofFn_eq_of_forall cols W _ _ ⟨k, ?_⟩ ?_
  · rw [← e k l hl]; exact (cols k).idx_mem _
  · intro k' x hx
    have h0 : 0 + 1 * (x 0).val = r.val := by have := congrArg Fin.val (congrFun hx 0); exact (Rect.emb_apply _ _ _).symm.trans this
    have h1 : 512 * (3 - k'.val) + 1 * (x 1).val = l'.val := by have := congrArg Fin.val (congrFun hx 1); exact (Rect.emb_apply _ _ _).symm.trans this
    have x1 : (x 1).val < 512 := (x 1).isLt
    have hk : k' = k := Fin.ext (by omega)
    subst hk
    refine congrArg (W k') (funext fun a => Fin.ext ?_)
    match a with
    | 0 => show (x 0).val = r.val; omega
    | 1 => show (x 1).val = l.val; omega

theorem whole_slab_inb (k : Fin 4) : ∀ a : Fin 3, (![3 - k.val, 0, 0] : Fin 3 → ℕ) a + S1x512x128.size a ≤ S4x512x128.size a := by
  intro a
  match a with
  | 0 => show 3 - k.val + 1 ≤ 4; omega
  | 1 => show 0 + 512 ≤ 512; omega
  | 2 => show 0 + 128 ≤ 128; omega

/-- One whole slab. -/
abbrev wslab (k : Fin 4) : Rect S4x512x128 := Rect.unit (s := S4x512x128) ![3 - k.val, 0, 0] S1x512x128.size (whole_slab_inb k)

theorem wslab_emb (k : Fin 4) (g : Fin 4) (r : Fin 512) (q : Fin 128) (hg : g.val = 3 - k.val) :
    (wslab k).emb (ix3 (n0 := 1) (n1 := 512) (n2 := 128) 0 r q) = ix3 g r q := by
  funext a; apply Fin.ext; refine (Rect.emb_apply _ _ _).trans ?_
  match a with
  | 0 => show 3 - k.val + 1 * 0 = g.val; omega
  | 1 => show 0 + 1 * r.val = r.val; omega
  | 2 => show 0 + 1 * q.val = q.val; omega

/-- Four stores of whole slabs, read back. -/
theorem canon_wslabs (W : Fin 4 → Vec Ideal S1x512x128 .f32) (k : Fin 4) (g : Fin 4) (r : Fin 512) (q : Fin 128) (hg : g.val = 3 - k.val) :
    View.canon (List.ofFn fun k : Fin 4 => (⟨wslab k, W k⟩ : View.Piece (Elt Ideal) S4x512x128 .f32)) (ix3 g r q) = W k (ix3 0 r q) := by
  refine View.canon_ofFn_eq_of_forall wslab W _ _ ⟨k, ?_⟩ ?_
  · rw [← wslab_emb k g r q hg]; exact (wslab k).idx_mem _
  · intro k' x hx
    have h0 : 3 - k'.val + 1 * (x 0).val = g.val := by have := congrArg Fin.val (congrFun hx 0); exact (Rect.emb_apply _ _ _).symm.trans this
    have h1 : 0 + 1 * (x 1).val = r.val := by have := congrArg Fin.val (congrFun hx 1); exact (Rect.emb_apply _ _ _).symm.trans this
    have h2 : 0 + 1 * (x 2).val = q.val := by have := congrArg Fin.val (congrFun hx 2); exact (Rect.emb_apply _ _ _).symm.trans this
    have x0 : (x 0).val < 1 := (x 0).isLt
    have hk : k' = k := Fin.ext (by omega)
    subst hk
    refine congrArg (W k') (funext fun a => Fin.ext ?_)
    match a with
    | 0 => show (x 0).val = 0; omega
    | 1 => show (x 1).val = r.val; omega
    | 2 => show (x 2).val = q.val; omega

end Cert.KernelIdeal.S5

end
-- ==== Proof.S5IKit.lean ====
module

public import proofs.«01_k».proof.Proof.Gen.KernelIdeal.Frame
public import proofs.«01_k».proof.Proof.Gen.KernelIdeal.Loops

@[expose] public section

set_option maxRecDepth 16384

noncomputable section

namespace Cert.KernelIdeal.S5

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, e0]
    word_cmp
   : ∀ t : Fin grid0.N, cond0_0 (grid0.coords t) ↔ t.val % 32 = 0)

abbrev VO0_8 : View sig .tc .vmem S8x64x512 .bf16 := (Memref.whole cc0_stg8_0 : Memref sig .tc .vmem S8x64x512 .bf16).view
abbrev ms0_0 (t : Fin cfg0.N) : Memref sig .tc .vmem S8x64x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2048 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8x64x512 .bf16 := win0_8.stage (cfg0.slots t 8)
abbrev hs0_8 (t : Fin cfg0.N) : (ms0_8 t).IsWhole := hstage0_8 ((cfg0.slots t 8).cast nbuf0_8)
abbrev scM0_0 : Memref sig .tc .vmem S4x512x128 .f32 := Memref.whole cc0_scratch0
abbrev scM0_1 : Memref sig .tc .vmem S512x2048 .f32 := Memref.whole cc0_scratch1
abbrev scM0_2 : Memref sig .tc .vmem S512x2048 .f32 := Memref.whole cc0_scratch2
abbrev scM0_3 : Memref sig .tc .vmem S8x2048 .f32 := Memref.whole cc0_scratch3
abbrev scM0_4 : Memref sig .tc .vmem S8x2048 .f32 := Memref.whole cc0_scratch4
abbrev scM0_5 : Memref sig .tc .vmem S4x512x128 .f32 := Memref.whole cc0_scratch5
abbrev VS0_3 : View sig .tc .vmem S8x2048 .f32 := scM0_3.view
abbrev VS0_4 : View sig .tc .vmem S8x2048 .f32 := scM0_4.view

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.KernelIdeal.S5

end
-- ==== Proof.S5IFirst.lean ====
module

public import proofs.«01_k».proof.Proof.S5IKit

@[expose] public section

set_option maxRecDepth 16384

noncomputable section

namespace Cert.KernelIdeal.S5

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 1772000 in set_option sl_exec.stridedRows true in
noncomputable def kernelRun0_A (c : Dev nD) (i : grid0.Coords) (arg1 : Memref sig .tc .vmem S8x64x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x512 .f32) (harg8 : arg8.IsWhole) (arg9 : Memref sig .tc .vmem S8x64x512 .bf16) (harg9 : arg9.IsWhole) (arg10 : Memref sig .tc .vmem S4x512x128 .f32) (harg10 : arg10.IsWhole) (arg11 : Memref sig .tc .vmem S512x2048 .f32) (harg11 : arg11.IsWhole) (arg12 : Memref sig .tc .vmem S512x2048 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S4x512x128 .f32) (harg15 : arg15.IsWhole) (hc0 : cond0_0 i)
    (x0 : Vec F S8x64x512 .f32) (x1 : Vec F S512x2048 .bf16) (x2 : Vec F S512x2048 .bf16) (x3 : Vec F S2048x512 .bf16) (x4 : Vec F S2048x512 .bf16) (x5 : Vec F S1x2048 .f32) (x6 : Vec F S1x2048 .f32) (x7 : Vec F S1x512 .f32) :
    Σ' (L8 : List (View.Piece (Elt F) S8x64x512 .bf16)), Σ' (LS3 : List (View.Piece (Elt F) S8x2048 .f32)), Σ' (LS4 : List (View.Piece (Elt F) S8x2048 .f32)), { LT5 : List (View.Piece (Elt F) S4x512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ d, owns (c : Thread nD τ) arg10 fullShare d) ∗ (∃ d, owns (c : Thread nD τ) arg11 fullShare d) ∗ (∃ d, owns (c : Thread nD τ) arg12 fullShare d) ∗ (∃ f, arg13.view.loc (c : Thread nD τ) ↦[arg13.view.set]{fullShare} arg13.view.writes (Elt F) f LS3) ∗ (∃ f, arg14.view.loc (c : Thread nD τ) ↦[arg14.view.set]{fullShare} arg14.view.writes (Elt F) f LS4) ∗ (∃ f, arg15.view.loc (c : Thread nD τ) ↦[arg15.view.set]{fullShare} arg15.view.writes (Elt F) f LT5)) -∗ K ⟨⟩))
          ⊢ wp frame (wpE (defs₀ (F := F)) Variants.none c none) E (cc0_s5_scan i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun E K => ?run⟩
  case run =>
    simp only [cc0_s5_scan_eq_skeleton]; unfold cc0_s5_scan_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]; · iexists _; iexact HS3
    isplitl [HS4]; · iexists _; iexact HS4
    iexists _; iexact HS5

end Cert.KernelIdeal.S5

end
-- ==== Proof.S5ILater.lean ====
module

public import proofs.«01_k».proof.Proof.S5IFirst

@[expose] public section

set_option maxRecDepth 16384

noncomputable section

namespace Cert.KernelIdeal.S5

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 1748000 in set_option sl_exec.stridedRows true in
noncomputable def kernelRun0_B (c : Dev nD) (i : grid0.Coords) (arg1 : Memref sig .tc .vmem S8x64x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x512 .f32) (harg8 : arg8.IsWhole) (arg9 : Memref sig .tc .vmem S8x64x512 .bf16) (harg9 : arg9.IsWhole) (arg10 : Memref sig .tc .vmem S4x512x128 .f32) (harg10 : arg10.IsWhole) (arg11 : Memref sig .tc .vmem S512x2048 .f32) (harg11 : arg11.IsWhole) (arg12 : Memref sig .tc .vmem S512x2048 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S4x512x128 .f32) (harg15 : arg15.IsWhole) (hc0 : ¬cond0_0 i)
    (x0 : Vec F S8x64x512 .f32) (x1 : Vec F S512x2048 .bf16) (x2 : Vec F S512x2048 .bf16) (x3 : Vec F S2048x512 .bf16) (x4 : Vec F S2048x512 .bf16) (x5 : Vec F S1x2048 .f32) (x6 : Vec F S1x2048 .f32) (x7 : Vec F S1x512 .f32) (xs3 : Vec F S8x2048 .f32) (xs4 : Vec F S8x2048 .f32) :
    Σ' (L8 : List (View.Piece (Elt F) S8x64x512 .bf16)), Σ' (LS3 : List (View.Piece (Elt F) S8x2048 .f32)), Σ' (LS4 : List (View.Piece (Elt F) S8x2048 .f32)), { LT5 : List (View.Piece (Elt F) S4x512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs3 ∗ owns (c : Thread nD τ) arg14 fullShare xs4 ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ d, owns (c : Thread nD τ) arg10 fullShare d) ∗ (∃ d, owns (c : Thread nD τ) arg11 fullShare d) ∗ (∃ d, owns (c : Thread nD τ) arg12 fullShare d) ∗ (∃ f, arg13.view.loc (c : Thread nD τ) ↦[arg13.view.set]{fullShare} arg13.view.writes (Elt F) f LS3) ∗ (∃ f, arg14.view.loc (c : Thread nD τ) ↦[arg14.view.set]{fullShare} arg14.view.writes (Elt F) f LS4) ∗ (∃ f, arg15.view.loc (c : Thread nD τ) ↦[arg15.view.set]{fullShare} arg15.view.writes (Elt F) f LT5)) -∗ K ⟨⟩))
          ⊢ wp frame (wpE (defs₀ (F := F)) Variants.none c none) E (cc0_s5_scan i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun E K => ?run⟩
  case run =>
    simp only [cc0_s5_scan_eq_skeleton]; unfold cc0_s5_scan_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, ⟨%ds2, %fs2, -, HS2⟩, ⟨%fs3, %hfs3, HS3⟩, ⟨%fs4, %hfs4, HS4⟩, ⟨%ds5, %fs5, -, HS5⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg13.eq_unread hfs3; obtain rfl := harg14.eq_unread hfs4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]; · iexists _; iexact HS3
    isplitl [HS4]; · iexists _; iexact HS4
    iexists _; iexact HS5

end Cert.KernelIdeal.S5

end
-- ==== Proof.S5IFrame.lean ====
module

public import proofs.«01_k».proof.Proof.S5ILater
public import Idealize.ShloMosaic.Lib.Claim

@[expose] public section

set_option maxRecDepth 16384

noncomputable section

namespace Cert.KernelIdeal.S5

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The first point's 32 stores fill the output block. -/
theorem cover0_A_8 (c : Dev nD) (i : grid0.Coords) (arg1 : Memref sig .tc .vmem S8x64x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x512 .f32) (harg8 : arg8.IsWhole) (arg9 : Memref sig .tc .vmem S8x64x512 .bf16) (harg9 : arg9.IsWhole) (arg10 : Memref sig .tc .vmem S4x512x128 .f32) (harg10 : arg10.IsWhole) (arg11 : Memref sig .tc .vmem S512x2048 .f32) (harg11 : arg11.IsWhole) (arg12 : Memref sig .tc .vmem S512x2048 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S4x512x128 .f32) (harg15 : arg15.IsWhole) (hc0 : cond0_0 i)
    (x0 : Vec F S8x64x512 .f32) (x1 : Vec F S512x2048 .bf16) (x2 : Vec F S512x2048 .bf16) (x3 : Vec F S2048x512 .bf16) (x4 : Vec F S2048x512 .bf16) (x5 : Vec F S1x2048 .f32) (x6 : Vec F S1x2048 .f32) (x7 : Vec F S1x512 .f32) (y : S8x64x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).1 S1x64x128.size (by sl_kernel_rfl) y

/-- What the first point leaves in the output block. -/
def out0_A_8 (c : Dev nD) (i : grid0.Coords) (arg1 : Memref sig .tc .vmem S8x64x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x512 .f32) (harg8 : arg8.IsWhole) (arg9 : Memref sig .tc .vmem S8x64x512 .bf16) (harg9 : arg9.IsWhole) (arg10 : Memref sig .tc .vmem S4x512x128 .f32) (harg10 : arg10.IsWhole) (arg11 : Memref sig .tc .vmem S512x2048 .f32) (harg11 : arg11.IsWhole) (arg12 : Memref sig .tc .vmem S512x2048 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S4x512x128 .f32) (harg15 : arg15.IsWhole) (hc0 : cond0_0 i)
    (x0 : Vec F S8x64x512 .f32) (x1 : Vec F S512x2048 .bf16) (x2 : Vec F S512x2048 .bf16) (x3 : Vec F S2048x512 .bf16) (x4 : Vec F S2048x512 .bf16) (x5 : Vec F S1x2048 .f32) (x6 : Vec F S1x2048 .f32) (x7 : Vec F S1x512 .f32) : Vec F S8x64x512 .bf16 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).1)

theorem scover0_A_3 (c : Dev nD) (i : grid0.Coords) (arg1 : Memref sig .tc .vmem S8x64x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x512 .f32) (harg8 : arg8.IsWhole) (arg9 : Memref sig .tc .vmem S8x64x512 .bf16) (harg9 : arg9.IsWhole) (arg10 : Memref sig .tc .vmem S4x512x128 .f32) (harg10 : arg10.IsWhole) (arg11 : Memref sig .tc .vmem S512x2048 .f32) (harg11 : arg11.IsWhole) (arg12 : Memref sig .tc .vmem S512x2048 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S4x512x128 .f32) (harg15 : arg15.IsWhole) (hc0 : cond0_0 i)
    (x0 : Vec F S8x64x512 .f32) (x1 : Vec F S512x2048 .bf16) (x2 : Vec F S512x2048 .bf16) (x3 : Vec F S2048x512 .bf16) (x4 : Vec F S2048x512 .bf16) (x5 : Vec F S1x2048 .f32) (x6 : Vec F S1x2048 .f32) (x7 : Vec F S1x512 .f32) (y : S8x2048.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.1 (by sl_whole_mem) y

/-- What the first point leaves in the carried real state. -/
def sout0_A_3 (c : Dev nD) (i : grid0.Coords) (arg1 : Memref sig .tc .vmem S8x64x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x512 .f32) (harg8 : arg8.IsWhole) (arg9 : Memref sig .tc .vmem S8x64x512 .bf16) (harg9 : arg9.IsWhole) (arg10 : Memref sig .tc .vmem S4x512x128 .f32) (harg10 : arg10.IsWhole) (arg11 : Memref sig .tc .vmem S512x2048 .f32) (harg11 : arg11.IsWhole) (arg12 : Memref sig .tc .vmem S512x2048 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S4x512x128 .f32) (harg15 : arg15.IsWhole) (hc0 : cond0_0 i)
    (x0 : Vec F S8x64x512 .f32) (x1 : Vec F S512x2048 .bf16) (x2 : Vec F S512x2048 .bf16) (x3 : Vec F S2048x512 .bf16) (x4 : Vec F S2048x512 .bf16) (x5 : Vec F S1x2048 .f32) (x6 : Vec F S1x2048 .f32) (x7 : Vec F S1x512 .f32) : Vec F S8x2048 .f32 :=
  VS0_3.read (Elt F) (VS0_3.writes (Elt F) VS0_3.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.1)

theorem scover0_A_4 (c : Dev nD) (i : grid0.Coords) (arg1 : Memref sig .tc .vmem S8x64x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x512 .f32) (harg8 : arg8.IsWhole) (arg9 : Memref sig .tc .vmem S8x64x512 .bf16) (harg9 : arg9.IsWhole) (arg10 : Memref sig .tc .vmem S4x512x128 .f32) (harg10 : arg10.IsWhole) (arg11 : Memref sig .tc .vmem S512x2048 .f32) (harg11 : arg11.IsWhole) (arg12 : Memref sig .tc .vmem S512x2048 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S4x512x128 .f32) (harg15 : arg15.IsWhole) (hc0 : cond0_0 i)
    (x0 : Vec F S8x64x512 .f32) (x1 : Vec F S512x2048 .bf16) (x2 : Vec F S512x2048 .bf16) (x3 : Vec F S2048x512 .bf16) (x4 : Vec F S2048x512 .bf16) (x5 : Vec F S1x2048 .f32) (x6 : Vec F S1x2048 .f32) (x7 : Vec F S1x512 .f32) (y : S8x2048.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.1 (by sl_whole_mem) y

/-- What the first point leaves in the carried imaginary state. -/
def sout0_A_4 (c : Dev nD) (i : grid0.Coords) (arg1 : Memref sig .tc .vmem S8x64x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x512 .f32) (harg8 : arg8.IsWhole) (arg9 : Memref sig .tc .vmem S8x64x512 .bf16) (harg9 : arg9.IsWhole) (arg10 : Memref sig .tc .vmem S4x512x128 .f32) (harg10 : arg10.IsWhole) (arg11 : Memref sig .tc .vmem S512x2048 .f32) (harg11 : arg11.IsWhole) (arg12 : Memref sig .tc .vmem S512x2048 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S4x512x128 .f32) (harg15 : arg15.IsWhole) (hc0 : cond0_0 i)
    (x0 : Vec F S8x64x512 .f32) (x1 : Vec F S512x2048 .bf16) (x2 : Vec F S512x2048 .bf16) (x3 : Vec F S2048x512 .bf16) (x4 : Vec F S2048x512 .bf16) (x5 : Vec F S1x2048 .f32) (x6 : Vec F S1x2048 .f32) (x7 : Vec F S1x512 .f32) : Vec F S8x2048 .f32 :=
  VS0_4.read (Elt F) (VS0_4.writes (Elt F) VS0_4.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.1)

/-- A later point's 32 stores fill the output block. -/
theorem cover0_B_8 (c : Dev nD) (i : grid0.Coords) (arg1 : Memref sig .tc .vmem S8x64x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x512 .f32) (harg8 : arg8.IsWhole) (arg9 : Memref sig .tc .vmem S8x64x512 .bf16) (harg9 : arg9.IsWhole) (arg10 : Memref sig .tc .vmem S4x512x128 .f32) (harg10 : arg10.IsWhole) (arg11 : Memref sig .tc .vmem S512x2048 .f32) (harg11 : arg11.IsWhole) (arg12 : Memref sig .tc .vmem S512x2048 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S4x512x128 .f32) (harg15 : arg15.IsWhole) (hc0 : ¬cond0_0 i)
    (x0 : Vec F S8x64x512 .f32) (x1 : Vec F S512x2048 .bf16) (x2 : Vec F S512x2048 .bf16) (x3 : Vec F S2048x512 .bf16) (x4 : Vec F S2048x512 .bf16) (x5 : Vec F S1x2048 .f32) (x6 : Vec F S1x2048 .f32) (x7 : Vec F S1x512 .f32) (xs3 : Vec F S8x2048 .f32) (xs4 : Vec F S8x2048 .f32) (y : S8x64x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs3 xs4).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs3 xs4).1 S1x64x128.size (by sl_kernel_rfl) y

/-- What a later point leaves in the output block. -/
def out0_B_8 (c : Dev nD) (i : grid0.Coords) (arg1 : Memref sig .tc .vmem S8x64x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x512 .f32) (harg8 : arg8.IsWhole) (arg9 : Memref sig .tc .vmem S8x64x512 .bf16) (harg9 : arg9.IsWhole) (arg10 : Memref sig .tc .vmem S4x512x128 .f32) (harg10 : arg10.IsWhole) (arg11 : Memref sig .tc .vmem S512x2048 .f32) (harg11 : arg11.IsWhole) (arg12 : Memref sig .tc .vmem S512x2048 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S4x512x128 .f32) (harg15 : arg15.IsWhole) (hc0 : ¬cond0_0 i)
    (x0 : Vec F S8x64x512 .f32) (x1 : Vec F S512x2048 .bf16) (x2 : Vec F S512x2048 .bf16) (x3 : Vec F S2048x512 .bf16) (x4 : Vec F S2048x512 .bf16) (x5 : Vec F S1x2048 .f32) (x6 : Vec F S1x2048 .f32) (x7 : Vec F S1x512 .f32) (xs3 : Vec F S8x2048 .f32) (xs4 : Vec F S8x2048 .f32) : Vec F S8x64x512 .bf16 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs3 xs4).1)

theorem scover0_B_3 (c : Dev nD) (i : grid0.Coords) (arg1 : Memref sig .tc .vmem S8x64x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x512 .f32) (harg8 : arg8.IsWhole) (arg9 : Memref sig .tc .vmem S8x64x512 .bf16) (harg9 : arg9.IsWhole) (arg10 : Memref sig .tc .vmem S4x512x128 .f32) (harg10 : arg10.IsWhole) (arg11 : Memref sig .tc .vmem S512x2048 .f32) (harg11 : arg11.IsWhole) (arg12 : Memref sig .tc .vmem S512x2048 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S4x512x128 .f32) (harg15 : arg15.IsWhole) (hc0 : ¬cond0_0 i)
    (x0 : Vec F S8x64x512 .f32) (x1 : Vec F S512x2048 .bf16) (x2 : Vec F S512x2048 .bf16) (x3 : Vec F S2048x512 .bf16) (x4 : Vec F S2048x512 .bf16) (x5 : Vec F S1x2048 .f32) (x6 : Vec F S1x2048 .f32) (x7 : Vec F S1x512 .f32) (xs3 : Vec F S8x2048 .f32) (xs4 : Vec F S8x2048 .f32) (y : S8x2048.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs3 xs4).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs3 xs4).2.1 S8x1024.size (by sl_kernel_rfl) y

/-- What a later point leaves in the carried real state. -/
def sout0_B_3 (c : Dev nD) (i : grid0.Coords) (arg1 : Memref sig .tc .vmem S8x64x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x512 .f32) (harg8 : arg8.IsWhole) (arg9 : Memref sig .tc .vmem S8x64x512 .bf16) (harg9 : arg9.IsWhole) (arg10 : Memref sig .tc .vmem S4x512x128 .f32) (harg10 : arg10.IsWhole) (arg11 : Memref sig .tc .vmem S512x2048 .f32) (harg11 : arg11.IsWhole) (arg12 : Memref sig .tc .vmem S512x2048 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S4x512x128 .f32) (harg15 : arg15.IsWhole) (hc0 : ¬cond0_0 i)
    (x0 : Vec F S8x64x512 .f32) (x1 : Vec F S512x2048 .bf16) (x2 : Vec F S512x2048 .bf16) (x3 : Vec F S2048x512 .bf16) (x4 : Vec F S2048x512 .bf16) (x5 : Vec F S1x2048 .f32) (x6 : Vec F S1x2048 .f32) (x7 : Vec F S1x512 .f32) (xs3 : Vec F S8x2048 .f32) (xs4 : Vec F S8x2048 .f32) : Vec F S8x2048 .f32 :=
  VS0_3.read (Elt F) (VS0_3.writes (Elt F) VS0_3.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs3 xs4).2.1)

theorem scover0_B_4 (c : Dev nD) (i : grid0.Coords) (arg1 : Memref sig .tc .vmem S8x64x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x512 .f32) (harg8 : arg8.IsWhole) (arg9 : Memref sig .tc .vmem S8x64x512 .bf16) (harg9 : arg9.IsWhole) (arg10 : Memref sig .tc .vmem S4x512x128 .f32) (harg10 : arg10.IsWhole) (arg11 : Memref sig .tc .vmem S512x2048 .f32) (harg11 : arg11.IsWhole) (arg12 : Memref sig .tc .vmem S512x2048 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S4x512x128 .f32) (harg15 : arg15.IsWhole) (hc0 : ¬cond0_0 i)
    (x0 : Vec F S8x64x512 .f32) (x1 : Vec F S512x2048 .bf16) (x2 : Vec F S512x2048 .bf16) (x3 : Vec F S2048x512 .bf16) (x4 : Vec F S2048x512 .bf16) (x5 : Vec F S1x2048 .f32) (x6 : Vec F S1x2048 .f32) (x7 : Vec F S1x512 .f32) (xs3 : Vec F S8x2048 .f32) (xs4 : Vec F S8x2048 .f32) (y : S8x2048.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs3 xs4).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs3 xs4).2.2.1 S8x1024.size (by sl_kernel_rfl) y

/-- What a later point leaves in the carried imaginary state. -/
def sout0_B_4 (c : Dev nD) (i : grid0.Coords) (arg1 : Memref sig .tc .vmem S8x64x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x512 .f32) (harg8 : arg8.IsWhole) (arg9 : Memref sig .tc .vmem S8x64x512 .bf16) (harg9 : arg9.IsWhole) (arg10 : Memref sig .tc .vmem S4x512x128 .f32) (harg10 : arg10.IsWhole) (arg11 : Memref sig .tc .vmem S512x2048 .f32) (harg11 : arg11.IsWhole) (arg12 : Memref sig .tc .vmem S512x2048 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S4x512x128 .f32) (harg15 : arg15.IsWhole) (hc0 : ¬cond0_0 i)
    (x0 : Vec F S8x64x512 .f32) (x1 : Vec F S512x2048 .bf16) (x2 : Vec F S512x2048 .bf16) (x3 : Vec F S2048x512 .bf16) (x4 : Vec F S2048x512 .bf16) (x5 : Vec F S1x2048 .f32) (x6 : Vec F S1x2048 .f32) (x7 : Vec F S1x512 .f32) (xs3 : Vec F S8x2048 .f32) (xs4 : Vec F S8x2048 .f32) : Vec F S8x2048 .f32 :=
  VS0_4.read (Elt F) (VS0_4.writes (Elt F) VS0_4.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs3 xs4).2.2.1)

/-- The output block, the carried real state and the carried imaginary state after each grid point. -/
def outsAt0 (c : Dev nD) : (n : ℕ) → n < cfg0.N → Vec F S8x64x512 .bf16 × Vec F S8x2048 .f32 × Vec F S8x2048 .f32
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 32 = 0 then
      (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
    else
      (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2, sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2, sout0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1 (outsAt0 c n (Nat.lt_of_succ_lt hn)).2.2)

theorem outsAt0_A (c : Dev nD) (t : Fin cfg0.N) (h0 : t.val % 32 = 0) :
    outsAt0 m c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t) (iblk m c 2 t) (iblk m c 3 t) (iblk m c 4 t) (iblk m c 5 t) (iblk m c 6 t) (iblk m c 7 t), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t) (iblk m c 2 t) (iblk m c 3 t) (iblk m c 4 t) (iblk m c 5 t) (iblk m c 6 t) (iblk m c 7 t), sout0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans rfl

theorem outsAt0_B (c : Dev nD) (t : Fin cfg0.N) (h0 : ¬t.val % 32 = 0) :
    outsAt0 m c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2, sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2, sout0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- Before a point, the carried state is what the point before it left. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare ((outsAt0 m c n hn).2.1) ∗ owns (c : Thread nD τ) scM0_4 fullShare ((outsAt0 m c n hn).2.2) ∗ (∃ d, owns (c : Thread nD τ) scM0_5 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare ((outsAt0 m c n hn).2.1) ∗ owns (c : Thread nD τ) scM0_4 fullShare ((outsAt0 m c n hn).2.2) ∗ (∃ d, owns (c : Thread nD τ) scM0_5 fullShare d)) ∗ (∃ r, prngReg c r)) := rfl

theorem PhiS_pos (c : Dev nD) (n : ℕ) (h : n ≤ cfg0.N) (hz : n ≠ 0) :
    PhiS m c n h = iprop(iprop((∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare ((outsAt0 m c (n - 1) (by omega)).2.1) ∗ owns (c : Thread nD τ) scM0_4 fullShare ((outsAt0 m c (n - 1) (by omega)).2.2) ∗ (∃ d, owns (c : Thread nD τ) scM0_5 fullShare d)) ∗ (∃ r, prngReg c r)) := by
  cases n with
  | zero => exact absurd rfl hz
  | succ n => rfl

/-- The arrays as found, and what each grid point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 9600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7, after0_8]
  rw [show (dats m 0 c).Φ t.succ = PhiS m c (t.val + 1) t.isLt from rfl, PhiS_succ]
  have hN : t.val < 32 := lt_of_lt_of_eq t.isLt (show cfg0.N = 32 from N_0)
  by_cases h0 : t.val % 32 = 0
  · by_cases hz : t.val = 0
    · rw [PhiS_castSucc m c t, PhiS_zero m c _ _ hz, PhiA0_eq]
      rw [outsAt0_A m c t h0]
      unfold out0_A_8 sout0_A_3 sout0_A_4; (try dsimp only)
      iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t)).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, H5, H6, H7, ⟨%e8, H8⟩, HS0, HS1, HS2, ⟨%es3, HS3⟩, ⟨%es4, HS4⟩, ⟨%fT5, HS5⟩⟩
      isplitl [HS0 HS1 HS2 HS3 HS4 HS5 Hg]
      · isplitl [HS0 HS1 HS2 HS3 HS4 HS5]
        · isplitl [HS0]
          · iexact HS0
          isplitl [HS1]
          · iexact HS1
          isplitl [HS2]
          · iexact HS2
          isplitl [HS3]
          · unfold owns; iexists _; isplitr
            swap; · iexact HS3
            ipureintro; exact View.read_writes_of_cover _ _ _ _ _ (scover0_A_3 c _ _ _ _ _ _ _ _ _ _ _ _ _ _ _ _ _ _ _ _ _ _ _ _ _ _ _ _ _ _ _ _ _ _ _ _ _ _ _ _)
          isplitl [HS4]
          · unfold owns; iexists _; isplitr
            swap; · iexact HS4
            ipureintro; exact View.read_writes_of_cover _ _ _ _ _ (scover0_A_4 c _ _ _ _ _ _ _ _ _ _ _ _ _ _ _ _ _ _ _ _ _ _ _ _ _ _ _ _ _ _ _ _ _ _ _ _ _ _ _ _)
          iexists _; unfold owns; iexists _; isplitr
          swap; · iexact HS5
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover0_A_8 c _ _ _ _ _ _ _ _ _ _ _ _ _ _ _ _ _ _ _ _ _ _ _ _ _ _ _ _ _ _ _ _ _ _ _ _ _ _ _ _)
    · exfalso; have hN : t.val < 32 := lt_of_lt_of_eq t.isLt (show cfg0.N = 32 from N_0); omega
  · by_cases hz : t.val = 0
    · exfalso; have hN : t.val < 32 := lt_of_lt_of_eq t.isLt (show cfg0.N = 32 from N_0); omega
    · rw [PhiS_castSucc m c t, PhiS_pos m c _ _ hz]
      rw [outsAt0_B m c t h0]
      unfold out0_B_8 sout0_B_3 sout0_B_4; (try dsimp only)
      iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, H5, H6, H7, ⟨%e8, H8⟩, HS0, HS1, HS2, ⟨%es3, HS3⟩, ⟨%es4, HS4⟩, ⟨%fT5, HS5⟩⟩
      isplitl [HS0 HS1 HS2 HS3 HS4 HS5 Hg]
      · isplitl [HS0 HS1 HS2 HS3 HS4 HS5]
        · isplitl [HS0]
          · iexact HS0
          isplitl [HS1]
          · iexact HS1
          isplitl [HS2]
          · iexact HS2
          isplitl [HS3]
          · unfold owns; iexists _; isplitr
            swap; · iexact HS3
            ipureintro; exact View.read_writes_of_cover _ _ _ _ _ (scover0_B_3 c _ _ _ _ _ _ _ _ _ _ _ _ _ _ _ _ _ _ _ _ _ _ _ _ _ _ _ _ _ _ _ _ _ _ _ _ _ _ _ _ _ _)
          isplitl [HS4]
          · unfold owns; iexists _; isplitr
            swap; · iexact HS4
            ipureintro; exact View.read_writes_of_cover _ _ _ _ _ (scover0_B_4 c _ _ _ _ _ _ _ _ _ _ _ _ _ _ _ _ _ _ _ _ _ _ _ _ _ _ _ _ _ _ _ _ _ _ _ _ _ _ _ _ _ _)
          iexists _; unfold owns; iexists _; isplitr
          swap; · iexact HS5
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover0_B_8 c _ _ _ _ _ _ _ _ _ _ _ _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

/-- Every grid point leaves what the data above says. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5⟩, Hg⟩
  isplitl [HS0 HS1 HS2 HS3 HS4 HS5]
  · isplitl [HS0]
    · iexact HS0
    isplitl [HS1]
    · iexact HS1
    isplitl [HS2]
    · iexact HS2
    isplitl [HS3]
    · iexists _; iexact HS3
    isplitl [HS4]
    · iexists _; iexact HS4
    iexact HS5
  iexact Hg

theorem hout (c : Dev nD) : (dats m 0 c).Φ (Fin.last cfg0.N) ⊢ Pipeline.ΦA spec0 c :=
  Phi_out m c _ (by rw [Fin.val_last]; have : cfg0.N = 32 := N_0; omega)
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every run ends, with the output assembled from the blocks and everything else as found. -/
theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.KernelIdeal.S5

end
-- ==== Proof.S5Point.lean ====
module

public import proofs.«01_k».proof.Proof.S5Tiles
public import proofs.«01_k».proof.Proof.S5IFrame

@[expose] public section

set_option maxRecDepth 16384

noncomputable section

namespace Cert.KernelIdeal.S5

open Cert.KernelIdeal.Gen
open Idealize.ShloMosaic Idealize.ShloMosaic.TcCoe Idealize.ShloMosaic.Tactic Idealize.SL.Sem
open scoped BigOperators

/-- A load through a rectangle of unit strides, at an index. -/
theorem idx_unit2 {n0 n1 m0 m1 : ℕ} (off : Fin 2 → ℕ) (inb : ∀ a : Fin 2, off a + (![m0, m1] : Fin 2 → ℕ) a ≤ (![n0, n1] : Fin 2 → ℕ) a)
    (a : Fin m0) (b : Fin m1) (a' : Fin n0) (b' : Fin n1) (ha : a'.val = off 0 + a.val) (hb : b'.val = off 1 + b.val) :
    (Rect.unit (s := ⟨2, ![n0, n1]⟩) off ![m0, m1] inb).toLoadRect.idx (ix2 a b) = ix2 a' b' := by
  funext x; apply Fin.ext
  match x with
  | 0 => show off 0 + 1 * a.val = a'.val; omega
  | 1 => show off 1 + 1 * b.val = b'.val; omega

/-- One step's input to the recurrence: a row of the block times the group's part of the input matrix. -/
def gx (x0 : Vec Ideal S8x64x512 .f32) (x1 : Vec Ideal S512x2048 .bf16) (b : Fin 8) (L : Fin 2048) (n : ℕ) : EReal :=
  if h : n < 64 then ∑ k : Fin 128, x0 (ix3 b ⟨n, h⟩ ⟨128 * (L.val / 512) + k.val, by omega⟩) * x1 (ix2 ⟨128 * (L.val / 512) + k.val, by omega⟩ L) else 0

/-- The state after `n` steps of a block. -/
def gs (x0 : Vec Ideal S8x64x512 .f32) (x1 x2 : Vec Ideal S512x2048 .bf16) (x5 x6 : Vec Ideal S1x2048 .f32) (s s' : Vec Ideal S8x2048 .f32) (b : Fin 8) (L : Fin 2048) (n : ℕ) : EReal × EReal :=
  lin (x5 (ix2 0 L)) (x6 (ix2 0 L)) (gx x0 x1 b L) (gx x0 x2 b L) (s (ix2 b L), s' (ix2 b L)) n

/-- The read-out of one step. -/
def gy (x0 : Vec Ideal S8x64x512 .f32) (x1 x2 : Vec Ideal S512x2048 .bf16) (x3 x4 : Vec Ideal S2048x512 .bf16) (x5 x6 : Vec Ideal S1x2048 .f32) (x7 : Vec Ideal S1x512 .f32) (s s' : Vec Ideal S8x2048 .f32) (b : Fin 8) (t : Fin 64) (l : Fin 512) : EReal :=
  ∑ k : Fin 512, (gs x0 x1 x2 x5 x6 s s' b ⟨512 * (l.val / 128) + k.val, by omega⟩ (t.val + 1)).1 * x3 (ix2 ⟨512 * (l.val / 128) + k.val, by omega⟩ l)
    - ∑ k : Fin 512, (gs x0 x1 x2 x5 x6 s s' b ⟨512 * (l.val / 128) + k.val, by omega⟩ (t.val + 1)).2 * x4 (ix2 ⟨512 * (l.val / 128) + k.val, by omega⟩ l)
    + x7 (ix2 0 l) * x0 (ix3 b t l)

variable (c : Dev nD) (i : grid0.Coords) (arg1 : Memref sig .tc .vmem S8x64x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x512 .f32) (harg8 : arg8.IsWhole) (arg9 : Memref sig .tc .vmem S8x64x512 .bf16) (harg9 : arg9.IsWhole) (arg10 : Memref sig .tc .vmem S4x512x128 .f32) (harg10 : arg10.IsWhole) (arg11 : Memref sig .tc .vmem S512x2048 .f32) (harg11 : arg11.IsWhole) (arg12 : Memref sig .tc .vmem S512x2048 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S4x512x128 .f32) (harg15 : arg15.IsWhole)
  (x0 : Vec Ideal S8x64x512 .f32) (x1 : Vec Ideal S512x2048 .bf16) (x2 : Vec Ideal S512x2048 .bf16) (x3 : Vec Ideal S2048x512 .bf16) (x4 : Vec Ideal S2048x512 .bf16) (x5 : Vec Ideal S1x2048 .f32) (x6 : Vec Ideal S1x2048 .f32) (x7 : Vec Ideal S1x512 .f32) (xs3 : Vec Ideal S8x2048 .f32) (xs4 : Vec Ideal S8x2048 .f32)

theorem stores_u : kernelRun0_B.sl.HS0_32 (F := Ideal) c arg1 harg1 x0
    = List.ofFn fun k : Fin 32 => (⟨slab k, k0_pay5 (View.readAt (Elt Ideal) arg1.view (tile k).toLoadRect (harg1.unread x0))⟩ : View.Piece (Elt Ideal) S4x512x128 .f32) := by
  sl_kernel_rfl

/-- A slab of the regrouped block, loaded. -/
theorem slab_read (g : Fin 4) (off : Fin 3 → ℕ) (hoff : off = ![g.val, 0, 0]) (inb : ∀ a : Fin 3, off a + S1x512x128.size a ≤ S4x512x128.size a) (r : Fin 512) (q : Fin 128) (l : Fin 512) (hl : l.val = 128 * g.val + q.val) :
    arg10.view.readCov (kernelRun0_B.sl.HS0_32 (F := Ideal) c arg1 harg1 x0) (Rect.unit (s := S4x512x128) off S1x512x128.size inb).toLoadRect (ix3 (n0 := 1) (n1 := 512) (n2 := 128) 0 r q)
      = x0 (ix3 ⟨r.val % 8, by omega⟩ ⟨r.val / 8, by omega⟩ l) := by
  subst hoff
  rw [View.readCov_eq_canon', stores_u]
  have e : (Rect.unit (s := S4x512x128) ![g.val, 0, 0] S1x512x128.size inb).toLoadRect.idx (ix3 (n0 := 1) (n1 := 512) (n2 := 128) 0 r q) = ix3 g r q := by
    funext a; apply Fin.ext
    match a with
    | 0 => show g.val + 1 * 0 = g.val; omega
    | 1 => show 0 + 1 * r.val = r.val; omega
    | 2 => show 0 + 1 * q.val = q.val; omega
  refine (congrArg _ e).trans ((canon_slabs _ ⟨4 * (7 - r.val % 8) + (3 - g.val), by omega⟩ ⟨r.val / 8, by omega⟩ q g r (by show g.val = 3 - (4 * (7 - r.val % 8) + (3 - g.val)) % 4; omega) (by show r.val = 8 * (r.val / 8) + (7 - (4 * (7 - r.val % 8) + (3 - g.val)) / 4); omega)).trans ((pay5_at _ _ _).trans ((harg1.readAt_unread x0 _ _).trans (congrArg x0 ?_))))
  exact tile_emb _ _ _ _ _ (by show r.val % 8 = 7 - (4 * (7 - r.val % 8) + (3 - g.val)) / 4; omega) (by show l.val = 128 * (3 - (4 * (7 - r.val % 8) + (3 - g.val)) % 4) + q.val; omega)

/-- The regrouped block. -/
theorem r6_at (r l : Fin 512) : kernelRun0_B.sl.r_6 (F := Ideal) c arg1 harg1 arg10 x0 (ix2 r l) = x0 (ix3 ⟨r.val % 8, by omega⟩ ⟨r.val / 8, by omega⟩ l) := by
  refine u_at _ _ _ _ (fun r l => x0 (ix3 ⟨r.val % 8, by omega⟩ ⟨r.val / 8, by omega⟩ l)) ?_ ?_ ?_ ?_ r l
  · exact fun r q => slab_read c arg1 harg1 arg10 x0 0 _ rfl _ r q _ (by show q.val = 128 * 0 + q.val; omega)
  · exact fun r q => slab_read c arg1 harg1 arg10 x0 1 _ rfl _ r q _ rfl
  · exact fun r q => slab_read c arg1 harg1 arg10 x0 2 _ rfl _ r q _ rfl
  · exact fun r q => slab_read c arg1 harg1 arg10 x0 3 _ rfl _ r q _ rfl

theorem r7_at (r l : Fin 512) : kernelRun0_B.sl.r_7 (F := Ideal) c arg1 harg1 arg10 x0 (ix2 r l) = x0 (ix3 ⟨r.val % 8, by omega⟩ ⟨r.val / 8, by omega⟩ l) :=
  (pay44_at _ _ _ _ r l).trans (r6_at c arg1 harg1 arg10 x0 r l)

theorem stores_x : kernelRun0_B.sl.HS1_4 (F := Ideal) c arg1 harg1 arg2 harg2 arg10 x0 x1
    = List.ofFn fun k : Fin 4 => (⟨cols k, ![k0_pay53 (kernelRun0_B.sl.r_7 c arg1 harg1 arg10 x0) (View.readAt (Elt Ideal) arg2.view (Rect.unit (s := S512x2048) ![384, 1536] S128x512.size inb_S512x2048_S128x512_384_1536).toLoadRect (harg2.unread x1)),
        k0_pay50 (kernelRun0_B.sl.r_7 c arg1 harg1 arg10 x0) (View.readAt (Elt Ideal) arg2.view (Rect.unit (s := S512x2048) ![256, 1024] S128x512.size inb_S512x2048_S128x512_256_1024).toLoadRect (harg2.unread x1)),
        k0_pay48 (kernelRun0_B.sl.r_7 c arg1 harg1 arg10 x0) (View.readAt (Elt Ideal) arg2.view (Rect.unit (s := S512x2048) ![128, 512] S128x512.size inb_S512x2048_S128x512_128_512).toLoadRect (harg2.unread x1)),
        k0_pay46 (k0_pay45 (kernelRun0_B.sl.v163 c arg1 harg1 arg10 x0) (kernelRun0_B.sl.v165 c arg1 harg1 arg10 x0) (kernelRun0_B.sl.v167 c arg1 harg1 arg10 x0) (kernelRun0_B.sl.v169 c arg1 harg1 arg10 x0) (View.readAt (Elt Ideal) arg2.view (Rect.unit (s := S512x2048) ![0, 0] S128x512.size inb_S512x2048_S128x512_0_0).toLoadRect (harg2.unread x1)))] k⟩ : View.Piece (Elt Ideal) S512x2048 .f32) := by
  sl_kernel_rfl

/-- The recurrence's inputs, as stored before the loops. -/
theorem x_at (b : Fin 8) (L : Fin 2048) : rows8 (View.canon (kernelRun0_B.sl.HS1_4 (F := Ideal) c arg1 harg1 arg2 harg2 arg10 x0 x1)) b L = gx x0 x1 b L := by
  funext n
  unfold rows8 gx
  by_cases h : n < 64
  · have hr : 8 * n + b.val < 512 := by omega
    rw [dif_pos hr, dif_pos h, stores_x]
    have e8 : (⟨(8 * n + b.val) % 8, by omega⟩ : Fin 8) = b := Fin.ext (by show (8 * n + b.val) % 8 = b.val; omega)
    have e64 : (⟨(8 * n + b.val) / 8, by omega⟩ : Fin 64) = ⟨n, h⟩ := Fin.ext (by show (8 * n + b.val) / 8 = n; omega)
    have key : ∀ (g : ℕ) (hg : g < 4), L.val / 512 = g → ∀ k : Fin 128, ∀ (l : Fin 512), l.val = 128 * g + k.val → x0 (ix3 ⟨(8 * n + b.val) % 8, by omega⟩ ⟨(8 * n + b.val) / 8, by omega⟩ l)
        = x0 (ix3 b ⟨n, h⟩ ⟨128 * (L.val / 512) + k.val, by omega⟩) := by
      intro g hg hL k l hl
      rw [e8, e64, show l = ⟨128 * (L.val / 512) + k.val, by omega⟩ from Fin.ext (by show l.val = 128 * (L.val / 512) + k.val; rw [hL, hl])]
    have hw : ∀ (g : ℕ) (hg : g < 4), L.val / 512 = g → ∀ (off : Fin 2 → ℕ) (inb : ∀ a : Fin 2, off a + (![128, 512] : Fin 2 → ℕ) a ≤ (![512, 2048] : Fin 2 → ℕ) a), off 0 = 128 * g → off 1 = 512 * g → ∀ k : Fin 128,
        View.readAt (Elt Ideal) arg2.view (Rect.unit (s := S512x2048) off S128x512.size inb).toLoadRect (harg2.unread x1) (ix2 (n0 := 128) (n1 := 512) k ⟨L.val % 512, by omega⟩)
          = x1 (ix2 ⟨128 * (L.val / 512) + k.val, by omega⟩ L) := by
      intro g hg hL off inb h0 h1 k
      refine (harg2.readAt_unread x1 _ _).trans (congrArg x1 ?_)
      exact idx_unit2 off inb k ⟨L.val % 512, by omega⟩ _ L (by show 128 * (L.val / 512) + k.val = off 0 + k.val; rw [h0, hL]) (by show L.val = off 1 + L.val % 512; omega)
    have hL : L.val / 512 = 0 ∨ L.val / 512 = 1 ∨ L.val / 512 = 2 ∨ L.val / 512 = 3 := by omega
    rcases hL with hL | hL | hL | hL
    · refine (canon_cols _ 3 ⟨8 * n + b.val, hr⟩ ⟨L.val % 512, by omega⟩ L (by show L.val = 512 * 0 + L.val % 512; omega)).trans ((pay45_at _ _ _ _ _ _ _).trans (Finset.sum_congr rfl fun k _ => congrArg₂ (· * ·) ?_ ?_))
      · exact (r6_at c arg1 harg1 arg10 x0 _ _).trans (key 0 (by omega) hL k _ (by show k.val = 128 * 0 + k.val; omega))
      · exact hw 0 (by omega) hL _ _ rfl rfl k
    · refine (canon_cols _ 2 ⟨8 * n + b.val, hr⟩ ⟨L.val % 512, by omega⟩ L (by show L.val = 512 * 1 + L.val % 512; omega)).trans ((pay48_at _ _ _ _).trans (Finset.sum_congr rfl fun k _ => congrArg₂ (· * ·) ?_ ?_))
      · exact (r7_at c arg1 harg1 arg10 x0 _ _).trans (key 1 (by omega) hL k _ (by rfl))
      · exact hw 1 (by omega) hL _ _ rfl rfl k
    · refine (canon_cols _ 1 ⟨8 * n + b.val, hr⟩ ⟨L.val % 512, by omega⟩ L (by show L.val = 512 * 2 + L.val % 512; omega)).trans ((pay50_at _ _ _ _).trans (Finset.sum_congr rfl fun k _ => congrArg₂ (· * ·) ?_ ?_))
      · exact (r7_at c arg1 harg1 arg10 x0 _ _).trans (key 2 (by omega) hL k _ (by rfl))
      · exact hw 2 (by omega) hL _ _ rfl rfl k
    · refine (canon_cols _ 0 ⟨8 * n + b.val, hr⟩ ⟨L.val % 512, by omega⟩ L (by show L.val = 512 * 3 + L.val % 512; omega)).trans ((pay53_at _ _ _ _).trans (Finset.sum_congr rfl fun k _ => congrArg₂ (· * ·) ?_ ?_))
      · exact (r7_at c arg1 harg1 arg10 x0 _ _).trans (key 3 (by omega) hL k _ (by rfl))
      · exact hw 3 (by omega) hL _ _ rfl rfl k
  · rw [dif_neg (by omega), dif_neg h]

theorem stores_y : kernelRun0_B.sl.HS2_4 (F := Ideal) c arg1 harg1 arg3 harg3 arg10 x0 x2
    = List.ofFn fun k : Fin 4 => (⟨cols k, ![k0_pay54 (kernelRun0_B.sl.r_7 c arg1 harg1 arg10 x0) (View.readAt (Elt Ideal) arg3.view (Rect.unit (s := S512x2048) ![384, 1536] S128x512.size inb_S512x2048_S128x512_384_1536).toLoadRect (harg3.unread x2)),
        k0_pay52 (k0_pay51 (kernelRun0_B.sl.r_7 c arg1 harg1 arg10 x0)) (View.readAt (Elt Ideal) arg3.view (Rect.unit (s := S512x2048) ![256, 1024] S128x512.size inb_S512x2048_S128x512_256_1024).toLoadRect (harg3.unread x2)),
        k0_pay49 (kernelRun0_B.sl.r_7 c arg1 harg1 arg10 x0) (View.readAt (Elt Ideal) arg3.view (Rect.unit (s := S512x2048) ![128, 512] S128x512.size inb_S512x2048_S128x512_128_512).toLoadRect (harg3.unread x2)),
        k0_pay47 (kernelRun0_B.sl.r_7 c arg1 harg1 arg10 x0) (View.readAt (Elt Ideal) arg3.view (Rect.unit (s := S512x2048) ![0, 0] S128x512.size inb_S512x2048_S128x512_0_0).toLoadRect (harg3.unread x2))] k⟩ : View.Piece (Elt Ideal) S512x2048 .f32) := by
  sl_kernel_rfl

/-- The recurrence's inputs, as stored before the loops. -/
theorem y_at (b : Fin 8) (L : Fin 2048) : rows8 (View.canon (kernelRun0_B.sl.HS2_4 (F := Ideal) c arg1 harg1 arg3 harg3 arg10 x0 x2)) b L = gx x0 x2 b L := by
  funext n
  unfold rows8 gx
  by_cases h : n < 64
  · have hr : 8 * n + b.val < 512 := by omega
    rw [dif_pos hr, dif_pos h, stores_y]
    have e8 : (⟨(8 * n + b.val) % 8, by omega⟩ : Fin 8) = b := Fin.ext (by show (8 * n + b.val) % 8 = b.val; omega)
    have e64 : (⟨(8 * n + b.val) / 8, by omega⟩ : Fin 64) = ⟨n, h⟩ := Fin.ext (by show (8 * n + b.val) / 8 = n; omega)
    have key : ∀ (g : ℕ) (hg : g < 4), L.val / 512 = g → ∀ k : Fin 128, ∀ (l : Fin 512), l.val = 128 * g + k.val → x0 (ix3 ⟨(8 * n + b.val) % 8, by omega⟩ ⟨(8 * n + b.val) / 8, by omega⟩ l)
        = x0 (ix3 b ⟨n, h⟩ ⟨128 * (L.val / 512) + k.val, by omega⟩) := by
      intro g hg hL k l hl
      rw [e8, e64, show l = ⟨128 * (L.val / 512) + k.val, by omega⟩ from Fin.ext (by show l.val = 128 * (L.val / 512) + k.val; rw [hL, hl])]
    have hw : ∀ (g : ℕ) (hg : g < 4), L.val / 512 = g → ∀ (off : Fin 2 → ℕ) (inb : ∀ a : Fin 2, off a + (![128, 512] : Fin 2 → ℕ) a ≤ (![512, 2048] : Fin 2 → ℕ) a), off 0 = 128 * g → off 1 = 512 * g → ∀ k : Fin 128,
        View.readAt (Elt Ideal) arg3.view (Rect.unit (s := S512x2048) off S128x512.size inb).toLoadRect (harg3.unread x2) (ix2 (n0 := 128) (n1 := 512) k ⟨L.val % 512, by omega⟩)
          = x2 (ix2 ⟨128 * (L.val / 512) + k.val, by omega⟩ L) := by
      intro g hg hL off inb h0 h1 k
      refine (harg3.readAt_unread x2 _ _).trans (congrArg x2 ?_)
      exact idx_unit2 off inb k ⟨L.val % 512, by omega⟩ _ L (by show 128 * (L.val / 512) + k.val = off 0 + k.val; rw [h0, hL]) (by show L.val = off 1 + L.val % 512; omega)
    have hL : L.val / 512 = 0 ∨ L.val / 512 = 1 ∨ L.val / 512 = 2 ∨ L.val / 512 = 3 := by omega
    rcases hL with hL | hL | hL | hL
    · refine (canon_cols _ 3 ⟨8 * n + b.val, hr⟩ ⟨L.val % 512, by omega⟩ L (by show L.val = 512 * 0 + L.val % 512; omega)).trans ((pay47_at _ _ _ _).trans (Finset.sum_congr rfl fun k _ => congrArg₂ (· * ·) ?_ ?_))
      · exact (r7_at c arg1 harg1 arg10 x0 _ _).trans (key 0 (by omega) hL k _ (by show k.val = 128 * 0 + k.val; omega))
      · exact hw 0 (by omega) hL _ _ rfl rfl k
    · refine (canon_cols _ 2 ⟨8 * n + b.val, hr⟩ ⟨L.val % 512, by omega⟩ L (by show L.val = 512 * 1 + L.val % 512; omega)).trans ((pay49_at _ _ _ _).trans (Finset.sum_congr rfl fun k _ => congrArg₂ (· * ·) ?_ ?_))
      · exact (r7_at c arg1 harg1 arg10 x0 _ _).trans (key 1 (by omega) hL k _ (by rfl))
      · exact hw 1 (by omega) hL _ _ rfl rfl k
    · refine (canon_cols _ 1 ⟨8 * n + b.val, hr⟩ ⟨L.val % 512, by omega⟩ L (by show L.val = 512 * 2 + L.val % 512; omega)).trans ((pay52_at _ _ _ _).trans (Finset.sum_congr rfl fun k _ => congrArg₂ (· * ·) ?_ ?_))
      · exact (r7_at c arg1 harg1 arg10 x0 _ _).trans (key 2 (by omega) hL k _ (by rfl))
      · exact hw 2 (by omega) hL _ _ rfl rfl k
    · refine (canon_cols _ 0 ⟨8 * n + b.val, hr⟩ ⟨L.val % 512, by omega⟩ L (by show L.val = 512 * 3 + L.val % 512; omega)).trans ((pay54_at _ _ _ _).trans (Finset.sum_congr rfl fun k _ => congrArg₂ (· * ·) ?_ ?_))
      · exact (r7_at c arg1 harg1 arg10 x0 _ _).trans (key 3 (by omega) hL k _ (by rfl))
      · exact hw 3 (by omega) hL _ _ rfl rfl k
  · rw [dif_neg (by omega), dif_neg h]

end Cert.KernelIdeal.S5

end
-- ==== Proof.S5Block.lean ====
module

public import proofs.«01_k».proof.Proof.S5Point

@[expose] public section

set_option maxRecDepth 16384

noncomputable section

namespace Cert.KernelIdeal.S5

open Cert.KernelIdeal.Gen
open Idealize.ShloMosaic Idealize.ShloMosaic.TcCoe Idealize.ShloMosaic.Tactic Idealize.SL.Sem
open scoped BigOperators

variable (c : Dev nD) (i : grid0.Coords) (arg1 : Memref sig .tc .vmem S8x64x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x512 .f32) (harg8 : arg8.IsWhole) (arg9 : Memref sig .tc .vmem S8x64x512 .bf16) (harg9 : arg9.IsWhole) (arg10 : Memref sig .tc .vmem S4x512x128 .f32) (harg10 : arg10.IsWhole) (arg11 : Memref sig .tc .vmem S512x2048 .f32) (harg11 : arg11.IsWhole) (arg12 : Memref sig .tc .vmem S512x2048 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S4x512x128 .f32) (harg15 : arg15.IsWhole)
  (x0 : Vec Ideal S8x64x512 .f32) (x1 : Vec Ideal S512x2048 .bf16) (x2 : Vec Ideal S512x2048 .bf16) (x3 : Vec Ideal S2048x512 .bf16) (x4 : Vec Ideal S2048x512 .bf16) (x5 : Vec Ideal S1x2048 .f32) (x6 : Vec Ideal S1x2048 .f32) (x7 : Vec Ideal S1x512 .f32) (xs3 : Vec Ideal S8x2048 .f32) (xs4 : Vec Ideal S8x2048 .f32)

/-- The first loop's trips, from any carried pair. -/
def run1 (init : Vec Ideal S8x1024 .f32 × Vec Ideal S8x1024 .f32) : ℕ → (Vec Ideal S8x1024 .f32 × Vec Ideal S8x1024 .f32) × List (View.Piece (Elt Ideal) S512x2048 .f32) × List (View.Piece (Elt Ideal) S512x2048 .f32) :=
  st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 (kernelRun0_B.sl.r_7 (F := Ideal) c arg1 harg1 arg10 x0) (kernelRun0_B.sl.r_9 (F := Ideal) c arg1 harg1 arg10 x0) (View.readAt (Elt Ideal) arg6.view (Rect.unit (s := S1x2048) ![0, 0] S1x1024.size inb_S1x2048_S1x1024_0_0).toLoadRect (harg6.unread x5)) (View.readAt (Elt Ideal) arg7.view (Rect.unit (s := S1x2048) ![0, 0] S1x1024.size inb_S1x2048_S1x1024_0_0).toLoadRect (harg7.unread x6)) (arg11.view.writes (Elt Ideal) arg11.view.junk (kernelRun0_B.sl.HS1_4 (F := Ideal) c arg1 harg1 arg2 harg2 arg10 x0 x1)) (arg12.view.writes (Elt Ideal) arg12.view.junk (kernelRun0_B.sl.HS2_4 (F := Ideal) c arg1 harg1 arg3 harg3 arg10 x0 x2)) init

/-- What the first loop leaves in the two buffers. -/
def mid1 (init : Vec Ideal S8x1024 .f32 × Vec Ideal S8x1024 .f32) : List (View.Piece (Elt Ideal) S512x2048 .f32) := (run1 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x5 x6 init 64).2.1 ++ (kernelRun0_B.sl.HS1_4 (F := Ideal) c arg1 harg1 arg2 harg2 arg10 x0 x1)
def mid2 (init : Vec Ideal S8x1024 .f32 × Vec Ideal S8x1024 .f32) : List (View.Piece (Elt Ideal) S512x2048 .f32) := (run1 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x5 x6 init 64).2.2 ++ (kernelRun0_B.sl.HS2_4 (F := Ideal) c arg1 harg1 arg3 harg3 arg10 x0 x2)

/-- The second loop's trips. -/
def run2 (init init' : Vec Ideal S8x1024 .f32 × Vec Ideal S8x1024 .f32) : ℕ → (Vec Ideal S8x1024 .f32 × Vec Ideal S8x1024 .f32) × List (View.Piece (Elt Ideal) S512x2048 .f32) × List (View.Piece (Elt Ideal) S512x2048 .f32) :=
  st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 (run1 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x5 x6 init 64).1.1 (run1 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x5 x6 init 64).1.2 (View.readAt (Elt Ideal) arg6.view (Rect.unit (s := S1x2048) ![0, 1024] S1x1024.size inb_S1x2048_S1x1024_0_1024).toLoadRect (harg6.unread x5)) (View.readAt (Elt Ideal) arg7.view (Rect.unit (s := S1x2048) ![0, 1024] S1x1024.size inb_S1x2048_S1x1024_0_1024).toLoadRect (harg7.unread x6)) (arg11.view.writes (Elt Ideal) arg11.view.junk (mid1 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x5 x6 init)) (arg12.view.writes (Elt Ideal) arg12.view.junk (mid2 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x5 x6 init)) init'

/-- What both loops leave in the two buffers. -/
def end1 (init init' : Vec Ideal S8x1024 .f32 × Vec Ideal S8x1024 .f32) : List (View.Piece (Elt Ideal) S512x2048 .f32) := (run2 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x5 x6 init init' 64).2.1 ++ mid1 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x5 x6 init
def end2 (init init' : Vec Ideal S8x1024 .f32 × Vec Ideal S8x1024 .f32) : List (View.Piece (Elt Ideal) S512x2048 .f32) := (run2 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x5 x6 init init' 64).2.2 ++ mid2 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x5 x6 init

theorem readA (M : Memref sig .tc .vmem S1x2048 .f32) (h : M.IsWhole) (X : Vec Ideal S1x2048 .f32) (o : ℕ) (inb : ∀ a : Fin 2, (![0, o] : Fin 2 → ℕ) a + S1x1024.size a ≤ S1x2048.size a) (l : Fin 1024) (L : Fin 2048) (hl : L.val = o + l.val) :
    View.readAt (Elt Ideal) M.view (Rect.unit (s := S1x2048) ![0, o] S1x1024.size inb).toLoadRect (h.unread X) (ix2 (n0 := 1) (n1 := 1024) 0 l) = X (ix2 0 L) :=
  (h.readAt_unread X _ _).trans (congrArg X (idx_unit2 ![0, o] inb 0 l 0 L rfl hl))

theorem readW (M : Memref sig .tc .vmem S2048x512 .bf16) (h : M.IsWhole) (X : Vec Ideal S2048x512 .bf16) (o o' : ℕ) (inb : ∀ a : Fin 2, (![o, o'] : Fin 2 → ℕ) a + S512x128.size a ≤ S2048x512.size a) (k : Fin 512) (q : Fin 128) (L : Fin 2048) (l : Fin 512) (hL : L.val = o + k.val) (hl : l.val = o' + q.val) :
    View.readAt (Elt Ideal) M.view (Rect.unit (s := S2048x512) ![o, o'] S512x128.size inb).toLoadRect (h.unread X) (ix2 (n0 := 512) (n1 := 128) k q) = X (ix2 L l) :=
  (h.readAt_unread X _ _).trans (congrArg X (idx_unit2 ![o, o'] inb k q L l hL hl))

theorem readD (M : Memref sig .tc .vmem S1x512 .f32) (h : M.IsWhole) (X : Vec Ideal S1x512 .f32) (o : ℕ) (inb : ∀ a : Fin 2, (![0, o] : Fin 2 → ℕ) a + S1x128.size a ≤ S1x512.size a) (q : Fin 128) (l : Fin 512) (hl : l.val = o + q.val) :
    View.readAt (Elt Ideal) M.view (Rect.unit (s := S1x512) ![0, o] S1x128.size inb).toLoadRect (h.unread X) (ix2 (n0 := 1) (n1 := 128) 0 q) = X (ix2 0 l) :=
  (h.readAt_unread X _ _).trans (congrArg X (idx_unit2 ![0, o] inb 0 q 0 l rfl hl))

theorem lin_eq {a a' b b' : EReal} {x y x' y' : ℕ → EReal} {s s' : EReal × EReal} (h1 : a = b) (h2 : a' = b') (h3 : x = x') (h4 : y = y') (h5 : s = s') (n : ℕ) : lin a a' x y s n = lin b b' x' y' s' n := by
  subst h1 h2 h3 h4 h5; rfl

set_option maxHeartbeats 1000000 in
/-- Both loops: the recurrence, over all lanes. -/
theorem loops (s s' : Vec Ideal S8x2048 .f32) (init init' : Vec Ideal S8x1024 .f32 × Vec Ideal S8x1024 .f32)
    (h1 : ∀ (b : Fin 8) (l : Fin 1024) (L : Fin 2048), L.val = l.val → init.1 (ix2 b l) = s (ix2 b L) ∧ init.2 (ix2 b l) = s' (ix2 b L))
    (h2 : ∀ (b : Fin 8) (l : Fin 1024) (L : Fin 2048), L.val = 1024 + l.val → init'.1 (ix2 b l) = s (ix2 b L) ∧ init'.2 (ix2 b l) = s' (ix2 b L)) :
    (∀ (r : Fin 512) (L : Fin 2048), (View.canon (end1 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x5 x6 init init') (ix2 r L), View.canon (end2 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x5 x6 init init') (ix2 r L)) = gs x0 x1 x2 x5 x6 s s' ⟨r.val % 8, by omega⟩ L (r.val / 8 + 1))
    ∧ (∀ (b : Fin 8) (l : Fin 1024) (L : Fin 2048), L.val = l.val → ((run1 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x5 x6 init 64).1.1 (ix2 b l), (run1 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x5 x6 init 64).1.2 (ix2 b l)) = gs x0 x1 x2 x5 x6 s s' b L 64)
    ∧ (∀ (b : Fin 8) (l : Fin 1024) (L : Fin 2048), L.val = 1024 + l.val → ((run2 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x5 x6 init init' 64).1.1 (ix2 b l), (run2 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x5 x6 init init' 64).1.2 (ix2 b l)) = gs x0 x1 x2 x5 x6 s s' b L 64) := by
  obtain ⟨a1, a2, a3⟩ := loop1 c i arg1 harg1 arg2 harg2 arg3 harg3 arg4 harg4 arg5 harg5 arg6 harg6 arg7 harg7 arg8 harg8 arg9 harg9 arg10 harg10 arg11 harg11 arg12 harg12 arg13 harg13 arg14 harg14 arg15 harg15 (kernelRun0_B.sl.r_7 (F := Ideal) c arg1 harg1 arg10 x0) (kernelRun0_B.sl.r_9 (F := Ideal) c arg1 harg1 arg10 x0) (View.readAt (Elt Ideal) arg6.view (Rect.unit (s := S1x2048) ![0, 0] S1x1024.size inb_S1x2048_S1x1024_0_0).toLoadRect (harg6.unread x5)) (View.readAt (Elt Ideal) arg7.view (Rect.unit (s := S1x2048) ![0, 0] S1x1024.size inb_S1x2048_S1x1024_0_0).toLoadRect (harg7.unread x6)) (kernelRun0_B.sl.HS1_4 (F := Ideal) c arg1 harg1 arg2 harg2 arg10 x0 x1) (kernelRun0_B.sl.HS2_4 (F := Ideal) c arg1 harg1 arg3 harg3 arg10 x0 x2) init (run1 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x5 x6 init) rfl
  obtain ⟨b1, b2, b3⟩ := loop2 c i arg1 harg1 arg2 harg2 arg3 harg3 arg4 harg4 arg5 harg5 arg6 harg6 arg7 harg7 arg8 harg8 arg9 harg9 arg10 harg10 arg11 harg11 arg12 harg12 arg13 harg13 arg14 harg14 arg15 harg15 (run1 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x5 x6 init 64).1.1 (run1 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x5 x6 init 64).1.2 (View.readAt (Elt Ideal) arg6.view (Rect.unit (s := S1x2048) ![0, 1024] S1x1024.size inb_S1x2048_S1x1024_0_1024).toLoadRect (harg6.unread x5)) (View.readAt (Elt Ideal) arg7.view (Rect.unit (s := S1x2048) ![0, 1024] S1x1024.size inb_S1x2048_S1x1024_0_1024).toLoadRect (harg7.unread x6)) (mid1 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x5 x6 init) (mid2 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x5 x6 init) init' (run2 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x5 x6 init init') rfl
  have keep : ∀ (b : Fin 8) (L : Fin 2048), 1024 ≤ L.val → rows8 (View.canon (mid1 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x5 x6 init)) b L = gx x0 x1 b L ∧ rows8 (View.canon (mid2 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x5 x6 init)) b L = gx x0 x2 b L := by
    intro b L hL
    have e : ∀ r : Fin 512, _ := fun r => a2 r L (by omega)
    constructor
    · refine Eq.trans (funext fun n => ?_) (x_at c arg1 harg1 arg2 harg2 arg10 x0 x1 b L)
      unfold rows8
      by_cases h : 8 * n + b.val < 512
      · rw [dif_pos h, dif_pos h]; exact (e _).1
      · rw [dif_neg h, dif_neg h]
    · refine Eq.trans (funext fun n => ?_) (y_at c arg1 harg1 arg3 harg3 arg10 x0 x2 b L)
      unfold rows8
      by_cases h : 8 * n + b.val < 512
      · rw [dif_pos h, dif_pos h]; exact (e _).2
      · rw [dif_neg h, dif_neg h]
  have c1 : ∀ (b : Fin 8) (l : Fin 1024) (L : Fin 2048) (n : ℕ), L.val = l.val → lin ((View.readAt (Elt Ideal) arg6.view (Rect.unit (s := S1x2048) ![0, 0] S1x1024.size inb_S1x2048_S1x1024_0_0).toLoadRect (harg6.unread x5)) (ix2 0 l)) ((View.readAt (Elt Ideal) arg7.view (Rect.unit (s := S1x2048) ![0, 0] S1x1024.size inb_S1x2048_S1x1024_0_0).toLoadRect (harg7.unread x6)) (ix2 0 l)) (rows8 (View.canon (kernelRun0_B.sl.HS1_4 (F := Ideal) c arg1 harg1 arg2 harg2 arg10 x0 x1)) b L) (rows8 (View.canon (kernelRun0_B.sl.HS2_4 (F := Ideal) c arg1 harg1 arg3 harg3 arg10 x0 x2)) b L) (init.1 (ix2 b l), init.2 (ix2 b l)) n = gs x0 x1 x2 x5 x6 s s' b L n := by
    intro b l L n hl
    exact lin_eq (readA arg6 harg6 x5 0 _ l L (by omega)) (readA arg7 harg7 x6 0 _ l L (by omega)) (x_at c arg1 harg1 arg2 harg2 arg10 x0 x1 b L) (y_at c arg1 harg1 arg3 harg3 arg10 x0 x2 b L) (congrArg₂ Prod.mk (h1 b l L hl).1 (h1 b l L hl).2) n
  have c2 : ∀ (b : Fin 8) (l : Fin 1024) (L : Fin 2048) (n : ℕ), L.val = 1024 + l.val → lin ((View.readAt (Elt Ideal) arg6.view (Rect.unit (s := S1x2048) ![0, 1024] S1x1024.size inb_S1x2048_S1x1024_0_1024).toLoadRect (harg6.unread x5)) (ix2 0 l)) ((View.readAt (Elt Ideal) arg7.view (Rect.unit (s := S1x2048) ![0, 1024] S1x1024.size inb_S1x2048_S1x1024_0_1024).toLoadRect (harg7.unread x6)) (ix2 0 l)) (rows8 (View.canon (mid1 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x5 x6 init)) b L) (rows8 (View.canon (mid2 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x5 x6 init)) b L) (init'.1 (ix2 b l), init'.2 (ix2 b l)) n = gs x0 x1 x2 x5 x6 s s' b L n := by
    intro b l L n hl
    exact lin_eq (readA arg6 harg6 x5 1024 _ l L hl) (readA arg7 harg7 x6 1024 _ l L hl) (keep b L (by omega)).1 (keep b L (by omega)).2 (congrArg₂ Prod.mk (h2 b l L hl).1 (h2 b l L hl).2) n
  refine ⟨fun r L => ?_, fun b l L hl => (a1 b l L (by omega)).trans (c1 b l L 64 hl), fun b l L hl => (b1 b l L hl).trans (c2 b l L 64 hl)⟩
  by_cases hL : L.val < 1024
  · have k := b2 r L (by omega)
    refine (congrArg₂ Prod.mk k.1 k.2).trans ((a3 r ⟨r.val % 8, by omega⟩ (r.val / 8) ⟨L.val, hL⟩ L r.isLt (by show r.val = 8 * (r.val / 8) + r.val % 8; omega) (by show L.val = 0 + L.val; omega)).trans (c1 _ ⟨L.val, hL⟩ L _ rfl))
  · have hl : L.val = 1024 + (⟨L.val - 1024, by omega⟩ : Fin 1024).val := by show L.val = 1024 + (L.val - 1024); omega
    exact (b3 r ⟨r.val % 8, by omega⟩ (r.val / 8) ⟨L.val - 1024, by omega⟩ L r.isLt (by show r.val = 8 * (r.val / 8) + r.val % 8; omega) hl).trans (c2 _ ⟨L.val - 1024, by omega⟩ L _ hl)

/-- The read-out of a group, as stored. -/
def outW (init init' : Vec Ideal S8x1024 .f32 × Vec Ideal S8x1024 .f32) (k : Fin 4) : Vec Ideal S1x512x128 .f32 :=
  ![k0_pay82 (k0_pay80 (kernelRun0_B.sl.r_6 (F := Ideal) c arg1 harg1 arg10 x0) (arg11.view.readCov (end1 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x5 x6 init init') (Rect.unit (s := S512x2048) ![0, 1536] S512x512.size inb_S512x2048_S512x512_0_1536).toLoadRect) (View.readAt (Elt Ideal) arg4.view (Rect.unit (s := S2048x512) ![1536, 384] S512x128.size inb_S2048x512_S512x128_1536_384).toLoadRect (harg4.unread x3)) (arg12.view.readCov (end2 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x5 x6 init init') (Rect.unit (s := S512x2048) ![0, 1536] S512x512.size inb_S512x2048_S512x512_0_1536).toLoadRect) (View.readAt (Elt Ideal) arg5.view (Rect.unit (s := S2048x512) ![1536, 384] S512x128.size inb_S2048x512_S512x128_1536_384).toLoadRect (harg5.unread x4)) (View.readAt (Elt Ideal) arg8.view (Rect.unit (s := S1x512) ![0, 384] S1x128.size inb_S1x512_S1x128_0_384).toLoadRect (harg8.unread x7))) (k0_pay81 (kernelRun0_B.sl.r_6 (F := Ideal) c arg1 harg1 arg10 x0) (arg11.view.readCov (end1 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x5 x6 init init') (Rect.unit (s := S512x2048) ![0, 1536] S512x512.size inb_S512x2048_S512x512_0_1536).toLoadRect) (View.readAt (Elt Ideal) arg4.view (Rect.unit (s := S2048x512) ![1536, 384] S512x128.size inb_S2048x512_S512x128_1536_384).toLoadRect (harg4.unread x3)) (arg12.view.readCov (end2 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x5 x6 init init') (Rect.unit (s := S512x2048) ![0, 1536] S512x512.size inb_S512x2048_S512x512_0_1536).toLoadRect) (View.readAt (Elt Ideal) arg5.view (Rect.unit (s := S2048x512) ![1536, 384] S512x128.size inb_S2048x512_S512x128_1536_384).toLoadRect (harg5.unread x4)) (View.readAt (Elt Ideal) arg8.view (Rect.unit (s := S1x512) ![0, 384] S1x128.size inb_S1x512_S1x128_0_384).toLoadRect (harg8.unread x7))) (Ideal.ofBits .f32 1027024659#32),
    k0_pay79 (kernelRun0_B.sl.r_6 (F := Ideal) c arg1 harg1 arg10 x0) (k0_pay77 (arg11.view.readCov (end1 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x5 x6 init init') (Rect.unit (s := S512x2048) ![0, 1024] S512x512.size inb_S512x2048_S512x512_0_1024).toLoadRect) (View.readAt (Elt Ideal) arg4.view (Rect.unit (s := S2048x512) ![1024, 256] S512x128.size inb_S2048x512_S512x128_1024_256).toLoadRect (harg4.unread x3)) (arg12.view.readCov (end2 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x5 x6 init init') (Rect.unit (s := S512x2048) ![0, 1024] S512x512.size inb_S512x2048_S512x512_0_1024).toLoadRect) (View.readAt (Elt Ideal) arg5.view (Rect.unit (s := S2048x512) ![1024, 256] S512x128.size inb_S2048x512_S512x128_1024_256).toLoadRect (harg5.unread x4))) (k0_pay78 (View.readAt (Elt Ideal) arg8.view (Rect.unit (s := S1x512) ![0, 256] S1x128.size inb_S1x512_S1x128_0_256).toLoadRect (harg8.unread x7))),
    k0_pay76 (kernelRun0_B.sl.r_6 (F := Ideal) c arg1 harg1 arg10 x0) (k0_pay73 (arg11.view.readCov (end1 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x5 x6 init init') (Rect.unit (s := S512x2048) ![0, 512] S512x512.size inb_S512x2048_S512x512_0_512).toLoadRect) (View.readAt (Elt Ideal) arg4.view (Rect.unit (s := S2048x512) ![512, 128] S512x128.size inb_S2048x512_S512x128_512_128).toLoadRect (harg4.unread x3))) (k0_pay74 (arg12.view.readCov (end2 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x5 x6 init init') (Rect.unit (s := S512x2048) ![0, 512] S512x512.size inb_S512x2048_S512x512_0_512).toLoadRect)) (k0_pay75 (View.readAt (Elt Ideal) arg5.view (Rect.unit (s := S2048x512) ![512, 128] S512x128.size inb_S2048x512_S512x128_512_128).toLoadRect (harg5.unread x4))) (View.readAt (Elt Ideal) arg8.view (Rect.unit (s := S1x512) ![0, 128] S1x128.size inb_S1x512_S1x128_0_128).toLoadRect (harg8.unread x7)),
    k0_pay72 (kernelRun0_B.sl.r_6 (F := Ideal) c arg1 harg1 arg10 x0) (k0_pay71 (arg11.view.readCov (end1 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x5 x6 init init') (Rect.unit (s := S512x2048) ![0, 0] S512x512.size inb_S512x2048_S512x512_0_0).toLoadRect) (View.readAt (Elt Ideal) arg4.view (Rect.unit (s := S2048x512) ![0, 0] S512x128.size inb_S2048x512_S512x128_0_0).toLoadRect (harg4.unread x3))) (arg12.view.readCov (end2 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x5 x6 init init') (Rect.unit (s := S512x2048) ![0, 0] S512x512.size inb_S512x2048_S512x512_0_0).toLoadRect) (View.readAt (Elt Ideal) arg5.view (Rect.unit (s := S2048x512) ![0, 0] S512x128.size inb_S2048x512_S512x128_0_0).toLoadRect (harg5.unread x4)) (View.readAt (Elt Ideal) arg8.view (Rect.unit (s := S1x512) ![0, 0] S1x128.size inb_S1x512_S1x128_0_0).toLoadRect (harg8.unread x7))] k

def outH (init init' : Vec Ideal S8x1024 .f32 × Vec Ideal S8x1024 .f32) : List (View.Piece (Elt Ideal) S4x512x128 .f32) := List.ofFn fun k : Fin 4 => ⟨wslab k, outW c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 init init' k⟩

/-- The output block, as stored. -/
def outL (init init' : Vec Ideal S8x1024 .f32 × Vec Ideal S8x1024 .f32) : List (View.Piece (Elt Ideal) S8x64x512 .bf16) :=
  List.ofFn fun k : Fin 32 => ⟨tile k, k0_pay83 (arg15.view.readCov (outH c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 init init') (slab k).toLoadRect)⟩

theorem gy_of (s s' : Vec Ideal S8x2048 .f32) (g : ℕ) (hg : g < 4) (b : Fin 8) (t : Fin 64) (q : Fin 128) (l : Fin 512) (hl : l.val = 128 * g + q.val)
    (v v' : Fin 512 → EReal) (w w' : Fin 512 → EReal) (d X : EReal)
    (hv : ∀ (k : Fin 512) (L : Fin 2048), L.val = 512 * g + k.val → (v k, v' k) = gs x0 x1 x2 x5 x6 s s' b L (t.val + 1))
    (hw : ∀ (k : Fin 512) (L : Fin 2048), L.val = 512 * g + k.val → w k = x3 (ix2 L l) ∧ w' k = x4 (ix2 L l))
    (hd : d = x7 (ix2 0 l)) (hX : X = x0 (ix3 b t l)) :
    act (∑ k : Fin 512, v k * w k - ∑ k : Fin 512, v' k * w' k + d * X) = act (gy x0 x1 x2 x3 x4 x5 x6 x7 s s' b t l) := by
  unfold gy
  have hq : l.val / 128 = g := by omega
  rw [hd, hX]
  refine congrArg (fun z => act (z + x7 (ix2 0 l) * x0 (ix3 b t l))) (congrArg₂ (· - ·) (Finset.sum_congr rfl fun k _ => ?_) (Finset.sum_congr rfl fun k _ => ?_))
  · have e := hv k ⟨512 * (l.val / 128) + k.val, by omega⟩ (by show 512 * (l.val / 128) + k.val = _; rw [hq])
    have e2 := hw k ⟨512 * (l.val / 128) + k.val, by omega⟩ (by show 512 * (l.val / 128) + k.val = _; rw [hq])
    rw [← e, ← e2.1]
  · have e := hv k ⟨512 * (l.val / 128) + k.val, by omega⟩ (by show 512 * (l.val / 128) + k.val = _; rw [hq])
    have e2 := hw k ⟨512 * (l.val / 128) + k.val, by omega⟩ (by show 512 * (l.val / 128) + k.val = _; rw [hq])
    rw [← e, ← e2.2]

theorem readC (M : Memref sig .tc .vmem S512x2048 .f32) (L : List (View.Piece (Elt Ideal) S512x2048 .f32)) (o : ℕ) (inb : ∀ a : Fin 2, (![0, o] : Fin 2 → ℕ) a + S512x512.size a ≤ S512x2048.size a) (r k : Fin 512) (l : Fin 2048) (hl : l.val = o + k.val) :
    M.view.readCov L (Rect.unit (s := S512x2048) ![0, o] S512x512.size inb).toLoadRect (ix2 (n0 := 512) (n1 := 512) r k) = View.canon L (ix2 r l) := by
  rw [View.readCov_eq_canon']
  exact congrArg _ (idx_unit2 ![0, o] inb r k r l (by show r.val = 0 + r.val; omega) hl)

set_option maxHeartbeats 4000000 in
/-- The output block at an index. -/
theorem outL_at (s s' : Vec Ideal S8x2048 .f32) (init init' : Vec Ideal S8x1024 .f32 × Vec Ideal S8x1024 .f32)
    (h1 : ∀ (b : Fin 8) (l : Fin 1024) (L : Fin 2048), L.val = l.val → init.1 (ix2 b l) = s (ix2 b L) ∧ init.2 (ix2 b l) = s' (ix2 b L))
    (h2 : ∀ (b : Fin 8) (l : Fin 1024) (L : Fin 2048), L.val = 1024 + l.val → init'.1 (ix2 b l) = s (ix2 b L) ∧ init'.2 (ix2 b l) = s' (ix2 b L))
    (b : Fin 8) (t : Fin 64) (l : Fin 512) :
    View.canon (outL c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 init init') (ix3 b t l) = act (gy x0 x1 x2 x3 x4 x5 x6 x7 s s' b t l) := by
  obtain ⟨hs, -, -⟩ := loops c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x5 x6 s s' init init' h1 h2
  have hr : 8 * t.val + b.val < 512 := by omega
  have key : ∀ (g : Fin 4) (q : Fin 128), l.val = 128 * g.val + q.val → View.canon (outH c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 init init') (ix3 g ⟨8 * t.val + b.val, hr⟩ q) = act (gy x0 x1 x2 x3 x4 x5 x6 x7 s s' b t l) := by
    have eb : (⟨(8 * t.val + b.val) % 8, by omega⟩ : Fin 8) = b := Fin.ext (by show (8 * t.val + b.val) % 8 = b.val; omega)
    have et : (8 * t.val + b.val) / 8 = t.val := by omega
    have et' : (⟨(8 * t.val + b.val) / 8, by omega⟩ : Fin 64) = t := Fin.ext et
    have hs' : ∀ L : Fin 2048, (View.canon (end1 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x5 x6 init init') (ix2 ⟨8 * t.val + b.val, hr⟩ L), View.canon (end2 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x5 x6 init init') (ix2 ⟨8 * t.val + b.val, hr⟩ L)) = gs x0 x1 x2 x5 x6 s s' b L (t.val + 1) := by
      intro L
      have h := hs ⟨8 * t.val + b.val, hr⟩ L
      simp only [eb, et] at h
      exact h
    have hu : ∀ l' : Fin 512, l' = l → (kernelRun0_B.sl.r_6 (F := Ideal) c arg1 harg1 arg10 x0) (ix2 ⟨8 * t.val + b.val, hr⟩ l') = x0 (ix3 b t l) := by
      intro l' e
      subst e
      have h := r6_at c arg1 harg1 arg10 x0 ⟨8 * t.val + b.val, hr⟩ l'
      simp only [eb, et'] at h
      exact h
    intro g q hl
    match g, hl with
    | 0, hl =>
      refine (canon_wslabs (outW c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 init init') 3 0 ⟨8 * t.val + b.val, hr⟩ q rfl).trans ((y0_at (kernelRun0_B.sl.r_6 (F := Ideal) c arg1 harg1 arg10 x0) (arg11.view.readCov (end1 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x5 x6 init init') (Rect.unit (s := S512x2048) ![0, 0] S512x512.size inb_S512x2048_S512x512_0_0).toLoadRect) (arg12.view.readCov (end2 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x5 x6 init init') (Rect.unit (s := S512x2048) ![0, 0] S512x512.size inb_S512x2048_S512x512_0_0).toLoadRect) (View.readAt (Elt Ideal) arg4.view (Rect.unit (s := S2048x512) ![0, 0] S512x128.size inb_S2048x512_S512x128_0_0).toLoadRect (harg4.unread x3)) (View.readAt (Elt Ideal) arg5.view (Rect.unit (s := S2048x512) ![0, 0] S512x128.size inb_S2048x512_S512x128_0_0).toLoadRect (harg5.unread x4)) (View.readAt (Elt Ideal) arg8.view (Rect.unit (s := S1x512) ![0, 0] S1x128.size inb_S1x512_S1x128_0_0).toLoadRect (harg8.unread x7)) ⟨8 * t.val + b.val, hr⟩ q).trans ?_)
      refine gy_of x0 x1 x2 x3 x4 x5 x6 x7 s s' 0 (by omega) b t q l hl _ _ _ _ _ _ (fun k L hL => ?_) (fun k L hL => ⟨?_, ?_⟩) ?_ ?_
      · exact (congrArg₂ Prod.mk (readC arg11 _ 0 _ _ k L (by omega)) (readC arg12 _ 0 _ _ k L (by omega))).trans (hs' L)
      · exact readW arg4 harg4 x3 0 0 _ k q L l (by omega) (by have : l.val = 128 * 0 + q.val := hl; omega)
      · exact readW arg5 harg5 x4 0 0 _ k q L l (by omega) (by have : l.val = 128 * 0 + q.val := hl; omega)
      · exact readD arg8 harg8 x7 0 _ q l (by have : l.val = 128 * 0 + q.val := hl; omega)
      · exact hu _ (Fin.ext (by show q.val = l.val; have : l.val = 128 * 0 + q.val := hl; omega))
    | 1, hl =>
      refine (canon_wslabs (outW c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 init init') 2 1 ⟨8 * t.val + b.val, hr⟩ q rfl).trans ((y1_at (kernelRun0_B.sl.r_6 (F := Ideal) c arg1 harg1 arg10 x0) (arg11.view.readCov (end1 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x5 x6 init init') (Rect.unit (s := S512x2048) ![0, 512] S512x512.size inb_S512x2048_S512x512_0_512).toLoadRect) (arg12.view.readCov (end2 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x5 x6 init init') (Rect.unit (s := S512x2048) ![0, 512] S512x512.size inb_S512x2048_S512x512_0_512).toLoadRect) (View.readAt (Elt Ideal) arg4.view (Rect.unit (s := S2048x512) ![512, 128] S512x128.size inb_S2048x512_S512x128_512_128).toLoadRect (harg4.unread x3)) (View.readAt (Elt Ideal) arg5.view (Rect.unit (s := S2048x512) ![512, 128] S512x128.size inb_S2048x512_S512x128_512_128).toLoadRect (harg5.unread x4)) (View.readAt (Elt Ideal) arg8.view (Rect.unit (s := S1x512) ![0, 128] S1x128.size inb_S1x512_S1x128_0_128).toLoadRect (harg8.unread x7)) ⟨8 * t.val + b.val, hr⟩ q).trans ?_)
      refine gy_of x0 x1 x2 x3 x4 x5 x6 x7 s s' 1 (by omega) b t q l hl _ _ _ _ _ _ (fun k L hL => ?_) (fun k L hL => ⟨?_, ?_⟩) ?_ ?_
      · exact (congrArg₂ Prod.mk (readC arg11 _ 512 _ _ k L (by omega)) (readC arg12 _ 512 _ _ k L (by omega))).trans (hs' L)
      · exact readW arg4 harg4 x3 512 128 _ k q L l (by omega) (by have : l.val = 128 * 1 + q.val := hl; omega)
      · exact readW arg5 harg5 x4 512 128 _ k q L l (by omega) (by have : l.val = 128 * 1 + q.val := hl; omega)
      · exact readD arg8 harg8 x7 128 _ q l (by have : l.val = 128 * 1 + q.val := hl; omega)
      · exact hu _ (Fin.ext (by show 128 + q.val = l.val; have : l.val = 128 * 1 + q.val := hl; omega))
    | 2, hl =>
      refine (canon_wslabs (outW c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 init init') 1 2 ⟨8 * t.val + b.val, hr⟩ q rfl).trans ((y2_at (kernelRun0_B.sl.r_6 (F := Ideal) c arg1 harg1 arg10 x0) (arg11.view.readCov (end1 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x5 x6 init init') (Rect.unit (s := S512x2048) ![0, 1024] S512x512.size inb_S512x2048_S512x512_0_1024).toLoadRect) (arg12.view.readCov (end2 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x5 x6 init init') (Rect.unit (s := S512x2048) ![0, 1024] S512x512.size inb_S512x2048_S512x512_0_1024).toLoadRect) (View.readAt (Elt Ideal) arg4.view (Rect.unit (s := S2048x512) ![1024, 256] S512x128.size inb_S2048x512_S512x128_1024_256).toLoadRect (harg4.unread x3)) (View.readAt (Elt Ideal) arg5.view (Rect.unit (s := S2048x512) ![1024, 256] S512x128.size inb_S2048x512_S512x128_1024_256).toLoadRect (harg5.unread x4)) (View.readAt (Elt Ideal) arg8.view (Rect.unit (s := S1x512) ![0, 256] S1x128.size inb_S1x512_S1x128_0_256).toLoadRect (harg8.unread x7)) ⟨8 * t.val + b.val, hr⟩ q).trans ?_)
      refine gy_of x0 x1 x2 x3 x4 x5 x6 x7 s s' 2 (by omega) b t q l hl _ _ _ _ _ _ (fun k L hL => ?_) (fun k L hL => ⟨?_, ?_⟩) ?_ ?_
      · exact (congrArg₂ Prod.mk (readC arg11 _ 1024 _ _ k L (by omega)) (readC arg12 _ 1024 _ _ k L (by omega))).trans (hs' L)
      · exact readW arg4 harg4 x3 1024 256 _ k q L l (by omega) (by have : l.val = 128 * 2 + q.val := hl; omega)
      · exact readW arg5 harg5 x4 1024 256 _ k q L l (by omega) (by have : l.val = 128 * 2 + q.val := hl; omega)
      · exact readD arg8 harg8 x7 256 _ q l (by have : l.val = 128 * 2 + q.val := hl; omega)
      · exact hu _ (Fin.ext (by show 256 + q.val = l.val; have : l.val = 128 * 2 + q.val := hl; omega))
    | 3, hl =>
      refine (canon_wslabs (outW c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 init init') 0 3 ⟨8 * t.val + b.val, hr⟩ q rfl).trans ((y3_at (kernelRun0_B.sl.r_6 (F := Ideal) c arg1 harg1 arg10 x0) (arg11.view.readCov (end1 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x5 x6 init init') (Rect.unit (s := S512x2048) ![0, 1536] S512x512.size inb_S512x2048_S512x512_0_1536).toLoadRect) (arg12.view.readCov (end2 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x5 x6 init init') (Rect.unit (s := S512x2048) ![0, 1536] S512x512.size inb_S512x2048_S512x512_0_1536).toLoadRect) (View.readAt (Elt Ideal) arg4.view (Rect.unit (s := S2048x512) ![1536, 384] S512x128.size inb_S2048x512_S512x128_1536_384).toLoadRect (harg4.unread x3)) (View.readAt (Elt Ideal) arg5.view (Rect.unit (s := S2048x512) ![1536, 384] S512x128.size inb_S2048x512_S512x128_1536_384).toLoadRect (harg5.unread x4)) (View.readAt (Elt Ideal) arg8.view (Rect.unit (s := S1x512) ![0, 384] S1x128.size inb_S1x512_S1x128_0_384).toLoadRect (harg8.unread x7)) ⟨8 * t.val + b.val, hr⟩ q).trans ?_)
      refine gy_of x0 x1 x2 x3 x4 x5 x6 x7 s s' 3 (by omega) b t q l hl _ _ _ _ _ _ (fun k L hL => ?_) (fun k L hL => ⟨?_, ?_⟩) ?_ ?_
      · exact (congrArg₂ Prod.mk (readC arg11 _ 1536 _ _ k L (by omega)) (readC arg12 _ 1536 _ _ k L (by omega))).trans (hs' L)
      · exact readW arg4 harg4 x3 1536 384 _ k q L l (by omega) (by have : l.val = 128 * 3 + q.val := hl; omega)
      · exact readW arg5 harg5 x4 1536 384 _ k q L l (by omega) (by have : l.val = 128 * 3 + q.val := hl; omega)
      · exact readD arg8 harg8 x7 384 _ q l (by have : l.val = 128 * 3 + q.val := hl; omega)
      · exact hu _ (Fin.ext (by show 384 + q.val = l.val; have : l.val = 128 * 3 + q.val := hl; omega))
  have hk : (4 * (7 - b.val) + (3 - l.val / 128)) < 32 := by omega
  refine (canon_tiles32 _ ⟨4 * (7 - b.val) + (3 - l.val / 128), hk⟩ t ⟨l.val % 128, by omega⟩ b l (by show b.val = 7 - (4 * (7 - b.val) + (3 - l.val / 128)) / 4; omega) (by show l.val = 128 * (3 - (4 * (7 - b.val) + (3 - l.val / 128)) % 4) + l.val % 128; omega)).trans ((pay83_at _ _ _).trans ?_)
  rw [View.readCov_eq_canon']
  refine (congrArg _ (slab_emb ⟨4 * (7 - b.val) + (3 - l.val / 128), hk⟩ t ⟨l.val % 128, by omega⟩ ⟨l.val / 128, by omega⟩ ⟨8 * t.val + b.val, hr⟩ ?_ ?_)).trans (key ⟨l.val / 128, by omega⟩ ⟨l.val % 128, by omega⟩ ?_)
  · show l.val / 128 = 3 - (4 * (7 - b.val) + (3 - l.val / 128)) % 4; omega
  · show 8 * t.val + b.val = 8 * t.val + (7 - (4 * (7 - b.val) + (3 - l.val / 128)) / 4); omega
  · show l.val = 128 * (l.val / 128) + l.val % 128; omega

end Cert.KernelIdeal.S5

end
-- ==== Proof.S5Case.lean ====
module

public import proofs.«01_k».proof.Proof.S5Block

@[expose] public section

set_option maxRecDepth 16384

noncomputable section

namespace Cert.KernelIdeal.S5

open Cert.KernelIdeal.Gen
open Idealize.ShloMosaic Idealize.ShloMosaic.TcCoe Idealize.ShloMosaic.Tactic Idealize.SL.Sem
open scoped BigOperators

variable (c : Dev nD) (i : grid0.Coords) (arg1 : Memref sig .tc .vmem S8x64x512 .f32) (harg1 : arg1.IsWhole) (arg2 : Memref sig .tc .vmem S512x2048 .bf16) (harg2 : arg2.IsWhole) (arg3 : Memref sig .tc .vmem S512x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x512 .f32) (harg8 : arg8.IsWhole) (arg9 : Memref sig .tc .vmem S8x64x512 .bf16) (harg9 : arg9.IsWhole) (arg10 : Memref sig .tc .vmem S4x512x128 .f32) (harg10 : arg10.IsWhole) (arg11 : Memref sig .tc .vmem S512x2048 .f32) (harg11 : arg11.IsWhole) (arg12 : Memref sig .tc .vmem S512x2048 .f32) (harg12 : arg12.IsWhole) (arg13 : Memref sig .tc .vmem S8x2048 .f32) (harg13 : arg13.IsWhole) (arg14 : Memref sig .tc .vmem S8x2048 .f32) (harg14 : arg14.IsWhole) (arg15 : Memref sig .tc .vmem S4x512x128 .f32) (harg15 : arg15.IsWhole)
  (x0 : Vec Ideal S8x64x512 .f32) (x1 : Vec Ideal S512x2048 .bf16) (x2 : Vec Ideal S512x2048 .bf16) (x3 : Vec Ideal S2048x512 .bf16) (x4 : Vec Ideal S2048x512 .bf16) (x5 : Vec Ideal S1x2048 .f32) (x6 : Vec Ideal S1x2048 .f32) (x7 : Vec Ideal S1x512 .f32) (xs3 : Vec Ideal S8x2048 .f32) (xs4 : Vec Ideal S8x2048 .f32)

/-- Two stores of 1024 lanes, read back. -/
theorem canon_two (W1 W0 : Vec Ideal S8x1024 .f32) (rest : List (View.Piece (Elt Ideal) S8x2048 .f32)) (b : Fin 8) (L : Fin 2048) :
    View.canon (⟨Rect.unit (s := S8x2048) ![0, 1024] S8x1024.size inb_S8x2048_S8x1024_0_1024, W1⟩ :: ⟨Rect.unit (s := S8x2048) ![0, 0] S8x1024.size inb_S8x2048_S8x1024_0_0, W0⟩ :: rest) (ix2 b L)
      = if h : L.val < 1024 then W0 (ix2 b ⟨L.val, h⟩) else W1 (ix2 b ⟨L.val - 1024, by omega⟩) := by
  by_cases h : L.val < 1024
  · rw [dif_pos h]
    refine (View.canon_cons_of_not_mem _ _ fun hm => ?_).trans ?_
    · have := (Rect.mem_set_unit (inb := inb_S8x2048_S8x1024_0_1024)).mp hm 1
      have h1 : 1024 ≤ L.val := this.1
      omega
    · have e : (Rect.unit (s := S8x2048) ![0, 0] S8x1024.size inb_S8x2048_S8x1024_0_0).emb (ix2 (n0 := 8) (n1 := 1024) b ⟨L.val, h⟩) = ix2 b L := by
        funext a; apply Fin.ext; refine (Rect.emb_apply _ _ _).trans ?_
        match a with
        | 0 => show 0 + 1 * b.val = b.val; omega
        | 1 => show 0 + 1 * L.val = L.val; omega
      rw [← e]; exact View.canon_cons_emb _ _ _ _
  · rw [dif_neg h]
    have e : (Rect.unit (s := S8x2048) ![0, 1024] S8x1024.size inb_S8x2048_S8x1024_0_1024).emb (ix2 (n0 := 8) (n1 := 1024) b ⟨L.val - 1024, by omega⟩) = ix2 b L := by
      funext a; apply Fin.ext; refine (Rect.emb_apply _ _ _).trans ?_
      match a with
      | 0 => show 0 + 1 * b.val = b.val; omega
      | 1 => show 1024 + 1 * (L.val - 1024) = L.val; omega
    rw [← e]; exact View.canon_cons_emb _ _ _ _

theorem readS (M : Memref sig .tc .vmem S8x2048 .f32) (h : M.IsWhole) (X : Vec Ideal S8x2048 .f32) (o : ℕ) (inb : ∀ a : Fin 2, (![0, o] : Fin 2 → ℕ) a + S8x1024.size a ≤ S8x2048.size a) (b : Fin 8) (l : Fin 1024) (L : Fin 2048) (hl : L.val = o + l.val) :
    View.readAt (Elt Ideal) M.view (Rect.unit (s := S8x2048) ![0, o] S8x1024.size inb).toLoadRect (h.unread X) (ix2 (n0 := 8) (n1 := 1024) b l) = X (ix2 b L) :=
  (h.readAt_unread X _ _).trans (congrArg X (idx_unit2 ![0, o] inb b l b L (by show b.val = 0 + b.val; omega) hl))

theorem out_B (hc0 : ¬cond0_0 i) : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs3 xs4).1 = outL c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 ((View.readAt (Elt Ideal) arg13.view (Rect.unit (s := S8x2048) ![0, 0] S8x1024.size inb_S8x2048_S8x1024_0_0).toLoadRect (harg13.unread xs3)), (View.readAt (Elt Ideal) arg14.view (Rect.unit (s := S8x2048) ![0, 0] S8x1024.size inb_S8x2048_S8x1024_0_0).toLoadRect (harg14.unread xs4))) ((View.readAt (Elt Ideal) arg13.view (Rect.unit (s := S8x2048) ![0, 1024] S8x1024.size inb_S8x2048_S8x1024_0_1024).toLoadRect (harg13.unread xs3)), (View.readAt (Elt Ideal) arg14.view (Rect.unit (s := S8x2048) ![0, 1024] S8x1024.size inb_S8x2048_S8x1024_0_1024).toLoadRect (harg14.unread xs4))) := by
  sl_kernel_rfl

theorem carry1_B (hc0 : ¬cond0_0 i) : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs3 xs4).2.1 = (⟨Rect.unit (s := S8x2048) ![0, 1024] S8x1024.size inb_S8x2048_S8x1024_0_1024, k0_pay69 (run2 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x5 x6 ((View.readAt (Elt Ideal) arg13.view (Rect.unit (s := S8x2048) ![0, 0] S8x1024.size inb_S8x2048_S8x1024_0_0).toLoadRect (harg13.unread xs3)), (View.readAt (Elt Ideal) arg14.view (Rect.unit (s := S8x2048) ![0, 0] S8x1024.size inb_S8x2048_S8x1024_0_0).toLoadRect (harg14.unread xs4))) ((View.readAt (Elt Ideal) arg13.view (Rect.unit (s := S8x2048) ![0, 1024] S8x1024.size inb_S8x2048_S8x1024_0_1024).toLoadRect (harg13.unread xs3)), (View.readAt (Elt Ideal) arg14.view (Rect.unit (s := S8x2048) ![0, 1024] S8x1024.size inb_S8x2048_S8x1024_0_1024).toLoadRect (harg14.unread xs4))) 64).1.1⟩ :: ⟨Rect.unit (s := S8x2048) ![0, 0] S8x1024.size inb_S8x2048_S8x1024_0_0, k0_pay61 (run1 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x5 x6 ((View.readAt (Elt Ideal) arg13.view (Rect.unit (s := S8x2048) ![0, 0] S8x1024.size inb_S8x2048_S8x1024_0_0).toLoadRect (harg13.unread xs3)), (View.readAt (Elt Ideal) arg14.view (Rect.unit (s := S8x2048) ![0, 0] S8x1024.size inb_S8x2048_S8x1024_0_0).toLoadRect (harg14.unread xs4))) 64).1.1⟩ :: [] : List (View.Piece (Elt Ideal) S8x2048 .f32)) := by
  sl_kernel_rfl

theorem carry2_B (hc0 : ¬cond0_0 i) : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs3 xs4).2.2.1 = (⟨Rect.unit (s := S8x2048) ![0, 1024] S8x1024.size inb_S8x2048_S8x1024_0_1024, k0_pay70 (run2 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x5 x6 ((View.readAt (Elt Ideal) arg13.view (Rect.unit (s := S8x2048) ![0, 0] S8x1024.size inb_S8x2048_S8x1024_0_0).toLoadRect (harg13.unread xs3)), (View.readAt (Elt Ideal) arg14.view (Rect.unit (s := S8x2048) ![0, 0] S8x1024.size inb_S8x2048_S8x1024_0_0).toLoadRect (harg14.unread xs4))) ((View.readAt (Elt Ideal) arg13.view (Rect.unit (s := S8x2048) ![0, 1024] S8x1024.size inb_S8x2048_S8x1024_0_1024).toLoadRect (harg13.unread xs3)), (View.readAt (Elt Ideal) arg14.view (Rect.unit (s := S8x2048) ![0, 1024] S8x1024.size inb_S8x2048_S8x1024_0_1024).toLoadRect (harg14.unread xs4))) 64).1.2⟩ :: ⟨Rect.unit (s := S8x2048) ![0, 0] S8x1024.size inb_S8x2048_S8x1024_0_0, k0_pay62 (run1 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x5 x6 ((View.readAt (Elt Ideal) arg13.view (Rect.unit (s := S8x2048) ![0, 0] S8x1024.size inb_S8x2048_S8x1024_0_0).toLoadRect (harg13.unread xs3)), (View.readAt (Elt Ideal) arg14.view (Rect.unit (s := S8x2048) ![0, 0] S8x1024.size inb_S8x2048_S8x1024_0_0).toLoadRect (harg14.unread xs4))) 64).1.2⟩ :: [] : List (View.Piece (Elt Ideal) S8x2048 .f32)) := by
  sl_kernel_rfl

theorem out_A (hc0 : cond0_0 i) : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).1 = outL c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (kernelRun0_A.sl.v237 (F := Ideal) c arg13, kernelRun0_A.sl.v238 (F := Ideal) c arg14) (kernelRun0_A.sl.v255 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x5 x6, kernelRun0_A.sl.v256 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x5 x6) := by
  sl_kernel_rfl

theorem carry1_A (hc0 : cond0_0 i) : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.1 = (⟨Rect.unit (s := S8x2048) ![0, 1024] S8x1024.size inb_S8x2048_S8x1024_0_1024, k0_pay69 (run2 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x5 x6 (kernelRun0_A.sl.v237 (F := Ideal) c arg13, kernelRun0_A.sl.v238 (F := Ideal) c arg14) (kernelRun0_A.sl.v255 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x5 x6, kernelRun0_A.sl.v256 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x5 x6) 64).1.1⟩ :: ⟨Rect.unit (s := S8x2048) ![0, 0] S8x1024.size inb_S8x2048_S8x1024_0_0, k0_pay61 (run1 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x5 x6 (kernelRun0_A.sl.v237 (F := Ideal) c arg13, kernelRun0_A.sl.v238 (F := Ideal) c arg14) 64).1.1⟩ :: kernelRun0_A.sl.HS3_1 (F := Ideal) : List (View.Piece (Elt Ideal) S8x2048 .f32)) := by
  sl_kernel_rfl

theorem carry2_A (hc0 : cond0_0 i) : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.1 = (⟨Rect.unit (s := S8x2048) ![0, 1024] S8x1024.size inb_S8x2048_S8x1024_0_1024, k0_pay70 (run2 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x5 x6 (kernelRun0_A.sl.v237 (F := Ideal) c arg13, kernelRun0_A.sl.v238 (F := Ideal) c arg14) (kernelRun0_A.sl.v255 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x5 x6, kernelRun0_A.sl.v256 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x5 x6) 64).1.2⟩ :: ⟨Rect.unit (s := S8x2048) ![0, 0] S8x1024.size inb_S8x2048_S8x1024_0_0, k0_pay62 (run1 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x5 x6 (kernelRun0_A.sl.v237 (F := Ideal) c arg13, kernelRun0_A.sl.v238 (F := Ideal) c arg14) 64).1.2⟩ :: kernelRun0_A.sl.HS4_1 (F := Ideal) : List (View.Piece (Elt Ideal) S8x2048 .f32)) := by
  sl_kernel_rfl

theorem pay61_at (v : Vec Ideal S8x1024 .f32) (b : Fin 8) (l : Fin 1024) : k0_pay61 (F := Ideal) v (ix2 b l) = v (ix2 b l) := by
  pointwise [k0_pay61]

theorem pay62_at (v : Vec Ideal S8x1024 .f32) (b : Fin 8) (l : Fin 1024) : k0_pay62 (F := Ideal) v (ix2 b l) = v (ix2 b l) := by
  pointwise [k0_pay62]

theorem pay69_at (v : Vec Ideal S8x1024 .f32) (b : Fin 8) (l : Fin 1024) : k0_pay69 (F := Ideal) v (ix2 b l) = v (ix2 b l) := by
  pointwise [k0_pay69]

theorem pay70_at (v : Vec Ideal S8x1024 .f32) (b : Fin 8) (l : Fin 1024) : k0_pay70 (F := Ideal) v (ix2 b l) = v (ix2 b l) := by
  pointwise [k0_pay70]

theorem pay3_at (b : Fin 8) (L : Fin 2048) : k0_pay3 (F := Ideal) (ix2 b L) = 0 := by
  pointwise [k0_pay3]

theorem pay4_at (b : Fin 8) (L : Fin 2048) : k0_pay4 (F := Ideal) (ix2 b L) = 0 := by
  pointwise [k0_pay4]

theorem whole_at (W : Vec Ideal S8x2048 .f32) (b : Fin 8) (L : Fin 2048) :
    View.canon ([⟨Rect.unit (s := S8x2048) ![0, 0] S8x2048.size inb_S8x2048_S8x2048_0_0, W⟩] : List (View.Piece (Elt Ideal) S8x2048 .f32)) (ix2 b L) = W (ix2 b L) := by
  have e : (Rect.unit (s := S8x2048) ![0, 0] S8x2048.size inb_S8x2048_S8x2048_0_0).emb (ix2 (n0 := 8) (n1 := 2048) b L) = ix2 b L := by
    funext a; apply Fin.ext; refine (Rect.emb_apply _ _ _).trans ?_
    match a with
    | 0 => show 0 + 1 * b.val = b.val; omega
    | 1 => show 0 + 1 * L.val = L.val; omega
  refine (congrArg _ e.symm).trans (View.canon_cons_emb _ _ _ _)

theorem off_left (W : Vec Ideal S8x1024 .f32) (rest : List (View.Piece (Elt Ideal) S8x2048 .f32)) (b : Fin 8) (L : Fin 2048) (hL : 1024 ≤ L.val) :
    View.canon (⟨Rect.unit (s := S8x2048) ![0, 0] S8x1024.size inb_S8x2048_S8x1024_0_0, W⟩ :: rest) (ix2 b L) = View.canon rest (ix2 b L) := by
  refine View.canon_cons_of_not_mem _ _ fun hm => ?_
  have := (Rect.mem_set_unit (inb := inb_S8x2048_S8x1024_0_0)).mp hm 1
  have h1 : L.val < 0 + 1024 := this.2
  omega

theorem readCS (M : Memref sig .tc .vmem S8x2048 .f32) (H : List (View.Piece (Elt Ideal) S8x2048 .f32)) (o : ℕ) (inb : ∀ a : Fin 2, (![0, o] : Fin 2 → ℕ) a + S8x1024.size a ≤ S8x2048.size a) (b : Fin 8) (l : Fin 1024) (L : Fin 2048) (hl : L.val = o + l.val) :
    M.view.readCov H (Rect.unit (s := S8x2048) ![0, o] S8x1024.size inb).toLoadRect (ix2 (n0 := 8) (n1 := 1024) b l) = View.canon H (ix2 b L) := by
  rw [View.readCov_eq_canon']
  exact congrArg _ (idx_unit2 ![0, o] inb b l b L (by show b.val = 0 + b.val; omega) hl)

theorem init1_B (b : Fin 8) (l : Fin 1024) (L : Fin 2048) (hl : L.val = l.val) : (((View.readAt (Elt Ideal) arg13.view (Rect.unit (s := S8x2048) ![0, 0] S8x1024.size inb_S8x2048_S8x1024_0_0).toLoadRect (harg13.unread xs3)), (View.readAt (Elt Ideal) arg14.view (Rect.unit (s := S8x2048) ![0, 0] S8x1024.size inb_S8x2048_S8x1024_0_0).toLoadRect (harg14.unread xs4))) : Vec Ideal S8x1024 .f32 × Vec Ideal S8x1024 .f32).1 (ix2 b l) = (xs3 : Vec Ideal S8x2048 .f32) (ix2 b L) ∧ (((View.readAt (Elt Ideal) arg13.view (Rect.unit (s := S8x2048) ![0, 0] S8x1024.size inb_S8x2048_S8x1024_0_0).toLoadRect (harg13.unread xs3)), (View.readAt (Elt Ideal) arg14.view (Rect.unit (s := S8x2048) ![0, 0] S8x1024.size inb_S8x2048_S8x1024_0_0).toLoadRect (harg14.unread xs4))) : Vec Ideal S8x1024 .f32 × Vec Ideal S8x1024 .f32).2 (ix2 b l) = (xs4 : Vec Ideal S8x2048 .f32) (ix2 b L) := by
  exact ⟨readS arg13 harg13 xs3 0 _ b l L (by omega), readS arg14 harg14 xs4 0 _ b l L (by omega)⟩

theorem init2_B (b : Fin 8) (l : Fin 1024) (L : Fin 2048) (hl : L.val = 1024 + l.val) : (((View.readAt (Elt Ideal) arg13.view (Rect.unit (s := S8x2048) ![0, 1024] S8x1024.size inb_S8x2048_S8x1024_0_1024).toLoadRect (harg13.unread xs3)), (View.readAt (Elt Ideal) arg14.view (Rect.unit (s := S8x2048) ![0, 1024] S8x1024.size inb_S8x2048_S8x1024_0_1024).toLoadRect (harg14.unread xs4))) : Vec Ideal S8x1024 .f32 × Vec Ideal S8x1024 .f32).1 (ix2 b l) = (xs3 : Vec Ideal S8x2048 .f32) (ix2 b L) ∧ (((View.readAt (Elt Ideal) arg13.view (Rect.unit (s := S8x2048) ![0, 1024] S8x1024.size inb_S8x2048_S8x1024_0_1024).toLoadRect (harg13.unread xs3)), (View.readAt (Elt Ideal) arg14.view (Rect.unit (s := S8x2048) ![0, 1024] S8x1024.size inb_S8x2048_S8x1024_0_1024).toLoadRect (harg14.unread xs4))) : Vec Ideal S8x1024 .f32 × Vec Ideal S8x1024 .f32).2 (ix2 b l) = (xs4 : Vec Ideal S8x2048 .f32) (ix2 b L) := by
  exact ⟨readS arg13 harg13 xs3 1024 _ b l L hl, readS arg14 harg14 xs4 1024 _ b l L hl⟩

theorem value_B (hc0 : ¬cond0_0 i) (b : Fin 8) (t : Fin 64) (l : Fin 512) :
    out0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs3 xs4 (ix3 b t l) = act (gy x0 x1 x2 x3 x4 x5 x6 x7 xs3 xs4 b t l) := by
  unfold out0_B_8
  rw [View.read_writes_junk_eq_canon, out_B]
  exact outL_at c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 xs3 xs4 ((View.readAt (Elt Ideal) arg13.view (Rect.unit (s := S8x2048) ![0, 0] S8x1024.size inb_S8x2048_S8x1024_0_0).toLoadRect (harg13.unread xs3)), (View.readAt (Elt Ideal) arg14.view (Rect.unit (s := S8x2048) ![0, 0] S8x1024.size inb_S8x2048_S8x1024_0_0).toLoadRect (harg14.unread xs4))) ((View.readAt (Elt Ideal) arg13.view (Rect.unit (s := S8x2048) ![0, 1024] S8x1024.size inb_S8x2048_S8x1024_0_1024).toLoadRect (harg13.unread xs3)), (View.readAt (Elt Ideal) arg14.view (Rect.unit (s := S8x2048) ![0, 1024] S8x1024.size inb_S8x2048_S8x1024_0_1024).toLoadRect (harg14.unread xs4))) (fun b l L hl => init1_B arg13 harg13 arg14 harg14 xs3 xs4 b l L hl) (fun b l L hl => init2_B arg13 harg13 arg14 harg14 xs3 xs4 b l L hl) b t l

theorem state1_B (hc0 : ¬cond0_0 i) (b : Fin 8) (L : Fin 2048) :
    (sout0_B_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs3 xs4 (ix2 b L), sout0_B_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs3 xs4 (ix2 b L)) = gs x0 x1 x2 x5 x6 xs3 xs4 b L 64 := by
  obtain ⟨-, k1, k2⟩ := loops c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x5 x6 xs3 xs4 ((View.readAt (Elt Ideal) arg13.view (Rect.unit (s := S8x2048) ![0, 0] S8x1024.size inb_S8x2048_S8x1024_0_0).toLoadRect (harg13.unread xs3)), (View.readAt (Elt Ideal) arg14.view (Rect.unit (s := S8x2048) ![0, 0] S8x1024.size inb_S8x2048_S8x1024_0_0).toLoadRect (harg14.unread xs4))) ((View.readAt (Elt Ideal) arg13.view (Rect.unit (s := S8x2048) ![0, 1024] S8x1024.size inb_S8x2048_S8x1024_0_1024).toLoadRect (harg13.unread xs3)), (View.readAt (Elt Ideal) arg14.view (Rect.unit (s := S8x2048) ![0, 1024] S8x1024.size inb_S8x2048_S8x1024_0_1024).toLoadRect (harg14.unread xs4))) (fun b l L hl => init1_B arg13 harg13 arg14 harg14 xs3 xs4 b l L hl) (fun b l L hl => init2_B arg13 harg13 arg14 harg14 xs3 xs4 b l L hl)
  refine (congrArg₂ Prod.mk
    ((congrFun (View.read_writes_junk_eq_canon _ _) _).trans ((congrArg (fun H => View.canon H (ix2 b L)) (carry1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 xs3 xs4 hc0)).trans (canon_two _ _ _ b L)))
    ((congrFun (View.read_writes_junk_eq_canon _ _) _).trans ((congrArg (fun H => View.canon H (ix2 b L)) (carry2_B c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 xs3 xs4 hc0)).trans (canon_two _ _ _ b L)))).trans ?_
  by_cases h : L.val < 1024
  · rw [dif_pos h, dif_pos h, pay61_at, pay62_at]
    exact k1 b ⟨L.val, h⟩ L rfl
  · rw [dif_neg h, dif_neg h, pay69_at, pay70_at]
    exact k2 b ⟨L.val - 1024, by omega⟩ L (by show L.val = 1024 + (L.val - 1024); omega)

theorem init1_A (b : Fin 8) (l : Fin 1024) (L : Fin 2048) (hl : L.val = l.val) : ((kernelRun0_A.sl.v237 (F := Ideal) c arg13, kernelRun0_A.sl.v238 (F := Ideal) c arg14) : Vec Ideal S8x1024 .f32 × Vec Ideal S8x1024 .f32).1 (ix2 b l) = ((fun _ => 0) : Vec Ideal S8x2048 .f32) (ix2 b L) ∧ ((kernelRun0_A.sl.v237 (F := Ideal) c arg13, kernelRun0_A.sl.v238 (F := Ideal) c arg14) : Vec Ideal S8x1024 .f32 × Vec Ideal S8x1024 .f32).2 (ix2 b l) = ((fun _ => 0) : Vec Ideal S8x2048 .f32) (ix2 b L) := by
  exact ⟨(readCS arg13 _ 0 _ b l L (by omega)).trans ((whole_at _ b L).trans (pay3_at b L)), (readCS arg14 _ 0 _ b l L (by omega)).trans ((whole_at _ b L).trans (pay4_at b L))⟩

theorem init2_A (b : Fin 8) (l : Fin 1024) (L : Fin 2048) (hl : L.val = 1024 + l.val) : ((kernelRun0_A.sl.v255 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x5 x6, kernelRun0_A.sl.v256 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x5 x6) : Vec Ideal S8x1024 .f32 × Vec Ideal S8x1024 .f32).1 (ix2 b l) = ((fun _ => 0) : Vec Ideal S8x2048 .f32) (ix2 b L) ∧ ((kernelRun0_A.sl.v255 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x5 x6, kernelRun0_A.sl.v256 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x5 x6) : Vec Ideal S8x1024 .f32 × Vec Ideal S8x1024 .f32).2 (ix2 b l) = ((fun _ => 0) : Vec Ideal S8x2048 .f32) (ix2 b L) := by
  exact ⟨(readCS arg13 _ 1024 _ b l L hl).trans ((off_left _ _ b L (by omega)).trans ((whole_at _ b L).trans (pay3_at b L))), (readCS arg14 _ 1024 _ b l L hl).trans ((off_left _ _ b L (by omega)).trans ((whole_at _ b L).trans (pay4_at b L)))⟩

theorem value_A (hc0 : cond0_0 i) (b : Fin 8) (t : Fin 64) (l : Fin 512) :
    out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 (ix3 b t l) = act (gy x0 x1 x2 x3 x4 x5 x6 x7 (fun _ => 0) (fun _ => 0) b t l) := by
  unfold out0_A_8
  rw [View.read_writes_junk_eq_canon, out_A]
  exact outL_at c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (fun _ => 0) (fun _ => 0) (kernelRun0_A.sl.v237 (F := Ideal) c arg13, kernelRun0_A.sl.v238 (F := Ideal) c arg14) (kernelRun0_A.sl.v255 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x5 x6, kernelRun0_A.sl.v256 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x5 x6) (fun b l L hl => init1_A c arg13 arg14 b l L hl) (fun b l L hl => init2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x5 x6 b l L hl) b t l

theorem state1_A (hc0 : cond0_0 i) (b : Fin 8) (L : Fin 2048) :
    (sout0_A_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 (ix2 b L), sout0_A_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 (ix2 b L)) = gs x0 x1 x2 x5 x6 (fun _ => 0) (fun _ => 0) b L 64 := by
  obtain ⟨-, k1, k2⟩ := loops c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x5 x6 (fun _ => 0) (fun _ => 0) (kernelRun0_A.sl.v237 (F := Ideal) c arg13, kernelRun0_A.sl.v238 (F := Ideal) c arg14) (kernelRun0_A.sl.v255 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x5 x6, kernelRun0_A.sl.v256 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x5 x6) (fun b l L hl => init1_A c arg13 arg14 b l L hl) (fun b l L hl => init2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x5 x6 b l L hl)
  refine (congrArg₂ Prod.mk
    ((congrFun (View.read_writes_junk_eq_canon _ _) _).trans ((congrArg (fun H => View.canon H (ix2 b L)) (carry1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 hc0)).trans (canon_two _ _ _ b L)))
    ((congrFun (View.read_writes_junk_eq_canon _ _) _).trans ((congrArg (fun H => View.canon H (ix2 b L)) (carry2_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 hc0)).trans (canon_two _ _ _ b L)))).trans ?_
  by_cases h : L.val < 1024
  · rw [dif_pos h, dif_pos h, pay61_at, pay62_at]
    exact k1 b ⟨L.val, h⟩ L rfl
  · rw [dif_neg h, dif_neg h, pay69_at, pay70_at]
    exact k2 b ⟨L.val - 1024, by omega⟩ L (by show L.val = 1024 + (L.val - 1024); omega)

end Cert.KernelIdeal.S5

end
-- ==== Proof.S5Host.lean ====
module

public import proofs.«01_k».proof.Proof.S5Case

@[expose] public section

set_option maxRecDepth 16384

noncomputable section

namespace Cert.KernelIdeal.S5

open Cert.KernelIdeal.Gen
open Idealize.ShloMosaic Idealize.ShloMosaic.TcCoe Idealize.ShloMosaic.Tactic Idealize.SL.Sem Idealize.ShloMosaic.StableHlo
open scoped BigOperators

/-- The identity matrix the host builds. -/
def eye : FVec Ideal S32x32 .f32 := uitofp .f32 (cmpi .eq (addi (iotaInDim S32x32 32 0) (broadcastInDim S32x32 ![] bcast_S_S32x32 (constantI S_ 32 0#32))) (iotaInDim S32x32 32 1))

theorem eye_at (g h : Fin 32) : eye (ix2 g h) = if g = h then 1 else 0 := by
  have e : eye (ix2 g h) = (((BitVec.ofBool (BitVec.ofNat 32 g.val + 0#32 == BitVec.ofNat 32 h.val)).toNat : ℝ) : EReal) := rfl
  rw [e, BitVec.add_zero]
  by_cases hgh : g = h
  · subst hgh; simp
  · have : ¬ (BitVec.ofNat 32 g.val = BitVec.ofNat 32 h.val) := by
      intro hh
      have := congrArg BitVec.toNat hh
      simp at this
      rw [Nat.mod_eq_of_lt (by omega), Nat.mod_eq_of_lt (by omega)] at this
      exact hgh (Fin.ext this)
    simp [hgh, this]

/-- The blocks of an input matrix, on the diagonal. -/
def diagB (x : FVec Ideal S32x16x64 .f32) : FVec Ideal S512x2048 .bf16 :=
  truncf .bf16 (shapeCast S512x2048 (mulf (broadcastInDim S32x16x32x64 ![0, 1, 2, 3] bcast_S32x16x1x64_S32x16x32x64_0_1_2_3 (broadcastInDim S32x16x1x64 ![0, 1, 3] bcast_S32x16x64_S32x16x1x64_0_1_3 x))
    (broadcastInDim S32x16x32x64 ![0, 1, 2, 3] bcast_S32x1x32x1_S32x16x32x64_0_1_2_3 (broadcastInDim S32x1x32x1 ![0, 2] bcast_S32x32_S32x1x32x1_0_2 eye))) shapeCasts_S32x16x32x64_S512x2048) bitsLt_bf16_f32

/-- The blocks of an output matrix, transposed, on the diagonal. -/
def diagC (x : FVec Ideal S32x16x64 .f32) : FVec Ideal S2048x512 .bf16 :=
  truncf .bf16 (shapeCast S2048x512 (mulf (broadcastInDim S32x64x32x16 ![0, 1, 2, 3] bcast_S32x64x1x16_S32x64x32x16_0_1_2_3 (broadcastInDim S32x64x1x16 ![0, 1, 3] bcast_S32x64x16_S32x64x1x16_0_1_3 (transpose S32x64x16 [0, 2, 1] x transposes_S32x16x64_S32x64x16_0_2_1)))
    (broadcastInDim S32x64x32x16 ![0, 1, 2, 3] bcast_S32x1x32x1_S32x64x32x16_0_1_2_3 (broadcastInDim S32x1x32x1 ![0, 2] bcast_S32x32_S32x1x32x1_0_2 eye))) shapeCasts_S32x64x32x16_S2048x512) bitsLt_bf16_f32

theorem diagB_at (x : FVec Ideal S32x16x64 .f32) (i : Fin 512) (L : Fin 2048) :
    diagB x (ix2 i L) = x (ix3 ⟨i.val / 16, by omega⟩ ⟨i.val % 16, by omega⟩ ⟨L.val % 64, by omega⟩) * eye (ix2 ⟨i.val / 16, by omega⟩ ⟨L.val / 64, by omega⟩) := by
  pointwise [diagB]

theorem diagC_at (x : FVec Ideal S32x16x64 .f32) (L : Fin 2048) (l : Fin 512) :
    diagC x (ix2 L l) = x (ix3 ⟨L.val / 64, by omega⟩ ⟨l.val % 16, by omega⟩ ⟨L.val % 64, by omega⟩) * eye (ix2 ⟨L.val / 64, by omega⟩ ⟨l.val / 16, by omega⟩) := by
  pointwise [diagC]

variable (m : (ℓ : Loc nD τ sig) → Buf (Elt Ideal) ℓ)

/-- The arguments, by name. -/
abbrev a0 (c : Dev nD) : FVec Ideal S8x2048x2048 .f32 := m ((c : Thread nD τ).loc main_arg0)
abbrev a1 (c : Dev nD) : FVec Ideal S32x16x64 .f32 := m ((c : Thread nD τ).loc main_arg1)
abbrev a2 (c : Dev nD) : FVec Ideal S32x16x64 .f32 := m ((c : Thread nD τ).loc main_arg2)
abbrev a3 (c : Dev nD) : FVec Ideal S32x16x64 .f32 := m ((c : Thread nD τ).loc main_arg3)
abbrev a4 (c : Dev nD) : FVec Ideal S32x16x64 .f32 := m ((c : Thread nD τ).loc main_arg4)
abbrev a5 (c : Dev nD) : FVec Ideal S32x1x64 .f32 := m ((c : Thread nD τ).loc main_arg5)
abbrev a6 (c : Dev nD) : FVec Ideal S32x1x64 .f32 := m ((c : Thread nD τ).loc main_arg6)
abbrev a7 (c : Dev nD) : FVec Ideal S512 .f32 := m ((c : Thread nD τ).loc main_arg7)

theorem V12 (c : Dev nD) : V m c main_v12 = diagB (a1 m c) := by
  unfold V; after_results; try rfl
theorem V25 (c : Dev nD) : V m c main_v25 = diagB (a2 m c) := by
  unfold V; after_results; try rfl
theorem V39 (c : Dev nD) : V m c main_v39 = diagC (a3 m c) := by
  unfold V; after_results; try rfl
theorem V53 (c : Dev nD) : V m c main_v53 = diagC (a4 m c) := by
  unfold V; after_results; try rfl
theorem V54 (c : Dev nD) : V m c main_v54 = shapeCast S1x2048 (a5 m c) shapeCasts_S32x1x64_S1x2048 := by
  unfold V; after_results; try rfl
theorem V55 (c : Dev nD) : V m c main_v55 = shapeCast S1x2048 (a6 m c) shapeCasts_S32x1x64_S1x2048 := by
  unfold V; after_results; try rfl
theorem V56 (c : Dev nD) : V m c main_v56 = broadcastInDim S1x512 ![1] bcast_S512_S1x512_1 (a7 m c) := by
  unfold V; after_results; try rfl

theorem idx : ∀ t : Fin cfg0.N, win0_0.index t = ![0, t.val, 1] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, t.val, 0] :=
  (by decide +kernel : ∀ t : Fin grid0.N, _)

theorem blk0_at (c : Dev nD) (t : Fin cfg0.N) (b : Fin 8) (s : Fin 64) (l : Fin 512) (k : Fin 2048) (hk : k.val = 64 * t.val + s.val) :
    iblk m c 0 t (ix3 (n0 := 8) (n1 := 64) (n2 := 512) b s l) = a0 m c (ix3 b k ⟨512 + l.val, by omega⟩) := by
  blk_point [iblk, V, idx t]
theorem blk1_at (c : Dev nD) (t : Fin cfg0.N) (i : Fin 512) (L : Fin 2048) : iblk m c 1 t (ix2 (n0 := 512) (n1 := 2048) i L) = diagB (a1 m c) (ix2 i L) := by
  rw [← V12]
  refine congrArg (V m c main_v12) ?_
  blk_ext [idx t]
theorem blk2_at (c : Dev nD) (t : Fin cfg0.N) (i : Fin 512) (L : Fin 2048) : iblk m c 2 t (ix2 (n0 := 512) (n1 := 2048) i L) = diagB (a2 m c) (ix2 i L) := by
  rw [← V25]
  refine congrArg (V m c main_v25) ?_
  blk_ext [idx t]
theorem blk3_at (c : Dev nD) (t : Fin cfg0.N) (L : Fin 2048) (l : Fin 512) : iblk m c 3 t (ix2 (n0 := 2048) (n1 := 512) L l) = diagC (a3 m c) (ix2 L l) := by
  rw [← V39]
  refine congrArg (V m c main_v39) ?_
  blk_ext [idx t]
theorem blk4_at (c : Dev nD) (t : Fin cfg0.N) (L : Fin 2048) (l : Fin 512) : iblk m c 4 t (ix2 (n0 := 2048) (n1 := 512) L l) = diagC (a4 m c) (ix2 L l) := by
  rw [← V53]
  refine congrArg (V m c main_v53) ?_
  blk_ext [idx t]
theorem blk5_at (c : Dev nD) (t : Fin cfg0.N) (L : Fin 2048) : iblk m c 5 t (ix2 (n0 := 1) (n1 := 2048) 0 L) = a5 m c (ix3 ⟨L.val / 64, by omega⟩ 0 ⟨L.val % 64, by omega⟩) := by
  blk_point [iblk, V, idx t]
theorem blk6_at (c : Dev nD) (t : Fin cfg0.N) (L : Fin 2048) : iblk m c 6 t (ix2 (n0 := 1) (n1 := 2048) 0 L) = a6 m c (ix3 ⟨L.val / 64, by omega⟩ 0 ⟨L.val % 64, by omega⟩) := by
  blk_point [iblk, V, idx t]
theorem blk7_at (c : Dev nD) (t : Fin cfg0.N) (l : Fin 512) : iblk m c 7 t (ix2 (n0 := 1) (n1 := 512) 0 l) = a7 m c (ix1 l) := by
  blk_point [iblk, V, idx t]

end Cert.KernelIdeal.S5

end
-- ==== Proof.S5Value.lean ====
module

public import proofs.«01_k».proof.Proof.S5Host

@[expose] public section

set_option maxRecDepth 16384

noncomputable section

namespace Cert.KernelIdeal.S5

open Cert.KernelIdeal.Gen
open Idealize.ShloMosaic Idealize.ShloMosaic.TcCoe Idealize.ShloMosaic.Tactic Idealize.SL.Sem
open scoped BigOperators

/-- A sum with one tile that is not zero. -/
theorem sum_one_tile {N : ℕ} (J T : ℕ) (hN : J * T = N) (f : Fin N → EReal) (g : Fin T → EReal) (j0 : Fin J)
    (h : ∀ (k : Fin N) (j : Fin J) (i : Fin T), k.val = j.val * T + i.val → f k = if j = j0 then g i else 0) :
    ∑ k : Fin N, f k = ∑ i : Fin T, g i := by
  rw [Fin.sum_univ_tiles J T hN f, Finset.sum_eq_single j0]
  · exact Finset.sum_congr rfl fun i _ => (h _ j0 i rfl).trans (if_pos rfl)
  · intro j _ hj
    exact Finset.sum_eq_zero fun i _ => (h _ j i rfl).trans (if_neg hj)
  · exact fun hn => absurd (Finset.mem_univ _) hn

section
variable (z : FVec Ideal S8x2048x2048 .f32) (B B' C C' : FVec Ideal S32x16x64 .f32) (a a' : FVec Ideal S32x1x64 .f32) (d : FVec Ideal S512 .f32)

/-- The recurrence's input at a step. -/
def rx (b : Fin 8) (g : Fin 32) (n : Fin 64) (k : ℕ) : EReal :=
  if h : k < 2048 then ∑ i : Fin 16, z (ix3 b ⟨k, h⟩ ⟨512 + (16 * g.val + i.val), by omega⟩) * B (ix3 g i n) else 0

/-- The state after `k` steps. -/
def rs (b : Fin 8) (g : Fin 32) (n : Fin 64) (k : ℕ) : EReal × EReal :=
  lin (a (ix3 g 0 n)) (a' (ix3 g 0 n)) (rx z B b g n) (rx z B' b g n) (0, 0) k

/-- The read-out of a step. -/
def ry (b : Fin 8) (t : Fin 2048) (l : Fin 512) : EReal :=
  ∑ n : Fin 64, (rs z B B' a a' b ⟨l.val / 16, by omega⟩ n (t.val + 1)).1 * C (ix3 ⟨l.val / 16, by omega⟩ ⟨l.val % 16, by omega⟩ n)
    - ∑ n : Fin 64, (rs z B B' a a' b ⟨l.val / 16, by omega⟩ n (t.val + 1)).2 * C' (ix3 ⟨l.val / 16, by omega⟩ ⟨l.val % 16, by omega⟩ n)
    + d (ix1 l) * z (ix3 b t ⟨512 + l.val, by omega⟩)

/-- The whole result. -/
def REF : FVec Ideal S8x2048x512 .bf16 := fun y => act (ry z B B' C C' a a' d (y 0) (y 1) (y 2))

theorem rx_tile (b : Fin 8) (L : Fin 2048) (k : Fin 2048) (f : Fin 128 → EReal)
    (hf : ∀ j : Fin 128, f j = z (ix3 b k ⟨512 + (128 * (L.val / 512) + j.val), by omega⟩) * diagB B (ix2 ⟨128 * (L.val / 512) + j.val, by omega⟩ L)) :
    ∑ j : Fin 128, f j = rx z B b ⟨L.val / 64, by omega⟩ ⟨L.val % 64, by omega⟩ k.val := by
  unfold rx
  rw [dif_pos k.isLt]
  refine sum_one_tile 8 16 rfl f _ ⟨L.val / 64 % 8, by omega⟩ fun k' j i hk => ?_
  rw [hf, diagB_at, eye_at]
  by_cases hj : j = ⟨L.val / 64 % 8, by omega⟩
  · have hj' : j.val = L.val / 64 % 8 := congrArg Fin.val hj
    have e1 : (⟨(128 * (L.val / 512) + k'.val) / 16, by omega⟩ : Fin 32) = ⟨L.val / 64, by omega⟩ := Fin.ext (by show (128 * (L.val / 512) + k'.val) / 16 = L.val / 64; omega)
    have e2 : (⟨(128 * (L.val / 512) + k'.val) % 16, by omega⟩ : Fin 16) = i := Fin.ext (by show (128 * (L.val / 512) + k'.val) % 16 = i.val; omega)
    have e3 : (⟨512 + (128 * (L.val / 512) + k'.val), by omega⟩ : Fin 2048) = ⟨512 + (16 * (L.val / 64) + i.val), by omega⟩ := Fin.ext (by show 512 + (128 * (L.val / 512) + k'.val) = 512 + (16 * (L.val / 64) + i.val); omega)
    rw [if_pos e1, if_pos hj, mul_one, e1, e2, e3]
  · have e1 : ¬ ((⟨(128 * (L.val / 512) + k'.val) / 16, by omega⟩ : Fin 32) = ⟨L.val / 64, by omega⟩) := by
      intro e
      have e' : (128 * (L.val / 512) + k'.val) / 16 = L.val / 64 := congrArg Fin.val e
      exact hj (Fin.ext (by show j.val = L.val / 64 % 8; omega))
    rw [if_neg e1, if_neg hj, mul_zero, mul_zero]

theorem ry_tile (l : Fin 512) (s : Fin 2048 → EReal) (f : Fin 512 → EReal)
    (hf : ∀ k : Fin 512, f k = s ⟨512 * (l.val / 128) + k.val, by omega⟩ * diagC C (ix2 ⟨512 * (l.val / 128) + k.val, by omega⟩ l)) :
    ∑ k : Fin 512, f k = ∑ n : Fin 64, s ⟨64 * (l.val / 16) + n.val, by omega⟩ * C (ix3 ⟨l.val / 16, by omega⟩ ⟨l.val % 16, by omega⟩ n) := by
  refine sum_one_tile 8 64 rfl f _ ⟨l.val / 16 % 8, by omega⟩ fun k' j i hk => ?_
  rw [hf, diagC_at, eye_at]
  by_cases hj : j = ⟨l.val / 16 % 8, by omega⟩
  · have hj' : j.val = l.val / 16 % 8 := congrArg Fin.val hj
    have e1 : (⟨(512 * (l.val / 128) + k'.val) / 64, by omega⟩ : Fin 32) = ⟨l.val / 16, by omega⟩ := Fin.ext (by show (512 * (l.val / 128) + k'.val) / 64 = l.val / 16; omega)
    have e2 : (⟨(512 * (l.val / 128) + k'.val) % 64, by omega⟩ : Fin 64) = i := Fin.ext (by show (512 * (l.val / 128) + k'.val) % 64 = i.val; omega)
    have e3 : (⟨512 * (l.val / 128) + k'.val, by omega⟩ : Fin 2048) = ⟨64 * (l.val / 16) + i.val, by omega⟩ := Fin.ext (by show 512 * (l.val / 128) + k'.val = 64 * (l.val / 16) + i.val; omega)
    rw [if_pos e1, if_pos hj, mul_one, e1, e2, e3]
  · have e1 : ¬ ((⟨(512 * (l.val / 128) + k'.val) / 64, by omega⟩ : Fin 32) = ⟨l.val / 16, by omega⟩) := by
      intro e
      have e' : (512 * (l.val / 128) + k'.val) / 64 = l.val / 16 := congrArg Fin.val e
      exact hj (Fin.ext (by show j.val = l.val / 16 % 8; omega))
    rw [if_neg e1, if_neg hj, mul_zero, mul_zero]

end

variable (m : (ℓ : Loc nD τ sig) → Buf (Elt Ideal) ℓ)

/-- The state of the whole run, from the arguments. -/
abbrev gst (c : Dev nD) (b : Fin 8) (L : Fin 2048) (k : ℕ) : EReal × EReal :=
  rs (a0 m c) (a1 m c) (a2 m c) (a5 m c) (a6 m c) b ⟨L.val / 64, by omega⟩ ⟨L.val % 64, by omega⟩ k

theorem lt32 (t : Fin cfg0.N) : t.val < 32 := lt_of_lt_of_eq t.isLt (by decide)

/-- The steps of one block continue those of the blocks before it. -/
theorem gs_eq (c : Dev nD) (t : Fin cfg0.N) (s s' : Vec Ideal S8x2048 .f32) (b : Fin 8) (L : Fin 2048)
    (hs : (s (ix2 b L), s' (ix2 b L)) = gst m c b L (64 * t.val)) (n : ℕ) (hn : n ≤ 64) :
    gs (iblk m c 0 t) (iblk m c 1 t) (iblk m c 2 t) (iblk m c 5 t) (iblk m c 6 t) s s' b L n = gst m c b L (64 * t.val + n) := by
  have ht := lt32 t
  unfold gs
  rw [hs]
  unfold gst rs
  rw [lin_add, blk5_at, blk6_at]
  refine lin_congr _ _ _ _ _ _ _ n fun j hj => ?_
  have hj' : j < 64 := by omega
  constructor
  · unfold gx; rw [dif_pos hj']
    exact rx_tile (a0 m c) (a1 m c) b L ⟨64 * t.val + j, by omega⟩ _ fun k => congrArg₂ (· * ·) ((blk0_at m c t b ⟨j, hj'⟩ _ ⟨64 * t.val + j, by omega⟩ rfl)) (blk1_at m c t _ L)
  · unfold gx; rw [dif_pos hj']
    exact rx_tile (a0 m c) (a2 m c) b L ⟨64 * t.val + j, by omega⟩ _ fun k => congrArg₂ (· * ·) ((blk0_at m c t b ⟨j, hj'⟩ _ ⟨64 * t.val + j, by omega⟩ rfl)) (blk2_at m c t _ L)

/-- The read-out of a block's steps is the whole run's. -/
theorem gy_eq (c : Dev nD) (t : Fin cfg0.N) (s s' : Vec Ideal S8x2048 .f32)
    (hs : ∀ (b : Fin 8) (L : Fin 2048), (s (ix2 b L), s' (ix2 b L)) = gst m c b L (64 * t.val)) (b : Fin 8) (τ : Fin 64) (l : Fin 512) (k : Fin 2048) (hk : k.val = 64 * t.val + τ.val) :
    gy (iblk m c 0 t) (iblk m c 1 t) (iblk m c 2 t) (iblk m c 3 t) (iblk m c 4 t) (iblk m c 5 t) (iblk m c 6 t) (iblk m c 7 t) s s' b τ l
      = ry (a0 m c) (a1 m c) (a2 m c) (a3 m c) (a4 m c) (a5 m c) (a6 m c) (a7 m c) b k l := by
  have ht := lt32 t
  have hg : ∀ L : Fin 2048, gs (iblk m c 0 t) (iblk m c 1 t) (iblk m c 2 t) (iblk m c 5 t) (iblk m c 6 t) s s' b L (τ.val + 1) = gst m c b L (k.val + 1) := fun L =>
    (gs_eq m c t s s' b L (hs b L) (τ.val + 1) (by omega)).trans (congrArg (gst m c b L) (by omega))
  have hL : ∀ n : Fin 64, gst m c b ⟨64 * (l.val / 16) + n.val, by omega⟩ (k.val + 1) = rs (a0 m c) (a1 m c) (a2 m c) (a5 m c) (a6 m c) b ⟨l.val / 16, by omega⟩ n (k.val + 1) := by
    intro n
    have e1 : (⟨(64 * (l.val / 16) + n.val) / 64, by omega⟩ : Fin 32) = ⟨l.val / 16, by omega⟩ := Fin.ext (by show (64 * (l.val / 16) + n.val) / 64 = l.val / 16; omega)
    have e2 : (⟨(64 * (l.val / 16) + n.val) % 64, by omega⟩ : Fin 64) = n := Fin.ext (by show (64 * (l.val / 16) + n.val) % 64 = n.val; omega)
    show rs _ _ _ _ _ b ⟨(64 * (l.val / 16) + n.val) / 64, _⟩ ⟨(64 * (l.val / 16) + n.val) % 64, _⟩ (k.val + 1) = _
    rw [e1, e2]
  unfold gy ry
  refine congrArg₂ (· + ·) (congrArg₂ (· - ·) ?_ ?_) (congrArg₂ (· * ·) (blk7_at m c t l) (blk0_at m c t b τ l k hk))
  · refine (ry_tile (a3 m c) l (fun L => (gst m c b L (k.val + 1)).1) _ fun j => congrArg₂ (· * ·) (congrArg Prod.fst (hg _)) (blk3_at m c t _ l)).trans ?_
    exact Finset.sum_congr rfl fun n _ => congrArg (fun p : EReal × EReal => p.1 * _) (hL n)
  · refine (ry_tile (a4 m c) l (fun L => (gst m c b L (k.val + 1)).2) _ fun j => congrArg₂ (· * ·) (congrArg Prod.snd (hg _)) (blk4_at m c t _ l)).trans ?_
    exact Finset.sum_congr rfl fun n _ => congrArg (fun p : EReal × EReal => p.2 * _) (hL n)

end Cert.KernelIdeal.S5

end
-- ==== Proof.S5Final.lean ====
module

public import proofs.«01_k».proof.Proof.S5Value

@[expose] public section

set_option maxRecDepth 16384

noncomputable section

namespace Cert.KernelIdeal.S5

open Cert.KernelIdeal.Gen
open Idealize.ShloMosaic Idealize.ShloMosaic.TcCoe Idealize.SL.Sem
open scoped BigOperators

variable (m : (ℓ : Loc nD τ sig) → Buf (Elt Ideal) ℓ) (ρ : Dev nD → PrngReg)

theorem fst_of {α β γ : Type} {J : Type} {o : (J → α) × β × γ} {x : J → α} {y : β} {z : γ} (h : o = (x, y, z)) (j : J) : o.1 j = x j := by
  subst h; rfl

theorem snd_of {α β γ : Type} {J : Type} {o : α × (J → β) × (J → γ)} {x : α} {y : J → β} {z : J → γ} (h : o = (x, y, z)) (j : J) : (o.2.1 j, o.2.2 j) = (y j, z j) := by
  subst h; rfl

/-- The carried state after the first point. -/
theorem carry_A (c : Dev nD) (t : Fin cfg0.N) (h0 : t.val % 32 = 0) (b : Fin 8) (L : Fin 2048) :
    ((outsAt0 m c t.val t.isLt).2.1 (ix2 b L), (outsAt0 m c t.val t.isLt).2.2 (ix2 b L)) = gs (iblk m c 0 t) (iblk m c 1 t) (iblk m c 2 t) (iblk m c 5 t) (iblk m c 6 t) (fun _ => 0) (fun _ => 0) b L 64 := by
  refine (snd_of (outsAt0_A m c t h0) (ix2 b L)).trans ?_
  exact state1_A _ _ _ _ _ _ _ _ _ _ _ _ _ _ _ _ _ _ _ _ _ _ _ _ _ _ _ _ _ _ _ _ _ _ _ _ _ _ _ _ ((hcond0_0 t).mpr h0) b L

/-- The carried state after a later point. -/
theorem carry_B (c : Dev nD) (t : Fin cfg0.N) (h0 : ¬t.val % 32 = 0) (b : Fin 8) (L : Fin 2048) :
    ((outsAt0 m c t.val t.isLt).2.1 (ix2 b L), (outsAt0 m c t.val t.isLt).2.2 (ix2 b L)) = gs (iblk m c 0 t) (iblk m c 1 t) (iblk m c 2 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2 b L 64 := by
  refine (snd_of (outsAt0_B m c t h0) (ix2 b L)).trans ?_
  exact state1_B _ _ _ _ _ _ _ _ _ _ _ _ _ _ _ _ _ _ _ _ _ _ _ _ _ _ _ _ _ _ _ _ _ _ _ _ _ _ _ _ _ _ (fun h => h0 ((hcond0_0 t).mp h)) b L

/-- The carried state after every point. -/
theorem carry (c : Dev nD) (n : ℕ) : ∀ (hn : n < cfg0.N) (b : Fin 8) (L : Fin 2048),
    ((outsAt0 m c n hn).2.1 (ix2 b L), (outsAt0 m c n hn).2.2 (ix2 b L)) = gst m c b L (64 * (n + 1)) := by
  induction n with
  | zero => exact fun hn b L => (carry_A m c ⟨0, hn⟩ rfl b L).trans (gs_eq m c ⟨0, hn⟩ (fun _ => 0) (fun _ => 0) b L rfl 64 le_rfl)
  | succ n ih =>
    intro hn b L
    have hlt : n + 1 < 32 := lt32 ⟨n + 1, hn⟩
    exact (carry_B m c ⟨n + 1, hn⟩ (by show ¬ (n + 1) % 32 = 0; omega) b L).trans (gs_eq m c ⟨n + 1, hn⟩ _ _ b L (ih (Nat.lt_of_succ_lt hn) b L) 64 le_rfl)

/-- A point writes the reference's rows. -/
theorem row (c : Dev nD) (t : Fin cfg0.N) (b : Fin 8) (τ : Fin 64) (l : Fin 512) (k : Fin 2048) (hk : k.val = 64 * t.val + τ.val) :
    (outsAt0 m c t.val t.isLt).1 (ix3 b τ l) = act (ry (a0 m c) (a1 m c) (a2 m c) (a3 m c) (a4 m c) (a5 m c) (a6 m c) (a7 m c) b k l) := by
  have hlt := lt32 t
  by_cases h0 : t.val % 32 = 0
  · have hz : t.val = 0 := by omega
    refine (fst_of (outsAt0_A m c t h0) (ix3 b τ l)).trans ?_
    refine (value_A _ _ _ _ _ _ _ _ _ _ _ _ _ _ _ _ _ _ _ _ _ _ _ _ _ _ _ _ _ _ _ _ _ _ _ _ _ _ _ _ ((hcond0_0 t).mpr h0) b τ l).trans ?_
    refine congrArg act (gy_eq m c t (fun _ => 0) (fun _ => 0) (fun b L => ?_) b τ l k hk)
    rw [hz]; rfl
  · refine (fst_of (outsAt0_B m c t h0) (ix3 b τ l)).trans ?_
    refine (value_B _ _ _ _ _ _ _ _ _ _ _ _ _ _ _ _ _ _ _ _ _ _ _ _ _ _ _ _ _ _ _ _ _ _ _ _ _ _ _ _ _ _ (fun h => h0 ((hcond0_0 t).mp h)) b τ l).trans ?_
    refine congrArg act (gy_eq m c t _ _ (fun b L => ?_) b τ l k hk)
    refine (carry m c (t.val - 1) _ b L).trans (congrArg (gst m c b L) ?_)
    have : t.val ≠ 0 := fun e => h0 (by rw [e])
    omega

/-- A point writes the reference's values. -/
theorem point (c : Dev nD) (t : Fin cfg0.N) (y : S8x64x512.Idx) :
    (outsAt0 m c t.val t.isLt).1 y = REF (a0 m c) (a1 m c) (a2 m c) (a3 m c) (a4 m c) (a5 m c) (a6 m c) (a7 m c) (((cfg0.win 8).blk t).view.emb y) := by
  have hlt := lt32 t
  obtain ⟨b, τ, l, rfl⟩ : ∃ (b : Fin 8) (τ : Fin 64) (l : Fin 512), y = ix3 b τ l := ⟨y 0, y 1, y 2, by blk_ext []⟩
  refine (row m c t b τ l ⟨64 * t.val + τ.val, by omega⟩ rfl).trans ?_
  have e : (((cfg0.win 8).blk t).view.emb (ix3 b τ l) : S8x2048x512.Idx) = ix3 b ⟨64 * t.val + τ.val, by omega⟩ l := by blk_ext [idx t]
  rw [e]; rfl

/-- The result array after the run is the reference's. -/
theorem final (c : Dev nD) : (dats m 0 c).arrAt 8 cfg0.N = REF (a0 m c) (a1 m c) (a2 m c) (a3 m c) (a4 m c) (a5 m c) (a6 m c) (a7 m c) := by
  refine (dats m 0 c).arrAt_eq_of_covers 8 _ (by decide +kernel) fun t _ y => ?_
  blk_simp
  rw [after0_8]
  exact point m c t y

/-- The run: the result named, the arguments unchanged. -/
theorem run_blocks : θ_run defs (onTc (τ := τ) (main (F := Ideal))) ⟨m, fun _ => 0, ρ⟩ (fun r => ∀ c : Dev nD,
      r.2.mem ((c.tc : Thread nD τ).loc main_v57) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h.1 c).1 (8 : Fin 9), h.2 c⟩) (θ_run_and (run_main m ρ) (unchanged m ρ))

end Cert.KernelIdeal.S5

end
-- ==== Proof.S5RefStep.lean ====
module

public import proofs.«01_k».proof.Proof.S5Value
public import proofs.«01_k».proof.Proof.Gen.ReferenceIdeal.Run
public import Idealize.ShloMosaic.Lib.DynamicIndex

@[expose] public section

set_option maxRecDepth 16384

noncomputable section

namespace Cert.ReferenceIdeal.S5

open Cert.ReferenceIdeal.Gen Cert.ReferenceIdeal.Value Cert.KernelIdeal.S5
open Idealize.ShloMosaic.Tactic Idealize.ShloMosaic.StableHlo
open Idealize.ShloMosaic Idealize.ShloMosaic.TcCoe Idealize.SL.Sem
open scoped BigOperators

/-- The input of every step, as the reference writes it. -/
def rBu (z : FVec Ideal S8x2048x2048 .f32) (B : FVec Ideal S32x16x64 .f32) : FVec Ideal S2048x8x32x64 .f32 :=
  transpose S2048x8x32x64 [1, 0, 2, 3] (transpose S8x2048x32x64 [2, 3, 0, 1]
    (Host.dotGeneral dot_S32x16x64_S8x2048x32x16_S32x64x8x2048_1_3_2_01_0_2 none B
      (shapeCast S8x2048x32x16 (extractStridedSlice S8x2048x512 ![0, 0, 512] z slices_S8x2048x2048_S8x2048x512_0_0_512) shapeCasts_S8x2048x512_S8x2048x32x16))
    transposes_S32x64x8x2048_S8x2048x32x64_2_3_0_1) transposes_S8x2048x32x64_S2048x8x32x64_1_0_2_3

theorem rBu_at (z : FVec Ideal S8x2048x2048 .f32) (B : FVec Ideal S32x16x64 .f32) (t : Fin 2048) (b : Fin 8) (g : Fin 32) (n : Fin 64) :
    rBu z B (ix4 t b g n) = rx z B b g n t.val := by
  unfold rx
  rw [dif_pos t.isLt]
  pointwise [rBu]
  refine Finset.sum_congr rfl fun i _ => ?_
  rw [mul_comm]
  refine congrArg₂ (· * ·) (congrArg z ?_) (congrArg B ?_) <;> blk_ext []

/-- One read-out product, as the reference writes it. -/
def rRead (C : FVec Ideal S32x16x64 .f32) (H : FVec Ideal S2048x8x32x64 .f32) : FVec Ideal S8x2048x32x16 .f32 :=
  transpose S8x2048x32x16 [3, 2, 0, 1] (Host.dotGeneral dot_S32x16x64_S2048x8x32x64_S32x16x2048x8_2_3_1_01_0_2 none C H) transposes_S32x16x2048x8_S8x2048x32x16_3_2_0_1

theorem rRead_at (C : FVec Ideal S32x16x64 .f32) (H : FVec Ideal S2048x8x32x64 .f32) (b : Fin 8) (t : Fin 2048) (g : Fin 32) (i : Fin 16) :
    rRead C H (ix4 b t g i) = ∑ n : Fin 64, H (ix4 t b g n) * C (ix3 g i n) := by
  pointwise [rRead]
  refine Finset.sum_congr rfl fun n _ => ?_
  rw [mul_comm]

/-- The read-out with the skip term. -/
def rY (z : FVec Ideal S8x2048x512 .f32) (C C' : FVec Ideal S32x16x64 .f32) (d : FVec Ideal S512 .f32) (H H' : FVec Ideal S2048x8x32x64 .f32) : FVec Ideal S8x2048x512 .f32 :=
  addf (shapeCast S8x2048x512 (subf (rRead C H) (rRead C' H')) shapeCasts_S8x2048x32x16_S8x2048x512)
    (mulf (broadcastInDim S8x2048x512 ![0, 1, 2] bcast_S1x1x512_S8x2048x512_0_1_2 (broadcastInDim S1x1x512 ![2] bcast_S512_S1x1x512_2 d)) z)

theorem rY_at (z : FVec Ideal S8x2048x512 .f32) (C C' : FVec Ideal S32x16x64 .f32) (d : FVec Ideal S512 .f32) (H H' : FVec Ideal S2048x8x32x64 .f32) (b : Fin 8) (t : Fin 2048) (l : Fin 512) :
    rY z C C' d H H' (ix3 b t l) = rRead C H (ix4 b t ⟨l.val / 16, by omega⟩ ⟨l.val % 16, by omega⟩) - rRead C' H' (ix4 b t ⟨l.val / 16, by omega⟩ ⟨l.val % 16, by omega⟩)
      + d (ix1 l) * z (ix3 b t l) := by
  unfold rY
  generalize rRead C H = u
  generalize rRead C' H' = u'
  pointwise

/-- The gate, as the reference writes it. -/
def rAct (x : FVec Ideal S8x2048x512 .f32) : FVec Ideal S8x2048x512 .bf16 :=
  truncf .bf16 (mulf x (mulf (broadcastInDim S8x2048x512 ![] bcast_S_S8x2048x512 (constant S_ .f32 0x3F000000#32))
    (addf (broadcastInDim S8x2048x512 ![] bcast_S_S8x2048x512 (constant S_ .f32 0x3F800000#32))
      (Host.tanh (mulf (broadcastInDim S8x2048x512 ![] bcast_S_S8x2048x512 (constant S_ .f32 0x3F4C422A#32))
        (addf x (mulf (broadcastInDim S8x2048x512 ![] bcast_S_S8x2048x512 (constant S_ .f32 0x3D372713#32)) (mulf (mulf x x) x)))))))) bitsLt_bf16_f32

theorem rAct_at (x : FVec Ideal S8x2048x512 .f32) (y : S8x2048x512.Idx) : rAct x y = act (x y) := by
  unfold act
  rw [mul_comm (x y) (x y * x y)]
  rfl

/-- A start inside the array, read off the counter. -/
abbrev st (ctr : (⟨S_, .i32⟩ : BufTy).Contents (Elt Ideal)) : Fin 4 → Int := fun k => (((![ctr, constantI S_ 32 0#32, constantI S_ 32 0#32, constantI S_ 32 0#32] : Fin 4 → (⟨S_, .i32⟩ : BufTy).Contents (Elt Ideal))) k (Shape.Idx.first h_S_)).toInt

theorem st_at (k : Fin 2048) (a : Fin 4) : st (fun _ => BitVec.ofNat 32 k.val) a = ((![k.val, 0, 0, 0] : Fin 4 → ℕ) a : Int) := by
  fin_cases a
  · exact toInt_ofNat_of_lt (by omega)
  · rfl
  · rfl
  · rfl

theorem fits (k : Fin 2048) : Shape.Slices S2048x8x32x64 (![k.val, 0, 0, 0] : Fin 4 → ℕ) S1x8x32x64 := by
  refine ⟨rfl, fun a => ?_⟩
  fin_cases a
  · show k.val + 1 ≤ 2048; omega
  · show 0 + 8 ≤ 8; omega
  · show 0 + 32 ≤ 32; omega
  · show 0 + 64 ≤ 64; omega

/-- The step's slab of an array of inputs. -/
theorem slab_at (x : FVec Ideal S2048x8x32x64 .f32) (ctr : (⟨S_, .i32⟩ : BufTy).Contents (Elt Ideal)) (k : Fin 2048) (hk : ctr = fun _ => BitVec.ofNat 32 k.val) (b : Fin 8) (g : Fin 32) (n : Fin 64) :
    shapeCast S8x32x64 (Host.dynamicSlice S1x8x32x64 x (st ctr) sliceFits_S2048x8x32x64_S1x8x32x64) shapeCasts_S1x8x32x64_S8x32x64 (ix3 b g n) = x (ix4 k b g n) := by
  subst hk
  rw [Host.dynamicSlice_eq_extractStridedSlice S1x8x32x64 x _ ![k.val, 0, 0, 0] _ (fits k) (st_at k)]
  pointwise

theorem clamp_at (k : Fin 2048) (a : Fin 4) : Host.clampedStart S2048x8x32x64 S1x8x32x64 rfl (st fun _ => BitVec.ofNat 32 k.val) a = (![k.val, 0, 0, 0] : Fin 4 → ℕ) a :=
  by
  have h1 := st_at k a
  have h2 := (fits k).2 a
  generalize (st fun _ => BitVec.ofNat 32 k.val) = s at h1 ⊢
  generalize (![k.val, 0, 0, 0] : Fin 4 → ℕ) = o at h1 h2 ⊢
  exact Host.clampedStart_of_le (s := S2048x8x32x64) (t := S1x8x32x64) rfl s a (o a) h1 h2

theorem inside_iff (k j : Fin 2048) (b : Fin 8) (g : Fin 32) (n : Fin 64) :
    (∀ a : Fin 4, Host.clampedStart S2048x8x32x64 S1x8x32x64 rfl (st fun _ => BitVec.ofNat 32 k.val) a ≤ ((ix4 j b g n : S2048x8x32x64.Idx) a).val
      ∧ ((ix4 j b g n : S2048x8x32x64.Idx) a).val < Host.clampedStart S2048x8x32x64 S1x8x32x64 rfl (st fun _ => BitVec.ofNat 32 k.val) a + S1x8x32x64.size a) ↔ j = k := by
  constructor
  · intro h
    have h0 := h 0
    rw [clamp_at k 0] at h0
    have h1 : k.val ≤ j.val := h0.1
    have h2 : j.val < k.val + 1 := h0.2
    exact Fin.ext (by omega)
  · intro h a
    subst h
    rw [clamp_at j a]
    fin_cases a
    · exact ⟨le_rfl, Nat.lt_succ_self _⟩
    · exact ⟨Nat.zero_le _, lt_of_lt_of_eq b.isLt (Nat.zero_add 8).symm⟩
    · exact ⟨Nat.zero_le _, lt_of_lt_of_eq g.isLt (Nat.zero_add 32).symm⟩
    · exact ⟨Nat.zero_le _, lt_of_lt_of_eq n.isLt (Nat.zero_add 64).symm⟩

/-- A step's slab written into an array of outputs. -/
theorem write_at (x : FVec Ideal S2048x8x32x64 .f32) (u : FVec Ideal S8x32x64 .f32) (ctr : (⟨S_, .i32⟩ : BufTy).Contents (Elt Ideal)) (k : Fin 2048) (hk : ctr = fun _ => BitVec.ofNat 32 k.val) (j : Fin 2048) (b : Fin 8) (g : Fin 32) (n : Fin 64) :
    Host.dynamicUpdateSlice x (broadcastInDim S1x8x32x64 ![1, 2, 3] bcast_S8x32x64_S1x8x32x64_1_2_3 u) (st ctr) updateFits_S2048x8x32x64_S1x8x32x64 (ix4 j b g n)
      = if j = k then u (ix3 b g n) else x (ix4 j b g n) := by
  subst hk
  refine (Host.dynamicUpdateSlice_apply _ _ _ _ _).trans ?_
  by_cases hj : j = k
  · refine (dif_pos ((inside_iff k j b g n).mpr hj)).trans ((?_ : _ = u (ix3 b g n)).trans (if_pos hj).symm)
    refine congrArg u (funext fun a => ?_)
    fin_cases a
    · exact Fin.ext ((congrArg (b.val - ·) (clamp_at k 1)).trans (Nat.sub_zero _))
    · exact Fin.ext ((congrArg (g.val - ·) (clamp_at k 2)).trans (Nat.sub_zero _))
    · exact Fin.ext ((congrArg (n.val - ·) (clamp_at k 3)).trans (Nat.sub_zero _))
  · exact (dif_neg fun h => hj ((inside_iff k j b g n).mp h)).trans (if_neg hj).symm

abbrev vx (V : Valuation τ sig (Elt Ideal)) : FVec Ideal S2048x8x32x64 .f32 := V (Proc.devRef .tc main_v13_0)
abbrev vx' (V : Valuation τ sig (Elt Ideal)) : FVec Ideal S2048x8x32x64 .f32 := V (Proc.devRef .tc main_v13_1)
abbrev va (V : Valuation τ sig (Elt Ideal)) : FVec Ideal S32x64 .f32 := V (Proc.devRef .tc main_v13_2)
abbrev va' (V : Valuation τ sig (Elt Ideal)) : FVec Ideal S32x64 .f32 := V (Proc.devRef .tc main_v13_3)
abbrev vs (V : Valuation τ sig (Elt Ideal)) : FVec Ideal S8x32x64 .f32 := V (Proc.devRef .tc main_v13_5)
abbrev vs' (V : Valuation τ sig (Elt Ideal)) : FVec Ideal S8x32x64 .f32 := V (Proc.devRef .tc main_v13_6)
abbrev vh (V : Valuation τ sig (Elt Ideal)) : FVec Ideal S2048x8x32x64 .f32 := V (Proc.devRef .tc main_v13_7)
abbrev vh' (V : Valuation τ sig (Elt Ideal)) : FVec Ideal S2048x8x32x64 .f32 := V (Proc.devRef .tc main_v13_8)
abbrev r47 (V : Valuation τ sig (Elt Ideal)) : FVec Ideal S8x32x64 .f32 := res_main_while0b_v47 V
abbrev r55 (V : Valuation τ sig (Elt Ideal)) : FVec Ideal S8x32x64 .f32 := res_main_while0b_v55 V

theorem lane_at (p : FVec Ideal S32x64 .f32) (b : Fin 8) (g : Fin 32) (n : Fin 64) :
    broadcastInDim S8x32x64 ![0, 1, 2] bcast_S1x32x64_S8x32x64_0_1_2 (broadcastInDim S1x32x64 ![1, 2] bcast_S32x64_S1x32x64_1_2 p) (ix3 b g n) = p (ix2 g n) := by
  pointwise

/-- The real part after a step. -/
theorem re_at (V : Valuation τ sig (Elt Ideal)) (k : Fin 2048) (hk : V (Proc.devRef .tc main_v13_4) = fun _ => BitVec.ofNat 32 k.val) (b : Fin 8) (g : Fin 32) (n : Fin 64) :
    r47 V (ix3 b g n) = va V (ix2 g n) * vs V (ix3 b g n) - va' V (ix2 g n) * vs' V (ix3 b g n) + vx V (ix4 k b g n) := by
  unfold r47 res_main_while0b_v47
  refine congrArg₂ (· + ·) ?_ (slab_at _ _ k hk b g n)
  refine congrArg₂ (· - ·) (congrArg₂ (· * ·) (lane_at (va V) b g n) rfl) (congrArg₂ (· * ·) (lane_at (va' V) b g n) rfl)

/-- The imaginary part after a step. -/
theorem im_at (V : Valuation τ sig (Elt Ideal)) (k : Fin 2048) (hk : V (Proc.devRef .tc main_v13_4) = fun _ => BitVec.ofNat 32 k.val) (b : Fin 8) (g : Fin 32) (n : Fin 64) :
    r55 V (ix3 b g n) = va V (ix2 g n) * vs' V (ix3 b g n) + va' V (ix2 g n) * vs V (ix3 b g n) + vx' V (ix4 k b g n) := by
  unfold r55 res_main_while0b_v55
  refine congrArg₂ (· + ·) ?_ (slab_at _ _ k hk b g n)
  refine congrArg₂ (· + ·) (congrArg₂ (· * ·) (lane_at (va V) b g n) rfl) (congrArg₂ (· * ·) (lane_at (va' V) b g n) rfl)

theorem re_out_at (V : Valuation τ sig (Elt Ideal)) (k : Fin 2048) (hk : V (Proc.devRef .tc main_v13_4) = fun _ => BitVec.ofNat 32 k.val) (j : Fin 2048) (b : Fin 8) (g : Fin 32) (n : Fin 64) :
    (show FVec Ideal S2048x8x32x64 .f32 from step_main_v13_7 V) (ix4 j b g n) = if j = k then r47 V (ix3 b g n) else vh V (ix4 j b g n) :=
  write_at (vh V) (r47 V) _ k hk j b g n

theorem im_out_at (V : Valuation τ sig (Elt Ideal)) (k : Fin 2048) (hk : V (Proc.devRef .tc main_v13_4) = fun _ => BitVec.ofNat 32 k.val) (j : Fin 2048) (b : Fin 8) (g : Fin 32) (n : Fin 64) :
    (show FVec Ideal S2048x8x32x64 .f32 from step_main_v13_8 V) (ix4 j b g n) = if j = k then r55 V (ix3 b g n) else vh' V (ix4 j b g n) :=
  write_at (vh' V) (r55 V) _ k hk j b g n

end Cert.ReferenceIdeal.S5

end
-- ==== Proof.S5RefRun.lean ====
module

public import proofs.«01_k».proof.Proof.S5RefStep

@[expose] public section

set_option maxRecDepth 16384

noncomputable section

namespace Cert.ReferenceIdeal.S5

open Cert.ReferenceIdeal.Gen Cert.ReferenceIdeal.Value Cert.KernelIdeal.S5
open Idealize.ShloMosaic.Tactic Idealize.ShloMosaic.StableHlo
open Idealize.ShloMosaic Idealize.ShloMosaic.TcCoe Idealize.SL.Sem
open scoped BigOperators

variable (m : (ℓ : Loc nD τ sig) → Buf (Elt Ideal) ℓ) (ρ : Dev nD → PrngReg)

abbrev b0 (c : Dev nD) : FVec Ideal S8x2048x2048 .f32 := m ((c.tc : Thread nD τ).loc main_arg0)
abbrev b1 (c : Dev nD) : FVec Ideal S32x16x64 .f32 := m ((c.tc : Thread nD τ).loc main_arg1)
abbrev b2 (c : Dev nD) : FVec Ideal S32x16x64 .f32 := m ((c.tc : Thread nD τ).loc main_arg2)
abbrev b3 (c : Dev nD) : FVec Ideal S32x16x64 .f32 := m ((c.tc : Thread nD τ).loc main_arg3)
abbrev b4 (c : Dev nD) : FVec Ideal S32x16x64 .f32 := m ((c.tc : Thread nD τ).loc main_arg4)
abbrev b5 (c : Dev nD) : FVec Ideal S32x1x64 .f32 := m ((c.tc : Thread nD τ).loc main_arg5)
abbrev b6 (c : Dev nD) : FVec Ideal S32x1x64 .f32 := m ((c.tc : Thread nD τ).loc main_arg6)
abbrev b7 (c : Dev nD) : FVec Ideal S512 .f32 := m ((c.tc : Thread nD τ).loc main_arg7)

/-- The contents when the loop begins. -/
abbrev E (c : Dev nD) : Valuation τ sig (Elt Ideal) := entryContents preI m c

theorem E_x (c : Dev nD) : vx (E m c) = rBu (b0 m c) (b1 m c) := by
  simp only [vx, E, entryContents, afterL_cons, afterL_nil]
  after_reads_simp
  rfl

theorem E_x' (c : Dev nD) : vx' (E m c) = rBu (b0 m c) (b2 m c) := by
  simp only [vx', E, entryContents, afterL_cons, afterL_nil]
  after_reads_simp
  rfl

theorem E_a (c : Dev nD) : va (E m c) = shapeCast S32x64 (b5 m c) shapeCasts_S32x1x64_S32x64 := by
  simp only [va, E, entryContents, afterL_cons, afterL_nil]
  after_reads_simp
  rfl

theorem E_a' (c : Dev nD) : va' (E m c) = shapeCast S32x64 (b6 m c) shapeCasts_S32x1x64_S32x64 := by
  simp only [va', E, entryContents, afterL_cons, afterL_nil]
  after_reads_simp
  rfl

theorem E_s (c : Dev nD) : vs (E m c) = broadcastInDim S8x32x64 ![] bcast_S_S8x32x64 (constant S_ .f32 0x00000000#32) := by
  simp only [vs, E, entryContents, afterL_cons, afterL_nil]
  after_reads_simp
  rfl

theorem E_s' (c : Dev nD) : vs' (E m c) = broadcastInDim S8x32x64 ![] bcast_S_S8x32x64 (constant S_ .f32 0x00000000#32) := by
  simp only [vs', E, entryContents, afterL_cons, afterL_nil]
  after_reads_simp
  rfl

theorem E_z (c : Dev nD) : (E m c (Proc.devRef .tc main_v0) : (⟨S8x2048x512, .f32⟩ : BufTy).Contents (Elt Ideal)) = extractStridedSlice S8x2048x512 ![0, 0, 512] (b0 m c) slices_S8x2048x2048_S8x2048x512_0_0_512 := by
  simp only [E, entryContents, afterL_cons, afterL_nil]
  after_reads_simp

theorem row_at (p : FVec Ideal S32x1x64 .f32) (g : Fin 32) (n : Fin 64) : shapeCast S32x64 p shapeCasts_S32x1x64_S32x64 (ix2 g n) = p (ix3 g 0 n) := by
  pointwise

theorem zero_at (b : Fin 8) (g : Fin 32) (n : Fin 64) : (broadcastInDim S8x32x64 ![] bcast_S_S8x32x64 (constant S_ .f32 0x00000000#32) : FVec Ideal S8x32x64 .f32) (ix3 b g n) = 0 := by
  pointwise

/-- The state after `k` steps, from the arguments. -/
abbrev gk (c : Dev nD) (b : Fin 8) (g : Fin 32) (n : Fin 64) (k : ℕ) : EReal × EReal :=
  rs (b0 m c) (b1 m c) (b2 m c) (b5 m c) (b6 m c) b g n k

/-- What holds of the carried buffers before step `k`. -/
structure Inv (c : Dev nD) (k : ℕ) (V : Valuation τ sig (Elt Ideal)) : Prop where
  x : vx V = vx (E m c)
  x' : vx' V = vx' (E m c)
  a : va V = va (E m c)
  a' : va' V = va' (E m c)
  ctr : V (Proc.devRef .tc main_v13_4) = fun _ => BitVec.ofNat 32 k
  s : ∀ b g n, (vs V (ix3 b g n), vs' V (ix3 b g n)) = gk m c b g n k
  h : ∀ (j : Fin 2048), j.val < k → ∀ b g n, (vh V (ix4 j b g n), vh' V (ix4 j b g n)) = gk m c b g n (j.val + 1)

theorem inv_zero (c : Dev nD) : Inv m c 0 (E m c) where
  x := rfl
  x' := rfl
  a := rfl
  a' := rfl
  ctr := ctr_entry m c
  s b g n := by
    rw [E_s, E_s', zero_at]; rfl
  h j hj := absurd hj (Nat.not_lt_zero _)

theorem next_state (c : Dev nD) (k : Fin 2048) (V : Valuation τ sig (Elt Ideal)) (h : Inv m c k.val V) (b : Fin 8) (g : Fin 32) (n : Fin 64) :
    (r47 V (ix3 b g n), r55 V (ix3 b g n)) = gk m c b g n (k.val + 1) := by
  rw [re_at V k h.ctr, im_at V k h.ctr, h.x, h.x', h.a, h.a', E_x, E_x', E_a, E_a', row_at, row_at, rBu_at, rBu_at]
  have h1 : vs V (ix3 b g n) = (gk m c b g n k.val).1 := congrArg Prod.fst (h.s b g n)
  have h2 : vs' V (ix3 b g n) = (gk m c b g n k.val).2 := congrArg Prod.snd (h.s b g n)
  rw [h1, h2]
  rfl

theorem inv_succ (c : Dev nD) (k : Fin 2048) (V : Valuation τ sig (Elt Ideal)) (h : Inv m c k.val V) : Inv m c (k.val + 1) (STEP V) where
  x := (STEP_main_v13_0 V).trans h.x
  x' := (STEP_main_v13_1 V).trans h.x'
  a := (STEP_main_v13_2 V).trans h.a
  a' := (STEP_main_v13_3 V).trans h.a'
  ctr := by
    refine (STEP_main_v13_4 V).trans ?_
    unfold step_main_v13_4
    rw [h.ctr]
    funext i
    show BitVec.ofNat 32 k.val + 1#32 = BitVec.ofNat 32 (k.val + 1)
    exact (BitVec.ofNat_add k.val 1).symm
  s b g n := (congrArg₂ Prod.mk (congrFun (STEP_main_v13_5 V) (ix3 b g n)) (congrFun (STEP_main_v13_6 V) (ix3 b g n))).trans (next_state m c k V h b g n)
  h j hj b g n := by
    refine (congrArg₂ Prod.mk ((congrFun (STEP_main_v13_7 V) (ix4 j b g n)).trans (re_out_at V k h.ctr j b g n)) ((congrFun (STEP_main_v13_8 V) (ix4 j b g n)).trans (im_out_at V k h.ctr j b g n))).trans ?_
    by_cases e : j = k
    · rw [if_pos e, if_pos e, e]
      exact next_state m c k V h b g n
    · rw [if_neg e, if_neg e]
      have : j.val ≠ k.val := fun h' => e (Fin.ext h')
      exact h.h j (by omega) b g n

theorem inv (c : Dev nD) (k : ℕ) (hk : k ≤ 2048) : Inv m c k (STEP^[k] (E m c)) := by
  induction k with
  | zero => exact inv_zero m c
  | succ k ih =>
    rw [Function.iterate_succ_apply']
    exact inv_succ m c ⟨k, hk⟩ _ (ih (by omega))

/-- A buffer no trip writes is after every trip as before the loop. -/
theorem trip_keeps (b : Ref sig .tc)
    (hc : b ∉ condOps_W) (h0 : b ∉ while0Ops0_W) (h1 : b ∉ while0Ops0_1_W) (h2 : b ∉ while0Ops0_2_W) (h3 : b ∉ while0Ops0_3_W) (h4 : b ∉ while0Ops0_4_W) (h5 : b ∉ while0Ops0_5_W) (c : Dev nD) (k : ℕ) :
    atK m k c (Proc.devRef .tc b) = E m c (Proc.devRef .tc b) := by
  induction k with
  | zero => rfl
  | succ k ih =>
    show after while0Ops0_5 (after while0Ops0_4 (after while0Ops0_3 (after while0Ops0_2 (after while0Ops0_1 (after while0Ops0 (after condOps (atK m k c))))))) (Proc.devRef .tc b) = _
    rw [after_of_writes_sub while0Ops0_5 _ while0Ops0_5_writes h5, after_of_writes_sub while0Ops0_4 _ while0Ops0_4_writes h4,
      after_of_writes_sub while0Ops0_3 _ while0Ops0_3_writes h3, after_of_writes_sub while0Ops0_2 _ while0Ops0_2_writes h2,
      after_of_writes_sub while0Ops0_1 _ while0Ops0_1_writes h1, after_of_writes_sub while0Ops0 _ while0Ops0_writes h0,
      after_of_writes_sub condOps _ condOps_writes hc]
    exact ih

/-- The buffers the operations after the loop write. -/
abbrev lastW : List (Ref sig .tc) := [main_v14, main_v15, main_v16, main_v17, main_v18, main_v19, main_v20, main_v21, main_v22, main_v23, main_v24, main_v25, main_cst_2, main_v26, main_v27, main_v28, main_cst_3, main_v29, main_v30, main_v31, main_cst_4, main_v32, main_v33, main_cst_5, main_v34, main_v35, main_v36, main_v37]

theorem last_writes : (hostOps0_1 : List (HloOp τ sig (Elt Ideal))).Forall fun op => op.writes ⊆ (lastW.map (Proc.devRef (τ := τ) .tc)).toFinset :=
  StableHlo.forall_writes_sub_of_map rfl

/-- What the operations after the loop compute. -/
theorem last_out (V : Valuation τ sig (Elt Ideal)) :
    after hostOps0_1 V (Proc.devRef .tc main_v37) = rAct (rY (V (Proc.devRef .tc main_v0)) (V (Proc.devRef .tc main_arg3)) (V (Proc.devRef .tc main_arg4)) (V (Proc.devRef .tc main_arg7)) (vh V) (vh' V)) := by
  simp only [hostOps0_1]
  after_results_simp
  try rfl

/-- The contents when the loop ends. -/
abbrev L (c : Dev nD) : Valuation τ sig (Elt Ideal) := after condOps (atK m 2048 c)

theorem L_keeps (b : Ref sig .tc)
    (hc : b ∉ condOps_W) (h0 : b ∉ while0Ops0_W) (h1 : b ∉ while0Ops0_1_W) (h2 : b ∉ while0Ops0_2_W) (h3 : b ∉ while0Ops0_3_W) (h4 : b ∉ while0Ops0_4_W) (h5 : b ∉ while0Ops0_5_W) (c : Dev nD) :
    L m c (Proc.devRef .tc b) = E m c (Proc.devRef .tc b) :=
  (after_of_writes_sub condOps _ condOps_writes hc).trans (trip_keeps m b hc h0 h1 h2 h3 h4 h5 c 2048)

theorem L_arg (b : Ref sig .tc) (hp : b ∉ hostOps0_W)
    (hc : b ∉ condOps_W) (h0 : b ∉ while0Ops0_W) (h1 : b ∉ while0Ops0_1_W) (h2 : b ∉ while0Ops0_2_W) (h3 : b ∉ while0Ops0_3_W) (h4 : b ∉ while0Ops0_4_W) (h5 : b ∉ while0Ops0_5_W) (c : Dev nD) :
    L m c (Proc.devRef .tc b) = m ((c.tc : Thread nD τ).loc b) :=
  (L_keeps m b hc h0 h1 h2 h3 h4 h5 c).trans (after_of_writes_sub hostOps0 _ hostOps0_writes hp)

theorem F_arg (b : Ref sig .tc) (hl : b ∉ lastW) (hp : b ∉ hostOps0_W)
    (hc : b ∉ condOps_W) (h0 : b ∉ while0Ops0_W) (h1 : b ∉ while0Ops0_1_W) (h2 : b ∉ while0Ops0_2_W) (h3 : b ∉ while0Ops0_3_W) (h4 : b ∉ while0Ops0_4_W) (h5 : b ∉ while0Ops0_5_W) (c : Dev nD) :
    finalContents condOps preI bodyI postI 2048 m c (Proc.devRef .tc b) = m ((c.tc : Thread nD τ).loc b) :=
  (after_of_writes_sub hostOps0_1 _ last_writes hl).trans (L_arg m b hp hc h0 h1 h2 h3 h4 h5 c)

theorem L_h (c : Dev nD) : vh (L m c) = vh (STEP^[2048] (E m c)) :=
  (cond_keeps _ main_v13_7 (by decide)).trans (atK_agree m c 2048 main_v13_7 (by decide))

theorem L_h' (c : Dev nD) : vh' (L m c) = vh' (STEP^[2048] (E m c)) :=
  (cond_keeps _ main_v13_8 (by decide)).trans (atK_agree m c 2048 main_v13_8 (by decide))

theorem state_at (c : Dev nD) (t : Fin 2048) (b : Fin 8) (g : Fin 32) (n : Fin 64) :
    (vh (L m c) (ix4 t b g n), vh' (L m c) (ix4 t b g n)) = gk m c b g n (t.val + 1) := by
  rw [L_h, L_h']
  exact (inv m c 2048 le_rfl).h t t.isLt b g n

theorem skip_at (z : FVec Ideal S8x2048x2048 .f32) (b : Fin 8) (t : Fin 2048) (l : Fin 512) :
    extractStridedSlice S8x2048x512 ![0, 0, 512] z slices_S8x2048x2048_S8x2048x512_0_0_512 (ix3 b t l) = z (ix3 b t ⟨512 + l.val, by omega⟩) := by
  pointwise

theorem out_at (z : FVec Ideal S8x2048x2048 .f32) (B B' C C' : FVec Ideal S32x16x64 .f32) (a a' : FVec Ideal S32x1x64 .f32) (d : FVec Ideal S512 .f32) (H H' : FVec Ideal S2048x8x32x64 .f32)
    (h : ∀ (t : Fin 2048) (b : Fin 8) (g : Fin 32) (n : Fin 64), (H (ix4 t b g n), H' (ix4 t b g n)) = rs z B B' a a' b g n (t.val + 1)) :
    rAct (rY (extractStridedSlice S8x2048x512 ![0, 0, 512] z slices_S8x2048x2048_S8x2048x512_0_0_512) C C' d H H') = REF z B B' C C' a a' d := by
  funext y
  rw [eq_ix3 y]
  generalize y 0 = b
  generalize y 1 = t
  generalize y 2 = l
  refine (rAct_at _ _).trans (congrArg act ?_)
  refine (rY_at _ _ _ _ _ _ b t l).trans ?_
  refine congrArg₂ (· + ·) (congrArg₂ (· - ·) ?_ ?_) (congrArg (d (ix1 l) * ·) (skip_at _ b t l))
  · refine (rRead_at _ _ _ _ _ _).trans (Finset.sum_congr rfl fun n _ => congrArg (· * _) ?_)
    exact congrArg Prod.fst (h t b _ n)
  · refine (rRead_at _ _ _ _ _ _).trans (Finset.sum_congr rfl fun n _ => congrArg (· * _) ?_)
    exact congrArg Prod.snd (h t b _ n)

/-- The result is the plain reading of the reference. -/
theorem value (c : Dev nD) : finalContents condOps preI bodyI postI 2048 m c (Proc.devRef .tc main_v37) = REF (b0 m c) (b1 m c) (b2 m c) (b3 m c) (b4 m c) (b5 m c) (b6 m c) (b7 m c) := by
  refine (last_out (L m c)).trans ?_
  rw [L_keeps m main_v0 (by decide) (by decide) (by decide) (by decide) (by decide) (by decide) (by decide) c, E_z, L_arg m main_arg3 (by decide) (by decide) (by decide) (by decide) (by decide) (by decide) (by decide) (by decide) c, L_arg m main_arg4 (by decide) (by decide) (by decide) (by decide) (by decide) (by decide) (by decide) (by decide) c, L_arg m main_arg7 (by decide) (by decide) (by decide) (by decide) (by decide) (by decide) (by decide) (by decide) c]
  exact out_at _ _ _ _ _ _ _ _ _ _ (state_at m c)

/-- The run: the result named, the arguments unchanged. -/
theorem run : θ_run (defs (F := Ideal)) (onTc (τ := τ) (main (F := Ideal))) ⟨m, fun _ => 0, ρ⟩ (fun r => ∀ c : Dev nD,
      r.2.mem ((c.tc : Thread nD τ).loc main_v37) = REF (b0 m c) (b1 m c) (b2 m c) (b3 m c) (b4 m c) (b5 m c) (b6 m c) (b7 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c main_v37 rfl).trans (value m c),
      (h c main_arg0 rfl).trans (F_arg m main_arg0 (by decide) (by decide) (by decide) (by decide) (by decide) (by decide) (by decide) (by decide) (by decide) c),
      (h c main_arg1 rfl).trans (F_arg m main_arg1 (by decide) (by decide) (by decide) (by decide) (by decide) (by decide) (by decide) (by decide) (by decide) c),
      (h c main_arg2 rfl).trans (F_arg m main_arg2 (by decide) (by decide) (by decide) (by decide) (by decide) (by decide) (by decide) (by decide) (by decide) c),
      (h c main_arg3 rfl).trans (F_arg m main_arg3 (by decide) (by decide) (by decide) (by decide) (by decide) (by decide) (by decide) (by decide) (by decide) c),
      (h c main_arg4 rfl).trans (F_arg m main_arg4 (by decide) (by decide) (by decide) (by decide) (by decide) (by decide) (by decide) (by decide) (by decide) c),
      (h c main_arg5 rfl).trans (F_arg m main_arg5 (by decide) (by decide) (by decide) (by decide) (by decide) (by decide) (by decide) (by decide) (by decide) c),
      (h c main_arg6 rfl).trans (F_arg m main_arg6 (by decide) (by decide) (by decide) (by decide) (by decide) (by decide) (by decide) (by decide) (by decide) c),
      (h c main_arg7 rfl).trans (F_arg m main_arg7 (by decide) (by decide) (by decide) (by decide) (by decide) (by decide) (by decide) (by decide) (by decide) c)⟩) (run_fold m ρ)

end Cert.ReferenceIdeal.S5

end
-- ==== Proof.S5Claim.lean ====
module

public import proofs.«01_k».proof.Defs
public import proofs.«01_k».proof.Proof.S5Final
public import proofs.«01_k».proof.Proof.S5RefRun
public import Idealize.ShloMosaic.Adequacy
public import Idealize.ShloMosaic.Init

@[expose] public section

set_option maxRecDepth 16384

noncomputable section

namespace Cert.Proof

open Idealize.ShloMosaic Idealize.SL.Sem

/-- The state-space call's run and its reference's end with the same result. -/
theorem algebraic_s5 : @algebraic_KernelIdeal_ReferenceIdeal Cert.KernelIdeal.Gen.facts Cert.ReferenceIdeal.Gen.facts := by
  pair_intro
  · run_from Cert.KernelIdeal.S5.run_blocks m g
  · run_from Cert.ReferenceIdeal.S5.run m' g'
    exact (Cert.KernelIdeal.S5.final m c).symm

/-- The state-space call's reference runs to the end and leaves its arguments as they were. -/
theorem frame_Reference : @quiescent_ReferenceIdeal Cert.ReferenceIdeal.Gen.facts := fun m ρ _ =>
  (θ_run _ _ _).mono (fun _ h => ⟨fun c => (h c).2, sem_eq_zero_of_no_sems (by decide) _⟩)
    (Cert.ReferenceIdeal.S5.run m ρ)

end Cert.Proof

end
-- ==== Proof.FfnValue.lean ====
module

public import proofs.«01_k».proof.Proof.Gen.FfnIdeal.Value
public import proofs.«01_k».proof.Proof.Gen.FfnReferenceIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.FfnReferenceIdeal.Spec

open Cert.FfnReferenceIdeal Cert.FfnReferenceIdeal.Gen

/-- Root-mean-square normalisation of every row, times the gain. -/
def rowNorm (x : FVec Ideal S16384x1024 .f32) (g : FVec Ideal S1024 .f32) : FVec Ideal S16384x1024 .f32 :=
  mulf (mulf x (broadcastInDim S16384x1024 ![0, 1] bcast_S16384x1_S16384x1024_0_1
    (Host.rsqrt (addf (Host.divf (broadcastInDim S16384x1 ![0] bcast_S16384_S16384x1_0
      (Host.reduceAdd (mulf x x) (constant (F := Ideal) S_ .f32 0x00000000#32) reducesTo_S16384x1024_S16384_d1 h_S_))
      (broadcastInDim S16384x1 ![] bcast_S_S16384x1 (constant (F := Ideal) S_ .f32 0x44800000#32)))
      (broadcastInDim S16384x1 ![] bcast_S_S16384x1 (constant (F := Ideal) S_ .f32 0x358637BD#32))))))
    (broadcastInDim S16384x1024 ![0, 1] bcast_S1x1024_S16384x1024_0_1 (broadcastInDim S1x1024 ![1] bcast_S1024_S1x1024_1 g))

/-- The gate's and the up projection's columns, from the normalised rows. -/
def refZ (n : FVec Ideal S16384x1024 .f32) (w : FVec Ideal S1024x5632 .f32) : FVec Ideal S16384x5632 .f32 :=
  Host.dotGeneral dot_S16384x1024_S1024x5632_S16384x5632_1_0_0_1_n_n none n w

/-- `silu gate * up`. -/
def refA (z : FVec Ideal S16384x5632 .f32) : FVec Ideal S16384x2816 .f32 :=
  mulf (mulf (extractStridedSlice S16384x2816 ![0, 0] z slices_S16384x5632_S16384x2816_0_0)
    (Host.divf (broadcastInDim S16384x2816 ![] bcast_S_S16384x2816 (constant (F := Ideal) S_ .f32 0x3F800000#32))
      (addf (broadcastInDim S16384x2816 ![] bcast_S_S16384x2816 (constant (F := Ideal) S_ .f32 0x3F800000#32))
        (Host.exp (Host.negf (extractStridedSlice S16384x2816 ![0, 0] z slices_S16384x5632_S16384x2816_0_0))))))
    (extractStridedSlice S16384x2816 ![0, 2816] z slices_S16384x5632_S16384x2816_0_2816)

/-- The feed-forward rows before their normalisation, from the normalised rows. -/
def refF (n : FVec Ideal S16384x1024 .f32) (w : FVec Ideal S1024x5632 .f32) (o : FVec Ideal S2816x1024 .f32) :
    FVec Ideal S16384x1024 .f32 :=
  Host.dotGeneral dot_S16384x2816_S2816x1024_S16384x1024_1_0_0_1_n_n none (refA (refZ n w)) o

/-- The whole reference. -/
def REF (x : FVec Ideal S16384x1024 .f32) (g : FVec Ideal S1024 .f32) (w : FVec Ideal S1024x5632 .f32)
    (o : FVec Ideal S2816x1024 .f32) (p : FVec Ideal S1024 .f32) : FVec Ideal S16384x1024 .f32 :=
  addf x (rowNorm (refF (rowNorm x g) w o) p)

/-- The run's result is `REF` of the arguments. -/
theorem res_eq (m : (ℓ : Loc nD τ sig) → Buf (Elt Ideal) ℓ) (c : Dev nD) :
    Cert.FfnReferenceIdeal.Value.res_out0 m c
      = REF (m ((c : Thread nD τ).loc main_arg0)) (m ((c : Thread nD τ).loc main_arg1)) (m ((c : Thread nD τ).loc main_arg2))
          (m ((c : Thread nD τ).loc main_arg3)) (m ((c : Thread nD τ).loc main_arg4)) := rfl

end Cert.FfnReferenceIdeal.Spec

namespace Cert.FfnIdeal.Value

open Cert.FfnIdeal Cert.FfnIdeal.Gen Cert.FfnReferenceIdeal.Spec

/-- The eleventh partial sum, from the tenth's accumulator: the feed-forward rows of one block. -/
def last (v15 : FVec Ideal S512x1024 .bf16) (v140 : FVec Ideal S512x1024 .f32) (v143 : FVec Ideal S512x256 .f32)
    (v145 : FVec Ideal S1024x256 .bf16) (v151 : Vec Ideal S256x1024 .bf16) (v155 v158 : Vec Ideal S1024x256 .bf16)
    (v165 : Vec Ideal S256x1024 .bf16) : FVec Ideal S512x1024 .f32 :=
  have cst_72 : FVec Ideal S512x256 .f32 := constant S512x256 .f32 0x00000000#32
  have v146 : FVec Ideal S512x256 .f32 := matmul dot_S512x1024_S1024x256_S512x256_1_0_0_1_n_n none v15 v145 cst_72
  have v147 : FVec Ideal S512x256 .f32 := logistic v143
  have v148 : FVec Ideal S512x256 .f32 := mulf v143 v147
  have v149 : FVec Ideal S512x256 .f32 := mulf v148 v146
  have v150 : FVec Ideal S512x256 .bf16 := truncf .bf16 v149 bitsLt_bf16_f32
  have v152 : FVec Ideal S256x1024 .bf16 := shapeCast S256x1024 v151 shapeCasts_S256x1024_S256x1024
  have cst_75 : FVec Ideal S512x1024 .f32 := constant S512x1024 .f32 0x00000000#32
  have v153 : FVec Ideal S512x1024 .f32 := matmul dot_S512x256_S256x1024_S512x1024_1_0_0_1_n_n none v150 v152 cst_75
  have v154 : FVec Ideal S512x1024 .f32 := addf v140 v153
  have v156 : FVec Ideal S1024x256 .bf16 := shapeCast S1024x256 v155 shapeCasts_S1024x256_S1024x256
  have cst_77 : FVec Ideal S512x256 .f32 := constant S512x256 .f32 0x00000000#32
  have v157 : FVec Ideal S512x256 .f32 := matmul dot_S512x1024_S1024x256_S512x256_1_0_0_1_n_n none v15 v156 cst_77
  have v159 : FVec Ideal S1024x256 .bf16 := shapeCast S1024x256 v158 shapeCasts_S1024x256_S1024x256
  have cst_79 : FVec Ideal S512x256 .f32 := constant S512x256 .f32 0x00000000#32
  have v160 : FVec Ideal S512x256 .f32 := matmul dot_S512x1024_S1024x256_S512x256_1_0_0_1_n_n none v15 v159 cst_79
  have v161 : FVec Ideal S512x256 .f32 := logistic v157
  have v162 : FVec Ideal S512x256 .f32 := mulf v157 v161
  have v163 : FVec Ideal S512x256 .f32 := mulf v162 v160
  have v164 : FVec Ideal S512x256 .bf16 := truncf .bf16 v163 bitsLt_bf16_f32
  have v166 : FVec Ideal S256x1024 .bf16 := shapeCast S256x1024 v165 shapeCasts_S256x1024_S256x1024
  have cst_82 : FVec Ideal S512x1024 .f32 := constant S512x1024 .f32 0x00000000#32
  have v167 : FVec Ideal S512x1024 .f32 := matmul dot_S512x256_S256x1024_S512x1024_1_0_0_1_n_n none v164 v166 cst_82
  have v168 : FVec Ideal S512x1024 .f32 := addf v154 v167
  v168

/-- The residual sum: a block's rows plus the normalised feed-forward rows. -/
def tail (v0 : Vec Ideal S512x1024 .f32) (v168 : FVec Ideal S512x1024 .f32) (v169 : Vec Ideal S1x1024 .f32) : FVec Ideal S512x1024 .f32 :=
  have v170 : FVec Ideal S1x1024 .f32 := shapeCast S1x1024 v169 shapeCasts_S1x1024_S1x1024
  have v171 : FVec Ideal S512x1024 .f32 := mulf v168 v168
  have v172 : FVec Ideal S512 .f32 := multiReduction .add [1] S512 v171 0x00000000#32 reduces_S512x1024_S512 (.inl rfl) rfl
  have v173 : FVec Ideal S512x1 .f32 := shapeCast S512x1 v172 shapeCasts_S512_S512x1
  have cst_86 : Ideal .f32 := Scalar.ofBits .f32 0x44800000#32
  have v174 : FVec Ideal S512x1 .f32 := broadcast S512x1 cst_86
  have v175 : FVec Ideal S512x1 .f32 := divf v173 v174
  have cst_87 : Ideal .f32 := Scalar.ofBits .f32 0x358637BD#32
  have v176 : FVec Ideal S512x1 .f32 := broadcast S512x1 cst_87
  have v177 : FVec Ideal S512x1 .f32 := addf v175 v176
  have v178 : FVec Ideal S512x1 .f32 := rsqrt v177
  have v179 : FVec Ideal S512x1024 .f32 := broadcastTo S512x1024 v178 broadcasts_S512x1_S512x1024
  have v180 : FVec Ideal S512x1024 .f32 := mulf v168 v179
  have v181 : FVec Ideal S512x1024 .f32 := broadcastTo S512x1024 v170 broadcasts_S1x1024_S512x1024
  have v182 : FVec Ideal S512x1024 .f32 := mulf v180 v181
  have v183 : FVec Ideal S512x1024 .f32 := addf v0 v182
  v183

theorem pay12_eq (v0 v15 v140 v143 v145 v151 v155 v158 v165 v169) :
    k0_pay12 (F := Ideal) v0 v15 v140 v143 v145 v151 v155 v158 v165 v169 = tail v0 (last v15 v140 v143 v145 v151 v155 v158 v165) v169 := rfl

theorem tail_at (x f F g) (h : ∀ y, f y = F y) (y) : tail x f g y = tail x F g y := by
  rw [show f = F from funext h]

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, _)

variable (m : (ℓ : Loc nD τ sig) → Buf (Elt Ideal) ℓ)

/-- The arguments, by name. -/
abbrev aX (c : Dev nD) : FVec Ideal S16384x1024 .f32 := m ((c : Thread nD τ).loc main_arg0)
abbrev aG (c : Dev nD) : FVec Ideal S1024 .f32 := m ((c : Thread nD τ).loc main_arg1)
abbrev aW (c : Dev nD) : FVec Ideal S1024x5632 .f32 := m ((c : Thread nD τ).loc main_arg2)
abbrev aO (c : Dev nD) : FVec Ideal S2816x1024 .f32 := m ((c : Thread nD τ).loc main_arg3)
abbrev aP (c : Dev nD) : FVec Ideal S1024 .f32 := m ((c : Thread nD τ).loc main_arg4)

/-- A block's normalised rows are the reference's. -/
theorem norm_at (c : Dev nD) (t : Fin cfg0.N) (r : Fin 512) (l : Fin 1024) (i : Fin 16384) (hi : i.val = t.val * 512 + r.val) :
    k0_pay1 (F := Ideal) (iblk m c 0 t) (iblk m c 1 t) (ix2 r l) = rowNorm (aX m c) (aG m c) (ix2 i l) := by
  pointwise [k0_pay1, rowNorm]
  blk_point [iblk, V, idx t]

theorem norm13_at (c : Dev nD) (t : Fin cfg0.N) (r : Fin 512) (l : Fin 1024) (i : Fin 16384) (hi : i.val = t.val * 512 + r.val) :
    k0_pay13 (F := Ideal) (iblk m c 0 t) (iblk m c 1 t) (iblk m c 2 t) (iblk m c 3 t) (iblk m c 4 t) (ix2 r l) = rowNorm (aX m c) (aG m c) (ix2 i l) := by
  unfold k0_pay13
  pointwise [k0_pay1, rowNorm]
  blk_point [iblk, V, idx t]

/-- A contraction over the 2816 inner columns is the sum of its eleven tiles of 256. -/
theorem sum_tiles (f : Fin 2816 → EReal) : ∑ q, f q = ∑ a : Fin 11, ∑ k : Fin 256, f ⟨a.val * 256 + k.val, by omega⟩ :=
  Fin.sum_univ_tiles 11 256 rfl f

theorem sum_fin11 (f : Fin 11 → EReal) : ∑ a, f a = f 0 + f 1 + f 2 + f 3 + f 4 + f 5 + f 6 + f 7 + f 8 + f 9 + f 10 := by
  simp only [Fin.sum_univ_castSucc, Fin.sum_univ_zero, zero_add]
  rfl

theorem sum_eleven (f : Fin 2816 → EReal) : ∑ q, f q = (∑ k : Fin 256, f ⟨k.val, by omega⟩) + (∑ k : Fin 256, f ⟨256 + k.val, by omega⟩) + (∑ k : Fin 256, f ⟨512 + k.val, by omega⟩) + (∑ k : Fin 256, f ⟨768 + k.val, by omega⟩) + (∑ k : Fin 256, f ⟨1024 + k.val, by omega⟩) + (∑ k : Fin 256, f ⟨1280 + k.val, by omega⟩) + (∑ k : Fin 256, f ⟨1536 + k.val, by omega⟩) + (∑ k : Fin 256, f ⟨1792 + k.val, by omega⟩) + (∑ k : Fin 256, f ⟨2048 + k.val, by omega⟩) + (∑ k : Fin 256, f ⟨2304 + k.val, by omega⟩) + (∑ k : Fin 256, f ⟨2560 + k.val, by omega⟩) := by
  rw [sum_tiles]
  refine (sum_fin11 _).trans ?_
  simp only [Fin.val_zero, Fin.val_one, zero_mul, zero_add, one_mul]
  rfl

theorem point (c : Dev nD) (t : Fin cfg0.N) (y) :
    out0_5 (iblk m c 0 t) (iblk m c 1 t) (iblk m c 2 t) (iblk m c 3 t) (iblk m c 4 t) y
      = REF (aX m c) (aG m c) (aW m c) (aO m c) (aP m c) (((cfg0.win 5).blk t).view.emb y) := by
  frame_out
  rw [pay12_eq]
  have ht : t.val < 32 := lt_of_lt_of_eq t.isLt (by decide)
  refine (tail_at _ _ (fun y => refF (rowNorm (aX m c) (aG m c)) (aW m c) (aO m c) (ix2 ⟨t.val * 512 + (y 0).val, by have := (y 0).isLt; simp at this; omega⟩ (y 1))) _ (fun y => ?_) y).trans ?_
  · have hn := fun (r : Fin 512) (l : Fin 1024) => norm_at m c t r l ⟨t.val * 512 + r.val, by omega⟩ rfl
    have hn' := fun (r : Fin 512) (l : Fin 1024) => norm13_at m c t r l ⟨t.val * 512 + r.val, by omega⟩ rfl
    idx_vars y
    pointwise [last, hn, hn', k0_pay2, k0_pay3, k0_pay4, k0_pay5, k0_pay6, k0_pay7, k0_pay8, k0_pay9, k0_pay10, k0_pay11, refF, refA, refZ]
    rw [sum_eleven]
    refine Ideal.add_congr (Ideal.add_congr (Ideal.add_congr (Ideal.add_congr (Ideal.add_congr (Ideal.add_congr (Ideal.add_congr
      (Ideal.add_congr (Ideal.add_congr (Ideal.add_congr ?_ ?_) ?_) ?_) ?_) ?_) ?_) ?_) ?_) ?_) ?_
    all_goals
      blk_point [iblk, V, idx t]
      simp only [Ideal.logistic]
      blk_point [iblk, V, idx t]
  · unfold REF
    generalize refF (rowNorm (aX m c) (aG m c)) (aW m c) (aO m c) = f
    pointwise [tail, rowNorm]
    blk_point [iblk, V, idx t]

/-- The result array after the run is the reference's term of the arguments. -/
theorem final (c : Dev nD) : (dats m 0 c).arrAt 5 (cfgs 0).N = REF (aX m c) (aG m c) (aW m c) (aO m c) (aP m c) := by
  refine (dats m 0 c).arrAt_eq_of_covers 5 _ (by decide +kernel) fun t _ y => ?_
  blk_simp
  rw [after0_5]
  exact point m c t y

end Cert.FfnIdeal.Value

end

end
-- ==== Proof.FfnClaim.lean ====
module

public import proofs.«01_k».proof.Defs
public import proofs.«01_k».proof.Proof.FfnValue
public import Idealize.ShloMosaic.Adequacy
public import Idealize.ShloMosaic.Init

@[expose] public section

set_option maxRecDepth 16384

noncomputable section

namespace Cert.Proof

open Idealize.ShloMosaic Idealize.SL.Sem

/-- The feed-forward call's run and its reference's end with the same result. -/
theorem algebraic_ffn : @algebraic_FfnIdeal_FfnReferenceIdeal Cert.FfnIdeal.Gen.facts Cert.FfnReferenceIdeal.Gen.facts := by
  pair_intro
  · run_from Cert.FfnIdeal.Value.run_blocks m g
  · run_from Cert.FfnReferenceIdeal.Value.run m' g'
    obtain ⟨h0, h1, h2, h3, h4⟩ := hagree c
    refine (Cert.FfnReferenceIdeal.Spec.res_eq m' c).trans ?_
    rw [h0, h1, h2, h3, h4]
    exact (Cert.FfnIdeal.Value.final m c).symm

end Cert.Proof

end
-- ==== Proof.MergeValue.lean ====
module

public import proofs.«01_k».proof.Proof.Gen.MergeIdeal.Frame
public import proofs.«01_k».proof.Proof.Gen.MergeReferenceIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.MergeReferenceIdeal.Spec

open Cert.MergeReferenceIdeal Cert.MergeReferenceIdeal.Gen

/-- Root-mean-square normalisation of every row, times the gain. -/
def rowNorm (x : FVec Ideal S16384x1024 .f32) (g : FVec Ideal S1024 .f32) : FVec Ideal S16384x1024 .f32 :=
  mulf (mulf x (broadcastInDim S16384x1024 ![0, 1] bcast_S16384x1_S16384x1024_0_1
    (Host.rsqrt (addf (Host.divf (broadcastInDim S16384x1 ![0] bcast_S16384_S16384x1_0
      (Host.reduceAdd (mulf x x) (constant (F := Ideal) S_ .f32 0x00000000#32) reducesTo_S16384x1024_S16384_d1 h_S_))
      (broadcastInDim S16384x1 ![] bcast_S_S16384x1 (constant (F := Ideal) S_ .f32 0x44800000#32)))
      (broadcastInDim S16384x1 ![] bcast_S_S16384x1 (constant (F := Ideal) S_ .f32 0x358637BD#32))))))
    (broadcastInDim S16384x1024 ![0, 1] bcast_S1x1024_S16384x1024_0_1 (broadcastInDim S1x1024 ![1] bcast_S1024_S1x1024_1 g))

/-- The three gates of every row, before the sigmoid. -/
def refZ (n : FVec Ideal S16384x1024 .f32) (w : FVec Ideal S1024x5832 .f32) : FVec Ideal S16384x3x1024 .f32 :=
  shapeCast _ (extractStridedSlice S16384x3072 ![0, 2760] (Host.dotGeneral dot_S16384x1024_S1024x5832_S16384x5832_1_0_0_1_n_n none n w)
    slices_S16384x5832_S16384x3072_0_2760) shapeCasts_S16384x3072_S16384x3x1024

/-- The sigmoid of the gates. -/
def refG (z : FVec Ideal S16384x3x1024 .f32) : FVec Ideal S16384x3x1024 .f32 :=
  Host.divf (broadcastInDim S16384x3x1024 ![] bcast_S_S16384x3x1024 (constant (F := Ideal) S_ .f32 0x3F800000#32))
    (addf (broadcastInDim S16384x3x1024 ![] bcast_S_S16384x3x1024 (constant (F := Ideal) S_ .f32 0x3F800000#32)) (Host.exp (Host.negf z)))

/-- The S5 branch's projection, both halves. -/
def refU (y : FVec Ideal S16384x512 .bf16) (w : FVec Ideal S512x2048 .f32) : FVec Ideal S16384x2048 .f32 :=
  Host.dotGeneral dot_S16384x512_S512x2048_S16384x2048_1_0_0_1_n_n none (extf .f32 y bitsLt_bf16_f32) w

/-- The S5 branch: its first half times the sigmoid of its second. -/
def refS (u : FVec Ideal S16384x2048 .f32) : FVec Ideal S16384x1024 .f32 :=
  mulf (extractStridedSlice S16384x1024 ![0, 0] u slices_S16384x2048_S16384x1024_0_0)
    (Host.divf (broadcastInDim S16384x1024 ![] bcast_S_S16384x1024 (constant (F := Ideal) S_ .f32 0x3F800000#32))
      (addf (broadcastInDim S16384x1024 ![] bcast_S_S16384x1024 (constant (F := Ideal) S_ .f32 0x3F800000#32))
        (Host.exp (Host.negf (extractStridedSlice S16384x1024 ![0, 1024] u slices_S16384x2048_S16384x1024_0_1024)))))

/-- The gated sum of the three branches. -/
def refM (g : FVec Ideal S16384x3x1024 .f32) (p : FVec Ideal S16384x512 .bf16) (pw : FVec Ideal S512x1024 .f32)
    (a : FVec Ideal S16384x1024 .bf16) (aw : FVec Ideal S1024x1024 .f32) (s : FVec Ideal S16384x1024 .f32) : FVec Ideal S16384x1024 .f32 :=
  addf (addf
    (mulf (shapeCast _ (extractStridedSlice S16384x1x1024 ![0, 0, 0] g slices_S16384x3x1024_S16384x1x1024_0_0_0) shapeCasts_S16384x1x1024_S16384x1024)
      (Host.dotGeneral dot_S16384x512_S512x1024_S16384x1024_1_0_0_1_n_n none (extf .f32 p bitsLt_bf16_f32) pw))
    (mulf (shapeCast _ (extractStridedSlice S16384x1x1024 ![0, 1, 0] g slices_S16384x3x1024_S16384x1x1024_0_1_0) shapeCasts_S16384x1x1024_S16384x1024)
      (Host.dotGeneral dot_S16384x1024_S1024x1024_S16384x1024_1_0_0_1_n_n none (extf .f32 a bitsLt_bf16_f32) aw)))
    (mulf (shapeCast _ (extractStridedSlice S16384x1x1024 ![0, 2, 0] g slices_S16384x3x1024_S16384x1x1024_0_2_0) shapeCasts_S16384x1x1024_S16384x1024) s)

/-- The mixer's output projection. -/
def refO (x : FVec Ideal S16384x1024 .f32) (w : FVec Ideal S1024x1024 .f32) : FVec Ideal S16384x1024 .f32 :=
  Host.dotGeneral dot_S16384x1024_S1024x1024_S16384x1024_1_0_0_1_n_n none x w

/-- The whole reference. -/
def REF (a0 : FVec Ideal S16384x1024 .f32) (a1 : FVec Ideal S1024 .f32) (a2 : FVec Ideal S1024x5832 .f32) (a3 : FVec Ideal S16384x512 .bf16)
    (a4 : FVec Ideal S512x1024 .f32) (a5 : FVec Ideal S16384x1024 .bf16) (a6 : FVec Ideal S1024x1024 .f32) (a7 : FVec Ideal S16384x512 .bf16)
    (a8 : FVec Ideal S512x2048 .f32) (a9 : FVec Ideal S1024x1024 .f32) (a10 : FVec Ideal S1024 .f32) : FVec Ideal S16384x1024 .f32 :=
  addf a0 (rowNorm (refO (refM (refG (refZ (rowNorm a0 a1) a2)) a3 a4 a5 a6 (refS (refU a7 a8))) a9) a10)

/-- The run's result is `REF` of the arguments. -/
theorem res_eq (m : (ℓ : Loc nD τ sig) → Buf (Elt Ideal) ℓ) (c : Dev nD) :
    Cert.MergeReferenceIdeal.Value.res_out0 m c
      = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := rfl

end Cert.MergeReferenceIdeal.Spec

namespace Cert.MergeIdeal.Value

open Cert.MergeIdeal Cert.MergeIdeal.Gen Cert.MergeReferenceIdeal.Spec

/-- The gated sum of the three branches, for one block. -/
def mid (v19 : FVec Ideal S256x3072 .f32) (v23 v27 v32 v33 : FVec Ideal S256x1024 .f32) : FVec Ideal S256x1024 .f32 :=
  have v34 : FVec Ideal S256x1024 .f32 := logistic v33
  have v35 : FVec Ideal S256x1024 .f32 := mulf v32 v34
  have v36 : FVec Ideal S256x1024 .f32 := extractStridedSlice S256x1024 ![0, 0] v19 slices_S256x3072_o0_0_S256x1024
  have v37 : FVec Ideal S256x1024 .f32 := mulf v36 v23
  have v38 : FVec Ideal S256x1024 .f32 := extractStridedSlice S256x1024 ![0, 1024] v19 slices_S256x3072_o0_1024_S256x1024
  have v39 : FVec Ideal S256x1024 .f32 := mulf v38 v27
  have v40 : FVec Ideal S256x1024 .f32 := addf v37 v39
  have v41 : FVec Ideal S256x1024 .f32 := extractStridedSlice S256x1024 ![0, 2048] v19 slices_S256x3072_o0_2048_S256x1024
  have v42 : FVec Ideal S256x1024 .f32 := mulf v41 v35
  have v43 : FVec Ideal S256x1024 .f32 := addf v40 v42
  v43

/-- The block's output projection, normalised and added to the block's rows. -/
def tail (v0 : Vec Ideal S256x1024 .f32) (v43 : FVec Ideal S256x1024 .f32) (v45 : Vec Ideal S1024x1024 .bf16) (v48 : Vec Ideal S1x1024 .f32) : FVec Ideal S256x1024 .f32 :=
  have v44 : FVec Ideal S256x1024 .bf16 := truncf .bf16 v43 bitsLt_bf16_f32
  have v46 : FVec Ideal S1024x1024 .bf16 := shapeCast S1024x1024 v45 shapeCasts_S1024x1024_S1024x1024
  have cst_25 : FVec Ideal S256x1024 .f32 := constant S256x1024 .f32 0x00000000#32
  have v47 : FVec Ideal S256x1024 .f32 := matmul dot_S256x1024_S1024x1024_S256x1024_1_0_0_1_n_n none v44 v46 cst_25
  have v49 : FVec Ideal S1x1024 .f32 := shapeCast S1x1024 v48 shapeCasts_S1x1024_S1x1024
  have v50 : FVec Ideal S256x1024 .f32 := mulf v47 v47
  have v51 : FVec Ideal S256 .f32 := multiReduction .add [1] S256 v50 0x00000000#32 reduces_S256x1024_S256 (.inl rfl) rfl
  have v52 : FVec Ideal S256x1 .f32 := shapeCast S256x1 v51 shapeCasts_S256_S256x1
  have cst_29 : Ideal .f32 := Scalar.ofBits .f32 0x44800000#32
  have v53 : FVec Ideal S256x1 .f32 := broadcast S256x1 cst_29
  have v54 : FVec Ideal S256x1 .f32 := divf v52 v53
  have cst_30 : Ideal .f32 := Scalar.ofBits .f32 0x358637BD#32
  have v55 : FVec Ideal S256x1 .f32 := broadcast S256x1 cst_30
  have v56 : FVec Ideal S256x1 .f32 := addf v54 v55
  have v57 : FVec Ideal S256x1 .f32 := rsqrt v56
  have v58 : FVec Ideal S256x1024 .f32 := broadcastTo S256x1024 v57 broadcasts_S256x1_S256x1024
  have v59 : FVec Ideal S256x1024 .f32 := mulf v47 v58
  have v60 : FVec Ideal S256x1024 .f32 := broadcastTo S256x1024 v49 broadcasts_S1x1024_S256x1024
  have v61 : FVec Ideal S256x1024 .f32 := mulf v59 v60
  have v62 : FVec Ideal S256x1024 .f32 := addf v0 v61
  v62

theorem pay1_eq (v0 v19 v23 v27 v32 v33 v45 v48) :
    k0_pay1 (F := Ideal) v0 v19 v23 v27 v32 v33 v45 v48 = tail v0 (mid v19 v23 v27 v32 v33) v45 v48 := rfl

theorem tail_at (x f F w g) (h : ∀ y, f y = F y) (y) : tail x f w g y = tail x F w g y := by
  rw [show f = F from funext h]

theorem idx : ∀ t : Fin cfg0.N, win0_0.index t = ![t.val, 0] ∧ win0_1.index t = ![0, 0] ∧ win0_2.index t = ![0, 0]
    ∧ win0_3.index t = ![t.val, 0] ∧ win0_4.index t = ![0, 0] ∧ win0_5.index t = ![t.val, 0] ∧ win0_6.index t = ![0, 0]
    ∧ win0_7.index t = ![t.val, 0] ∧ win0_8.index t = ![0, 0] ∧ win0_9.index t = ![0, 0] ∧ win0_10.index t = ![0, 0]
    ∧ win0_11.index t = ![t.val, 0] :=
  (by decide +kernel : ∀ t : Fin grid0.N, _)

variable (m : (ℓ : Loc nD τ sig) → Buf (Elt Ideal) ℓ)

/-- The arguments, by name. -/
abbrev a0 (c : Dev nD) : FVec Ideal S16384x1024 .f32 := m ((c : Thread nD τ).loc main_arg0)
abbrev a1 (c : Dev nD) : FVec Ideal S1024 .f32 := m ((c : Thread nD τ).loc main_arg1)
abbrev a2 (c : Dev nD) : FVec Ideal S1024x5832 .f32 := m ((c : Thread nD τ).loc main_arg2)
abbrev a3 (c : Dev nD) : FVec Ideal S16384x512 .bf16 := m ((c : Thread nD τ).loc main_arg3)
abbrev a4 (c : Dev nD) : FVec Ideal S512x1024 .f32 := m ((c : Thread nD τ).loc main_arg4)
abbrev a5 (c : Dev nD) : FVec Ideal S16384x1024 .bf16 := m ((c : Thread nD τ).loc main_arg5)
abbrev a6 (c : Dev nD) : FVec Ideal S1024x1024 .f32 := m ((c : Thread nD τ).loc main_arg6)
abbrev a7 (c : Dev nD) : FVec Ideal S16384x512 .bf16 := m ((c : Thread nD τ).loc main_arg7)
abbrev a8 (c : Dev nD) : FVec Ideal S512x2048 .f32 := m ((c : Thread nD τ).loc main_arg8)
abbrev a9 (c : Dev nD) : FVec Ideal S1024x1024 .f32 := m ((c : Thread nD τ).loc main_arg9)
abbrev a10 (c : Dev nD) : FVec Ideal S1024 .f32 := m ((c : Thread nD τ).loc main_arg10)

/-- An array that the host prepares. -/
theorem V19 (c : Dev nD) : V m c main_v19 = broadcastInDim S1x1024 ![1] bcast_S1024_S1x1024_1 (show FVec Ideal S1024 .f32 from m ((c : Thread nD τ).loc main_arg1)) := by
  unfold V; after_results; try rfl
/-- An array that the host prepares. -/
theorem V24 (c : Dev nD) : V m c main_v24 = broadcastInDim S1x1024 ![1] bcast_S1024_S1x1024_1 (show FVec Ideal S1024 .f32 from m ((c : Thread nD τ).loc main_arg10)) := by
  unfold V; after_results; try rfl
/-- An array that the host prepares. -/
theorem V18 (c : Dev nD) : V m c main_v18 = truncf .bf16 (extractStridedSlice S1024x3072 ![0, 2760] (show FVec Ideal S1024x5832 .f32 from m ((c : Thread nD τ).loc main_arg2)) slices_S1024x5832_S1024x3072_0_2760) bitsLt_bf16_f32 := by
  unfold V; after_results; try rfl
/-- The gates of a block, before the sigmoid, are the reference's. -/
theorem gate_at (c : Dev nD) (t : Fin cfg0.N) (r : Fin 256) (q : Fin 3072) (i : Fin 16384) (hi : i.val = t.val * 256 + r.val) :
    k0_pay2 (F := Ideal) (iblk m c 0 t) (iblk m c 1 t) (iblk m c 2 t) (ix2 r q)
      = Ideal.logistic (∑ l : Fin 1024, rowNorm (a0 m c) (a1 m c) (ix2 i l) * a2 m c (ix2 l ⟨2760 + q.val, by omega⟩)) := by
  pointwise [k0_pay2, rowNorm]
  blk_point [iblk, V, idx t]
  · rw [V19]; pointwise; blk_ext [idx t]
  · rw [V18]; pointwise; blk_ext [idx t]

/-- The rows of a block before the output projection are the reference's. -/
theorem mid_at (c : Dev nD) (t : Fin cfg0.N) (r : Fin 256) (l : Fin 1024) (i : Fin 16384) (hi : i.val = t.val * 256 + r.val) :
    mid (k0_pay2 (F := Ideal) (iblk m c 0 t) (iblk m c 1 t) (iblk m c 2 t)) (k0_pay3 (iblk m c 3 t) (iblk m c 4 t)) (k0_pay4 (iblk m c 5 t) (iblk m c 6 t))
      (k0_pay6 (iblk m c 7 t) (iblk m c 8 t)) (k0_pay7 (iblk m c 7 t) (iblk m c 8 t)) (ix2 r l)
      = refM (refG (refZ (rowNorm (a0 m c) (a1 m c)) (a2 m c))) (a3 m c) (a4 m c) (a5 m c) (a6 m c) (refS (refU (a7 m c) (a8 m c))) (ix2 i l) := by
  have hg := fun (r : Fin 256) (q : Fin 3072) (i : Fin 16384) (hi : i.val = t.val * 256 + r.val) => gate_at m c t r q i hi
  generalize rowNorm (a0 m c) (a1 m c) = n at hg ⊢
  pointwise [mid, fun q => hg r q i hi, k0_pay3, k0_pay4, k0_pay5, k0_pay6, k0_pay7, refM, refG, refZ, refS, refU, Ideal.logistic]
  blk_point [iblk, V, idx t]

theorem point (c : Dev nD) (t : Fin cfg0.N) (y) :
    out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) y
      = REF (a0 m c) (a1 m c) (a2 m c) (a3 m c) (a4 m c) (a5 m c) (a6 m c) (a7 m c) (a8 m c) (a9 m c) (a10 m c) (((cfg0.win 11).blk t).view.emb y) := by
  frame_out
  rw [pay1_eq]
  have ht : t.val < 64 := lt_of_lt_of_eq t.isLt (by decide)
  refine (tail_at _ _ (fun y => refM (refG (refZ (rowNorm (a0 m c) (a1 m c)) (a2 m c))) (a3 m c) (a4 m c) (a5 m c) (a6 m c) (refS (refU (a7 m c) (a8 m c)))
    (ix2 ⟨t.val * 256 + (y 0).val, by have := (y 0).isLt; simp at this; omega⟩ (y 1))) _ _ (fun y => ?_) y).trans ?_
  · idx_vars y
    exact mid_at m c t y0 y1 _ rfl
  · unfold REF
    generalize refM (refG (refZ (rowNorm (a0 m c) (a1 m c)) (a2 m c))) (a3 m c) (a4 m c) (a5 m c) (a6 m c) (refS (refU (a7 m c) (a8 m c))) = f
    pointwise [tail, rowNorm, refO]
    blk_point [iblk, V, idx t]
    rw [V24]; pointwise; blk_ext [idx t]

/-- The result array after the run is the reference's term of the arguments. -/
theorem final (c : Dev nD) : (dats m 0 c).arrAt 11 (cfgs 0).N
    = REF (a0 m c) (a1 m c) (a2 m c) (a3 m c) (a4 m c) (a5 m c) (a6 m c) (a7 m c) (a8 m c) (a9 m c) (a10 m c) := by
  refine (dats m 0 c).arrAt_eq_of_covers 11 _ (by decide +kernel) fun t _ y => ?_
  blk_simp
  rw [after0_11]
  exact point m c t y

end Cert.MergeIdeal.Value

end
-- ==== Proof.MergeClaim.lean ====
module

public import proofs.«01_k».proof.Defs
public import proofs.«01_k».proof.Proof.Gen.MergeIdeal.Value
public import proofs.«01_k».proof.Proof.MergeValue
public import Idealize.ShloMosaic.Adequacy
public import Idealize.ShloMosaic.Init

@[expose] public section

set_option maxRecDepth 16384

noncomputable section

namespace Cert.Proof

open Idealize.ShloMosaic Idealize.SL.Sem

/-- The merging call's run and its reference's end with the same result. -/
theorem algebraic_merge : @algebraic_MergeIdeal_MergeReferenceIdeal Cert.MergeIdeal.Gen.facts Cert.MergeReferenceIdeal.Gen.facts := by
  intro m g m' g' _ hagree
  refine ⟨fun c => (Cert.MergeIdeal.Gen.dats m 0 c).arrAt 11 Cert.MergeIdeal.cfg0.N,
    Cert.MergeIdeal.Value.run_blocks m g, ?_⟩
  refine (θ_run _ _ _).mono (fun r h c => ⟨(h c).1.trans ?_, (h c).2⟩) (Cert.MergeReferenceIdeal.Value.run m' g')
  obtain ⟨h0, h1, h2, h3, h4, h5, h6, h7, h8, h9, h10⟩ := hagree c
  refine (Cert.MergeReferenceIdeal.Spec.res_eq m' c).trans ?_
  rw [h0, h1, h2, h3, h4, h5, h6, h7, h8, h9, h10]
  exact (Cert.MergeIdeal.Value.final m c).symm

end Cert.Proof

end
-- ==== Proof.InProjValue.lean ====
module

public import proofs.«01_k».proof.Proof.Gen.InProjIdeal.Value
public import proofs.«01_k».proof.Proof.Gen.InProjReferenceIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.InProjReferenceIdeal.Spec

open Cert.InProjReferenceIdeal Cert.InProjReferenceIdeal.Gen

/-- Root-mean-square normalisation of every row, times the gain. -/
def rowNorm (x : FVec Ideal S16384x1024 .f32) (g : FVec Ideal S1024 .f32) : FVec Ideal S16384x1024 .f32 :=
  mulf (mulf x (broadcastInDim S16384x1024 ![0, 1] bcast_S16384x1_S16384x1024_0_1
    (Host.rsqrt (addf (Host.divf (broadcastInDim S16384x1 ![0] bcast_S16384_S16384x1_0
      (Host.reduceAdd (mulf x x) (constant (F := Ideal) S_ .f32 0x00000000#32) reducesTo_S16384x1024_S16384_d1 h_S_))
      (broadcastInDim S16384x1 ![] bcast_S_S16384x1 (constant (F := Ideal) S_ .f32 0x44800000#32)))
      (broadcastInDim S16384x1 ![] bcast_S_S16384x1 (constant (F := Ideal) S_ .f32 0x358637BD#32))))))
    (broadcastInDim S16384x1024 ![0, 1] bcast_S1x1024_S16384x1024_0_1 (broadcastInDim S1x1024 ![1] bcast_S1024_S1x1024_1 g))

/-- Every column of the projection, from the normalised rows. -/
def refZ (n : FVec Ideal S16384x1024 .f32) (w : FVec Ideal S1024x5832 .f32) : FVec Ideal S16384x5832 .f32 :=
  Host.dotGeneral dot_S16384x1024_S1024x5832_S16384x5832_1_0_0_1_n_n none n w

/-- The columns of the pooling branch, of the S5 branch and of the queries. -/
def refRows (z : FVec Ideal S16384x5832 .f32) : FVec Ideal S16384x2048 .f32 :=
  concatenate S16384x2048 1 [⟨S16384x512, extractStridedSlice S16384x512 ![0, 0] z slices_S16384x5832_S16384x512_0_0⟩,
    ⟨S16384x512, extractStridedSlice S16384x512 ![0, 2248] z slices_S16384x5832_S16384x512_0_2248⟩,
    ⟨S16384x1024, extractStridedSlice S16384x1024 ![0, 512] z slices_S16384x5832_S16384x1024_0_512⟩]
    concatenates_S16384x512_S16384x512_S16384x1024_S16384x2048_d1

/-- A block of columns of zeros. -/
def zeros : FVec Ideal S16384x64 .f32 := broadcastInDim S16384x64 ![] bcast_S_S16384x64 (constant (F := Ideal) S_ .f32 0x00000000#32)

/-- The columns of the keys, of the values with their column of ones, and of the index keys. -/
def refKv (z : FVec Ideal S16384x5832 .f32) : FVec Ideal S16384x384 .bf16 :=
  truncf .bf16 (concatenate S16384x384 1 [⟨S16384x64, extractStridedSlice S16384x64 ![0, 1536] z slices_S16384x5832_S16384x64_0_1536⟩,
    ⟨S16384x64, zeros⟩,
    ⟨S16384x64, extractStridedSlice S16384x64 ![0, 1600] z slices_S16384x5832_S16384x64_0_1600⟩,
    ⟨S16384x1, broadcastInDim S16384x1 ![] bcast_S_S16384x1 (constant (F := Ideal) S_ .f32 0x3F800000#32)⟩,
    ⟨S16384x63, extractStridedSlice S16384x63 ![0, 0] zeros slices_S16384x64_S16384x63_0_0⟩,
    ⟨S16384x64, extractStridedSlice S16384x64 ![0, 2176] z slices_S16384x5832_S16384x64_0_2176⟩,
    ⟨S16384x64, zeros⟩]
    concatenates_S16384x64_S16384x64_S16384x64_S16384x1_S16384x63_S16384x64_S16384x64_S16384x384_d1 : FVec Ideal S16384x384 .f32) bitsLt_bf16_f32

/-- The columns of the index queries and of their weights, transposed. -/
def refCols (z : FVec Ideal S16384x5832 .f32) : FVec Ideal S528x16384 .f32 :=
  transpose S528x16384 [1, 0] (concatenate S16384x528 1 [⟨S16384x512, extractStridedSlice S16384x512 ![0, 1664] z slices_S16384x5832_S16384x512_0_1664⟩,
    ⟨S16384x8, extractStridedSlice S16384x8 ![0, 2240] z slices_S16384x5832_S16384x8_0_2240⟩,
    ⟨S16384x8, extractStridedSlice S16384x8 ![0, 0] zeros slices_S16384x64_S16384x8_0_0⟩]
    concatenates_S16384x512_S16384x8_S16384x8_S16384x528_d1 : FVec Ideal S16384x528 .f32) transposes_S16384x528_S528x16384_1_0

end Cert.InProjReferenceIdeal.Spec

namespace Cert.InProjIdeal.Value

open Cert.InProjIdeal Cert.InProjIdeal.Gen Cert.InProjReferenceIdeal.Spec

variable (m : (ℓ : Loc nD τ sig) → Buf (Elt Ideal) ℓ)

/-- The arguments, by name. -/
abbrev aX (c : Dev nD) : FVec Ideal S16384x1024 .f32 := m ((c : Thread nD τ).loc main_arg0)
abbrev aG (c : Dev nD) : FVec Ideal S1024 .f32 := m ((c : Thread nD τ).loc main_arg1)
abbrev aW (c : Dev nD) : FVec Ideal S1024x5832 .f32 := m ((c : Thread nD τ).loc main_arg2)

theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] ∧ win0_6.index t = ![0, t.val] :=
  (by decide +kernel : ∀ t : Fin grid0.N, _)

/-- The padding value: zero. -/
abbrev pz : FVec Ideal S_ .f32 := sitofp (F := Ideal) .f32 (constantI S_ 32 0#32)

/-- The weights' columns as the host lays them out. -/
def wRows (w : FVec Ideal S1024x5832 .f32) : FVec Ideal S1024x2432 .f32 :=
  concatenate S1024x2432 1 [⟨S1024x512, extractStridedSlice S1024x512 ![0, 0] w slices_S1024x5832_S1024x512_0_0⟩,
    ⟨S1024x512, extractStridedSlice S1024x512 ![0, 2248] w slices_S1024x5832_S1024x512_0_2248⟩,
    ⟨S1024x1024, extractStridedSlice S1024x1024 ![0, 512] w slices_S1024x5832_S1024x1024_0_512⟩,
    ⟨S1024x128, pad S1024x128 ![0, 0] ![0, 64] ![0, 0] (extractStridedSlice S1024x64 ![0, 1536] w slices_S1024x5832_S1024x64_0_1536) pz pads_S1024x64_S1024x128_000_0640 h_S_⟩,
    ⟨S1024x128, pad S1024x128 ![0, 0] ![0, 64] ![0, 0] (extractStridedSlice S1024x64 ![0, 1600] w slices_S1024x5832_S1024x64_0_1600) pz pads_S1024x64_S1024x128_000_0640 h_S_⟩,
    ⟨S1024x128, pad S1024x128 ![0, 0] ![0, 64] ![0, 0] (extractStridedSlice S1024x64 ![0, 2176] w slices_S1024x5832_S1024x64_0_2176) pz pads_S1024x64_S1024x128_000_0640 h_S_⟩]
    concatenates_S1024x512_S1024x512_S1024x1024_S1024x128_S1024x128_S1024x128_S1024x2432_d1

/-- The other weights' columns, transposed, as the host lays them out. -/
def wCols (w : FVec Ideal S1024x5832 .f32) : FVec Ideal S528x1024 .f32 :=
  transpose S528x1024 [1, 0] (concatenate S1024x528 1 [⟨S1024x512, extractStridedSlice S1024x512 ![0, 1664] w slices_S1024x5832_S1024x512_0_1664⟩,
    ⟨S1024x16, pad S1024x16 ![0, 0] ![0, 8] ![0, 0] (extractStridedSlice S1024x8 ![0, 2240] w slices_S1024x5832_S1024x8_0_2240) pz pads_S1024x8_S1024x16_000_080 h_S_⟩]
    concatenates_S1024x512_S1024x16_S1024x528_d1 : FVec Ideal S1024x528 .f32) transposes_S1024x528_S528x1024_1_0

/-- The first host operations: the slices of the weights and the first three paddings. -/
abbrev opsA : List (HloOp τ sig (Elt Ideal)) := hostOps0 ++ (hostOps0_1 ++ (hostOps0_2 ++ (hostOps0_3 ++ (hostOps0_4 ++ hostOps0_5))))

/-- The host operations after them. -/
abbrev opsB : List (HloOp τ sig (Elt Ideal)) := hostOps0_6 ++ (hostOps0_7 ++ hostOps0_8)

/-- What the first operations leave in `main_v0`. -/
theorem opsA_v0 (V : Valuation τ sig (Elt Ideal)) : StableHlo.after opsA V (Proc.devRef .tc main_v0) =
    extractStridedSlice S1024x512 ![0, 0] (V (Proc.devRef .tc main_arg2) : FVec Ideal S1024x5832 .f32) slices_S1024x5832_S1024x512_0_0 := by
  simp only [opsA, hostOps0, hostOps0_1, hostOps0_2, hostOps0_3, hostOps0_4, hostOps0_5, List.cons_append, List.nil_append]; after_results_simp; after_results_loop
  try rfl

/-- What the first operations leave in `main_v7`. -/
theorem opsA_v7 (V : Valuation τ sig (Elt Ideal)) : StableHlo.after opsA V (Proc.devRef .tc main_v7) =
    extractStridedSlice S1024x512 ![0, 2248] (V (Proc.devRef .tc main_arg2) : FVec Ideal S1024x5832 .f32) slices_S1024x5832_S1024x512_0_2248 := by
  simp only [opsA, hostOps0, hostOps0_1, hostOps0_2, hostOps0_3, hostOps0_4, hostOps0_5, List.cons_append, List.nil_append]; after_results_simp; after_results_loop
  try rfl

/-- What the first operations leave in `main_v1`. -/
theorem opsA_v1 (V : Valuation τ sig (Elt Ideal)) : StableHlo.after opsA V (Proc.devRef .tc main_v1) =
    extractStridedSlice S1024x1024 ![0, 512] (V (Proc.devRef .tc main_arg2) : FVec Ideal S1024x5832 .f32) slices_S1024x5832_S1024x1024_0_512 := by
  simp only [opsA, hostOps0, hostOps0_1, hostOps0_2, hostOps0_3, hostOps0_4, hostOps0_5, List.cons_append, List.nil_append]; after_results_simp; after_results_loop
  try rfl

/-- What the first operations leave in `main_v9`. -/
theorem opsA_v9 (V : Valuation τ sig (Elt Ideal)) : StableHlo.after opsA V (Proc.devRef .tc main_v9) =
    pad S1024x128 ![0, 0] ![0, 64] ![0, 0] (extractStridedSlice S1024x64 ![0, 1536] (V (Proc.devRef .tc main_arg2) : FVec Ideal S1024x5832 .f32) slices_S1024x5832_S1024x64_0_1536) pz pads_S1024x64_S1024x128_000_0640 h_S_ := by
  simp only [opsA, hostOps0, hostOps0_1, hostOps0_2, hostOps0_3, hostOps0_4, hostOps0_5, List.cons_append, List.nil_append]; after_results_simp; after_results_loop
  try rfl

/-- What the first operations leave in `main_v10`. -/
theorem opsA_v10 (V : Valuation τ sig (Elt Ideal)) : StableHlo.after opsA V (Proc.devRef .tc main_v10) =
    pad S1024x128 ![0, 0] ![0, 64] ![0, 0] (extractStridedSlice S1024x64 ![0, 1600] (V (Proc.devRef .tc main_arg2) : FVec Ideal S1024x5832 .f32) slices_S1024x5832_S1024x64_0_1600) pz pads_S1024x64_S1024x128_000_0640 h_S_ := by
  simp only [opsA, hostOps0, hostOps0_1, hostOps0_2, hostOps0_3, hostOps0_4, hostOps0_5, List.cons_append, List.nil_append]; after_results_simp; after_results_loop
  try rfl

/-- What the first operations leave in `main_v11`. -/
theorem opsA_v11 (V : Valuation τ sig (Elt Ideal)) : StableHlo.after opsA V (Proc.devRef .tc main_v11) =
    pad S1024x128 ![0, 0] ![0, 64] ![0, 0] (extractStridedSlice S1024x64 ![0, 2176] (V (Proc.devRef .tc main_arg2) : FVec Ideal S1024x5832 .f32) slices_S1024x5832_S1024x64_0_2176) pz pads_S1024x64_S1024x128_000_0640 h_S_ := by
  simp only [opsA, hostOps0, hostOps0_1, hostOps0_2, hostOps0_3, hostOps0_4, hostOps0_5, List.cons_append, List.nil_append]; after_results_simp; after_results_loop
  try rfl

/-- What the later operations make of the six pieces. -/
theorem opsB_v16 (V : Valuation τ sig (Elt Ideal)) : StableHlo.after opsB V (Proc.devRef .tc main_v16) =
    (truncf .bf16 (concatenate S1024x2432 1 [⟨S1024x512, (V (Proc.devRef .tc main_v0) : FVec Ideal S1024x512 .f32)⟩,
      ⟨S1024x512, (V (Proc.devRef .tc main_v7) : FVec Ideal S1024x512 .f32)⟩,
      ⟨S1024x1024, (V (Proc.devRef .tc main_v1) : FVec Ideal S1024x1024 .f32)⟩,
      ⟨S1024x128, (V (Proc.devRef .tc main_v9) : FVec Ideal S1024x128 .f32)⟩,
      ⟨S1024x128, (V (Proc.devRef .tc main_v10) : FVec Ideal S1024x128 .f32)⟩,
      ⟨S1024x128, (V (Proc.devRef .tc main_v11) : FVec Ideal S1024x128 .f32)⟩]
      concatenates_S1024x512_S1024x512_S1024x1024_S1024x128_S1024x128_S1024x128_S1024x2432_d1 : FVec Ideal S1024x2432 .f32) bitsLt_bf16_f32 : FVec Ideal S1024x2432 .bf16) := by
  simp only [opsB, hostOps0_6, hostOps0_7, hostOps0_8, List.cons_append, List.nil_append]
  after_results_simp
  try after_results_loop
  try rfl

theorem V16 (c : Dev nD) : V m c main_v16 = truncf .bf16 (wRows (aW m c)) bitsLt_bf16_f32 := by
  have h : V m c main_v16 = StableHlo.after (opsA ++ opsB) (fun b => m (c, b)) (Proc.devRef .tc main_v16) := rfl
  rw [h, StableHlo.after_append, opsB_v16, opsA_v0, opsA_v7, opsA_v1, opsA_v9, opsA_v10, opsA_v11]
  rfl

set_option maxHeartbeats 4000000 in
set_option maxRecDepth 100000 in
theorem V17 (c : Dev nD) : V m c main_v17 = truncf .bf16 (wCols (aW m c)) bitsLt_bf16_f32 := by
  unfold V
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  after_results_loop
  try rfl
theorem V19 (c : Dev nD) : V m c main_v19 = broadcastInDim S1x1024 ![1] bcast_S1024_S1x1024_1 (aG m c) := by
  unfold V; after_results; try rfl
theorem V0 (c : Dev nD) : V m c main_arg0 = aX m c := V_main_arg0 m c

/-- A block's normalised rows are the reference's. -/
theorem norm_at (c : Dev nD) (t : Fin cfg0.N) (r : Fin 512) (l : Fin 1024) (i : Fin 16384) (hi : i.val = t.val * 512 + r.val) :
    k0_pay1 (F := Ideal) (iblk m c 0 t) (iblk m c 1 t) (ix2 r l) = rowNorm (aX m c) (aG m c) (ix2 i l) := by
  pointwise [k0_pay1, rowNorm]
  blk_point [iblk, V0, idx t]
  rw [V19]; pointwise; blk_ext [idx t]

/-- The padding value is zero. -/
theorem pz_at (x : S_.Idx) : pz x = 0 := by
  show FloatOps.sitofp (F := Ideal) .f32 0#32 = 0
  show ((((0#32 : BitVec 32).toInt : ℝ)) : EReal) = 0
  simp

/-- The laid out weights, range by range: the pooling columns, -/
theorem w0 (w : FVec Ideal S1024x5832 .f32) (l : Fin 1024) (q : Fin 2432) (h : q.val < 512) :
    wRows w (ix2 l q) = w (ix2 l ⟨q.val, by omega⟩) := by
  pointwise [wRows, pz_at]; split_ifs <;> first | omega | rfl
/-- the S5 columns, -/
theorem w1 (w : FVec Ideal S1024x5832 .f32) (l : Fin 1024) (q : Fin 2432) (h : 512 ≤ q.val) (h' : q.val < 1024) :
    wRows w (ix2 l q) = w (ix2 l ⟨2248 + (q.val - 512), by omega⟩) := by
  pointwise [wRows, pz_at]; split_ifs <;> first | omega | rfl
/-- the queries', -/
theorem w2 (w : FVec Ideal S1024x5832 .f32) (l : Fin 1024) (q : Fin 2432) (h : 1024 ≤ q.val) (h' : q.val < 2048) :
    wRows w (ix2 l q) = w (ix2 l ⟨512 + (q.val - 512 - 512), by omega⟩) := by
  pointwise [wRows, pz_at]; split_ifs <;> first | omega | rfl
/-- the keys', -/
theorem w3 (w : FVec Ideal S1024x5832 .f32) (l : Fin 1024) (q : Fin 2432) (h : 2048 ≤ q.val) (h' : q.val < 2112) :
    wRows w (ix2 l q) = w (ix2 l ⟨1536 + (q.val - 512 - 512 - 1024), by omega⟩) := by
  pointwise [wRows, pz_at]; split_ifs <;> first | omega | rfl
/-- the values', -/
theorem w5 (w : FVec Ideal S1024x5832 .f32) (l : Fin 1024) (q : Fin 2432) (h : 2176 ≤ q.val) (h' : q.val < 2240) :
    wRows w (ix2 l q) = w (ix2 l ⟨1600 + (q.val - 512 - 512 - 1024 - 128), by omega⟩) := by
  pointwise [wRows, pz_at]; split_ifs <;> first | omega | rfl
/-- the index keys', -/
theorem w7 (w : FVec Ideal S1024x5832 .f32) (l : Fin 1024) (q : Fin 2432) (h : 2304 ≤ q.val) (h' : q.val < 2368) :
    wRows w (ix2 l q) = w (ix2 l ⟨2176 + (q.val - 512 - 512 - 1024 - 128 - 128), by omega⟩) := by
  pointwise [wRows, pz_at]; split_ifs <;> first | omega | rfl
/-- and the zeros between them. -/
theorem wz (w : FVec Ideal S1024x5832 .f32) (l : Fin 1024) (q : Fin 2432)
    (h : 2112 ≤ q.val ∧ q.val < 2176 ∨ 2240 ≤ q.val ∧ q.val < 2304 ∨ 2368 ≤ q.val) : wRows w (ix2 l q) = 0 := by
  pointwise [wRows, pz_at]; split_ifs <;> first | omega | rfl

/-- A column of the projection. -/
theorem z_at (n : FVec Ideal S16384x1024 .f32) (w : FVec Ideal S1024x5832 .f32) (i : Fin 16384) (q : Fin 5832) :
    refZ n w (ix2 i q) = ∑ l : Fin 1024, n (ix2 i l) * w (ix2 l q) := by
  pointwise [refZ]

/-- The `rows` columns: the laid out weights give the reference's columns. -/
theorem rows_at (n : FVec Ideal S16384x1024 .f32) (w : FVec Ideal S1024x5832 .f32) (i : Fin 16384) (q : Fin 2048) :
    ∑ l : Fin 1024, n (ix2 i l) * wRows w (ix2 l ⟨q.val, by omega⟩) = refRows (refZ n w) (ix2 i q) := by
  have hz := z_at n w i
  generalize refZ n w = z at hz ⊢
  have hq := q.isLt
  pointwise [refRows]
  obtain h | h | h : q.val < 512 ∨ 512 ≤ q.val ∧ q.val < 1024 ∨ 1024 ≤ q.val := by omega
  all_goals
    split_ifs <;> first | omega | skip
    rw [hz]
    refine Finset.sum_congr rfl fun l _ => ?_
  · rw [w0 _ _ _ h]
  · rw [w1 _ _ _ h.1 h.2]
  · rw [w2 _ _ _ h hq]

/-- The `kv` columns. -/
theorem kv_at (n : FVec Ideal S16384x1024 .f32) (w : FVec Ideal S1024x5832 .f32) (i : Fin 16384) (q : Fin 384) :
    (if q.val = 192 then 1 else ∑ l : Fin 1024, n (ix2 i l) * wRows w (ix2 l ⟨2048 + q.val, by omega⟩)) = refKv (refZ n w) (ix2 i q) := by
  have hz := z_at n w i
  generalize refZ n w = z at hz ⊢
  have hq := q.isLt
  have hs (f : Fin 1024 → EReal) (hf : ∀ l, wRows w (ix2 l ⟨2048 + q.val, by omega⟩) = f l) :
      ∑ l : Fin 1024, n (ix2 i l) * wRows w (ix2 l ⟨2048 + q.val, by omega⟩) = ∑ l : Fin 1024, n (ix2 i l) * f l :=
    Finset.sum_congr rfl fun l _ => by rw [hf]
  have hs0 (hf : ∀ l, wRows w (ix2 l ⟨2048 + q.val, by omega⟩) = 0) :
      ∑ l : Fin 1024, n (ix2 i l) * wRows w (ix2 l ⟨2048 + q.val, by omega⟩) = 0 :=
    Finset.sum_eq_zero fun l _ => by rw [hf, mul_zero]
  generalize ∑ l : Fin 1024, n (ix2 i l) * wRows w (ix2 l ⟨2048 + q.val, by omega⟩) = s at hs hs0 ⊢
  pointwise [refKv, zeros]
  obtain h | h | h | h | h | h | h : q.val < 64 ∨ 64 ≤ q.val ∧ q.val < 128 ∨ 128 ≤ q.val ∧ q.val < 192 ∨ q.val = 192 ∨ 192 < q.val ∧ q.val < 256
    ∨ 256 ≤ q.val ∧ q.val < 320 ∨ 320 ≤ q.val := by omega
  all_goals split_ifs <;> first | omega | rfl | skip
  · rw [hz]; refine hs _ fun l => (w3 w l _ (Nat.le_add_right _ _) (by show 2048 + q.val < _; omega)).trans ?_
    exact congrArg (fun k => w (ix2 l k)) (Fin.ext (by dsimp only; omega))
  · exact hs0 fun l => wz w l _ (.inl ⟨by show _ ≤ 2048 + q.val; omega, by show 2048 + q.val < _; omega⟩)
  · rw [hz]; refine hs _ fun l => (w5 w l _ (by show _ ≤ 2048 + q.val; omega) (by show 2048 + q.val < _; omega)).trans ?_
    exact congrArg (fun k => w (ix2 l k)) (Fin.ext (by dsimp only; omega))
  · exact hs0 fun l => wz w l _ (.inr (.inl ⟨by show _ ≤ 2048 + q.val; omega, by show 2048 + q.val < _; omega⟩))
  · rw [hz]; refine hs _ fun l => (w7 w l _ (by show _ ≤ 2048 + q.val; omega) (by show 2048 + q.val < _; omega)).trans ?_
    exact congrArg (fun k => w (ix2 l k)) (Fin.ext (by dsimp only; omega))
  · exact hs0 fun l => wz w l _ (.inr (.inr (by show _ ≤ 2048 + q.val; omega)))

/-- The transposed columns. -/
theorem cols_at (n : FVec Ideal S16384x1024 .f32) (w : FVec Ideal S1024x5832 .f32) (i : Fin 16384) (q : Fin 528) :
    ∑ l : Fin 1024, wCols w (ix2 q l) * n (ix2 i l) = refCols (refZ n w) (ix2 q i) := by
  have hq := q.isLt
  pointwise [refCols, refZ, wCols, zeros, pz_at]
  by_cases h : q.val < 512
  · simp only [dif_pos h]; exact Finset.sum_congr rfl fun l _ => mul_comm _ _
  · by_cases h' : q.val - 512 < 8
    · simp only [dif_neg h, dif_pos h']; exact Finset.sum_congr rfl fun l _ => mul_comm _ _
    · simp only [dif_neg h, dif_neg h', zero_mul, Finset.sum_const_zero]

/-- The column of ones is the only one replaced. -/
theorem one_at (q : Fin 384) (a b : EReal) :
    Scalar.select (IntOp.cmpi CmpIPredicate.eq (BitVec.ofNat 32 q.val) 192#32) a b = if q.val = 192 then a else b := by
  have hq := q.isLt
  by_cases h : q.val = 192
  · rw [h]; rfl
  · rw [if_neg h]
    have : BitVec.ofNat 32 q.val ≠ 192#32 := fun e => h (by
      have := congrArg BitVec.toNat e
      simpa [Nat.mod_eq_of_lt (show q.val < 4294967296 by omega)] using this)
    have hb : (BitVec.ofNat 32 q.val == 192#32) = false := beq_eq_false_iff_ne.mpr this
    simp [Scalar.select, IntOp.cmpi, hb]

set_option maxHeartbeats 1000000 in
theorem point_rows (c : Dev nD) (t : Fin cfg0.N) (y) :
    out0_4 (iblk m c 0 t) (iblk m c 1 t) (iblk m c 2 t) (iblk m c 3 t) y
      = refRows (refZ (rowNorm (aX m c) (aG m c)) (aW m c)) (((cfg0.win 4).blk t).view.emb y) := by
  have ht : t.val < 32 := lt_of_lt_of_eq t.isLt (by decide)
  have hn := fun (r : Fin 512) (l : Fin 1024) => norm_at m c t r l ⟨t.val * 512 + r.val, by omega⟩ rfl
  idx_vars y
  rw [show ((cfg0.win 4).blk t).view.emb (ix2 y0 y1) = ix2 ⟨t.val * 512 + y0.val, by omega⟩ y1 by blk_ext [idx t]]
  rw [← rows_at]
  have hV := V16 m c
  generalize wRows (aW m c) = W at hV ⊢
  frame_out
  generalize rowNorm (aX m c) (aG m c) = n at hn ⊢
  pointwise [hn, k0_pay2, k0_pay3]
  blk_point [iblk, idx t]
  all_goals (rw [hV]; pointwise; blk_ext [idx t])

set_option maxHeartbeats 1000000 in
theorem point_kv (c : Dev nD) (t : Fin cfg0.N) (y) :
    out0_5 (iblk m c 0 t) (iblk m c 1 t) (iblk m c 2 t) (iblk m c 3 t) y
      = refKv (refZ (rowNorm (aX m c) (aG m c)) (aW m c)) (((cfg0.win 5).blk t).view.emb y) := by
  have ht : t.val < 32 := lt_of_lt_of_eq t.isLt (by decide)
  have hn := fun (r : Fin 512) (l : Fin 1024) => norm_at m c t r l ⟨t.val * 512 + r.val, by omega⟩ rfl
  idx_vars y
  rw [show ((cfg0.win 5).blk t).view.emb (ix2 y0 y1) = ix2 ⟨t.val * 512 + y0.val, by omega⟩ y1 by blk_ext [idx t]]
  rw [← kv_at, ← one_at]
  have hV := V16 m c
  generalize wRows (aW m c) = W at hV ⊢
  frame_out
  generalize rowNorm (aX m c) (aG m c) = n at hn ⊢
  pointwise [hn, k0_pay2, k0_pay4]
  blk_point [iblk, idx t]
  all_goals (rw [hV]; pointwise; blk_ext [idx t])

set_option maxHeartbeats 1000000 in
theorem point_cols (c : Dev nD) (t : Fin cfg0.N) (y) :
    out0_6 (iblk m c 0 t) (iblk m c 1 t) (iblk m c 2 t) (iblk m c 3 t) y
      = refCols (refZ (rowNorm (aX m c) (aG m c)) (aW m c)) (((cfg0.win 6).blk t).view.emb y) := by
  have ht : t.val < 32 := lt_of_lt_of_eq t.isLt (by decide)
  have hn := fun (r : Fin 512) (l : Fin 1024) => norm_at m c t r l ⟨t.val * 512 + r.val, by omega⟩ rfl
  idx_vars y
  rw [show ((cfg0.win 6).blk t).view.emb (ix2 y0 y1) = ix2 y0 ⟨t.val * 512 + y1.val, by omega⟩ by blk_ext [idx t]]
  rw [← cols_at]
  have hV := V17 m c
  generalize wCols (aW m c) = W at hV ⊢
  frame_out
  generalize rowNorm (aX m c) (aG m c) = n at hn ⊢
  pointwise [hn, k0_pay5]
  blk_point [iblk, idx t]
  all_goals (rw [hV]; pointwise; blk_ext [idx t])

theorem final_rows (c : Dev nD) : (dats m 0 c).arrAt 4 (cfgs 0).N = refRows (refZ (rowNorm (aX m c) (aG m c)) (aW m c)) := by
  refine (dats m 0 c).arrAt_eq_of_covers 4 _ (by decide +kernel) fun t _ y => ?_
  blk_simp
  rw [after0_4]
  exact point_rows m c t y

theorem final_kv (c : Dev nD) : (dats m 0 c).arrAt 5 (cfgs 0).N = refKv (refZ (rowNorm (aX m c) (aG m c)) (aW m c)) := by
  refine (dats m 0 c).arrAt_eq_of_covers 5 _ (by decide +kernel) fun t _ y => ?_
  blk_simp
  rw [after0_5]
  exact point_kv m c t y

theorem final_cols (c : Dev nD) : (dats m 0 c).arrAt 6 (cfgs 0).N = refCols (refZ (rowNorm (aX m c) (aG m c)) (aW m c)) := by
  refine (dats m 0 c).arrAt_eq_of_covers 6 _ (by decide +kernel) fun t _ y => ?_
  blk_simp
  rw [after0_6]
  exact point_cols m c t y

end Cert.InProjIdeal.Value

end
-- ==== Proof.InProjClaim.lean ====
module

public import proofs.«01_k».proof.Defs
public import proofs.«01_k».proof.Proof.InProjValue
public import Idealize.ShloMosaic.Adequacy
public import Idealize.ShloMosaic.Init

@[expose] public section

set_option maxRecDepth 16384

noncomputable section

namespace Cert.Proof

open Idealize.ShloMosaic Idealize.SL.Sem

/-- The run of the combined input projection and its reference's end with the same three results. -/
theorem algebraic_in_proj : @algebraic_InProjIdeal_InProjReferenceIdeal Cert.InProjIdeal.Gen.facts Cert.InProjReferenceIdeal.Gen.facts := by
  pair_intro
  · run_from Cert.InProjIdeal.Value.run_blocks m g
  · refine (θ_run _ _ _).mono (fun r h c => ?_) (Cert.InProjReferenceIdeal.Value.run m' g')
    obtain ⟨h0, h1, h2⟩ := hagree c
    refine ⟨(h c).1.trans (Eq.trans (b := Cert.InProjReferenceIdeal.Spec.refRows (Cert.InProjReferenceIdeal.Spec.refZ (Cert.InProjReferenceIdeal.Spec.rowNorm
      (m' ((c.tc : Thread Cert.InProjReferenceIdeal.nD Cert.InProjReferenceIdeal.τ).loc Cert.InProjReferenceIdeal.main_arg0))
      (m' ((c.tc : Thread Cert.InProjReferenceIdeal.nD Cert.InProjReferenceIdeal.τ).loc Cert.InProjReferenceIdeal.main_arg1)))
      (m' ((c.tc : Thread Cert.InProjReferenceIdeal.nD Cert.InProjReferenceIdeal.τ).loc Cert.InProjReferenceIdeal.main_arg2)))) rfl ?_),
      (h c).2.1.trans (Eq.trans (b := Cert.InProjReferenceIdeal.Spec.refKv (Cert.InProjReferenceIdeal.Spec.refZ (Cert.InProjReferenceIdeal.Spec.rowNorm
      (m' ((c.tc : Thread Cert.InProjReferenceIdeal.nD Cert.InProjReferenceIdeal.τ).loc Cert.InProjReferenceIdeal.main_arg0))
      (m' ((c.tc : Thread Cert.InProjReferenceIdeal.nD Cert.InProjReferenceIdeal.τ).loc Cert.InProjReferenceIdeal.main_arg1)))
      (m' ((c.tc : Thread Cert.InProjReferenceIdeal.nD Cert.InProjReferenceIdeal.τ).loc Cert.InProjReferenceIdeal.main_arg2)))) rfl ?_),
      (h c).2.2.1.trans (Eq.trans (b := Cert.InProjReferenceIdeal.Spec.refCols (Cert.InProjReferenceIdeal.Spec.refZ (Cert.InProjReferenceIdeal.Spec.rowNorm
      (m' ((c.tc : Thread Cert.InProjReferenceIdeal.nD Cert.InProjReferenceIdeal.τ).loc Cert.InProjReferenceIdeal.main_arg0))
      (m' ((c.tc : Thread Cert.InProjReferenceIdeal.nD Cert.InProjReferenceIdeal.τ).loc Cert.InProjReferenceIdeal.main_arg1)))
      (m' ((c.tc : Thread Cert.InProjReferenceIdeal.nD Cert.InProjReferenceIdeal.τ).loc Cert.InProjReferenceIdeal.main_arg2)))) rfl ?_), (h c).2.2.2⟩
    · rw [h0, h1, h2]; exact (Cert.InProjIdeal.Value.final_rows m c).symm
    · rw [h0, h1, h2]; exact (Cert.InProjIdeal.Value.final_kv m c).symm
    · rw [h0, h1, h2]; exact (Cert.InProjIdeal.Value.final_cols m c).symm

end Cert.Proof

end
-- ==== Proof.DiscValue.lean ====
module

public import proofs.«01_k».proof.Proof.Gen.DiscIdeal.Value
public import proofs.«01_k».proof.Proof.Gen.DiscReferenceIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.DiscReferenceIdeal.Spec

open Cert.DiscReferenceIdeal Cert.DiscReferenceIdeal.Gen

/-- The real part of the discretised state matrix. -/
def refAr (a0 a1 : FVec Ideal S32x64 .f32) (a2 : FVec Ideal S32 .f32) (a3 a4 : FVec Ideal S32x64x16 .f32) : FVec Ideal S32x1x64 .f32 :=
  broadcastInDim S32x1x64 ![0, 2] bcast_S32x64_S32x1x64_0_2 (mulf (Host.exp (mulf a0 (broadcastInDim S32x64 ![0, 1] bcast_S32x1_S32x64_0_1 (broadcastInDim S32x1 ![0] bcast_S32_S32x1_0 (Host.exp a2))))) (Host.cos (mulf a1 (broadcastInDim S32x64 ![0, 1] bcast_S32x1_S32x64_0_1 (broadcastInDim S32x1 ![0] bcast_S32_S32x1_0 (Host.exp a2))))))

/-- Its imaginary part. -/
def refAi (a0 a1 : FVec Ideal S32x64 .f32) (a2 : FVec Ideal S32 .f32) (a3 a4 : FVec Ideal S32x64x16 .f32) : FVec Ideal S32x1x64 .f32 :=
  broadcastInDim S32x1x64 ![0, 2] bcast_S32x64_S32x1x64_0_2 (mulf (Host.exp (mulf a0 (broadcastInDim S32x64 ![0, 1] bcast_S32x1_S32x64_0_1 (broadcastInDim S32x1 ![0] bcast_S32_S32x1_0 (Host.exp a2))))) (Host.sin (mulf a1 (broadcastInDim S32x64 ![0, 1] bcast_S32x1_S32x64_0_1 (broadcastInDim S32x1 ![0] bcast_S32_S32x1_0 (Host.exp a2))))))

/-- The real part of the discretised input matrix. -/
def refBr (a0 a1 : FVec Ideal S32x64 .f32) (a2 : FVec Ideal S32 .f32) (a3 a4 : FVec Ideal S32x64x16 .f32) : FVec Ideal S32x16x64 .f32 :=
  transpose S32x16x64 [0, 2, 1] (subf (mulf (broadcastInDim S32x64x16 ![0, 1, 2] bcast_S32x64x1_S32x64x16_0_1_2 (broadcastInDim S32x64x1 ![0, 1] bcast_S32x64_S32x64x1_0_1 (Host.divf (addf (mulf (subf (mulf (Host.exp (mulf a0 (broadcastInDim S32x64 ![0, 1] bcast_S32x1_S32x64_0_1 (broadcastInDim S32x1 ![0] bcast_S32_S32x1_0 (Host.exp a2))))) (Host.cos (mulf a1 (broadcastInDim S32x64 ![0, 1] bcast_S32x1_S32x64_0_1 (broadcastInDim S32x1 ![0] bcast_S32_S32x1_0 (Host.exp a2)))))) (broadcastInDim S32x64 ![] bcast_S_S32x64 (constant (F := Ideal) S_ .f32 0x3F800000#32))) a0) (mulf (mulf (Host.exp (mulf a0 (broadcastInDim S32x64 ![0, 1] bcast_S32x1_S32x64_0_1 (broadcastInDim S32x1 ![0] bcast_S32_S32x1_0 (Host.exp a2))))) (Host.sin (mulf a1 (broadcastInDim S32x64 ![0, 1] bcast_S32x1_S32x64_0_1 (broadcastInDim S32x1 ![0] bcast_S32_S32x1_0 (Host.exp a2)))))) a1)) (addf (mulf a0 a0) (mulf a1 a1))))) a3) (mulf (broadcastInDim S32x64x16 ![0, 1, 2] bcast_S32x64x1_S32x64x16_0_1_2 (broadcastInDim S32x64x1 ![0, 1] bcast_S32x64_S32x64x1_0_1 (Host.divf (subf (mulf (mulf (Host.exp (mulf a0 (broadcastInDim S32x64 ![0, 1] bcast_S32x1_S32x64_0_1 (broadcastInDim S32x1 ![0] bcast_S32_S32x1_0 (Host.exp a2))))) (Host.sin (mulf a1 (broadcastInDim S32x64 ![0, 1] bcast_S32x1_S32x64_0_1 (broadcastInDim S32x1 ![0] bcast_S32_S32x1_0 (Host.exp a2)))))) a0) (mulf (subf (mulf (Host.exp (mulf a0 (broadcastInDim S32x64 ![0, 1] bcast_S32x1_S32x64_0_1 (broadcastInDim S32x1 ![0] bcast_S32_S32x1_0 (Host.exp a2))))) (Host.cos (mulf a1 (broadcastInDim S32x64 ![0, 1] bcast_S32x1_S32x64_0_1 (broadcastInDim S32x1 ![0] bcast_S32_S32x1_0 (Host.exp a2)))))) (broadcastInDim S32x64 ![] bcast_S_S32x64 (constant (F := Ideal) S_ .f32 0x3F800000#32))) a1)) (addf (mulf a0 a0) (mulf a1 a1))))) a4)) transposes_S32x64x16_S32x16x64_0_2_1

/-- Its imaginary part. -/
def refBi (a0 a1 : FVec Ideal S32x64 .f32) (a2 : FVec Ideal S32 .f32) (a3 a4 : FVec Ideal S32x64x16 .f32) : FVec Ideal S32x16x64 .f32 :=
  transpose S32x16x64 [0, 2, 1] (addf (mulf (broadcastInDim S32x64x16 ![0, 1, 2] bcast_S32x64x1_S32x64x16_0_1_2 (broadcastInDim S32x64x1 ![0, 1] bcast_S32x64_S32x64x1_0_1 (Host.divf (addf (mulf (subf (mulf (Host.exp (mulf a0 (broadcastInDim S32x64 ![0, 1] bcast_S32x1_S32x64_0_1 (broadcastInDim S32x1 ![0] bcast_S32_S32x1_0 (Host.exp a2))))) (Host.cos (mulf a1 (broadcastInDim S32x64 ![0, 1] bcast_S32x1_S32x64_0_1 (broadcastInDim S32x1 ![0] bcast_S32_S32x1_0 (Host.exp a2)))))) (broadcastInDim S32x64 ![] bcast_S_S32x64 (constant (F := Ideal) S_ .f32 0x3F800000#32))) a0) (mulf (mulf (Host.exp (mulf a0 (broadcastInDim S32x64 ![0, 1] bcast_S32x1_S32x64_0_1 (broadcastInDim S32x1 ![0] bcast_S32_S32x1_0 (Host.exp a2))))) (Host.sin (mulf a1 (broadcastInDim S32x64 ![0, 1] bcast_S32x1_S32x64_0_1 (broadcastInDim S32x1 ![0] bcast_S32_S32x1_0 (Host.exp a2)))))) a1)) (addf (mulf a0 a0) (mulf a1 a1))))) a4) (mulf (broadcastInDim S32x64x16 ![0, 1, 2] bcast_S32x64x1_S32x64x16_0_1_2 (broadcastInDim S32x64x1 ![0, 1] bcast_S32x64_S32x64x1_0_1 (Host.divf (subf (mulf (mulf (Host.exp (mulf a0 (broadcastInDim S32x64 ![0, 1] bcast_S32x1_S32x64_0_1 (broadcastInDim S32x1 ![0] bcast_S32_S32x1_0 (Host.exp a2))))) (Host.sin (mulf a1 (broadcastInDim S32x64 ![0, 1] bcast_S32x1_S32x64_0_1 (broadcastInDim S32x1 ![0] bcast_S32_S32x1_0 (Host.exp a2)))))) a0) (mulf (subf (mulf (Host.exp (mulf a0 (broadcastInDim S32x64 ![0, 1] bcast_S32x1_S32x64_0_1 (broadcastInDim S32x1 ![0] bcast_S32_S32x1_0 (Host.exp a2))))) (Host.cos (mulf a1 (broadcastInDim S32x64 ![0, 1] bcast_S32x1_S32x64_0_1 (broadcastInDim S32x1 ![0] bcast_S32_S32x1_0 (Host.exp a2)))))) (broadcastInDim S32x64 ![] bcast_S_S32x64 (constant (F := Ideal) S_ .f32 0x3F800000#32))) a1)) (addf (mulf a0 a0) (mulf a1 a1))))) a3)) transposes_S32x64x16_S32x16x64_0_2_1

end Cert.DiscReferenceIdeal.Spec

namespace Cert.DiscIdeal.Value

open Cert.DiscIdeal Cert.DiscIdeal.Gen Cert.DiscReferenceIdeal.Spec

variable (m : (ℓ : Loc nD τ sig) → Buf (Elt Ideal) ℓ)

/-- The arguments, by name. -/
abbrev a0 (c : Dev nD) : FVec Ideal S32x64 .f32 := m ((c : Thread nD τ).loc main_arg0)
abbrev a1 (c : Dev nD) : FVec Ideal S32x64 .f32 := m ((c : Thread nD τ).loc main_arg1)
abbrev a2 (c : Dev nD) : FVec Ideal S32 .f32 := m ((c : Thread nD τ).loc main_arg2)
abbrev a3 (c : Dev nD) : FVec Ideal S32x64x16 .f32 := m ((c : Thread nD τ).loc main_arg3)
abbrev a4 (c : Dev nD) : FVec Ideal S32x64x16 .f32 := m ((c : Thread nD τ).loc main_arg4)

theorem idx : ∀ t : Fin cfg0.N, win0_0.index t = ![0, 0, 0] ∧ win0_1.index t = ![0, 0, 0] ∧ win0_2.index t = ![0, 0, 0]
    ∧ win0_3.index t = ![0, 0, 0] ∧ win0_4.index t = ![0, 0, 0] ∧ win0_5.index t = ![0, 0, 0] ∧ win0_6.index t = ![0, 0, 0]
    ∧ win0_7.index t = ![0, 0, 0] ∧ win0_8.index t = ![0, 0, 0] :=
  (by decide +kernel : ∀ t : Fin grid0.N, _)

/-- Result 0 of the one point is the reference's. -/
theorem point5 (c : Dev nD) (t : Fin cfg0.N) (y) :
    out0_5 (iblk m c 0 t) (iblk m c 1 t) (iblk m c 2 t) (iblk m c 3 t) (iblk m c 4 t) y
      = refAr (a0 m c) (a1 m c) (a2 m c) (a3 m c) (a4 m c) (((cfg0.win 5).blk t).view.emb y) := by
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, refAr]
  blk_point [iblk, V, idx t]

theorem final5 (c : Dev nD) : (dats m 0 c).arrAt 5 (cfgs 0).N
    = refAr (a0 m c) (a1 m c) (a2 m c) (a3 m c) (a4 m c) := by
  refine (dats m 0 c).arrAt_eq_of_covers 5 _ (by decide +kernel) fun t _ y => ?_
  blk_simp
  rw [after0_5]
  exact point5 m c t y

/-- Result 1 of the one point is the reference's. -/
theorem point6 (c : Dev nD) (t : Fin cfg0.N) (y) :
    out0_6 (iblk m c 0 t) (iblk m c 1 t) (iblk m c 2 t) (iblk m c 3 t) (iblk m c 4 t) y
      = refAi (a0 m c) (a1 m c) (a2 m c) (a3 m c) (a4 m c) (((cfg0.win 6).blk t).view.emb y) := by
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, refAi]
  blk_point [iblk, V, idx t]

theorem final6 (c : Dev nD) : (dats m 0 c).arrAt 6 (cfgs 0).N
    = refAi (a0 m c) (a1 m c) (a2 m c) (a3 m c) (a4 m c) := by
  refine (dats m 0 c).arrAt_eq_of_covers 6 _ (by decide +kernel) fun t _ y => ?_
  blk_simp
  rw [after0_6]
  exact point6 m c t y

/-- Result 2 of the one point is the reference's. -/
theorem point7 (c : Dev nD) (t : Fin cfg0.N) (y) :
    out0_7 (iblk m c 0 t) (iblk m c 1 t) (iblk m c 2 t) (iblk m c 3 t) (iblk m c 4 t) y
      = refBr (a0 m c) (a1 m c) (a2 m c) (a3 m c) (a4 m c) (((cfg0.win 7).blk t).view.emb y) := by
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, refBr]
  blk_point [iblk, V, idx t]

theorem final7 (c : Dev nD) : (dats m 0 c).arrAt 7 (cfgs 0).N
    = refBr (a0 m c) (a1 m c) (a2 m c) (a3 m c) (a4 m c) := by
  refine (dats m 0 c).arrAt_eq_of_covers 7 _ (by decide +kernel) fun t _ y => ?_
  blk_simp
  rw [after0_7]
  exact point7 m c t y

/-- Result 3 of the one point is the reference's. -/
theorem point8 (c : Dev nD) (t : Fin cfg0.N) (y) :
    out0_8 (iblk m c 0 t) (iblk m c 1 t) (iblk m c 2 t) (iblk m c 3 t) (iblk m c 4 t) y
      = refBi (a0 m c) (a1 m c) (a2 m c) (a3 m c) (a4 m c) (((cfg0.win 8).blk t).view.emb y) := by
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, refBi]
  blk_point [iblk, V, idx t]

theorem final8 (c : Dev nD) : (dats m 0 c).arrAt 8 (cfgs 0).N
    = refBi (a0 m c) (a1 m c) (a2 m c) (a3 m c) (a4 m c) := by
  refine (dats m 0 c).arrAt_eq_of_covers 8 _ (by decide +kernel) fun t _ y => ?_
  blk_simp
  rw [after0_8]
  exact point8 m c t y

end Cert.DiscIdeal.Value

end
-- ==== Proof.DiscClaim.lean ====
module

public import proofs.«01_k».proof.Defs
public import proofs.«01_k».proof.Proof.DiscValue
public import Idealize.ShloMosaic.Adequacy
public import Idealize.ShloMosaic.Init

@[expose] public section

set_option maxRecDepth 16384

noncomputable section

namespace Cert.Proof

open Idealize.ShloMosaic Idealize.SL.Sem

/-- The discretisation's run and its reference's end with the same four results. -/
theorem algebraic_disc : @algebraic_DiscIdeal_DiscReferenceIdeal Cert.DiscIdeal.Gen.facts Cert.DiscReferenceIdeal.Gen.facts := by
  pair_intro
  · run_from Cert.DiscIdeal.Value.run_blocks m g
  · run_from Cert.DiscReferenceIdeal.Value.run m' g'
    · exact (Cert.DiscIdeal.Value.final5 m c).symm
    · exact (Cert.DiscIdeal.Value.final6 m c).symm
    · exact (Cert.DiscIdeal.Value.final7 m c).symm
    · exact (Cert.DiscIdeal.Value.final8 m c).symm

end Cert.Proof

end
-- ==== Proof.PoolWindow.lean ====
module

public import Idealize.ShloMosaic.Lib.Pipeline.ValueKit
public import Idealize.ShloMosaic.Lib.Pointwise
public import Idealize.ShloMosaic.Lib.ShapeFacts

@[expose] public section

set_option maxRecDepth 16384

noncomputable section

open Idealize.ShloMosaic
open scoped BigOperators

namespace Cert.Pooling

/-- The sum of the last `K` values up to position `n`, with nothing before position 0. -/
def win (K : ℕ) (f : ℕ → EReal) (n : ℕ) : EReal := ∑ k ∈ Finset.range K, if k ≤ n then f (n - k) else 0

/-- The values plus the same values `s` positions earlier. -/
def twice (s : ℕ) (f : ℕ → EReal) (n : ℕ) : EReal := f n + if s ≤ n then f (n - s) else 0

theorem win_one (f : ℕ → EReal) : win 1 f = f := by
  funext n; simp [win]

/-- A window of `s` values plus the window before it is the window of `2 s` values. -/
theorem twice_win (s : ℕ) (f : ℕ → EReal) : twice s (win s f) = win (s + s) f := by
  funext n
  unfold twice win
  rw [Finset.sum_range_add]
  congr 1
  split
  · next h =>
    refine Finset.sum_congr rfl fun k _ => ?_
    by_cases hk : k ≤ n - s
    · rw [if_pos hk, if_pos (by omega), Nat.sub_sub]
    · rw [if_neg hk, if_neg (by omega)]
  · next h =>
    exact (Finset.sum_eq_zero fun k _ => if_neg (by omega)).symm

theorem win_two (f : ℕ → EReal) : twice 1 f = win 2 f := by
  have := twice_win 1 f; rwa [win_one] at this

theorem win_four (f : ℕ → EReal) : twice 2 (twice 1 f) = win 4 f := by
  rw [win_two]; exact twice_win 2 f

theorem win_eight (f : ℕ → EReal) : twice 4 (twice 2 (twice 1 f)) = win 8 f := by
  rw [win_four]; exact twice_win 4 f

theorem win_sixteen (f : ℕ → EReal) : twice 8 (twice 4 (twice 2 (twice 1 f))) = win 16 f := by
  rw [win_eight]; exact twice_win 8 f

theorem win_congr (K : ℕ) {f g : ℕ → EReal} (n : ℕ) (h : ∀ k, k ≤ n → f k = g k) : win K f n = win K g n := by
  unfold win
  refine Finset.sum_congr rfl fun k _ => ?_
  split
  · exact h _ (by omega)
  · rfl

theorem foldl_add {α : Type} (g : α → EReal) (l : List α) (v : EReal) : l.foldl (fun r n => r + g n) v = v + (l.map g).sum := by
  induction l generalizing v with
  | nil => simp
  | cons a l ih => rw [List.foldl_cons, ih, List.map_cons, List.sum_cons, add_assoc]

/-- The host's sum over windows along the middle axis is the sum of the last `K` values. -/
theorem window_at {A B C Km : ℕ} (K : ℕ) (hK : Km + 1 = K) (x : (⟨3, ![A, B, C]⟩ : Shape).Idx → EReal) (v : EReal) (hv : v = 0)
    (h : (⟨3, ![A, B, C]⟩ : Shape).ReduceWindows (![1, K, 1] : Fin 3 → Nat) ![1, 1, 1] ![0, Km, 0] ![0, 0, 0] ⟨3, ![A, B, C]⟩)
    (b : Fin A) (t : Fin B) (l : Fin C) :
    Ideal.hostReduceWindowAdd ![1, K, 1] ![1, 1, 1] ![0, Km, 0] ![0, 0, 0] h x v (ix3 b t l)
      = win K (fun n => if hn : n < B then x (ix3 b ⟨n, hn⟩ l) else 0) t.val := by
  subst hv hK
  have hN : (⟨3, ![1, Km + 1, 1]⟩ : Shape).numel = Km + 1 := by
    rw [Shape.numel_rank3]; simp
  have hs : ∀ n : Fin (⟨3, ![1, Km + 1, 1]⟩ : Shape).numel, (⟨3, ![1, Km + 1, 1]⟩ : Shape).rowMajor.symm n = ix3 (n0 := 1) (n1 := Km + 1) (n2 := 1) 0 (n.cast hN) 0 := fun n =>
    (Equiv.symm_apply_eq _).2 (Fin.ext (by
      rw [rowMajor_val3 _ (Km + 1) 1 (by simp) (by simp)]
      show n.val = 0 * (Km + 1) + n.val * 1 + 0
      omega))
  have ht := t.isLt
  unfold Ideal.hostReduceWindowAdd Host.reduceWindow
  refine (foldl_add _ _ _).trans ?_
  rw [zero_add, ← List.sum_ofFn.symm.trans (congrArg List.sum (List.ofFn_eq_map))]
  unfold win
  rw [← Finset.sum_range_reflect]
  rw [← Fin.sum_univ_eq_sum_range (fun k => if Km + 1 - 1 - k ≤ t.val then (if hn : t.val - (Km + 1 - 1 - k) < B then x (ix3 b ⟨t.val - (Km + 1 - 1 - k), hn⟩ l) else 0) else 0) (Km + 1)]
  refine Fintype.sum_equiv (finCongr hN) _ _ fun n => ?_
  have hn : n.val < Km + 1 := (n.cast hN).isLt
  have hw0 : ((⟨3, ![1, Km + 1, 1]⟩ : Shape).rowMajor.symm n 0).val = 0 := by rw [hs]; rfl
  have hw1 : ((⟨3, ![1, Km + 1, 1]⟩ : Shape).rowMajor.symm n 1).val = n.val := by rw [hs]; rfl
  have hw2 : ((⟨3, ![1, Km + 1, 1]⟩ : Shape).rowMajor.symm n 2).val = 0 := by rw [hs]; rfl
  have hb := b.isLt
  have hl := l.isLt
  have e : (finCongr hN n).val = n.val := rfl
  rw [e]
  dsimp only
  split
  · next hin =>
    have h1 := hin 1
    change Km ≤ t.val * 1 + ((⟨3, ![1, Km + 1, 1]⟩ : Shape).rowMajor.symm n 1).val ∧ t.val * 1 + ((⟨3, ![1, Km + 1, 1]⟩ : Shape).rowMajor.symm n 1).val - Km < B at h1
    rw [hw1] at h1
    rw [if_pos (by omega), dif_pos (show t.val - (Km + 1 - 1 - n.val) < B by omega)]
    refine congrArg x (funext fun a => Fin.ext ?_)
    match a with
    | 0 =>
      show b.val * 1 + ((⟨3, ![1, Km + 1, 1]⟩ : Shape).rowMajor.symm n 0).val - 0 = b.val
      rw [hw0]; omega
    | 1 =>
      show t.val * 1 + ((⟨3, ![1, Km + 1, 1]⟩ : Shape).rowMajor.symm n 1).val - Km = t.val - (Km + 1 - 1 - n.val)
      rw [hw1]; omega
    | 2 =>
      show l.val * 1 + ((⟨3, ![1, Km + 1, 1]⟩ : Shape).rowMajor.symm n 2).val - 0 = l.val
      rw [hw2]; omega
  · next hin =>
    rw [if_neg]
    intro hle
    refine hin fun a => ?_
    match a with
    | 0 =>
      show 0 ≤ b.val * 1 + ((⟨3, ![1, Km + 1, 1]⟩ : Shape).rowMajor.symm n 0).val ∧ b.val * 1 + ((⟨3, ![1, Km + 1, 1]⟩ : Shape).rowMajor.symm n 0).val - 0 < A
      rw [hw0]; omega
    | 1 =>
      show Km ≤ t.val * 1 + ((⟨3, ![1, Km + 1, 1]⟩ : Shape).rowMajor.symm n 1).val ∧ t.val * 1 + ((⟨3, ![1, Km + 1, 1]⟩ : Shape).rowMajor.symm n 1).val - Km < B
      rw [hw1]; omega
    | 2 =>
      show 0 ≤ l.val * 1 + ((⟨3, ![1, Km + 1, 1]⟩ : Shape).rowMajor.symm n 2).val ∧ l.val * 1 + ((⟨3, ![1, Km + 1, 1]⟩ : Shape).rowMajor.symm n 2).val - 0 < C
      rw [hw2]; omega

end Cert.Pooling

end
-- ==== Proof.PoolBlock.lean ====
module

public import proofs.«01_k».proof.Proof.Gen.PoolIdeal.Frame
public import Idealize.ShloMosaic.Lib.Pipeline.ValueKit
public import Idealize.ShloMosaic.Lib.Pointwise
public import proofs.«01_k».proof.Proof.PoolWindow

@[expose] public section

set_option maxRecDepth 16384

noncomputable section

open Idealize.ShloMosaic Idealize.ShloMosaic.TcCoe Idealize.ShloMosaic.Tactic Idealize.SL.Sem
open scoped BigOperators

namespace Cert.PoolIdeal.Block

open Cert.PoolIdeal Cert.PoolIdeal.Gen Cert.Pooling

variable (c : Dev nD) (i : grid0.Coords) (arg1 : Memref sig .tc .vmem S1x2048x512 .f32) (harg1 : arg1.IsWhole) (arg2 : Memref sig .tc .vmem S4x128x128 .bf16) (harg2 : arg2.IsWhole) (arg3 : Memref sig .tc .vmem S1x512 .f32) (harg3 : arg3.IsWhole) (arg4 : Memref sig .tc .vmem S1x2048x512 .bf16) (harg4 : arg4.IsWhole) (arg5 : Memref sig .tc .vmem S2064x128 .f32) (harg5 : arg5.IsWhole)
  (x0 : Vec Ideal S1x2048x512 .f32) (x1 : Vec Ideal S4x128x128 .bf16) (x2 : Vec Ideal S1x512 .f32)

/-- The block's columns of group 0. -/
def u0 (arg1 : Memref sig .tc .vmem S1x2048x512 .f32) (harg1 : arg1.IsWhole) (x0 : Vec Ideal S1x2048x512 .f32) : Vec Ideal S1x2048x128 .f32 :=
  View.readAt (Elt Ideal) arg1.view (Rect.unit (s := S1x2048x512) ![0, 0, 0] S1x2048x128.size inb_S1x2048x512_S1x2048x128_0_0_0).toLoadRect (harg1.unread x0)
/-- The mixing matrix of group 0. -/
def w0 (arg2 : Memref sig .tc .vmem S4x128x128 .bf16) (harg2 : arg2.IsWhole) (x1 : Vec Ideal S4x128x128 .bf16) : Vec Ideal S1x128x128 .bf16 :=
  View.readAt (Elt Ideal) arg2.view (Rect.unit (s := S4x128x128) ![0, 0, 0] S1x128x128.size inb_S4x128x128_S1x128x128_0_0_0).toLoadRect (harg2.unread x1)
/-- The scales of group 0. -/
def s0 (arg3 : Memref sig .tc .vmem S1x512 .f32) (harg3 : arg3.IsWhole) (x2 : Vec Ideal S1x512 .f32) : Vec Ideal S1x128 .f32 :=
  View.readAt (Elt Ideal) arg3.view (Rect.unit (s := S1x512) ![0, 0] S1x128.size inb_S1x512_S1x128_0_0).toLoadRect (harg3.unread x2)

/-- The block's columns of group 1. -/
def u1 (arg1 : Memref sig .tc .vmem S1x2048x512 .f32) (harg1 : arg1.IsWhole) (x0 : Vec Ideal S1x2048x512 .f32) : Vec Ideal S1x2048x128 .f32 :=
  View.readAt (Elt Ideal) arg1.view (Rect.unit (s := S1x2048x512) ![0, 0, 128] S1x2048x128.size inb_S1x2048x512_S1x2048x128_0_0_128).toLoadRect (harg1.unread x0)
/-- The mixing matrix of group 1. -/
def w1 (arg2 : Memref sig .tc .vmem S4x128x128 .bf16) (harg2 : arg2.IsWhole) (x1 : Vec Ideal S4x128x128 .bf16) : Vec Ideal S1x128x128 .bf16 :=
  View.readAt (Elt Ideal) arg2.view (Rect.unit (s := S4x128x128) ![1, 0, 0] S1x128x128.size inb_S4x128x128_S1x128x128_1_0_0).toLoadRect (harg2.unread x1)
/-- The scales of group 1. -/
def s1 (arg3 : Memref sig .tc .vmem S1x512 .f32) (harg3 : arg3.IsWhole) (x2 : Vec Ideal S1x512 .f32) : Vec Ideal S1x128 .f32 :=
  View.readAt (Elt Ideal) arg3.view (Rect.unit (s := S1x512) ![0, 128] S1x128.size inb_S1x512_S1x128_0_128).toLoadRect (harg3.unread x2)

/-- The block's columns of group 2. -/
def u2 (arg1 : Memref sig .tc .vmem S1x2048x512 .f32) (harg1 : arg1.IsWhole) (x0 : Vec Ideal S1x2048x512 .f32) : Vec Ideal S1x2048x128 .f32 :=
  View.readAt (Elt Ideal) arg1.view (Rect.unit (s := S1x2048x512) ![0, 0, 256] S1x2048x128.size inb_S1x2048x512_S1x2048x128_0_0_256).toLoadRect (harg1.unread x0)
/-- The mixing matrix of group 2. -/
def w2 (arg2 : Memref sig .tc .vmem S4x128x128 .bf16) (harg2 : arg2.IsWhole) (x1 : Vec Ideal S4x128x128 .bf16) : Vec Ideal S1x128x128 .bf16 :=
  View.readAt (Elt Ideal) arg2.view (Rect.unit (s := S4x128x128) ![2, 0, 0] S1x128x128.size inb_S4x128x128_S1x128x128_2_0_0).toLoadRect (harg2.unread x1)
/-- The scales of group 2. -/
def s2 (arg3 : Memref sig .tc .vmem S1x512 .f32) (harg3 : arg3.IsWhole) (x2 : Vec Ideal S1x512 .f32) : Vec Ideal S1x128 .f32 :=
  View.readAt (Elt Ideal) arg3.view (Rect.unit (s := S1x512) ![0, 256] S1x128.size inb_S1x512_S1x128_0_256).toLoadRect (harg3.unread x2)

/-- The block's columns of group 3. -/
def u3 (arg1 : Memref sig .tc .vmem S1x2048x512 .f32) (harg1 : arg1.IsWhole) (x0 : Vec Ideal S1x2048x512 .f32) : Vec Ideal S1x2048x128 .f32 :=
  View.readAt (Elt Ideal) arg1.view (Rect.unit (s := S1x2048x512) ![0, 0, 384] S1x2048x128.size inb_S1x2048x512_S1x2048x128_0_0_384).toLoadRect (harg1.unread x0)
/-- The mixing matrix of group 3. -/
def w3 (arg2 : Memref sig .tc .vmem S4x128x128 .bf16) (harg2 : arg2.IsWhole) (x1 : Vec Ideal S4x128x128 .bf16) : Vec Ideal S1x128x128 .bf16 :=
  View.readAt (Elt Ideal) arg2.view (Rect.unit (s := S4x128x128) ![3, 0, 0] S1x128x128.size inb_S4x128x128_S1x128x128_3_0_0).toLoadRect (harg2.unread x1)
/-- The scales of group 3. -/
def s3 (arg3 : Memref sig .tc .vmem S1x512 .f32) (harg3 : arg3.IsWhole) (x2 : Vec Ideal S1x512 .f32) : Vec Ideal S1x128 .f32 :=
  View.readAt (Elt Ideal) arg3.view (Rect.unit (s := S1x512) ![0, 384] S1x128.size inb_S1x512_S1x128_0_384).toLoadRect (harg3.unread x2)

/-- The scratch's stores, last first: one more block of rows below the halo. -/
def put (W : FVec Ideal S2048x128 .f32) (H : List (View.Piece (Elt Ideal) S2064x128 .f32)) : List (View.Piece (Elt Ideal) S2064x128 .f32) :=
  ⟨Rect.unit (s := S2064x128) ![16, 0] S2048x128.size inb_S2064x128_S2048x128_16_0, W⟩ :: H

/-- The halo's zeros. -/
def halo : List (View.Piece (Elt Ideal) S2064x128 .f32) :=
  [⟨Rect.unit (s := S2064x128) ![0, 0] S16x128.size inb_S2064x128_S16x128_0_0, (k0_pay2 (F := Ideal) : FVec Ideal S16x128 .f32)⟩]

def h0_1 (arg1 : Memref sig .tc .vmem S1x2048x512 .f32) (harg1 : arg1.IsWhole) (arg5 : Memref sig .tc .vmem S2064x128 .f32) (x0 : Vec Ideal S1x2048x512 .f32) : List (View.Piece (Elt Ideal) S2064x128 .f32) := put (k0_pay5 (u0 arg1 harg1 x0)) halo
def r0_1 (arg1 : Memref sig .tc .vmem S1x2048x512 .f32) (harg1 : arg1.IsWhole) (arg5 : Memref sig .tc .vmem S2064x128 .f32) (x0 : Vec Ideal S1x2048x512 .f32) : Vec Ideal S2048x128 .f32 :=
  arg5.view.readCov (h0_1 arg1 harg1 arg5 x0) (Rect.unit (s := S2064x128) ![15, 0] S2048x128.size inb_S2064x128_S2048x128_15_0).toLoadRect

def h1_1 (arg1 : Memref sig .tc .vmem S1x2048x512 .f32) (harg1 : arg1.IsWhole) (arg5 : Memref sig .tc .vmem S2064x128 .f32) (x0 : Vec Ideal S1x2048x512 .f32) : List (View.Piece (Elt Ideal) S2064x128 .f32) := put (k0_pay8 (u1 arg1 harg1 x0)) (h0_1 arg1 harg1 arg5 x0)
def r1_1 (arg1 : Memref sig .tc .vmem S1x2048x512 .f32) (harg1 : arg1.IsWhole) (arg5 : Memref sig .tc .vmem S2064x128 .f32) (x0 : Vec Ideal S1x2048x512 .f32) : Vec Ideal S2048x128 .f32 :=
  arg5.view.readCov (h1_1 arg1 harg1 arg5 x0) (Rect.unit (s := S2064x128) ![15, 0] S2048x128.size inb_S2064x128_S2048x128_15_0).toLoadRect

def h1_2 (arg1 : Memref sig .tc .vmem S1x2048x512 .f32) (harg1 : arg1.IsWhole) (arg5 : Memref sig .tc .vmem S2064x128 .f32) (x0 : Vec Ideal S1x2048x512 .f32) : List (View.Piece (Elt Ideal) S2064x128 .f32) := put (k0_pay10 (u1 arg1 harg1 x0) (r1_1 arg1 harg1 arg5 x0)) (h1_1 arg1 harg1 arg5 x0)
def r1_2 (arg1 : Memref sig .tc .vmem S1x2048x512 .f32) (harg1 : arg1.IsWhole) (arg5 : Memref sig .tc .vmem S2064x128 .f32) (x0 : Vec Ideal S1x2048x512 .f32) : Vec Ideal S2048x128 .f32 :=
  arg5.view.readCov (h1_2 arg1 harg1 arg5 x0) (Rect.unit (s := S2064x128) ![14, 0] S2048x128.size inb_S2064x128_S2048x128_14_0).toLoadRect

def h2_1 (arg1 : Memref sig .tc .vmem S1x2048x512 .f32) (harg1 : arg1.IsWhole) (arg5 : Memref sig .tc .vmem S2064x128 .f32) (x0 : Vec Ideal S1x2048x512 .f32) : List (View.Piece (Elt Ideal) S2064x128 .f32) := put (k0_pay13 (k0_pay12 (u2 arg1 harg1 x0))) (h1_2 arg1 harg1 arg5 x0)
def r2_1 (arg1 : Memref sig .tc .vmem S1x2048x512 .f32) (harg1 : arg1.IsWhole) (arg5 : Memref sig .tc .vmem S2064x128 .f32) (x0 : Vec Ideal S1x2048x512 .f32) : Vec Ideal S2048x128 .f32 :=
  arg5.view.readCov (h2_1 arg1 harg1 arg5 x0) (Rect.unit (s := S2064x128) ![15, 0] S2048x128.size inb_S2064x128_S2048x128_15_0).toLoadRect

def h2_2 (arg1 : Memref sig .tc .vmem S1x2048x512 .f32) (harg1 : arg1.IsWhole) (arg5 : Memref sig .tc .vmem S2064x128 .f32) (x0 : Vec Ideal S1x2048x512 .f32) : List (View.Piece (Elt Ideal) S2064x128 .f32) := put (k0_pay15 (k0_pay12 (u2 arg1 harg1 x0)) (r2_1 arg1 harg1 arg5 x0)) (h2_1 arg1 harg1 arg5 x0)
def r2_2 (arg1 : Memref sig .tc .vmem S1x2048x512 .f32) (harg1 : arg1.IsWhole) (arg5 : Memref sig .tc .vmem S2064x128 .f32) (x0 : Vec Ideal S1x2048x512 .f32) : Vec Ideal S2048x128 .f32 :=
  arg5.view.readCov (h2_2 arg1 harg1 arg5 x0) (Rect.unit (s := S2064x128) ![14, 0] S2048x128.size inb_S2064x128_S2048x128_14_0).toLoadRect

def h2_3 (arg1 : Memref sig .tc .vmem S1x2048x512 .f32) (harg1 : arg1.IsWhole) (arg5 : Memref sig .tc .vmem S2064x128 .f32) (x0 : Vec Ideal S1x2048x512 .f32) : List (View.Piece (Elt Ideal) S2064x128 .f32) := put (k0_pay17 (k0_pay12 (u2 arg1 harg1 x0)) (r2_1 arg1 harg1 arg5 x0) (r2_2 arg1 harg1 arg5 x0)) (h2_2 arg1 harg1 arg5 x0)
def r2_3 (arg1 : Memref sig .tc .vmem S1x2048x512 .f32) (harg1 : arg1.IsWhole) (arg5 : Memref sig .tc .vmem S2064x128 .f32) (x0 : Vec Ideal S1x2048x512 .f32) : Vec Ideal S2048x128 .f32 :=
  arg5.view.readCov (h2_3 arg1 harg1 arg5 x0) (Rect.unit (s := S2064x128) ![12, 0] S2048x128.size inb_S2064x128_S2048x128_12_0).toLoadRect

def h3_1 (arg1 : Memref sig .tc .vmem S1x2048x512 .f32) (harg1 : arg1.IsWhole) (arg5 : Memref sig .tc .vmem S2064x128 .f32) (x0 : Vec Ideal S1x2048x512 .f32) : List (View.Piece (Elt Ideal) S2064x128 .f32) := put (k0_pay20 (u3 arg1 harg1 x0)) (h2_3 arg1 harg1 arg5 x0)
def r3_1 (arg1 : Memref sig .tc .vmem S1x2048x512 .f32) (harg1 : arg1.IsWhole) (arg5 : Memref sig .tc .vmem S2064x128 .f32) (x0 : Vec Ideal S1x2048x512 .f32) : Vec Ideal S2048x128 .f32 :=
  arg5.view.readCov (h3_1 arg1 harg1 arg5 x0) (Rect.unit (s := S2064x128) ![15, 0] S2048x128.size inb_S2064x128_S2048x128_15_0).toLoadRect

def h3_2 (arg1 : Memref sig .tc .vmem S1x2048x512 .f32) (harg1 : arg1.IsWhole) (arg5 : Memref sig .tc .vmem S2064x128 .f32) (x0 : Vec Ideal S1x2048x512 .f32) : List (View.Piece (Elt Ideal) S2064x128 .f32) := put (k0_pay22 (u3 arg1 harg1 x0) (r3_1 arg1 harg1 arg5 x0)) (h3_1 arg1 harg1 arg5 x0)
def r3_2 (arg1 : Memref sig .tc .vmem S1x2048x512 .f32) (harg1 : arg1.IsWhole) (arg5 : Memref sig .tc .vmem S2064x128 .f32) (x0 : Vec Ideal S1x2048x512 .f32) : Vec Ideal S2048x128 .f32 :=
  arg5.view.readCov (h3_2 arg1 harg1 arg5 x0) (Rect.unit (s := S2064x128) ![14, 0] S2048x128.size inb_S2064x128_S2048x128_14_0).toLoadRect

def h3_3 (arg1 : Memref sig .tc .vmem S1x2048x512 .f32) (harg1 : arg1.IsWhole) (arg5 : Memref sig .tc .vmem S2064x128 .f32) (x0 : Vec Ideal S1x2048x512 .f32) : List (View.Piece (Elt Ideal) S2064x128 .f32) := put (k0_pay24 (u3 arg1 harg1 x0) (r3_1 arg1 harg1 arg5 x0) (r3_2 arg1 harg1 arg5 x0)) (h3_2 arg1 harg1 arg5 x0)
def r3_3 (arg1 : Memref sig .tc .vmem S1x2048x512 .f32) (harg1 : arg1.IsWhole) (arg5 : Memref sig .tc .vmem S2064x128 .f32) (x0 : Vec Ideal S1x2048x512 .f32) : Vec Ideal S2048x128 .f32 :=
  arg5.view.readCov (h3_3 arg1 harg1 arg5 x0) (Rect.unit (s := S2064x128) ![12, 0] S2048x128.size inb_S2064x128_S2048x128_12_0).toLoadRect

def h3_4 (arg1 : Memref sig .tc .vmem S1x2048x512 .f32) (harg1 : arg1.IsWhole) (arg5 : Memref sig .tc .vmem S2064x128 .f32) (x0 : Vec Ideal S1x2048x512 .f32) : List (View.Piece (Elt Ideal) S2064x128 .f32) := put (k0_pay26 (u3 arg1 harg1 x0) (r3_1 arg1 harg1 arg5 x0) (r3_2 arg1 harg1 arg5 x0) (r3_3 arg1 harg1 arg5 x0)) (h3_3 arg1 harg1 arg5 x0)
def r3_4 (arg1 : Memref sig .tc .vmem S1x2048x512 .f32) (harg1 : arg1.IsWhole) (arg5 : Memref sig .tc .vmem S2064x128 .f32) (x0 : Vec Ideal S1x2048x512 .f32) : Vec Ideal S2048x128 .f32 :=
  arg5.view.readCov (h3_4 arg1 harg1 arg5 x0) (Rect.unit (s := S2064x128) ![8, 0] S2048x128.size inb_S2064x128_S2048x128_8_0).toLoadRect

/-- What the kernel stores for group 0. -/
def y0 (arg1 : Memref sig .tc .vmem S1x2048x512 .f32) (harg1 : arg1.IsWhole) (arg2 : Memref sig .tc .vmem S4x128x128 .bf16) (harg2 : arg2.IsWhole) (arg3 : Memref sig .tc .vmem S1x512 .f32) (harg3 : arg3.IsWhole) (arg5 : Memref sig .tc .vmem S2064x128 .f32) (x0 : Vec Ideal S1x2048x512 .f32) (x1 : Vec Ideal S4x128x128 .bf16) (x2 : Vec Ideal S1x512 .f32) : FVec Ideal S1x2048x128 .bf16 := k0_pay6 (u0 arg1 harg1 x0) (r0_1 arg1 harg1 arg5 x0) (w0 arg2 harg2 x1) (s0 arg3 harg3 x2)

/-- What the kernel stores for group 1. -/
def y1 (arg1 : Memref sig .tc .vmem S1x2048x512 .f32) (harg1 : arg1.IsWhole) (arg2 : Memref sig .tc .vmem S4x128x128 .bf16) (harg2 : arg2.IsWhole) (arg3 : Memref sig .tc .vmem S1x512 .f32) (harg3 : arg3.IsWhole) (arg5 : Memref sig .tc .vmem S2064x128 .f32) (x0 : Vec Ideal S1x2048x512 .f32) (x1 : Vec Ideal S4x128x128 .bf16) (x2 : Vec Ideal S1x512 .f32) : FVec Ideal S1x2048x128 .bf16 := k0_pay11 (k0_pay3 (F := Ideal)) (u1 arg1 harg1 x0) (r1_1 arg1 harg1 arg5 x0) (r1_2 arg1 harg1 arg5 x0) (w1 arg2 harg2 x1) (s1 arg3 harg3 x2)

/-- What the kernel stores for group 2. -/
def y2 (arg1 : Memref sig .tc .vmem S1x2048x512 .f32) (harg1 : arg1.IsWhole) (arg2 : Memref sig .tc .vmem S4x128x128 .bf16) (harg2 : arg2.IsWhole) (arg3 : Memref sig .tc .vmem S1x512 .f32) (harg3 : arg3.IsWhole) (arg5 : Memref sig .tc .vmem S2064x128 .f32) (x0 : Vec Ideal S1x2048x512 .f32) (x1 : Vec Ideal S4x128x128 .bf16) (x2 : Vec Ideal S1x512 .f32) : FVec Ideal S1x2048x128 .bf16 := k0_pay18 (k0_pay3 (F := Ideal)) (k0_pay12 (u2 arg1 harg1 x0)) (r2_1 arg1 harg1 arg5 x0) (r2_2 arg1 harg1 arg5 x0) (r2_3 arg1 harg1 arg5 x0) (w2 arg2 harg2 x1) (s2 arg3 harg3 x2)

/-- What the kernel stores for group 3. -/
def y3 (arg1 : Memref sig .tc .vmem S1x2048x512 .f32) (harg1 : arg1.IsWhole) (arg2 : Memref sig .tc .vmem S4x128x128 .bf16) (harg2 : arg2.IsWhole) (arg3 : Memref sig .tc .vmem S1x512 .f32) (harg3 : arg3.IsWhole) (arg5 : Memref sig .tc .vmem S2064x128 .f32) (x0 : Vec Ideal S1x2048x512 .f32) (x1 : Vec Ideal S4x128x128 .bf16) (x2 : Vec Ideal S1x512 .f32) : FVec Ideal S1x2048x128 .bf16 := k0_pay1 (k0_pay27 (k0_pay3 (F := Ideal)) (u3 arg1 harg1 x0) (r3_1 arg1 harg1 arg5 x0) (r3_2 arg1 harg1 arg5 x0) (r3_3 arg1 harg1 arg5 x0) (r3_4 arg1 harg1 arg5 x0) (w3 arg2 harg2 x1)) (s3 arg3 harg3 x2)

/-- The kernel's stores to the result's block, last first. -/
theorem pieces : (kernelRun0_A (F := Ideal) c i arg1 harg1 arg2 harg2 arg3 harg3 arg4 harg4 arg5 harg5 x0 x1 x2).1
    = [⟨Rect.unit (s := S1x2048x512) ![0, 0, 384] S1x2048x128.size inb_S1x2048x512_S1x2048x128_0_0_384, y3 arg1 harg1 arg2 harg2 arg3 harg3 arg5 x0 x1 x2⟩,
      ⟨Rect.unit (s := S1x2048x512) ![0, 0, 256] S1x2048x128.size inb_S1x2048x512_S1x2048x128_0_0_256, y2 arg1 harg1 arg2 harg2 arg3 harg3 arg5 x0 x1 x2⟩,
      ⟨Rect.unit (s := S1x2048x512) ![0, 0, 128] S1x2048x128.size inb_S1x2048x512_S1x2048x128_0_0_128, y1 arg1 harg1 arg2 harg2 arg3 harg3 arg5 x0 x1 x2⟩,
      ⟨Rect.unit (s := S1x2048x512) ![0, 0, 0] S1x2048x128.size inb_S1x2048x512_S1x2048x128_0_0_0, y0 arg1 harg1 arg2 harg2 arg3 harg3 arg5 x0 x1 x2⟩] := by
  sl_kernel_rfl

/-- The halo's rows hold zeros. -/
def Clear (H : List (View.Piece (Elt Ideal) S2064x128 .f32)) : Prop := ∀ (n : Fin 2064) (l : Fin 128), n.val < 16 → View.canon H (ix2 n l) = 0

theorem clear_halo : Clear halo := fun n l hn => by
  have e : (Rect.unit (s := S2064x128) ![0, 0] S16x128.size inb_S2064x128_S16x128_0_0).emb (ix2 (n0 := 16) (n1 := 128) ⟨n.val, hn⟩ l) = ix2 n l := by
    funext a; apply Fin.ext; refine (Rect.emb_apply _ _ _).trans ?_
    match a with
    | 0 => show 0 + 1 * n.val = n.val; omega
    | 1 => show 0 + 1 * l.val = l.val; omega
  unfold halo
  rw [← e]
  refine (View.canon_cons_emb _ _ _ _).trans ?_
  pointwise [k0_pay2]

theorem above (W : FVec Ideal S2048x128 .f32) (H : List (View.Piece (Elt Ideal) S2064x128 .f32)) (n : Fin 2064) (l : Fin 128) (hn : n.val < 16) :
    View.canon (put W H) (ix2 n l) = View.canon H (ix2 n l) := by
  refine View.canon_cons_of_not_mem _ _ fun hm => ?_
  have h1 := (Rect.mem_set_unit (inb := inb_S2064x128_S2048x128_16_0)).mp hm 0
  have h2 : 16 ≤ n.val := h1.1
  omega

theorem below (W : FVec Ideal S2048x128 .f32) (H : List (View.Piece (Elt Ideal) S2064x128 .f32)) (n : Fin 2064) (l : Fin 128) (r : Fin 2048) (hn : n.val = 16 + r.val) :
    View.canon (put W H) (ix2 n l) = W (ix2 r l) := by
  have e : (Rect.unit (s := S2064x128) ![16, 0] S2048x128.size inb_S2064x128_S2048x128_16_0).emb (ix2 (n0 := 2048) (n1 := 128) r l) = ix2 n l := by
    funext a; apply Fin.ext; refine (Rect.emb_apply _ _ _).trans ?_
    match a with
    | 0 => show 16 + 1 * r.val = n.val; omega
    | 1 => show 0 + 1 * l.val = l.val; omega
  unfold put
  rw [← e]
  exact View.canon_cons_emb _ _ _ _

theorem clear_put (W : FVec Ideal S2048x128 .f32) {H : List (View.Piece (Elt Ideal) S2064x128 .f32)} (h : Clear H) : Clear (put W H) :=
  fun n l hn => (above W H n l hn).trans (h n l hn)

/-- The rows of a lane, in order. -/
def col (W : FVec Ideal S2048x128 .f32) (l : Fin 128) (n : ℕ) : EReal := if hn : n < 2048 then W (ix2 ⟨n, hn⟩ l) else 0

/-- The rows read back `s` rows above where they were stored: every row's value is that of `s` rows earlier, zero before the first. -/
theorem shifted (arg5 : Memref sig .tc .vmem S2064x128 .f32) (W : FVec Ideal S2048x128 .f32) (H : List (View.Piece (Elt Ideal) S2064x128 .f32)) (h : Clear H) (o s : ℕ) (hs : o + s = 16)
    (inb : ∀ a : Fin 2, (![o, 0] : Fin 2 → ℕ) a + S2048x128.size a ≤ S2064x128.size a) (r : Fin 2048) (l : Fin 128) :
    arg5.view.readCov (put W H) (Rect.unit (s := S2064x128) ![o, 0] S2048x128.size inb).toLoadRect (ix2 (n0 := 2048) (n1 := 128) r l)
      = if s ≤ r.val then col W l (r.val - s) else 0 := by
  have hr := r.isLt
  have e : (Rect.unit (s := S2064x128) ![o, 0] S2048x128.size inb).emb (ix2 (n0 := 2048) (n1 := 128) r l) = ix2 (⟨o + r.val, by omega⟩ : Fin 2064) l := by
    funext a; apply Fin.ext; refine (Rect.emb_apply _ _ _).trans ?_
    match a with
    | 0 => show o + 1 * r.val = o + r.val; omega
    | 1 => show 0 + 1 * l.val = l.val; omega
  rw [View.readCov_eq_canon']
  refine (congrArg (View.canon (put W H)) e).trans ?_
  by_cases hsr : s ≤ r.val
  · rw [if_pos hsr]
    refine (below W H _ l ⟨r.val - s, by omega⟩ (by show o + r.val = 16 + (r.val - s); omega)).trans ?_
    unfold col
    rw [dif_pos (show r.val - s < 2048 by omega)]
  · rw [if_neg hsr]
    exact clear_put W h _ l (by show o + r.val < 16; omega)

/-- Rows plus the rows read back are the lane's values added to themselves `s` earlier. -/
theorem col_twice (W R W' : FVec Ideal S2048x128 .f32) (s : ℕ) (l : Fin 128) (f : ℕ → EReal) (hW : ∀ n, n < 2048 → col W l n = f n)
    (hR : ∀ r : Fin 2048, R (ix2 r l) = if s ≤ r.val then col W l (r.val - s) else 0)
    (hW' : ∀ r : Fin 2048, W' (ix2 r l) = W (ix2 r l) + R (ix2 r l)) : ∀ n, n < 2048 → col W' l n = twice s f n := by
  intro n hn
  unfold twice
  rw [← hW n hn]
  unfold col
  rw [dif_pos hn, dif_pos hn, hW', hR]
  show _ + (if s ≤ n then col W l (n - s) else 0) = _
  split
  · rw [hW _ (by omega)]
  · rfl

end Cert.PoolIdeal.Block

end
-- ==== Proof.PoolRef.lean ====
module

public import proofs.«01_k».proof.Proof.Gen.PoolReferenceIdeal.Run
public import proofs.«01_k».proof.Proof.PoolWindow

@[expose] public section

set_option maxRecDepth 16384

noncomputable section

open Idealize.ShloMosaic Idealize.ShloMosaic.TcCoe Idealize.SL.Sem
open scoped BigOperators

namespace Cert.PoolReferenceIdeal.Spec

open Cert.PoolReferenceIdeal Cert.PoolReferenceIdeal.Gen Cert.Pooling

/-- The window's mean at every position (fewer values at the start), minus the value. -/
def dev (tot x : FVec Ideal S8x2048x128 .f32) (k : BitVec 32) : FVec Ideal S8x2048x128 .f32 :=
  subf (Host.divf tot (broadcastInDim S8x2048x128 ![0, 1, 2] bcast_S1x2048x1_S8x2048x128_0_1_2 (broadcastInDim S1x2048x1 ![1, 2] bcast_S2048x1_S1x2048x1_1_2
    (minimumf (addf (broadcastInDim S2048x1 ![0] bcast_S2048_S2048x1_0 (sitofp (F := Ideal) .f32 (iotaInDim S2048 32 0))) (broadcastInDim S2048x1 ![] bcast_S_S2048x1 (constant (F := Ideal) S_ .f32 0x3F800000#32)))
      (broadcastInDim S2048x1 ![] bcast_S_S2048x1 (constant (F := Ideal) S_ .f32 k)))))) x

/-- The value that the window sums start from. -/
def zero : FVec Ideal S_ .f32 := broadcastInDim S_ ![] bcast_S_S_ (constant (F := Ideal) S_ .f32 0x00000000#32)

/-- The columns that the pooling reads. -/
def cols (a : FVec Ideal S8x2048x2048 .f32) : FVec Ideal S8x2048x512 .f32 :=
  extractStridedSlice S8x2048x512 ![0, 0, 0] a slices_S8x2048x2048_S8x2048x512_0_0_0

def x0 (u : FVec Ideal S8x2048x512 .f32) : FVec Ideal S8x2048x128 .f32 := extractStridedSlice S8x2048x128 ![0, 0, 0] u slices_S8x2048x512_S8x2048x128_0_0_0
def x1 (u : FVec Ideal S8x2048x512 .f32) : FVec Ideal S8x2048x128 .f32 := extractStridedSlice S8x2048x128 ![0, 0, 128] u slices_S8x2048x512_S8x2048x128_0_0_128
def x2 (u : FVec Ideal S8x2048x512 .f32) : FVec Ideal S8x2048x128 .f32 := extractStridedSlice S8x2048x128 ![0, 0, 256] u slices_S8x2048x512_S8x2048x128_0_0_256
def x3 (u : FVec Ideal S8x2048x512 .f32) : FVec Ideal S8x2048x128 .f32 := extractStridedSlice S8x2048x128 ![0, 0, 384] u slices_S8x2048x512_S8x2048x128_0_0_384

def d0 (x : FVec Ideal S8x2048x128 .f32) : FVec Ideal S8x2048x128 .f32 :=
  dev (Host.reduceWindowAdd ![1, 2, 1] ![1, 1, 1] ![0, 1, 0] ![0, 0, 0] x zero reduceWindows_S8x2048x128_S8x2048x128_w1s1p0_0_w2s1p1_0_w1s1p0_0 h_S_) x 0x40000000#32
def d1 (x : FVec Ideal S8x2048x128 .f32) : FVec Ideal S8x2048x128 .f32 :=
  dev (Host.reduceWindowAdd ![1, 4, 1] ![1, 1, 1] ![0, 3, 0] ![0, 0, 0] x zero reduceWindows_S8x2048x128_S8x2048x128_w1s1p0_0_w4s1p3_0_w1s1p0_0 h_S_) x 0x40800000#32
def d2 (x : FVec Ideal S8x2048x128 .f32) : FVec Ideal S8x2048x128 .f32 :=
  dev (Host.reduceWindowAdd ![1, 8, 1] ![1, 1, 1] ![0, 7, 0] ![0, 0, 0] x zero reduceWindows_S8x2048x128_S8x2048x128_w1s1p0_0_w8s1p7_0_w1s1p0_0 h_S_) x 0x41000000#32
def d3 (x : FVec Ideal S8x2048x128 .f32) : FVec Ideal S8x2048x128 .f32 :=
  dev (Host.reduceWindowAdd ![1, 16, 1] ![1, 1, 1] ![0, 15, 0] ![0, 0, 0] x zero reduceWindows_S8x2048x128_S8x2048x128_w1s1p0_0_w16s1p15_0_w1s1p0_0 h_S_) x 0x41800000#32

def slab (d : FVec Ideal S8x2048x128 .f32) : FVec Ideal S8x2048x1x128 .f32 :=
  broadcastInDim S8x2048x1x128 ![0, 1, 3] bcast_S8x2048x128_S8x2048x1x128_0_1_3 d

/-- The four groups, mixed and scaled. -/
def mix (e0 e1 e2 e3 : FVec Ideal S8x2048x128 .f32) (w : FVec Ideal S4x128x128 .f32) (s : FVec Ideal S512 .f32) : FVec Ideal S8x2048x512 .bf16 :=
  truncf .bf16 (mulf (shapeCast _ (transpose S8x2048x4x128 [2, 3, 0, 1] (Host.dotGeneral dot_S4x128x128_S8x2048x4x128_S4x128x8x2048_1_3_2_01_0_2 none w
    (concatenate S8x2048x4x128 2 [⟨S8x2048x1x128, slab e0⟩, ⟨S8x2048x1x128, slab e1⟩, ⟨S8x2048x1x128, slab e2⟩, ⟨S8x2048x1x128, slab e3⟩]
      concatenates_S8x2048x1x128_S8x2048x1x128_S8x2048x1x128_S8x2048x1x128_S8x2048x4x128_d2))
    transposes_S4x128x8x2048_S8x2048x4x128_2_3_0_1) shapeCasts_S8x2048x4x128_S8x2048x512)
    (broadcastInDim S8x2048x512 ![0, 1, 2] bcast_S1x1x512_S8x2048x512_0_1_2 (broadcastInDim S1x1x512 ![2] bcast_S512_S1x1x512_2 s))) bitsLt_bf16_f32

/-- The whole reference. -/
def REF (a : FVec Ideal S8x2048x2048 .f32) (w : FVec Ideal S4x128x128 .f32) (s : FVec Ideal S512 .f32) : FVec Ideal S8x2048x512 .bf16 :=
  mix (d0 (x0 (cols a))) (d1 (x1 (cols a))) (d2 (x2 (cols a))) (d3 (x3 (cols a))) w s

/-- The run's result is `REF` of the arguments. -/
theorem res_eq (m : (ℓ : Loc nD τ sig) → Buf (Elt Ideal) ℓ) (c : Dev nD) :
    Cert.PoolReferenceIdeal.Value.res_out0 m c
      = REF (m ((c : Thread nD τ).loc main_arg0)) (m ((c : Thread nD τ).loc main_arg1)) (m ((c : Thread nD τ).loc main_arg2)) := rfl

/-- The number of values in the window of `k` at position `t`. -/
def count (k : BitVec 32) (t : Fin 2048) : EReal :=
  min ((FloatOps.sitofp FTy.f32 (BitVec.ofNat 32 t.val) : Ideal .f32) + 1) (Ideal.ofBits FTy.f32 k)

/-- One group at a position: the window's mean minus the value. -/
theorem dev_at (tot x : FVec Ideal S8x2048x128 .f32) (k : BitVec 32) (b : Fin 8) (t : Fin 2048) (l : Fin 128) :
    dev tot x k (ix3 b t l) = Ideal.div (tot (ix3 b t l)) (count k t) - x (ix3 b t l) := by
  pointwise [dev, count]

theorem zero_at : zero (Shape.Idx.first h_S_) = 0 := by
  pointwise [zero]

/-- The values of one lane of a batch element, in order. -/
def line (x : FVec Ideal S8x2048x128 .f32) (b : Fin 8) (l : Fin 128) (n : ℕ) : EReal := if hn : n < 2048 then x (ix3 b ⟨n, hn⟩ l) else 0

theorem d0_at (x : FVec Ideal S8x2048x128 .f32) (b : Fin 8) (t : Fin 2048) (l : Fin 128) :
    d0 x (ix3 b t l) = Ideal.div (win 2 (line x b l) t.val) (count 0x40000000#32 t) - x (ix3 b t l) := by
  unfold d0
  rw [dev_at]
  exact congrArg (fun z => Ideal.div z (count 0x40000000#32 t) - x (ix3 b t l)) (window_at 2 rfl x _ zero_at reduceWindows_S8x2048x128_S8x2048x128_w1s1p0_0_w2s1p1_0_w1s1p0_0 b t l)

theorem d1_at (x : FVec Ideal S8x2048x128 .f32) (b : Fin 8) (t : Fin 2048) (l : Fin 128) :
    d1 x (ix3 b t l) = Ideal.div (win 4 (line x b l) t.val) (count 0x40800000#32 t) - x (ix3 b t l) := by
  unfold d1
  rw [dev_at]
  exact congrArg (fun z => Ideal.div z (count 0x40800000#32 t) - x (ix3 b t l)) (window_at 4 rfl x _ zero_at reduceWindows_S8x2048x128_S8x2048x128_w1s1p0_0_w4s1p3_0_w1s1p0_0 b t l)

theorem d2_at (x : FVec Ideal S8x2048x128 .f32) (b : Fin 8) (t : Fin 2048) (l : Fin 128) :
    d2 x (ix3 b t l) = Ideal.div (win 8 (line x b l) t.val) (count 0x41000000#32 t) - x (ix3 b t l) := by
  unfold d2
  rw [dev_at]
  exact congrArg (fun z => Ideal.div z (count 0x41000000#32 t) - x (ix3 b t l)) (window_at 8 rfl x _ zero_at reduceWindows_S8x2048x128_S8x2048x128_w1s1p0_0_w8s1p7_0_w1s1p0_0 b t l)

theorem d3_at (x : FVec Ideal S8x2048x128 .f32) (b : Fin 8) (t : Fin 2048) (l : Fin 128) :
    d3 x (ix3 b t l) = Ideal.div (win 16 (line x b l) t.val) (count 0x41800000#32 t) - x (ix3 b t l) := by
  unfold d3
  rw [dev_at]
  exact congrArg (fun z => Ideal.div z (count 0x41800000#32 t) - x (ix3 b t l)) (window_at 16 rfl x _ zero_at reduceWindows_S8x2048x128_S8x2048x128_w1s1p0_0_w16s1p15_0_w1s1p0_0 b t l)

/-- The result's lanes of group 0. -/
theorem mix_at0 (e0 e1 e2 e3 : FVec Ideal S8x2048x128 .f32) (w : FVec Ideal S4x128x128 .f32) (s : FVec Ideal S512 .f32) (b : Fin 8) (t : Fin 2048) (l : Fin 128) :
    mix e0 e1 e2 e3 w s (ix3 b t ⟨l.val, by omega⟩) = (∑ k : Fin 128, w (ix3 0 k l) * e0 (ix3 b t k)) * s (ix1 ⟨l.val, by omega⟩) := by
  have hl := l.isLt
  pointwise [mix, slab]
  refine congrArg (· * _) (Finset.sum_congr rfl fun k _ => congrArg₂ (· * ·) (congrArg w (congrArg₂ (fun a b => ix3 a k b) (Fin.ext ?_) (Fin.ext ?_))) ?_)
  · show l.val / 128 = 0; omega
  · show _ = l.val
    first | rfl | (show l.val % 128 = l.val; omega)
  · rw [dif_pos (by omega)]

/-- The result's lanes of group 1. -/
theorem mix_at1 (e0 e1 e2 e3 : FVec Ideal S8x2048x128 .f32) (w : FVec Ideal S4x128x128 .f32) (s : FVec Ideal S512 .f32) (b : Fin 8) (t : Fin 2048) (l : Fin 128) :
    mix e0 e1 e2 e3 w s (ix3 b t ⟨128 + l.val, by omega⟩) = (∑ k : Fin 128, w (ix3 1 k l) * e1 (ix3 b t k)) * s (ix1 ⟨128 + l.val, by omega⟩) := by
  have hl := l.isLt
  pointwise [mix, slab]
  refine congrArg (· * _) (Finset.sum_congr rfl fun k _ => congrArg₂ (· * ·) (congrArg w (congrArg₂ (fun a b => ix3 a k b) (Fin.ext ?_) (Fin.ext ?_))) ?_)
  · show (128 + l.val) / 128 = 1; omega
  · show _ = l.val
    first | rfl | (show (128 + l.val) % 128 = l.val; omega)
  · rw [dif_neg (by omega), dif_pos (by omega)]

/-- The result's lanes of group 2. -/
theorem mix_at2 (e0 e1 e2 e3 : FVec Ideal S8x2048x128 .f32) (w : FVec Ideal S4x128x128 .f32) (s : FVec Ideal S512 .f32) (b : Fin 8) (t : Fin 2048) (l : Fin 128) :
    mix e0 e1 e2 e3 w s (ix3 b t ⟨256 + l.val, by omega⟩) = (∑ k : Fin 128, w (ix3 2 k l) * e2 (ix3 b t k)) * s (ix1 ⟨256 + l.val, by omega⟩) := by
  have hl := l.isLt
  pointwise [mix, slab]
  refine congrArg (· * _) (Finset.sum_congr rfl fun k _ => congrArg₂ (· * ·) (congrArg w (congrArg₂ (fun a b => ix3 a k b) (Fin.ext ?_) (Fin.ext ?_))) ?_)
  · show (256 + l.val) / 128 = 2; omega
  · show _ = l.val
    first | rfl | (show (256 + l.val) % 128 = l.val; omega)
  · rw [dif_neg (by omega), dif_neg (by omega), dif_pos (by omega)]

/-- The result's lanes of group 3. -/
theorem mix_at3 (e0 e1 e2 e3 : FVec Ideal S8x2048x128 .f32) (w : FVec Ideal S4x128x128 .f32) (s : FVec Ideal S512 .f32) (b : Fin 8) (t : Fin 2048) (l : Fin 128) :
    mix e0 e1 e2 e3 w s (ix3 b t ⟨384 + l.val, by omega⟩) = (∑ k : Fin 128, w (ix3 3 k l) * e3 (ix3 b t k)) * s (ix1 ⟨384 + l.val, by omega⟩) := by
  have hl := l.isLt
  pointwise [mix, slab]
  refine congrArg (· * _) (Finset.sum_congr rfl fun k _ => congrArg₂ (· * ·) (congrArg w (congrArg₂ (fun a b => ix3 a k b) (Fin.ext ?_) (Fin.ext ?_))) ?_)
  · show (384 + l.val) / 128 = 3; omega
  · show _ = l.val
    first | rfl | (show (384 + l.val) % 128 = l.val; omega)
  · rw [dif_neg (by omega), dif_neg (by omega), dif_neg (by omega)]

end Cert.PoolReferenceIdeal.Spec

end
-- ==== Proof.PoolGroup.lean ====
module

public import proofs.«01_k».proof.Proof.PoolBlock
public import proofs.«01_k».proof.Proof.PoolRef

@[expose] public section

set_option maxRecDepth 16384

noncomputable section

open Idealize.ShloMosaic Idealize.ShloMosaic.TcCoe Idealize.ShloMosaic.Tactic Idealize.SL.Sem
open scoped BigOperators

namespace Cert.PoolIdeal.Block

open Cert.PoolIdeal Cert.PoolIdeal.Gen Cert.Pooling
open Cert.PoolReferenceIdeal.Spec (count)

/-- The values of one lane of a block, in order. -/
def lane (U : FVec Ideal S1x2048x128 .f32) (l : Fin 128) (n : ℕ) : EReal := if hn : n < 2048 then U (ix3 0 ⟨n, hn⟩ l) else 0

/-- One group of a block: the windows' means minus the values, mixed and scaled. -/
def group (K : ℕ) (k : BitVec 32) (U : FVec Ideal S1x2048x128 .f32) (W : FVec Ideal S1x128x128 .bf16) (S : FVec Ideal S1x128 .f32) (r : Fin 2048) (l : Fin 128) : EReal :=
  (∑ q : Fin 128, (Ideal.div (win K (lane U q) r.val) (count k r) - U (ix3 0 r q)) * W (ix3 0 q l)) * S (ix2 0 l)

theorem col_lane (W : FVec Ideal S2048x128 .f32) (U : FVec Ideal S1x2048x128 .f32) (h : ∀ (r : Fin 2048) (l : Fin 128), W (ix2 r l) = U (ix3 0 r l)) (l : Fin 128) (n : ℕ) (hn : n < 2048) :
    col W l n = lane U l n := by
  unfold col lane
  rw [dif_pos hn, dif_pos hn, h]

/-- The last total, from the total before it. -/
theorem total (W R : FVec Ideal S2048x128 .f32) (s : ℕ) (l : Fin 128) (f : ℕ → EReal) (hW : ∀ n, n < 2048 → col W l n = f n)
    (hR : ∀ r : Fin 2048, R (ix2 r l) = if s ≤ r.val then col W l (r.val - s) else 0) (r : Fin 2048) :
    W (ix2 r l) + R (ix2 r l) = twice s f r.val := by
  have h := col_twice W R (fun y => W y + R y) s l f hW hR (fun _ => rfl) r.val r.isLt
  rw [← h]
  unfold col
  rw [dif_pos r.isLt]

/-- What the kernel computes for group 0 is that group, when the rows read back are the earlier rows of the totals before them. -/
theorem group0_at (U : FVec Ideal S1x2048x128 .f32) (W : FVec Ideal S1x128x128 .bf16) (S : FVec Ideal S1x128 .f32) (R1 : FVec Ideal S2048x128 .f32)
    (h1 : ∀ (r : Fin 2048) (l : Fin 128), R1 (ix2 r l) = if 1 ≤ r.val then col (k0_pay5 U) l (r.val - 1) else 0)
    (r : Fin 2048) (l : Fin 128) : k0_pay6 (F := Ideal) U R1 W S (ix3 0 r l) = group 2 0x40000000#32 U W S r l := by
  have e0 : ∀ (l : Fin 128) (n : ℕ), n < 2048 → col (k0_pay5 U) l n = lane U l n := col_lane _ _ fun r l => by pointwise [k0_pay4, k0_pay5]
  have t : ∀ l : Fin 128, (k0_pay5 U) (ix2 r l) + R1 (ix2 r l) = win 2 (lane U l) r.val := fun l =>
    (total (k0_pay5 U) R1 1 l _ (e0 l) (fun r => h1 r l) r).trans (congrFun (win_two _) _)
  unfold group
  simp only [← t]
  pointwise [k0_pay6, k0_pay3, k0_pay4, k0_pay5]
  first | done | rfl

/-- What the kernel computes for group 1 is that group, when the rows read back are the earlier rows of the totals before them. -/
theorem group1_at (U : FVec Ideal S1x2048x128 .f32) (W : FVec Ideal S1x128x128 .bf16) (S : FVec Ideal S1x128 .f32) (R1 R2 : FVec Ideal S2048x128 .f32)
    (h1 : ∀ (r : Fin 2048) (l : Fin 128), R1 (ix2 r l) = if 1 ≤ r.val then col (k0_pay8 U) l (r.val - 1) else 0)
    (h2 : ∀ (r : Fin 2048) (l : Fin 128), R2 (ix2 r l) = if 2 ≤ r.val then col (k0_pay10 U R1) l (r.val - 2) else 0)
    (r : Fin 2048) (l : Fin 128) : k0_pay11 (k0_pay3 (F := Ideal)) U R1 R2 W S (ix3 0 r l) = group 4 0x40800000#32 U W S r l := by
  have e0 : ∀ (l : Fin 128) (n : ℕ), n < 2048 → col (k0_pay8 U) l n = lane U l n := col_lane _ _ fun r l => by pointwise [k0_pay7, k0_pay8, k0_pay9, k0_pay10]
  have e1 : ∀ (l : Fin 128) (n : ℕ), n < 2048 → col (k0_pay10 U R1) l n = twice 1 (lane U l) n := fun l =>
    col_twice (k0_pay8 U) R1 _ 1 l _ (e0 l) (fun r => h1 r l) fun r => by pointwise [k0_pay7, k0_pay8, k0_pay9, k0_pay10]
  have t : ∀ l : Fin 128, (k0_pay10 U R1) (ix2 r l) + R2 (ix2 r l) = win 4 (lane U l) r.val := fun l =>
    (total (k0_pay10 U R1) R2 2 l _ (e1 l) (fun r => h2 r l) r).trans (congrFun (win_four _) _)
  unfold group
  simp only [← t]
  pointwise [k0_pay11, k0_pay3, k0_pay7, k0_pay8, k0_pay9, k0_pay10]
  first | done | rfl

/-- What the kernel computes for group 2 is that group, when the rows read back are the earlier rows of the totals before them. -/
theorem group2_at (U : FVec Ideal S1x2048x128 .f32) (W : FVec Ideal S1x128x128 .bf16) (S : FVec Ideal S1x128 .f32) (R1 R2 R3 : FVec Ideal S2048x128 .f32)
    (h1 : ∀ (r : Fin 2048) (l : Fin 128), R1 (ix2 r l) = if 1 ≤ r.val then col (k0_pay13 (k0_pay12 U)) l (r.val - 1) else 0)
    (h2 : ∀ (r : Fin 2048) (l : Fin 128), R2 (ix2 r l) = if 2 ≤ r.val then col (k0_pay15 (k0_pay12 U) R1) l (r.val - 2) else 0)
    (h3 : ∀ (r : Fin 2048) (l : Fin 128), R3 (ix2 r l) = if 4 ≤ r.val then col (k0_pay17 (k0_pay12 U) R1 R2) l (r.val - 4) else 0)
    (r : Fin 2048) (l : Fin 128) : k0_pay18 (k0_pay3 (F := Ideal)) (k0_pay12 U) R1 R2 R3 W S (ix3 0 r l) = group 8 0x41000000#32 U W S r l := by
  have e0 : ∀ (l : Fin 128) (n : ℕ), n < 2048 → col (k0_pay13 (k0_pay12 U)) l n = lane U l n := col_lane _ _ fun r l => by pointwise [k0_pay12, k0_pay13, k0_pay14, k0_pay15, k0_pay16, k0_pay17]
  have e1 : ∀ (l : Fin 128) (n : ℕ), n < 2048 → col (k0_pay15 (k0_pay12 U) R1) l n = twice 1 (lane U l) n := fun l =>
    col_twice (k0_pay13 (k0_pay12 U)) R1 _ 1 l _ (e0 l) (fun r => h1 r l) fun r => by pointwise [k0_pay12, k0_pay13, k0_pay14, k0_pay15, k0_pay16, k0_pay17]
  have e2 : ∀ (l : Fin 128) (n : ℕ), n < 2048 → col (k0_pay17 (k0_pay12 U) R1 R2) l n = twice 2 (twice 1 (lane U l)) n := fun l =>
    col_twice (k0_pay15 (k0_pay12 U) R1) R2 _ 2 l _ (e1 l) (fun r => h2 r l) fun r => by pointwise [k0_pay12, k0_pay13, k0_pay14, k0_pay15, k0_pay16, k0_pay17]
  have t : ∀ l : Fin 128, (k0_pay17 (k0_pay12 U) R1 R2) (ix2 r l) + R3 (ix2 r l) = win 8 (lane U l) r.val := fun l =>
    (total (k0_pay17 (k0_pay12 U) R1 R2) R3 4 l _ (e2 l) (fun r => h3 r l) r).trans (congrFun (win_eight _) _)
  unfold group
  simp only [← t]
  pointwise [k0_pay18, k0_pay3, k0_pay12, k0_pay13, k0_pay14, k0_pay15, k0_pay16, k0_pay17]
  first | done | rfl

/-- What the kernel computes for group 3 is that group, when the rows read back are the earlier rows of the totals before them. -/
theorem group3_at (U : FVec Ideal S1x2048x128 .f32) (W : FVec Ideal S1x128x128 .bf16) (S : FVec Ideal S1x128 .f32) (R1 R2 R3 R4 : FVec Ideal S2048x128 .f32)
    (h1 : ∀ (r : Fin 2048) (l : Fin 128), R1 (ix2 r l) = if 1 ≤ r.val then col (k0_pay20 U) l (r.val - 1) else 0)
    (h2 : ∀ (r : Fin 2048) (l : Fin 128), R2 (ix2 r l) = if 2 ≤ r.val then col (k0_pay22 U R1) l (r.val - 2) else 0)
    (h3 : ∀ (r : Fin 2048) (l : Fin 128), R3 (ix2 r l) = if 4 ≤ r.val then col (k0_pay24 U R1 R2) l (r.val - 4) else 0)
    (h4 : ∀ (r : Fin 2048) (l : Fin 128), R4 (ix2 r l) = if 8 ≤ r.val then col (k0_pay26 U R1 R2 R3) l (r.val - 8) else 0)
    (r : Fin 2048) (l : Fin 128) : k0_pay1 (k0_pay27 (k0_pay3 (F := Ideal)) U R1 R2 R3 R4 W) S (ix3 0 r l) = group 16 0x41800000#32 U W S r l := by
  have e0 : ∀ (l : Fin 128) (n : ℕ), n < 2048 → col (k0_pay20 U) l n = lane U l n := col_lane _ _ fun r l => by pointwise [k0_pay19, k0_pay20, k0_pay21, k0_pay22, k0_pay23, k0_pay24, k0_pay25, k0_pay26]
  have e1 : ∀ (l : Fin 128) (n : ℕ), n < 2048 → col (k0_pay22 U R1) l n = twice 1 (lane U l) n := fun l =>
    col_twice (k0_pay20 U) R1 _ 1 l _ (e0 l) (fun r => h1 r l) fun r => by pointwise [k0_pay19, k0_pay20, k0_pay21, k0_pay22, k0_pay23, k0_pay24, k0_pay25, k0_pay26]
  have e2 : ∀ (l : Fin 128) (n : ℕ), n < 2048 → col (k0_pay24 U R1 R2) l n = twice 2 (twice 1 (lane U l)) n := fun l =>
    col_twice (k0_pay22 U R1) R2 _ 2 l _ (e1 l) (fun r => h2 r l) fun r => by pointwise [k0_pay19, k0_pay20, k0_pay21, k0_pay22, k0_pay23, k0_pay24, k0_pay25, k0_pay26]
  have e3 : ∀ (l : Fin 128) (n : ℕ), n < 2048 → col (k0_pay26 U R1 R2 R3) l n = twice 4 (twice 2 (twice 1 (lane U l))) n := fun l =>
    col_twice (k0_pay24 U R1 R2) R3 _ 4 l _ (e2 l) (fun r => h3 r l) fun r => by pointwise [k0_pay19, k0_pay20, k0_pay21, k0_pay22, k0_pay23, k0_pay24, k0_pay25, k0_pay26]
  have t : ∀ l : Fin 128, (k0_pay26 U R1 R2 R3) (ix2 r l) + R4 (ix2 r l) = win 16 (lane U l) r.val := fun l =>
    (total (k0_pay26 U R1 R2 R3) R4 8 l _ (e3 l) (fun r => h4 r l) r).trans (congrFun (win_sixteen _) _)
  unfold group
  simp only [← t]
  pointwise [k0_pay1, k0_pay27, k0_pay3, k0_pay19, k0_pay20, k0_pay21, k0_pay22, k0_pay23, k0_pay24, k0_pay25, k0_pay26]
  first | done | rfl

end Cert.PoolIdeal.Block

end
-- ==== Proof.PoolOut.lean ====
module

public import proofs.«01_k».proof.Proof.PoolGroup
public import Idealize.ShloMosaic.Lib.WholeRead

@[expose] public section

set_option maxRecDepth 16384

noncomputable section

open Idealize.ShloMosaic Idealize.ShloMosaic.TcCoe Idealize.ShloMosaic.Tactic Idealize.SL.Sem
open Idealize.ShloMosaic.Pipeline (Dat)
open scoped BigOperators

namespace Cert.PoolIdeal.Block

open Cert.PoolIdeal Cert.PoolIdeal.Gen Cert.Pooling
open Cert.PoolReferenceIdeal.Spec (count line REF cols mix_at0 mix_at1 mix_at2 mix_at3 d0_at d1_at d2_at d3_at)

variable (c : Dev nD) (i : grid0.Coords) (arg1 : Memref sig .tc .vmem S1x2048x512 .f32) (harg1 : arg1.IsWhole) (arg2 : Memref sig .tc .vmem S4x128x128 .bf16) (harg2 : arg2.IsWhole) (arg3 : Memref sig .tc .vmem S1x512 .f32) (harg3 : arg3.IsWhole) (arg4 : Memref sig .tc .vmem S1x2048x512 .bf16) (harg4 : arg4.IsWhole) (arg5 : Memref sig .tc .vmem S2064x128 .f32) (harg5 : arg5.IsWhole)
  (x0 : Vec Ideal S1x2048x512 .f32) (x1 : Vec Ideal S4x128x128 .bf16) (x2 : Vec Ideal S1x512 .f32)

theorem clear0_1 : Clear (h0_1 arg1 harg1 arg5 x0) := clear_put _ clear_halo

theorem y0_at (r : Fin 2048) (l : Fin 128) : y0 arg1 harg1 arg2 harg2 arg3 harg3 arg5 x0 x1 x2 (ix3 0 r l)
    = group 2 0x40000000#32 (u0 arg1 harg1 x0) (w0 arg2 harg2 x1) (s0 arg3 harg3 x2) r l :=
  group0_at _ _ _ (r0_1 arg1 harg1 arg5 x0)
    (fun r l => shifted arg5 _ _ clear_halo 15 1 rfl inb_S2064x128_S2048x128_15_0 r l) r l

theorem clear1_1 : Clear (h1_1 arg1 harg1 arg5 x0) := clear_put _ (clear0_1 arg1 harg1 arg5 x0)
theorem clear1_2 : Clear (h1_2 arg1 harg1 arg5 x0) := clear_put _ (clear1_1 arg1 harg1 arg5 x0)

theorem y1_at (r : Fin 2048) (l : Fin 128) : y1 arg1 harg1 arg2 harg2 arg3 harg3 arg5 x0 x1 x2 (ix3 0 r l)
    = group 4 0x40800000#32 (u1 arg1 harg1 x0) (w1 arg2 harg2 x1) (s1 arg3 harg3 x2) r l :=
  group1_at _ _ _ (r1_1 arg1 harg1 arg5 x0) (r1_2 arg1 harg1 arg5 x0)
    (fun r l => shifted arg5 _ _ (clear0_1 arg1 harg1 arg5 x0) 15 1 rfl inb_S2064x128_S2048x128_15_0 r l)
    (fun r l => shifted arg5 _ _ (clear1_1 arg1 harg1 arg5 x0) 14 2 rfl inb_S2064x128_S2048x128_14_0 r l) r l

theorem clear2_1 : Clear (h2_1 arg1 harg1 arg5 x0) := clear_put _ (clear1_2 arg1 harg1 arg5 x0)
theorem clear2_2 : Clear (h2_2 arg1 harg1 arg5 x0) := clear_put _ (clear2_1 arg1 harg1 arg5 x0)
theorem clear2_3 : Clear (h2_3 arg1 harg1 arg5 x0) := clear_put _ (clear2_2 arg1 harg1 arg5 x0)

theorem y2_at (r : Fin 2048) (l : Fin 128) : y2 arg1 harg1 arg2 harg2 arg3 harg3 arg5 x0 x1 x2 (ix3 0 r l)
    = group 8 0x41000000#32 (u2 arg1 harg1 x0) (w2 arg2 harg2 x1) (s2 arg3 harg3 x2) r l :=
  group2_at _ _ _ (r2_1 arg1 harg1 arg5 x0) (r2_2 arg1 harg1 arg5 x0) (r2_3 arg1 harg1 arg5 x0)
    (fun r l => shifted arg5 _ _ (clear1_2 arg1 harg1 arg5 x0) 15 1 rfl inb_S2064x128_S2048x128_15_0 r l)
    (fun r l => shifted arg5 _ _ (clear2_1 arg1 harg1 arg5 x0) 14 2 rfl inb_S2064x128_S2048x128_14_0 r l)
    (fun r l => shifted arg5 _ _ (clear2_2 arg1 harg1 arg5 x0) 12 4 rfl inb_S2064x128_S2048x128_12_0 r l) r l

theorem clear3_1 : Clear (h3_1 arg1 harg1 arg5 x0) := clear_put _ (clear2_3 arg1 harg1 arg5 x0)
theorem clear3_2 : Clear (h3_2 arg1 harg1 arg5 x0) := clear_put _ (clear3_1 arg1 harg1 arg5 x0)
theorem clear3_3 : Clear (h3_3 arg1 harg1 arg5 x0) := clear_put _ (clear3_2 arg1 harg1 arg5 x0)
theorem clear3_4 : Clear (h3_4 arg1 harg1 arg5 x0) := clear_put _ (clear3_3 arg1 harg1 arg5 x0)

theorem y3_at (r : Fin 2048) (l : Fin 128) : y3 arg1 harg1 arg2 harg2 arg3 harg3 arg5 x0 x1 x2 (ix3 0 r l)
    = group 16 0x41800000#32 (u3 arg1 harg1 x0) (w3 arg2 harg2 x1) (s3 arg3 harg3 x2) r l :=
  group3_at _ _ _ (r3_1 arg1 harg1 arg5 x0) (r3_2 arg1 harg1 arg5 x0) (r3_3 arg1 harg1 arg5 x0) (r3_4 arg1 harg1 arg5 x0)
    (fun r l => shifted arg5 _ _ (clear2_3 arg1 harg1 arg5 x0) 15 1 rfl inb_S2064x128_S2048x128_15_0 r l)
    (fun r l => shifted arg5 _ _ (clear3_1 arg1 harg1 arg5 x0) 14 2 rfl inb_S2064x128_S2048x128_14_0 r l)
    (fun r l => shifted arg5 _ _ (clear3_2 arg1 harg1 arg5 x0) 12 4 rfl inb_S2064x128_S2048x128_12_0 r l)
    (fun r l => shifted arg5 _ _ (clear3_3 arg1 harg1 arg5 x0) 8 8 rfl inb_S2064x128_S2048x128_8_0 r l) r l

theorem u0_at (r : Fin 2048) (l : Fin 128) : u0 arg1 harg1 x0 (ix3 0 r l) = x0 (ix3 0 r ⟨l.val, by omega⟩) := by
  refine (harg1.readAt_unread x0 _ _).trans (congrArg x0 ?_)
  funext a; apply Fin.ext
  match a with
  | 0 => rfl
  | 1 => show 0 + 1 * r.val = r.val; omega
  | 2 => show 0 + 1 * l.val = l.val; omega

theorem w0_at (q l : Fin 128) : w0 arg2 harg2 x1 (ix3 0 q l) = x1 (ix3 0 q l) := by
  refine (harg2.readAt_unread x1 _ _).trans (congrArg x1 ?_)
  funext a; apply Fin.ext
  match a with
  | 0 => rfl
  | 1 => show 0 + 1 * q.val = q.val; omega
  | 2 => show 0 + 1 * l.val = l.val; omega

theorem s0_at (l : Fin 128) : s0 arg3 harg3 x2 (ix2 0 l) = x2 (ix2 0 ⟨l.val, by omega⟩) := by
  refine (harg3.readAt_unread x2 _ _).trans (congrArg x2 ?_)
  funext a; apply Fin.ext
  match a with
  | 0 => rfl
  | 1 => show 0 + 1 * l.val = l.val; omega

/-- The result's lanes of group 0. -/
theorem out0_at (r : Fin 2048) (l : Fin 128) : out0_A_3 c i arg1 harg1 arg2 harg2 arg3 harg3 arg4 harg4 arg5 harg5 x0 x1 x2 (ix3 0 r ⟨l.val, by omega⟩)
    = group 2 0x40000000#32 (u0 arg1 harg1 x0) (w0 arg2 harg2 x1) (s0 arg3 harg3 x2) r l := by
  unfold out0_A_3
  rw [View.read_writes_junk_eq_canon, pieces]
  refine (View.canon_cons_of_not_mem _ _ fun hm => ?_).trans ?_
  · have h1 := (Rect.mem_set_unit (inb := inb_S1x2048x512_S1x2048x128_0_0_384)).mp hm 2
    have h2 : 384 ≤ l.val := h1.1
    omega
  refine (View.canon_cons_of_not_mem _ _ fun hm => ?_).trans ?_
  · have h1 := (Rect.mem_set_unit (inb := inb_S1x2048x512_S1x2048x128_0_0_256)).mp hm 2
    have h2 : 256 ≤ l.val := h1.1
    omega
  refine (View.canon_cons_of_not_mem _ _ fun hm => ?_).trans ?_
  · have h1 := (Rect.mem_set_unit (inb := inb_S1x2048x512_S1x2048x128_0_0_128)).mp hm 2
    have h2 : 128 ≤ l.val := h1.1
    omega
  have e : (Rect.unit (s := S1x2048x512) ![0, 0, 0] S1x2048x128.size inb_S1x2048x512_S1x2048x128_0_0_0).emb (ix3 (n0 := 1) (n1 := 2048) (n2 := 128) 0 r l) = ix3 0 r ⟨l.val, by omega⟩ := by
    funext a; apply Fin.ext; refine (Rect.emb_apply _ _ _).trans ?_
    match a with
    | 0 => rfl
    | 1 => show 0 + 1 * r.val = r.val; omega
    | 2 => show 0 + 1 * l.val = l.val; omega
  rw [← e]
  exact (View.canon_cons_emb _ _ _ _).trans (y0_at arg1 harg1 arg2 harg2 arg3 harg3 arg5 x0 x1 x2 r l)

theorem u1_at (r : Fin 2048) (l : Fin 128) : u1 arg1 harg1 x0 (ix3 0 r l) = x0 (ix3 0 r ⟨128 + l.val, by omega⟩) := by
  refine (harg1.readAt_unread x0 _ _).trans (congrArg x0 ?_)
  funext a; apply Fin.ext
  match a with
  | 0 => rfl
  | 1 => show 0 + 1 * r.val = r.val; omega
  | 2 => show 128 + 1 * l.val = 128 + l.val; omega

theorem w1_at (q l : Fin 128) : w1 arg2 harg2 x1 (ix3 0 q l) = x1 (ix3 1 q l) := by
  refine (harg2.readAt_unread x1 _ _).trans (congrArg x1 ?_)
  funext a; apply Fin.ext
  match a with
  | 0 => rfl
  | 1 => show 0 + 1 * q.val = q.val; omega
  | 2 => show 0 + 1 * l.val = l.val; omega

theorem s1_at (l : Fin 128) : s1 arg3 harg3 x2 (ix2 0 l) = x2 (ix2 0 ⟨128 + l.val, by omega⟩) := by
  refine (harg3.readAt_unread x2 _ _).trans (congrArg x2 ?_)
  funext a; apply Fin.ext
  match a with
  | 0 => rfl
  | 1 => show 128 + 1 * l.val = 128 + l.val; omega

/-- The result's lanes of group 1. -/
theorem out1_at (r : Fin 2048) (l : Fin 128) : out0_A_3 c i arg1 harg1 arg2 harg2 arg3 harg3 arg4 harg4 arg5 harg5 x0 x1 x2 (ix3 0 r ⟨128 + l.val, by omega⟩)
    = group 4 0x40800000#32 (u1 arg1 harg1 x0) (w1 arg2 harg2 x1) (s1 arg3 harg3 x2) r l := by
  unfold out0_A_3
  rw [View.read_writes_junk_eq_canon, pieces]
  refine (View.canon_cons_of_not_mem _ _ fun hm => ?_).trans ?_
  · have h1 := (Rect.mem_set_unit (inb := inb_S1x2048x512_S1x2048x128_0_0_384)).mp hm 2
    have h2 : 384 ≤ 128 + l.val := h1.1
    omega
  refine (View.canon_cons_of_not_mem _ _ fun hm => ?_).trans ?_
  · have h1 := (Rect.mem_set_unit (inb := inb_S1x2048x512_S1x2048x128_0_0_256)).mp hm 2
    have h2 : 256 ≤ 128 + l.val := h1.1
    omega
  have e : (Rect.unit (s := S1x2048x512) ![0, 0, 128] S1x2048x128.size inb_S1x2048x512_S1x2048x128_0_0_128).emb (ix3 (n0 := 1) (n1 := 2048) (n2 := 128) 0 r l) = ix3 0 r ⟨128 + l.val, by omega⟩ := by
    funext a; apply Fin.ext; refine (Rect.emb_apply _ _ _).trans ?_
    match a with
    | 0 => rfl
    | 1 => show 0 + 1 * r.val = r.val; omega
    | 2 => show 128 + 1 * l.val = 128 + l.val; omega
  rw [← e]
  exact (View.canon_cons_emb _ _ _ _).trans (y1_at arg1 harg1 arg2 harg2 arg3 harg3 arg5 x0 x1 x2 r l)

theorem u2_at (r : Fin 2048) (l : Fin 128) : u2 arg1 harg1 x0 (ix3 0 r l) = x0 (ix3 0 r ⟨256 + l.val, by omega⟩) := by
  refine (harg1.readAt_unread x0 _ _).trans (congrArg x0 ?_)
  funext a; apply Fin.ext
  match a with
  | 0 => rfl
  | 1 => show 0 + 1 * r.val = r.val; omega
  | 2 => show 256 + 1 * l.val = 256 + l.val; omega

theorem w2_at (q l : Fin 128) : w2 arg2 harg2 x1 (ix3 0 q l) = x1 (ix3 2 q l) := by
  refine (harg2.readAt_unread x1 _ _).trans (congrArg x1 ?_)
  funext a; apply Fin.ext
  match a with
  | 0 => rfl
  | 1 => show 0 + 1 * q.val = q.val; omega
  | 2 => show 0 + 1 * l.val = l.val; omega

theorem s2_at (l : Fin 128) : s2 arg3 harg3 x2 (ix2 0 l) = x2 (ix2 0 ⟨256 + l.val, by omega⟩) := by
  refine (harg3.readAt_unread x2 _ _).trans (congrArg x2 ?_)
  funext a; apply Fin.ext
  match a with
  | 0 => rfl
  | 1 => show 256 + 1 * l.val = 256 + l.val; omega

/-- The result's lanes of group 2. -/
theorem out2_at (r : Fin 2048) (l : Fin 128) : out0_A_3 c i arg1 harg1 arg2 harg2 arg3 harg3 arg4 harg4 arg5 harg5 x0 x1 x2 (ix3 0 r ⟨256 + l.val, by omega⟩)
    = group 8 0x41000000#32 (u2 arg1 harg1 x0) (w2 arg2 harg2 x1) (s2 arg3 harg3 x2) r l := by
  unfold out0_A_3
  rw [View.read_writes_junk_eq_canon, pieces]
  refine (View.canon_cons_of_not_mem _ _ fun hm => ?_).trans ?_
  · have h1 := (Rect.mem_set_unit (inb := inb_S1x2048x512_S1x2048x128_0_0_384)).mp hm 2
    have h2 : 384 ≤ 256 + l.val := h1.1
    omega
  have e : (Rect.unit (s := S1x2048x512) ![0, 0, 256] S1x2048x128.size inb_S1x2048x512_S1x2048x128_0_0_256).emb (ix3 (n0 := 1) (n1 := 2048) (n2 := 128) 0 r l) = ix3 0 r ⟨256 + l.val, by omega⟩ := by
    funext a; apply Fin.ext; refine (Rect.emb_apply _ _ _).trans ?_
    match a with
    | 0 => rfl
    | 1 => show 0 + 1 * r.val = r.val; omega
    | 2 => show 256 + 1 * l.val = 256 + l.val; omega
  rw [← e]
  exact (View.canon_cons_emb _ _ _ _).trans (y2_at arg1 harg1 arg2 harg2 arg3 harg3 arg5 x0 x1 x2 r l)

theorem u3_at (r : Fin 2048) (l : Fin 128) : u3 arg1 harg1 x0 (ix3 0 r l) = x0 (ix3 0 r ⟨384 + l.val, by omega⟩) := by
  refine (harg1.readAt_unread x0 _ _).trans (congrArg x0 ?_)
  funext a; apply Fin.ext
  match a with
  | 0 => rfl
  | 1 => show 0 + 1 * r.val = r.val; omega
  | 2 => show 384 + 1 * l.val = 384 + l.val; omega

theorem w3_at (q l : Fin 128) : w3 arg2 harg2 x1 (ix3 0 q l) = x1 (ix3 3 q l) := by
  refine (harg2.readAt_unread x1 _ _).trans (congrArg x1 ?_)
  funext a; apply Fin.ext
  match a with
  | 0 => rfl
  | 1 => show 0 + 1 * q.val = q.val; omega
  | 2 => show 0 + 1 * l.val = l.val; omega

theorem s3_at (l : Fin 128) : s3 arg3 harg3 x2 (ix2 0 l) = x2 (ix2 0 ⟨384 + l.val, by omega⟩) := by
  refine (harg3.readAt_unread x2 _ _).trans (congrArg x2 ?_)
  funext a; apply Fin.ext
  match a with
  | 0 => rfl
  | 1 => show 384 + 1 * l.val = 384 + l.val; omega

/-- The result's lanes of group 3. -/
theorem out3_at (r : Fin 2048) (l : Fin 128) : out0_A_3 c i arg1 harg1 arg2 harg2 arg3 harg3 arg4 harg4 arg5 harg5 x0 x1 x2 (ix3 0 r ⟨384 + l.val, by omega⟩)
    = group 16 0x41800000#32 (u3 arg1 harg1 x0) (w3 arg2 harg2 x1) (s3 arg3 harg3 x2) r l := by
  unfold out0_A_3
  rw [View.read_writes_junk_eq_canon, pieces]
  have e : (Rect.unit (s := S1x2048x512) ![0, 0, 384] S1x2048x128.size inb_S1x2048x512_S1x2048x128_0_0_384).emb (ix3 (n0 := 1) (n1 := 2048) (n2 := 128) 0 r l) = ix3 0 r ⟨384 + l.val, by omega⟩ := by
    funext a; apply Fin.ext; refine (Rect.emb_apply _ _ _).trans ?_
    match a with
    | 0 => rfl
    | 1 => show 0 + 1 * r.val = r.val; omega
    | 2 => show 384 + 1 * l.val = 384 + l.val; omega
  rw [← e]
  exact (View.canon_cons_emb _ _ _ _).trans (y3_at arg1 harg1 arg2 harg2 arg3 harg3 arg5 x0 x1 x2 r l)

end Cert.PoolIdeal.Block

end
-- ==== Proof.PoolValue.lean ====
module

public import proofs.«01_k».proof.Proof.PoolOut

@[expose] public section

set_option maxRecDepth 16384

noncomputable section

open Idealize.ShloMosaic Idealize.ShloMosaic.TcCoe Idealize.ShloMosaic.Tactic Idealize.SL.Sem
open Idealize.ShloMosaic.Pipeline (Dat)
open scoped BigOperators

namespace Cert.PoolIdeal.Value

open Cert.PoolIdeal Cert.PoolIdeal.Gen Cert.PoolIdeal.Block Cert.Pooling
open Cert.PoolReferenceIdeal.Spec (count line REF cols mix_at0 mix_at1 mix_at2 mix_at3 d0_at d1_at d2_at d3_at)

variable (m : (ℓ : Loc nD τ sig) → Buf (Elt Ideal) ℓ)

theorem idx : ∀ t : Fin cfg0.N, win0_0.index t = ![t.val, 0, 0] ∧ win0_1.index t = ![0, 0, 0] ∧ win0_2.index t = ![0, 0] ∧ win0_3.index t = ![t.val, 0, 0] :=
  (by decide +kernel : ∀ t : Fin grid0.N, _)

/-- The arguments, by name. -/
abbrev a0 (c : Dev nD) : FVec Ideal S8x2048x2048 .f32 := m ((c : Thread nD τ).loc main_arg0)
abbrev a1 (c : Dev nD) : FVec Ideal S4x128x128 .f32 := m ((c : Thread nD τ).loc main_arg1)
abbrev a2 (c : Dev nD) : FVec Ideal S512 .f32 := m ((c : Thread nD τ).loc main_arg2)

/-- A block's values are the argument's. -/
theorem blk0 (c : Dev nD) (t : Fin cfg0.N) (b : Fin 8) (hb : b.val = t.val) (r : Fin 2048) (l : Fin 512) :
    (show FVec Ideal S1x2048x512 .f32 from iblk m c 0 t) (ix3 0 r l) = a0 m c (ix3 b r ⟨l.val, by omega⟩) := by
  blk_point [iblk, V, idx t]

/-- A block's matrices are the argument's. -/
theorem blk1 (c : Dev nD) (t : Fin cfg0.N) (g : Fin 4) (q l : Fin 128) :
    (show FVec Ideal S4x128x128 .bf16 from iblk m c 1 t) (ix3 g q l) = a1 m c (ix3 g q l) := by
  blk_point [iblk, idx t]

/-- A block's scales are the argument's. -/
theorem blk2 (c : Dev nD) (t : Fin cfg0.N) (l : Fin 512) :
    (show FVec Ideal S1x512 .f32 from iblk m c 2 t) (ix2 0 l) = a2 m c (ix1 l) := by
  blk_point [iblk, idx t]

variable (arg1 : Memref sig .tc .vmem S1x2048x512 .f32) (harg1 : arg1.IsWhole) (arg2 : Memref sig .tc .vmem S4x128x128 .bf16) (harg2 : arg2.IsWhole) (arg3 : Memref sig .tc .vmem S1x512 .f32) (harg3 : arg3.IsWhole)

theorem col0_at (c : Dev nD) (t : Fin cfg0.N) (b : Fin 8) (hb : b.val = t.val) (r : Fin 2048) (q : Fin 128) :
    u0 arg1 harg1 (iblk m c 0 t) (ix3 0 r q) = Cert.PoolReferenceIdeal.Spec.x0 (cols (a0 m c)) (ix3 b r q) := by
  refine (u0_at arg1 harg1 _ r q).trans ((blk0 m c t b hb r _).trans ?_)
  pointwise [Cert.PoolReferenceIdeal.Spec.x0, cols]

/-- A block's group 0 is the reference's. -/
theorem group0_eq (c : Dev nD) (t : Fin cfg0.N) (b : Fin 8) (hb : b.val = t.val) (r : Fin 2048) (l : Fin 128) :
    group 2 0x40000000#32 (u0 arg1 harg1 (iblk m c 0 t)) (w0 arg2 harg2 (iblk m c 1 t)) (s0 arg3 harg3 (iblk m c 2 t)) r l
      = REF (a0 m c) (a1 m c) (a2 m c) (ix3 b r ⟨l.val, by omega⟩) := by
  have hl : ∀ q : Fin 128, lane (u0 arg1 harg1 (iblk m c 0 t)) q = line (Cert.PoolReferenceIdeal.Spec.x0 (cols (a0 m c))) b q := fun q => by
    funext n
    unfold lane line
    split
    · exact col0_at m arg1 harg1 c t b hb _ q
    · rfl
  unfold REF
  rw [mix_at0]
  unfold group
  refine congrArg₂ (· * ·) (Finset.sum_congr rfl fun q _ => (mul_comm _ _).trans (congrArg₂ (· * ·) ((w0_at arg2 harg2 _ q l).trans (blk1 m c t _ q l)) ?_))
    ((s0_at arg3 harg3 _ l).trans (blk2 m c t _))
  rw [d0_at, hl q, col0_at m arg1 harg1 c t b hb r q]

theorem col1_at (c : Dev nD) (t : Fin cfg0.N) (b : Fin 8) (hb : b.val = t.val) (r : Fin 2048) (q : Fin 128) :
    u1 arg1 harg1 (iblk m c 0 t) (ix3 0 r q) = Cert.PoolReferenceIdeal.Spec.x1 (cols (a0 m c)) (ix3 b r q) := by
  refine (u1_at arg1 harg1 _ r q).trans ((blk0 m c t b hb r _).trans ?_)
  pointwise [Cert.PoolReferenceIdeal.Spec.x1, cols]

/-- A block's group 1 is the reference's. -/
theorem group1_eq (c : Dev nD) (t : Fin cfg0.N) (b : Fin 8) (hb : b.val = t.val) (r : Fin 2048) (l : Fin 128) :
    group 4 0x40800000#32 (u1 arg1 harg1 (iblk m c 0 t)) (w1 arg2 harg2 (iblk m c 1 t)) (s1 arg3 harg3 (iblk m c 2 t)) r l
      = REF (a0 m c) (a1 m c) (a2 m c) (ix3 b r ⟨128 + l.val, by omega⟩) := by
  have hl : ∀ q : Fin 128, lane (u1 arg1 harg1 (iblk m c 0 t)) q = line (Cert.PoolReferenceIdeal.Spec.x1 (cols (a0 m c))) b q := fun q => by
    funext n
    unfold lane line
    split
    · exact col1_at m arg1 harg1 c t b hb _ q
    · rfl
  unfold REF
  rw [mix_at1]
  unfold group
  refine congrArg₂ (· * ·) (Finset.sum_congr rfl fun q _ => (mul_comm _ _).trans (congrArg₂ (· * ·) ((w1_at arg2 harg2 _ q l).trans (blk1 m c t _ q l)) ?_))
    ((s1_at arg3 harg3 _ l).trans (blk2 m c t _))
  rw [d1_at, hl q, col1_at m arg1 harg1 c t b hb r q]

theorem col2_at (c : Dev nD) (t : Fin cfg0.N) (b : Fin 8) (hb : b.val = t.val) (r : Fin 2048) (q : Fin 128) :
    u2 arg1 harg1 (iblk m c 0 t) (ix3 0 r q) = Cert.PoolReferenceIdeal.Spec.x2 (cols (a0 m c)) (ix3 b r q) := by
  refine (u2_at arg1 harg1 _ r q).trans ((blk0 m c t b hb r _).trans ?_)
  pointwise [Cert.PoolReferenceIdeal.Spec.x2, cols]

/-- A block's group 2 is the reference's. -/
theorem group2_eq (c : Dev nD) (t : Fin cfg0.N) (b : Fin 8) (hb : b.val = t.val) (r : Fin 2048) (l : Fin 128) :
    group 8 0x41000000#32 (u2 arg1 harg1 (iblk m c 0 t)) (w2 arg2 harg2 (iblk m c 1 t)) (s2 arg3 harg3 (iblk m c 2 t)) r l
      = REF (a0 m c) (a1 m c) (a2 m c) (ix3 b r ⟨256 + l.val, by omega⟩) := by
  have hl : ∀ q : Fin 128, lane (u2 arg1 harg1 (iblk m c 0 t)) q = line (Cert.PoolReferenceIdeal.Spec.x2 (cols (a0 m c))) b q := fun q => by
    funext n
    unfold lane line
    split
    · exact col2_at m arg1 harg1 c t b hb _ q
    · rfl
  unfold REF
  rw [mix_at2]
  unfold group
  refine congrArg₂ (· * ·) (Finset.sum_congr rfl fun q _ => (mul_comm _ _).trans (congrArg₂ (· * ·) ((w2_at arg2 harg2 _ q l).trans (blk1 m c t _ q l)) ?_))
    ((s2_at arg3 harg3 _ l).trans (blk2 m c t _))
  rw [d2_at, hl q, col2_at m arg1 harg1 c t b hb r q]

theorem col3_at (c : Dev nD) (t : Fin cfg0.N) (b : Fin 8) (hb : b.val = t.val) (r : Fin 2048) (q : Fin 128) :
    u3 arg1 harg1 (iblk m c 0 t) (ix3 0 r q) = Cert.PoolReferenceIdeal.Spec.x3 (cols (a0 m c)) (ix3 b r q) := by
  refine (u3_at arg1 harg1 _ r q).trans ((blk0 m c t b hb r _).trans ?_)
  pointwise [Cert.PoolReferenceIdeal.Spec.x3, cols]

/-- A block's group 3 is the reference's. -/
theorem group3_eq (c : Dev nD) (t : Fin cfg0.N) (b : Fin 8) (hb : b.val = t.val) (r : Fin 2048) (l : Fin 128) :
    group 16 0x41800000#32 (u3 arg1 harg1 (iblk m c 0 t)) (w3 arg2 harg2 (iblk m c 1 t)) (s3 arg3 harg3 (iblk m c 2 t)) r l
      = REF (a0 m c) (a1 m c) (a2 m c) (ix3 b r ⟨384 + l.val, by omega⟩) := by
  have hl : ∀ q : Fin 128, lane (u3 arg1 harg1 (iblk m c 0 t)) q = line (Cert.PoolReferenceIdeal.Spec.x3 (cols (a0 m c))) b q := fun q => by
    funext n
    unfold lane line
    split
    · exact col3_at m arg1 harg1 c t b hb _ q
    · rfl
  unfold REF
  rw [mix_at3]
  unfold group
  refine congrArg₂ (· * ·) (Finset.sum_congr rfl fun q _ => (mul_comm _ _).trans (congrArg₂ (· * ·) ((w3_at arg2 harg2 _ q l).trans (blk1 m c t _ q l)) ?_))
    ((s3_at arg3 harg3 _ l).trans (blk2 m c t _))
  rw [d3_at, hl q, col3_at m arg1 harg1 c t b hb r q]

theorem point (c : Dev nD) (t : Fin cfg0.N) (b : Fin 8) (hb : b.val = t.val) (r : Fin 2048) (L : Fin 512) :
    outsAt0 m c t (ix3 0 r L) = REF (a0 m c) (a1 m c) (a2 m c) (ix3 b r L) := by
  have hL := L.isLt
  unfold outsAt0
  by_cases h1 : L.val < 128
  · exact (out0_at _ _ _ _ _ _ _ _ _ _ _ _ _ _ _ r ⟨L.val, h1⟩).trans (group0_eq m _ _ _ _ _ _ c t b hb r ⟨L.val, h1⟩)
  by_cases h2 : L.val < 256
  · have e : L = ⟨128 + (⟨L.val - 128, by omega⟩ : Fin 128).val, by show 128 + (L.val - 128) < 512; omega⟩ := Fin.ext (by show L.val = 128 + (L.val - 128); omega)
    rw [e]
    exact (out1_at _ _ _ _ _ _ _ _ _ _ _ _ _ _ _ r ⟨L.val - 128, by omega⟩).trans (group1_eq m _ _ _ _ _ _ c t b hb r _)
  by_cases h3 : L.val < 384
  · have e : L = ⟨256 + (⟨L.val - 256, by omega⟩ : Fin 128).val, by show 256 + (L.val - 256) < 512; omega⟩ := Fin.ext (by show L.val = 256 + (L.val - 256); omega)
    rw [e]
    exact (out2_at _ _ _ _ _ _ _ _ _ _ _ _ _ _ _ r ⟨L.val - 256, by omega⟩).trans (group2_eq m _ _ _ _ _ _ c t b hb r _)
  · have e : L = ⟨384 + (⟨L.val - 384, by omega⟩ : Fin 128).val, by show 384 + (L.val - 384) < 512; omega⟩ := Fin.ext (by show L.val = 384 + (L.val - 384); omega)
    rw [e]
    exact (out3_at _ _ _ _ _ _ _ _ _ _ _ _ _ _ _ r ⟨L.val - 384, by omega⟩).trans (group3_eq m _ _ _ _ _ _ c t b hb r _)

/-- The result array after the run is the reference's term of the arguments. -/
theorem final (c : Dev nD) : (dats m 0 c).arrAt 3 (cfgs 0).N = REF (a0 m c) (a1 m c) (a2 m c) := by
  refine (dats m 0 c).arrAt_eq_of_covers 3 _ (by decide +kernel) fun t _ y => ?_
  blk_simp
  rw [after0_3]
  have ht : t.val < 8 := lt_of_lt_of_eq t.isLt (by decide)
  idx_vars y
  have h0 : y0 = 0 := Fin.ext (by have := y0.isLt; omega)
  subst h0
  refine (point m c t ⟨t.val, ht⟩ rfl y1 y2).trans (congrArg _ ?_)
  blk_ext [idx t]

end Cert.PoolIdeal.Value

end
-- ==== Proof.PoolClaim.lean ====
module

public import proofs.«01_k».proof.Defs
public import proofs.«01_k».proof.Proof.Gen.PoolIdeal.Value
public import proofs.«01_k».proof.Proof.PoolValue
public import Idealize.ShloMosaic.Adequacy
public import Idealize.ShloMosaic.Init

@[expose] public section

set_option maxRecDepth 16384

noncomputable section

namespace Cert.Proof

open Idealize.ShloMosaic Idealize.SL.Sem

/-- The pooling call's run and its reference's end with the same result. -/
theorem algebraic_pool : @algebraic_PoolIdeal_PoolReferenceIdeal Cert.PoolIdeal.Gen.facts Cert.PoolReferenceIdeal.Gen.facts := by
  intro m g m' g' _ hagree
  refine ⟨fun c => (Cert.PoolIdeal.Gen.dats m 0 c).arrAt 3 Cert.PoolIdeal.cfg0.N,
    Cert.PoolIdeal.Value.run_blocks m g, ?_⟩
  refine (θ_run _ _ _).mono (fun r h c => ⟨(h c).1.trans ?_, (h c).2⟩) (Cert.PoolReferenceIdeal.Value.run m' g')
  obtain ⟨h0, h1, h2⟩ := hagree c
  refine (Cert.PoolReferenceIdeal.Spec.res_eq m' c).trans ?_
  rw [h0, h1, h2]
  exact (Cert.PoolIdeal.Value.final m c).symm

end Cert.Proof

end
-- ==== Proof.BiasBucket.lean ====
module

public import Idealize.ShloMosaic.Lib.Pointwise
public import Idealize.ShloMosaic.PureOps.Ideal

@[expose] public section

set_option maxRecDepth 16384

noncomputable section

open Idealize.ShloMosaic

namespace Cert.Bucket

/-- The logarithmic part of the bucket of a distance. -/
def steps (d : BitVec 32) : Ideal .f32 :=
  FloatOps.mulf (FloatOps.divf (FloatOps.log (FloatOps.divf (FloatOps.sitofp .f32 (IntOp.maxsi d 1#32)) (FloatOps.ofBits .f32 0x41800000#32)))
    (FloatOps.ofBits .f32 0x40051592#32)) (FloatOps.ofBits .f32 0x41800000#32)

/-- The bucket of a distance. -/
def bucket (d : BitVec 32) : BitVec 32 :=
  Scalar.select (IntOp.cmpi .slt d 16#32) d (IntOp.minsi (16#32 + FloatOps.fptosi 32 (steps d)) 31#32)

theorem sixteen : (Ideal.ofBits .f32 0x41800000#32 : EReal) = ((16 : ℝ) : EReal) := by
  simp [Ideal.ofBits, Ideal.ieee, -EReal.coe_mul]; norm_num

theorem span : (Ideal.ofBits .f32 0x40051592#32 : EReal) = (((8721810 : ℝ) / 4194304 : ℝ) : EReal) := by
  simp [Ideal.ofBits, Ideal.ieee, -EReal.coe_mul]; norm_num

theorem toInt_ofNat {n : ℕ} (h : n < 2 ^ 31) : (BitVec.ofNat 32 n).toInt = n := by
  rw [BitVec.toInt_eq_toNat_bmod, BitVec.toNat_ofNat, Int.bmod_def]; omega

theorem slt_ofNat {a b : ℕ} (ha : a < 2 ^ 31) (hb : b < 2 ^ 31) : (BitVec.ofNat 32 a).slt (BitVec.ofNat 32 b) = decide (a < b) := by
  rw [BitVec.slt, toInt_ofNat ha, toInt_ofNat hb]; simp

theorem steps_real {n : ℕ} (h16 : 16 ≤ n) (hn : n < 512) : ∃ r : ℝ, 0 ≤ r ∧ r ≤ 512 ∧ steps (BitVec.ofNat 32 n) = (r : EReal) := by
  have hm : IntOp.maxsi (BitVec.ofNat 32 n) 1#32 = BitVec.ofNat 32 n := by
    unfold IntOp.maxsi
    rw [show (1#32) = BitVec.ofNat 32 1 from rfl, slt_ofNat (by omega) (by omega), if_pos (by simp; omega)]
  have h16' : (16 : ℝ) ≤ (n : ℝ) := by exact_mod_cast h16
  have hn' : (n : ℝ) < 512 := by exact_mod_cast hn
  refine ⟨Real.log ((n : ℝ) * (1 / 16)) * (1 / (8721810 / 4194304)) * 16, ?_, ?_, ?_⟩
  · have := Real.log_nonneg (x := (n : ℝ) * (1 / 16)) (by linarith)
    positivity
  · have := Real.log_le_sub_one_of_pos (x := (n : ℝ) * (1 / 16)) (by linarith)
    have : Real.log ((n : ℝ) * (1 / 16)) ≤ 32 := by linarith
    norm_num
    nlinarith
  · unfold steps
    rw [hm]
    simp only [Ideal.divf_def, Ideal.log_def, Ideal.ofBits_def, Ideal.mulf_def]
    rw [sixteen, span, show (FloatOps.sitofp .f32 (BitVec.ofNat 32 n) : Ideal .f32) = ((((BitVec.ofNat 32 n).toInt : ℤ) : ℝ) : EReal) from rfl,
      toInt_ofNat (by omega)]
    rw [Ideal.div_coe (by norm_num), Ideal.div_coe (by norm_num), ← EReal.coe_mul]
    rw [show Ideal.log (((((n : ℤ) : ℝ) * (1 / 16) : ℝ)) : EReal) = (Real.log ((n : ℝ) * (1 / 16)) : EReal) from by
      show (if ((n : ℤ) : ℝ) * (1 / 16) ≤ 0 then (⊥ : EReal) else _) = _
      rw [if_neg (by push_cast; linarith)]; push_cast; rfl]
    rw [← EReal.coe_mul, ← EReal.coe_mul]

/-- The bucket of a distance below 512 is one of the table's rows. -/
theorem bucket_lt {n : ℕ} (hn : n < 512) : ∃ k : Fin 32, bucket (BitVec.ofNat 32 n) = BitVec.ofNat 32 k.val := by
  unfold bucket
  rw [show IntOp.cmpi .slt (BitVec.ofNat 32 n) 16#32 = BitVec.ofBool ((BitVec.ofNat 32 n).slt (BitVec.ofNat 32 16)) from rfl,
    slt_ofNat (by omega) (by omega)]
  by_cases h : n < 16
  · exact ⟨⟨n, by omega⟩, by simp [h, Scalar.select]⟩
  · obtain ⟨r, h0, h1, hr⟩ := steps_real (by omega) hn
    rw [hr]
    have hf : (FloatOps.fptosi (F := Ideal) (φ := .f32) 32 (r : EReal) : BitVec 32) = BitVec.ofNat 32 ⌊r⌋.toNat := by
      show BitVec.ofInt 32 (max _ (min _ (if 0 ≤ r then ⌊r⌋ else ⌈r⌉))) = _
      have hl : 0 ≤ ⌊r⌋ := Int.floor_nonneg.mpr h0
      have hu : ⌊r⌋ ≤ 512 := by
        have := Int.floor_le_floor h1
        simpa using this
      rw [if_pos h0, ← BitVec.ofInt_natCast, Int.toNat_of_nonneg hl]
      congr 1
      norm_num
      omega
    have hu : ⌊r⌋.toNat ≤ 512 := by
      have := Int.floor_le_floor h1
      have h2 : ⌊r⌋ ≤ 512 := by simpa using this
      omega
    rw [hf]
    generalize ⌊r⌋.toNat = q at hu
    refine ⟨⟨min (16 + q) 31, by omega⟩, ?_⟩
    simp only [h, decide_false, Scalar.select, IntOp.minsi]
    rw [show (16#32 + BitVec.ofNat 32 q) = BitVec.ofNat 32 (16 + q) from by rw [BitVec.ofNat_add],
      show (31#32) = BitVec.ofNat 32 31 from rfl, slt_ofNat (by omega) (by omega)]
    by_cases h3 : 16 + q < 31
    · simp [h3, show min (16 + q) 31 = 16 + q by omega]
    · simp [h3, show min (16 + q) 31 = 31 by omega]

/-- The distance of a query from a key, none being negative. -/
theorem dist_eq {p q c : ℕ} (hp : p < 2) (hq : q < 128) (hc : c < 256) :
    IntOp.maxsi (BitVec.ofNat 32 q - BitVec.ofNat 32 c + BitVec.ofNat 32 p * 128#32) 0#32 = BitVec.ofNat 32 (q + p * 128 - c) := by
  unfold IntOp.maxsi
  by_cases h : c ≤ q + p * 128
  · have e : BitVec.ofNat 32 q - BitVec.ofNat 32 c + BitVec.ofNat 32 p * 128#32 = BitVec.ofNat 32 (q + p * 128 - c) := by
      apply BitVec.eq_of_toNat_eq; simp; omega
    rw [e, show (0#32) = BitVec.ofNat 32 0 from rfl, slt_ofNat (by omega) (by omega)]
    split
    · rfl
    · next h' => simp at h'; congr 1; omega
  · have e : (BitVec.ofNat 32 q - BitVec.ofNat 32 c + BitVec.ofNat 32 p * 128#32).toInt = (q : ℤ) + p * 128 - c := by
      rw [BitVec.toInt_add, BitVec.toInt_sub, BitVec.toInt_mul, toInt_ofNat (n := q) (by omega), toInt_ofNat (n := c) (by omega),
        toInt_ofNat (n := p) (by omega), show (128#32).toInt = 128 from rfl]
      simp only [Int.bmod_def]; omega
    rw [if_neg (by rw [BitVec.slt, e]; simp; omega), show q + p * 128 - c = 0 by omega]

/-- A chain of choices by equality with 0, 1, …, the last one met winning. -/
def pick (b : BitVec 32) (f : Fin 32 → EReal) : (n : ℕ) → n ≤ 32 → EReal
  | 0, _ => FloatOps.ofBits (F := Ideal) .f32 0x00000000#32
  | n + 1, h => Scalar.select (IntOp.cmpi .eq b (BitVec.ofNat 32 n)) (f ⟨n, h⟩) (pick b f n (by omega))

/-- The chain reads the entry of its bucket. -/
theorem pick_eq (f : Fin 32 → EReal) (k : Fin 32) : ∀ (n : ℕ) (h : n ≤ 32), k.val < n → pick (BitVec.ofNat 32 k.val) f n h = f k
  | n + 1, h, hk => by
    unfold pick
    by_cases e : k.val = n
    · subst e
      simp [Scalar.select, IntOp.cmpi]
    · have hne : (BitVec.ofNat 32 k.val == BitVec.ofNat 32 n) = false := by
        have : BitVec.ofNat 32 k.val ≠ BitVec.ofNat 32 n := fun he => by
          have := congrArg BitVec.toNat he; simp at this; omega
        simpa using this
      rw [show IntOp.cmpi .eq (BitVec.ofNat 32 k.val) (BitVec.ofNat 32 n) = BitVec.ofBool (BitVec.ofNat 32 k.val == BitVec.ofNat 32 n) from rfl, hne]
      simp only [Scalar.select]
      exact pick_eq f k n (by omega) (by omega)

end Cert.Bucket

end
-- ==== Proof.BiasBlock.lean ====
module

public import proofs.«01_k».proof.Proof.Gen.BiasIdeal.Frame
public import Idealize.ShloMosaic.Lib.Pipeline.ValueKit
public import Idealize.ShloMosaic.Lib.Pointwise
public import Idealize.ShloMosaic.Lib.WholeRead
public import proofs.«01_k».proof.Proof.BiasBucket

@[expose] public section

set_option maxRecDepth 16384

noncomputable section

open Idealize.ShloMosaic Idealize.ShloMosaic.TcCoe Idealize.ShloMosaic.Tactic Idealize.SL.Sem

namespace Cert.BiasIdeal.Block

open Cert.BiasIdeal Cert.BiasIdeal.Gen Cert.Bucket

/-- One word of the table, as the body reads it. -/
def word (arg1 : Memref sig .tc .smem S32x16 .f32) (harg1 : arg1.IsWhole) (x0 : Vec Ideal S32x16 .f32) (k h : ℕ) (inb : ∀ a : Fin 2, (![k, h] : Fin 2 → ℕ) a + S1x1.size a ≤ S32x16.size a) : Ideal .f32 :=
  View.readAt (Elt Ideal) arg1.view (Rect.unit (s := S32x16) ![k, h] S1x1.size inb).toLoadRect (harg1.unread x0) (Shape.Idx.first (by show 0 < S1x1.numel; decide))

theorem inb {h : ℕ} (hh : h < 16) (k : Fin 32) : ∀ a : Fin 2, (![k.val, h] : Fin 2 → ℕ) a + S1x1.size a ≤ S32x16.size a := fun a => by
  match a with
  | 0 => show k.val + 1 ≤ 32; omega
  | 1 => show h + 1 ≤ 16; omega

/-- The column of a head, word by word. -/
def column (arg1 : Memref sig .tc .smem S32x16 .f32) (harg1 : arg1.IsWhole) (x0 : Vec Ideal S32x16 .f32) (h : ℕ) (hh : h < 16) (k : Fin 32) : Ideal .f32 :=
  word arg1 harg1 x0 k.val h (inb hh k)

theorem column_at (arg1 : Memref sig .tc .smem S32x16 .f32) (harg1 : arg1.IsWhole) (x0 : Vec Ideal S32x16 .f32) (h : ℕ) (hh : h < 16) (k : Fin 32) :
    column arg1 harg1 x0 h hh k = x0 (ix2 k ⟨h, hh⟩) := by
  refine (harg1.readAt_unread x0 _ _).trans (congrArg x0 ?_)
  funext a; apply Fin.ext
  match a with
  | 0 => show k.val + 1 * 0 = k.val; omega
  | 1 => show h + 1 * 0 = h; omega

/-- A head's tile: the chain of choices over the buckets, as the body makes it. -/
def chain (b : IVec S128x256 32) (f : Fin 32 → Ideal .f32) : (n : ℕ) → n ≤ 32 → FVec Ideal S128x256 .f32
  | 0, _ => broadcast S128x256 (Scalar.ofBits .f32 0x00000000#32)
  | n + 1, h => select (cmpi .eq b (broadcast S128x256 (BitVec.ofNat 32 n))) (broadcast S128x256 (f ⟨n, h⟩)) (chain b f n (by omega))

/-- A head's tile: its last word taken off, times the factor. -/
def tile (b : IVec S128x256 32) (f : Fin 32 → Ideal .f32) : FVec Ideal S1x1x128x256 .f32 :=
  shapeCast S1x1x128x256 (mulf (subf (chain b f 32 (le_refl _)) (broadcast S128x256 (f 31))) (broadcast S128x256 (Scalar.ofBits .f32 0x3FB8AA3B#32))) shapeCasts_S128x256_S1x1x128x256

theorem chain_at (b : IVec S128x256 32) (f : Fin 32 → Ideal .f32) (y : S128x256.Idx) : ∀ (n : ℕ) (h : n ≤ 32), chain b f n h y = pick (b y) f n h
  | 0, _ => rfl
  | n + 1, h => by
    show Scalar.select _ _ (chain b f n _ y) = Scalar.select _ _ (pick (b y) f n _)
    rw [chain_at b f y n]
    rfl

theorem tile_at (b : IVec S128x256 32) (f : Fin 32 → Ideal .f32) (r : Fin 128) (c : Fin 256) :
    tile b f (ix4 0 0 r c) = (pick (b (ix2 r c)) f 32 (le_refl _) - f 31) * Ideal.ofBits .f32 0x3FB8AA3B#32 := by
  have e : tile b f (ix4 0 0 r c) = (chain b f 32 (le_refl _) (ix2 r c) - f 31) * Ideal.ofBits .f32 0x3FB8AA3B#32 := by
    pointwise [tile]
  rw [e, chain_at]

/-- The body's bucket at a place. -/
theorem bucket_at (i : grid0.Coords) (r : Fin 128) (c : Fin 256) :
    k0_pay2 (F := Ideal) i (ix2 r c) = bucket (BitVec.ofNat 32 (r.val + (i 0).val * 128 - c.val)) := by
  rw [← dist_eq (i 0).isLt r.isLt c.isLt]
  pointwise [k0_pay2]
  rfl

variable (c : Dev nD) (i : grid0.Coords) (arg1 : Memref sig .tc .smem S32x16 .f32) (harg1 : arg1.IsWhole) (arg2 : Memref sig .tc .vmem S1x16x128x256 .f32) (harg2 : arg2.IsWhole)
  (x0 : Vec Ideal S32x16 .f32)

/-- The pieces the run writes: a tile of each head. -/
theorem pieces : (kernelRun0_A c i arg1 harg1 arg2 harg2 x0).1 = [
    ⟨Rect.unit ![0, 15, 0, 0] ![1, 1, 128, 256] inb_S1x16x128x256_S1x1x128x256_0_15_0_0, tile (k0_pay2 (F := Ideal) i) (column arg1 harg1 x0 15 (by decide))⟩,
    ⟨Rect.unit ![0, 14, 0, 0] ![1, 1, 128, 256] inb_S1x16x128x256_S1x1x128x256_0_14_0_0, tile (k0_pay2 (F := Ideal) i) (column arg1 harg1 x0 14 (by decide))⟩,
    ⟨Rect.unit ![0, 13, 0, 0] ![1, 1, 128, 256] inb_S1x16x128x256_S1x1x128x256_0_13_0_0, tile (k0_pay2 (F := Ideal) i) (column arg1 harg1 x0 13 (by decide))⟩,
    ⟨Rect.unit ![0, 12, 0, 0] ![1, 1, 128, 256] inb_S1x16x128x256_S1x1x128x256_0_12_0_0, tile (k0_pay2 (F := Ideal) i) (column arg1 harg1 x0 12 (by decide))⟩,
    ⟨Rect.unit ![0, 11, 0, 0] ![1, 1, 128, 256] inb_S1x16x128x256_S1x1x128x256_0_11_0_0, tile (k0_pay2 (F := Ideal) i) (column arg1 harg1 x0 11 (by decide))⟩,
    ⟨Rect.unit ![0, 10, 0, 0] ![1, 1, 128, 256] inb_S1x16x128x256_S1x1x128x256_0_10_0_0, tile (k0_pay2 (F := Ideal) i) (column arg1 harg1 x0 10 (by decide))⟩,
    ⟨Rect.unit ![0, 9, 0, 0] ![1, 1, 128, 256] inb_S1x16x128x256_S1x1x128x256_0_9_0_0, tile (k0_pay2 (F := Ideal) i) (column arg1 harg1 x0 9 (by decide))⟩,
    ⟨Rect.unit ![0, 8, 0, 0] ![1, 1, 128, 256] inb_S1x16x128x256_S1x1x128x256_0_8_0_0, tile (k0_pay2 (F := Ideal) i) (column arg1 harg1 x0 8 (by decide))⟩,
    ⟨Rect.unit ![0, 7, 0, 0] ![1, 1, 128, 256] inb_S1x16x128x256_S1x1x128x256_0_7_0_0, tile (k0_pay2 (F := Ideal) i) (column arg1 harg1 x0 7 (by decide))⟩,
    ⟨Rect.unit ![0, 6, 0, 0] ![1, 1, 128, 256] inb_S1x16x128x256_S1x1x128x256_0_6_0_0, tile (k0_pay2 (F := Ideal) i) (column arg1 harg1 x0 6 (by decide))⟩,
    ⟨Rect.unit ![0, 5, 0, 0] ![1, 1, 128, 256] inb_S1x16x128x256_S1x1x128x256_0_5_0_0, tile (k0_pay2 (F := Ideal) i) (column arg1 harg1 x0 5 (by decide))⟩,
    ⟨Rect.unit ![0, 4, 0, 0] ![1, 1, 128, 256] inb_S1x16x128x256_S1x1x128x256_0_4_0_0, tile (k0_pay2 (F := Ideal) i) (column arg1 harg1 x0 4 (by decide))⟩,
    ⟨Rect.unit ![0, 3, 0, 0] ![1, 1, 128, 256] inb_S1x16x128x256_S1x1x128x256_0_3_0_0, tile (k0_pay2 (F := Ideal) i) (column arg1 harg1 x0 3 (by decide))⟩,
    ⟨Rect.unit ![0, 2, 0, 0] ![1, 1, 128, 256] inb_S1x16x128x256_S1x1x128x256_0_2_0_0, tile (k0_pay2 (F := Ideal) i) (column arg1 harg1 x0 2 (by decide))⟩,
    ⟨Rect.unit ![0, 1, 0, 0] ![1, 1, 128, 256] inb_S1x16x128x256_S1x1x128x256_0_1_0_0, tile (k0_pay2 (F := Ideal) i) (column arg1 harg1 x0 1 (by decide))⟩,
    ⟨Rect.unit ![0, 0, 0, 0] ![1, 1, 128, 256] inb_S1x16x128x256_S1x1x128x256_0_0_0_0, tile (k0_pay2 (F := Ideal) i) (column arg1 harg1 x0 0 (by decide))⟩] := by sl_kernel_rfl

end Cert.BiasIdeal.Block

end
-- ==== Proof.BiasRef.lean ====
module

public import proofs.«01_k».proof.Proof.Gen.BiasReferenceIdeal.Run
public import Idealize.ShloMosaic.Lib.Pipeline.ValueKit
public import Idealize.ShloMosaic.Lib.Pointwise
public import proofs.«01_k».proof.Proof.BiasBucket

@[expose] public section

set_option maxRecDepth 16384

noncomputable section

open Idealize.ShloMosaic Idealize.ShloMosaic.TcCoe Idealize.ShloMosaic.Tactic Idealize.SL.Sem

namespace Cert.BiasReferenceIdeal.Spec

open Cert.BiasReferenceIdeal Cert.BiasReferenceIdeal.Gen Cert.BiasReferenceIdeal.Value Cert.Bucket

/-- The distance of each query from each key. -/
def far : IVec S2x128x256 32 :=
  maxsi (subi (broadcastInDim S2x128x256 ![0, 1, 2] bcast_S2x128x1_S2x128x256_0_1_2 (addi (broadcastInDim S2x128x1 ![0, 1, 2] bcast_S2x1x1_S2x128x1_0_1_2 (muli (broadcastInDim S2x1x1 ![0] bcast_S2_S2x1x1_0 (iotaInDim S2 32 0)) (broadcastInDim S2x1x1 ![] bcast_S_S2x1x1 (constantI S_ 32 128#32)))) (broadcastInDim S2x128x1 ![0, 1, 2] bcast_S1x128x1_S2x128x1_0_1_2 (broadcastInDim S1x128x1 ![1] bcast_S128_S1x128x1_1 (iotaInDim S128 32 0))))) (broadcastInDim S2x128x256 ![0, 1, 2] bcast_S1x1x256_S2x128x256_0_1_2 (broadcastInDim S1x1x256 ![2] bcast_S256_S1x1x256_2 (iotaInDim S256 32 0)))) (broadcastInDim S2x128x256 ![] bcast_S_S2x128x256 (constantI S_ 32 0#32))

/-- The bucket of each distance. -/
def row (d : IVec S2x128x256 32) : IVec S2x128x256 32 :=
  select (cmpi .slt d (broadcastInDim S2x128x256 ![] bcast_S_S2x128x256 (constantI S_ 32 16#32))) d (minsi (addi (broadcastInDim S2x128x256 ![] bcast_S_S2x128x256 (constantI S_ 32 16#32)) (fptosi 32 (mulf (Host.divf (Host.log (Host.divf (sitofp .f32 (maxsi d (broadcastInDim S2x128x256 ![] bcast_S_S2x128x256 (constantI S_ 32 1#32)))) (broadcastInDim S2x128x256 ![] bcast_S_S2x128x256 (constant S_ .f32 0x41800000#32)))) (broadcastInDim S2x128x256 ![] bcast_S_S2x128x256 (constant S_ .f32 0x40051592#32))) (broadcastInDim S2x128x256 ![] bcast_S_S2x128x256 (constant S_ .f32 0x41800000#32)) : FVec Ideal S2x128x256 .f32))) (broadcastInDim S2x128x256 ![] bcast_S_S2x128x256 (constantI S_ 32 31#32)))

/-- The row the table is read at. -/
def start (b : IVec S2x128x256 32) : IVec S2x128x256x1 32 :=
  broadcastInDim S2x128x256x1 ![0, 1, 2] bcast_S2x128x256_S2x128x256x1_0_1_2 (select (cmpi .slt b (broadcastInDim S2x128x256 ![] bcast_S_S2x128x256 (constantI S_ 32 0#32))) (addi b (broadcastInDim S2x128x256 ![] bcast_S_S2x128x256 (constantI S_ 32 32#32))) b)

/-- The table read at the rows. -/
def taken (x : FVec Ideal S32x16 .f32) (s : IVec S2x128x256x1 32) : FVec Ideal S2x128x256x16 .f32 :=
  Host.gather gather_S32x16_S2x128x256x1_S2x128x256x16_3_0_n_n_0_3_116 x s

/-- The result from what was read. -/
def out (x : FVec Ideal S32x16 .f32) (y : FVec Ideal S2x128x256x16 .f32) : FVec Ideal S2x16x128x256 .f32 :=
  mulf (transpose S2x16x128x256 [0, 3, 1, 2] (subf y (broadcastInDim S2x128x256x16 ![0, 1, 2, 3] bcast_S1x1x1x16_S2x128x256x16_0_1_2_3 (broadcastInDim S1x1x1x16 ![3] bcast_S16_S1x1x1x16_3 (shapeCast S16 (extractStridedSlice S1x16 ![31, 0] x slices_S32x16_S1x16_31_0) shapeCasts_S1x16_S16)))) transposes_S2x128x256x16_S2x16x128x256_0_3_1_2) (broadcastInDim S2x16x128x256 ![] bcast_S_S2x16x128x256 (constant S_ .f32 0x3FB8AA3B#32))

theorem far_at (p : Fin 2) (q : Fin 128) (c : Fin 256) : far (ix3 p q c) = BitVec.ofNat 32 (q.val + p.val * 128 - c.val) := by
  rw [← dist_eq p.isLt q.isLt c.isLt, show BitVec.ofNat 32 q.val - BitVec.ofNat 32 c.val + BitVec.ofNat 32 p.val * 128#32
    = BitVec.ofNat 32 p.val * 128#32 + BitVec.ofNat 32 q.val - BitVec.ofNat 32 c.val by
      rw [BitVec.sub_eq_add_neg, BitVec.sub_eq_add_neg]; ac_rfl]
  pointwise [far]
  rfl

theorem row_at (d : IVec S2x128x256 32) (p : Fin 2) (q : Fin 128) (c : Fin 256) : row d (ix3 p q c) = bucket (d (ix3 p q c)) := by
  pointwise [row]
  rfl

theorem start_at (b : IVec S2x128x256 32) (p : Fin 2) (q : Fin 128) (c : Fin 256) (k : Fin 32) (hb : b (ix3 p q c) = BitVec.ofNat 32 k.val) :
    start b (ix4 p q c 0) = BitVec.ofNat 32 k.val := by
  have e : start b (ix4 p q c 0) = Scalar.select (IntOp.cmpi .slt (b (ix3 p q c)) 0#32) (b (ix3 p q c) + 32#32) (b (ix3 p q c)) := by
    pointwise [start]
    rfl
  rw [e, hb, show IntOp.cmpi .slt (BitVec.ofNat 32 k.val) 0#32 = BitVec.ofBool ((BitVec.ofNat 32 k.val).slt (BitVec.ofNat 32 0)) from rfl,
    slt_ofNat (by omega) (by omega)]
  simp [Scalar.select]

theorem taken_at (x : FVec Ideal S32x16 .f32) (s : IVec S2x128x256x1 32) (p : Fin 2) (q : Fin 128) (c : Fin 256) (h : Fin 16) :
    taken x s (ix4 p q c h) = x (ix2 ⟨min (s (ix4 p q c 0)).toInt.toNat 31, by omega⟩ h) := by
  unfold taken Host.gather
  congr 1
  funext a
  refine Fin.ext ?_
  show (gather_S32x16_S2x128x256x1_S2x128x256x16_3_0_n_n_0_3_116).start (ix4 p q c h) s a + (gather_S32x16_S2x128x256x1_S2x128x256x16_3_0_n_n_0_3_116).batchCoord (ix4 p q c h) a
      + (gather_S32x16_S2x128x256x1_S2x128x256x16_3_0_n_n_0_3_116).offCoord (ix4 p q c h) a = _
  rw [GatherDims.batchCoord_eq_zero _ _ _ (by exact List.not_mem_nil)]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S32x16_S2x128x256x1_S2x128x256x16_3_0_n_n_0_3_116).startIndexMap from List.mem_singleton.mpr rfl)]
    have hsi : (gather_S32x16_S2x128x256x1_S2x128x256x16_3_0_n_n_0_3_116).siIdx (ix4 p q c h) ⟨List.idxOf (0 : Fin 2) (gather_S32x16_S2x128x256x1_S2x128x256x16_3_0_n_n_0_3_116).startIndexMap,
        List.idxOf_lt_length_iff.2 (List.mem_singleton.mpr rfl)⟩ = ix4 p q c 0 := by
      funext b; refine Fin.ext ?_
      match b with
      | ⟨0, _⟩ => rfl
      | ⟨1, _⟩ => rfl
      | ⟨2, _⟩ => rfl
      | ⟨3, _⟩ => rfl
    exact congrArg (fun z => min (s z).toInt.toNat 31) hsi
  · unfold GatherDims.start GatherDims.offCoord
    rw [dif_neg (show ¬ (1 : Fin 2) ∈ (gather_S32x16_S2x128x256x1_S2x128x256x16_3_0_n_n_0_3_116).startIndexMap from (by decide : ¬ (1 : Fin 2) ∈ ([0] : List (Fin 2)))),
      dif_pos (show (1 : Fin 2) ∈ (gather_S32x16_S2x128x256x1_S2x128x256x16_3_0_n_n_0_3_116).sKept from (GatherDims.mem_sKept _ _).mpr ⟨(by decide : ¬ (1 : Fin 2) ∈ ([0] : List (Fin 2))), List.not_mem_nil⟩)]
    simp only [Nat.zero_add]
    rfl

theorem out_at (x : FVec Ideal S32x16 .f32) (y : FVec Ideal S2x128x256x16 .f32) (p : Fin 2) (h : Fin 16) (q : Fin 128) (c : Fin 256) :
    out x y (ix4 p h q c) = (y (ix4 p q c h) - x (ix2 31 h)) * Ideal.ofBits .f32 0x3FB8AA3B#32 := by
  pointwise [out]

/-- What the call returns. -/
def REF (x : FVec Ideal S32x16 .f32) : FVec Ideal S2x16x128x256 .f32 := out x (taken x (start (row far)))

theorem ref_at (x : FVec Ideal S32x16 .f32) (p : Fin 2) (h : Fin 16) (q : Fin 128) (c : Fin 256) (k : Fin 32)
    (hk : bucket (BitVec.ofNat 32 (q.val + p.val * 128 - c.val)) = BitVec.ofNat 32 k.val) :
    REF x (ix4 p h q c) = (x (ix2 k h) - x (ix2 31 h)) * Ideal.ofBits .f32 0x3FB8AA3B#32 := by
  unfold REF
  have hs := start_at (row far) p q c k ((row_at far p q c).trans ((congrArg bucket (far_at p q c)).trans hk))
  have e : (⟨min (start (row far) (ix4 p q c 0)).toInt.toNat 31, by omega⟩ : Fin 32) = k := Fin.ext (by
    show min (start (row far) (ix4 p q c 0)).toInt.toNat 31 = k.val
    rw [hs, toInt_ofNat (by omega)]
    omega)
  rw [out_at, taken_at, e]

variable (m : (ℓ : Loc nD τ sig) → Buf (Elt Ideal) ℓ)

theorem res_eq (c : Dev nD) : res_out0 m c = REF (m ((c.tc : Thread nD τ).loc main_arg0)) := by
  sl_kernel_rfl

end Cert.BiasReferenceIdeal.Spec

end
-- ==== Proof.BiasValue.lean ====
module

public import proofs.«01_k».proof.Proof.Gen.BiasIdeal.Value
public import proofs.«01_k».proof.Proof.BiasBlock
public import proofs.«01_k».proof.Proof.BiasRef

@[expose] public section

set_option maxRecDepth 16384

noncomputable section

open Idealize.ShloMosaic Idealize.ShloMosaic.TcCoe Idealize.ShloMosaic.Tactic Idealize.SL.Sem
open Idealize.ShloMosaic.Pipeline (Dat)

namespace Cert.BiasIdeal.Value

open Cert.BiasIdeal Cert.BiasIdeal.Gen Cert.BiasIdeal.Block Cert.Bucket
open Cert.BiasReferenceIdeal.Spec (REF ref_at)

/-- A place of one head's tile is not in another head's. -/
theorem skip {n h : ℕ} (hh : h < 16) (e : n ≠ h) (inb : ∀ a : Fin 4, (![0, n, 0, 0] : Fin 4 → ℕ) a + (![1, 1, 128, 256] : Fin 4 → ℕ) a ≤ S1x16x128x256.size a)
    (v : Vec Ideal S1x1x128x256 .f32) (L : List (View.Piece (Elt Ideal) S1x16x128x256 .f32)) (r : Fin 128) (c : Fin 256) :
    View.canon (⟨Rect.unit (s := S1x16x128x256) ![0, n, 0, 0] ![1, 1, 128, 256] inb, v⟩ :: L) (ix4 0 ⟨h, hh⟩ r c) = View.canon L (ix4 0 ⟨h, hh⟩ r c) :=
  View.canon_cons_of_not_mem _ _ fun hm => by
    have h1 := (Rect.mem_set_unit (inb := inb)).mp hm 1
    have h2 : n ≤ h := h1.1
    have h3 : h < n + 1 := h1.2
    omega

/-- A place of a head's tile reads it. -/
theorem hit {h : ℕ} (hh : h < 16) (inb : ∀ a : Fin 4, (![0, h, 0, 0] : Fin 4 → ℕ) a + (![1, 1, 128, 256] : Fin 4 → ℕ) a ≤ S1x16x128x256.size a)
    (v : Vec Ideal S1x1x128x256 .f32) (L : List (View.Piece (Elt Ideal) S1x16x128x256 .f32)) (r : Fin 128) (c : Fin 256) :
    View.canon (⟨Rect.unit (s := S1x16x128x256) ![0, h, 0, 0] ![1, 1, 128, 256] inb, v⟩ :: L) (ix4 0 ⟨h, hh⟩ r c) = v (ix4 0 0 r c) := by
  have e : (Rect.unit (s := S1x16x128x256) ![0, h, 0, 0] ![1, 1, 128, 256] inb).emb (ix4 (n0 := 1) (n1 := 1) (n2 := 128) (n3 := 256) 0 0 r c) = ix4 0 ⟨h, hh⟩ r c := by
    funext a; apply Fin.ext; refine (Rect.emb_apply _ _ _).trans ?_
    match a with
    | 0 => rfl
    | 1 => show h + 1 * 0 = h; omega
    | 2 => show 0 + 1 * r.val = r.val; omega
    | 3 => show 0 + 1 * c.val = c.val; omega
  rw [← e]
  exact View.canon_cons_emb _ _ _ _

/-- Sixteen tiles, one a head, read at a place. -/
theorem canon_at (T : Fin 16 → Vec Ideal S1x1x128x256 .f32) (h : Fin 16) (r : Fin 128) (c : Fin 256) :
    View.canon ([
      ⟨Rect.unit ![0, 15, 0, 0] ![1, 1, 128, 256] inb_S1x16x128x256_S1x1x128x256_0_15_0_0, T 15⟩,
      ⟨Rect.unit ![0, 14, 0, 0] ![1, 1, 128, 256] inb_S1x16x128x256_S1x1x128x256_0_14_0_0, T 14⟩,
      ⟨Rect.unit ![0, 13, 0, 0] ![1, 1, 128, 256] inb_S1x16x128x256_S1x1x128x256_0_13_0_0, T 13⟩,
      ⟨Rect.unit ![0, 12, 0, 0] ![1, 1, 128, 256] inb_S1x16x128x256_S1x1x128x256_0_12_0_0, T 12⟩,
      ⟨Rect.unit ![0, 11, 0, 0] ![1, 1, 128, 256] inb_S1x16x128x256_S1x1x128x256_0_11_0_0, T 11⟩,
      ⟨Rect.unit ![0, 10, 0, 0] ![1, 1, 128, 256] inb_S1x16x128x256_S1x1x128x256_0_10_0_0, T 10⟩,
      ⟨Rect.unit ![0, 9, 0, 0] ![1, 1, 128, 256] inb_S1x16x128x256_S1x1x128x256_0_9_0_0, T 9⟩,
      ⟨Rect.unit ![0, 8, 0, 0] ![1, 1, 128, 256] inb_S1x16x128x256_S1x1x128x256_0_8_0_0, T 8⟩,
      ⟨Rect.unit ![0, 7, 0, 0] ![1, 1, 128, 256] inb_S1x16x128x256_S1x1x128x256_0_7_0_0, T 7⟩,
      ⟨Rect.unit ![0, 6, 0, 0] ![1, 1, 128, 256] inb_S1x16x128x256_S1x1x128x256_0_6_0_0, T 6⟩,
      ⟨Rect.unit ![0, 5, 0, 0] ![1, 1, 128, 256] inb_S1x16x128x256_S1x1x128x256_0_5_0_0, T 5⟩,
      ⟨Rect.unit ![0, 4, 0, 0] ![1, 1, 128, 256] inb_S1x16x128x256_S1x1x128x256_0_4_0_0, T 4⟩,
      ⟨Rect.unit ![0, 3, 0, 0] ![1, 1, 128, 256] inb_S1x16x128x256_S1x1x128x256_0_3_0_0, T 3⟩,
      ⟨Rect.unit ![0, 2, 0, 0] ![1, 1, 128, 256] inb_S1x16x128x256_S1x1x128x256_0_2_0_0, T 2⟩,
      ⟨Rect.unit ![0, 1, 0, 0] ![1, 1, 128, 256] inb_S1x16x128x256_S1x1x128x256_0_1_0_0, T 1⟩,
      ⟨Rect.unit ![0, 0, 0, 0] ![1, 1, 128, 256] inb_S1x16x128x256_S1x1x128x256_0_0_0_0, T 0⟩] : List (View.Piece (Elt Ideal) S1x16x128x256 .f32)) (ix4 0 h r c) = T h (ix4 0 0 r c) := by
  match h with
  | ⟨0, _⟩ => exact (skip (n := 15) (h := 0) (by decide) (by decide) _ _ _ r c).trans <| (skip (n := 14) (h := 0) (by decide) (by decide) _ _ _ r c).trans <| (skip (n := 13) (h := 0) (by decide) (by decide) _ _ _ r c).trans <| (skip (n := 12) (h := 0) (by decide) (by decide) _ _ _ r c).trans <| (skip (n := 11) (h := 0) (by decide) (by decide) _ _ _ r c).trans <| (skip (n := 10) (h := 0) (by decide) (by decide) _ _ _ r c).trans <| (skip (n := 9) (h := 0) (by decide) (by decide) _ _ _ r c).trans <| (skip (n := 8) (h := 0) (by decide) (by decide) _ _ _ r c).trans <| (skip (n := 7) (h := 0) (by decide) (by decide) _ _ _ r c).trans <| (skip (n := 6) (h := 0) (by decide) (by decide) _ _ _ r c).trans <| (skip (n := 5) (h := 0) (by decide) (by decide) _ _ _ r c).trans <| (skip (n := 4) (h := 0) (by decide) (by decide) _ _ _ r c).trans <| (skip (n := 3) (h := 0) (by decide) (by decide) _ _ _ r c).trans <| (skip (n := 2) (h := 0) (by decide) (by decide) _ _ _ r c).trans <| (skip (n := 1) (h := 0) (by decide) (by decide) _ _ _ r c).trans <| hit (h := 0) (by decide) _ _ _ r c
  | ⟨1, _⟩ => exact (skip (n := 15) (h := 1) (by decide) (by decide) _ _ _ r c).trans <| (skip (n := 14) (h := 1) (by decide) (by decide) _ _ _ r c).trans <| (skip (n := 13) (h := 1) (by decide) (by decide) _ _ _ r c).trans <| (skip (n := 12) (h := 1) (by decide) (by decide) _ _ _ r c).trans <| (skip (n := 11) (h := 1) (by decide) (by decide) _ _ _ r c).trans <| (skip (n := 10) (h := 1) (by decide) (by decide) _ _ _ r c).trans <| (skip (n := 9) (h := 1) (by decide) (by decide) _ _ _ r c).trans <| (skip (n := 8) (h := 1) (by decide) (by decide) _ _ _ r c).trans <| (skip (n := 7) (h := 1) (by decide) (by decide) _ _ _ r c).trans <| (skip (n := 6) (h := 1) (by decide) (by decide) _ _ _ r c).trans <| (skip (n := 5) (h := 1) (by decide) (by decide) _ _ _ r c).trans <| (skip (n := 4) (h := 1) (by decide) (by decide) _ _ _ r c).trans <| (skip (n := 3) (h := 1) (by decide) (by decide) _ _ _ r c).trans <| (skip (n := 2) (h := 1) (by decide) (by decide) _ _ _ r c).trans <| hit (h := 1) (by decide) _ _ _ r c
  | ⟨2, _⟩ => exact (skip (n := 15) (h := 2) (by decide) (by decide) _ _ _ r c).trans <| (skip (n := 14) (h := 2) (by decide) (by decide) _ _ _ r c).trans <| (skip (n := 13) (h := 2) (by decide) (by decide) _ _ _ r c).trans <| (skip (n := 12) (h := 2) (by decide) (by decide) _ _ _ r c).trans <| (skip (n := 11) (h := 2) (by decide) (by decide) _ _ _ r c).trans <| (skip (n := 10) (h := 2) (by decide) (by decide) _ _ _ r c).trans <| (skip (n := 9) (h := 2) (by decide) (by decide) _ _ _ r c).trans <| (skip (n := 8) (h := 2) (by decide) (by decide) _ _ _ r c).trans <| (skip (n := 7) (h := 2) (by decide) (by decide) _ _ _ r c).trans <| (skip (n := 6) (h := 2) (by decide) (by decide) _ _ _ r c).trans <| (skip (n := 5) (h := 2) (by decide) (by decide) _ _ _ r c).trans <| (skip (n := 4) (h := 2) (by decide) (by decide) _ _ _ r c).trans <| (skip (n := 3) (h := 2) (by decide) (by decide) _ _ _ r c).trans <| hit (h := 2) (by decide) _ _ _ r c
  | ⟨3, _⟩ => exact (skip (n := 15) (h := 3) (by decide) (by decide) _ _ _ r c).trans <| (skip (n := 14) (h := 3) (by decide) (by decide) _ _ _ r c).trans <| (skip (n := 13) (h := 3) (by decide) (by decide) _ _ _ r c).trans <| (skip (n := 12) (h := 3) (by decide) (by decide) _ _ _ r c).trans <| (skip (n := 11) (h := 3) (by decide) (by decide) _ _ _ r c).trans <| (skip (n := 10) (h := 3) (by decide) (by decide) _ _ _ r c).trans <| (skip (n := 9) (h := 3) (by decide) (by decide) _ _ _ r c).trans <| (skip (n := 8) (h := 3) (by decide) (by decide) _ _ _ r c).trans <| (skip (n := 7) (h := 3) (by decide) (by decide) _ _ _ r c).trans <| (skip (n := 6) (h := 3) (by decide) (by decide) _ _ _ r c).trans <| (skip (n := 5) (h := 3) (by decide) (by decide) _ _ _ r c).trans <| (skip (n := 4) (h := 3) (by decide) (by decide) _ _ _ r c).trans <| hit (h := 3) (by decide) _ _ _ r c
  | ⟨4, _⟩ => exact (skip (n := 15) (h := 4) (by decide) (by decide) _ _ _ r c).trans <| (skip (n := 14) (h := 4) (by decide) (by decide) _ _ _ r c).trans <| (skip (n := 13) (h := 4) (by decide) (by decide) _ _ _ r c).trans <| (skip (n := 12) (h := 4) (by decide) (by decide) _ _ _ r c).trans <| (skip (n := 11) (h := 4) (by decide) (by decide) _ _ _ r c).trans <| (skip (n := 10) (h := 4) (by decide) (by decide) _ _ _ r c).trans <| (skip (n := 9) (h := 4) (by decide) (by decide) _ _ _ r c).trans <| (skip (n := 8) (h := 4) (by decide) (by decide) _ _ _ r c).trans <| (skip (n := 7) (h := 4) (by decide) (by decide) _ _ _ r c).trans <| (skip (n := 6) (h := 4) (by decide) (by decide) _ _ _ r c).trans <| (skip (n := 5) (h := 4) (by decide) (by decide) _ _ _ r c).trans <| hit (h := 4) (by decide) _ _ _ r c
  | ⟨5, _⟩ => exact (skip (n := 15) (h := 5) (by decide) (by decide) _ _ _ r c).trans <| (skip (n := 14) (h := 5) (by decide) (by decide) _ _ _ r c).trans <| (skip (n := 13) (h := 5) (by decide) (by decide) _ _ _ r c).trans <| (skip (n := 12) (h := 5) (by decide) (by decide) _ _ _ r c).trans <| (skip (n := 11) (h := 5) (by decide) (by decide) _ _ _ r c).trans <| (skip (n := 10) (h := 5) (by decide) (by decide) _ _ _ r c).trans <| (skip (n := 9) (h := 5) (by decide) (by decide) _ _ _ r c).trans <| (skip (n := 8) (h := 5) (by decide) (by decide) _ _ _ r c).trans <| (skip (n := 7) (h := 5) (by decide) (by decide) _ _ _ r c).trans <| (skip (n := 6) (h := 5) (by decide) (by decide) _ _ _ r c).trans <| hit (h := 5) (by decide) _ _ _ r c
  | ⟨6, _⟩ => exact (skip (n := 15) (h := 6) (by decide) (by decide) _ _ _ r c).trans <| (skip (n := 14) (h := 6) (by decide) (by decide) _ _ _ r c).trans <| (skip (n := 13) (h := 6) (by decide) (by decide) _ _ _ r c).trans <| (skip (n := 12) (h := 6) (by decide) (by decide) _ _ _ r c).trans <| (skip (n := 11) (h := 6) (by decide) (by decide) _ _ _ r c).trans <| (skip (n := 10) (h := 6) (by decide) (by decide) _ _ _ r c).trans <| (skip (n := 9) (h := 6) (by decide) (by decide) _ _ _ r c).trans <| (skip (n := 8) (h := 6) (by decide) (by decide) _ _ _ r c).trans <| (skip (n := 7) (h := 6) (by decide) (by decide) _ _ _ r c).trans <| hit (h := 6) (by decide) _ _ _ r c
  | ⟨7, _⟩ => exact (skip (n := 15) (h := 7) (by decide) (by decide) _ _ _ r c).trans <| (skip (n := 14) (h := 7) (by decide) (by decide) _ _ _ r c).trans <| (skip (n := 13) (h := 7) (by decide) (by decide) _ _ _ r c).trans <| (skip (n := 12) (h := 7) (by decide) (by decide) _ _ _ r c).trans <| (skip (n := 11) (h := 7) (by decide) (by decide) _ _ _ r c).trans <| (skip (n := 10) (h := 7) (by decide) (by decide) _ _ _ r c).trans <| (skip (n := 9) (h := 7) (by decide) (by decide) _ _ _ r c).trans <| (skip (n := 8) (h := 7) (by decide) (by decide) _ _ _ r c).trans <| hit (h := 7) (by decide) _ _ _ r c
  | ⟨8, _⟩ => exact (skip (n := 15) (h := 8) (by decide) (by decide) _ _ _ r c).trans <| (skip (n := 14) (h := 8) (by decide) (by decide) _ _ _ r c).trans <| (skip (n := 13) (h := 8) (by decide) (by decide) _ _ _ r c).trans <| (skip (n := 12) (h := 8) (by decide) (by decide) _ _ _ r c).trans <| (skip (n := 11) (h := 8) (by decide) (by decide) _ _ _ r c).trans <| (skip (n := 10) (h := 8) (by decide) (by decide) _ _ _ r c).trans <| (skip (n := 9) (h := 8) (by decide) (by decide) _ _ _ r c).trans <| hit (h := 8) (by decide) _ _ _ r c
  | ⟨9, _⟩ => exact (skip (n := 15) (h := 9) (by decide) (by decide) _ _ _ r c).trans <| (skip (n := 14) (h := 9) (by decide) (by decide) _ _ _ r c).trans <| (skip (n := 13) (h := 9) (by decide) (by decide) _ _ _ r c).trans <| (skip (n := 12) (h := 9) (by decide) (by decide) _ _ _ r c).trans <| (skip (n := 11) (h := 9) (by decide) (by decide) _ _ _ r c).trans <| (skip (n := 10) (h := 9) (by decide) (by decide) _ _ _ r c).trans <| hit (h := 9) (by decide) _ _ _ r c
  | ⟨10, _⟩ => exact (skip (n := 15) (h := 10) (by decide) (by decide) _ _ _ r c).trans <| (skip (n := 14) (h := 10) (by decide) (by decide) _ _ _ r c).trans <| (skip (n := 13) (h := 10) (by decide) (by decide) _ _ _ r c).trans <| (skip (n := 12) (h := 10) (by decide) (by decide) _ _ _ r c).trans <| (skip (n := 11) (h := 10) (by decide) (by decide) _ _ _ r c).trans <| hit (h := 10) (by decide) _ _ _ r c
  | ⟨11, _⟩ => exact (skip (n := 15) (h := 11) (by decide) (by decide) _ _ _ r c).trans <| (skip (n := 14) (h := 11) (by decide) (by decide) _ _ _ r c).trans <| (skip (n := 13) (h := 11) (by decide) (by decide) _ _ _ r c).trans <| (skip (n := 12) (h := 11) (by decide) (by decide) _ _ _ r c).trans <| hit (h := 11) (by decide) _ _ _ r c
  | ⟨12, _⟩ => exact (skip (n := 15) (h := 12) (by decide) (by decide) _ _ _ r c).trans <| (skip (n := 14) (h := 12) (by decide) (by decide) _ _ _ r c).trans <| (skip (n := 13) (h := 12) (by decide) (by decide) _ _ _ r c).trans <| hit (h := 12) (by decide) _ _ _ r c
  | ⟨13, _⟩ => exact (skip (n := 15) (h := 13) (by decide) (by decide) _ _ _ r c).trans <| (skip (n := 14) (h := 13) (by decide) (by decide) _ _ _ r c).trans <| hit (h := 13) (by decide) _ _ _ r c
  | ⟨14, _⟩ => exact (skip (n := 15) (h := 14) (by decide) (by decide) _ _ _ r c).trans <| hit (h := 14) (by decide) _ _ _ r c
  | ⟨15, _⟩ => exact hit (h := 15) (by decide) _ _ _ r c
  | ⟨n + 16, hn⟩ => omega

/-- What the body leaves at a place of a head is its tile's value there. -/
theorem out_at (d : Dev nD) (i : grid0.Coords) (arg1 : Memref sig .tc .smem S32x16 .f32) (harg1 : arg1.IsWhole) (arg2 : Memref sig .tc .vmem S1x16x128x256 .f32) (harg2 : arg2.IsWhole)
    (x0 : Vec Ideal S32x16 .f32) (h : Fin 16) (r : Fin 128) (c : Fin 256) :
    out0_A_1 d i arg1 harg1 arg2 harg2 x0 (ix4 0 h r c) = tile (k0_pay2 (F := Ideal) i) (column arg1 harg1 x0 h.val h.isLt) (ix4 0 0 r c) := by
  unfold out0_A_1
  rw [View.read_writes_junk_eq_canon, pieces]
  exact canon_at (fun h => tile (k0_pay2 (F := Ideal) i) (column arg1 harg1 x0 h.val h.isLt)) h r c

variable (m : (ℓ : Loc nD τ sig) → Buf (Elt Ideal) ℓ)

theorem idx : ∀ t : Fin cfg0.N, win0_0.index t = ![0, 0] ∧ win0_1.index t = ![t.val, 0, 0, 0] ∧ (grid0.coords t 0).val = t.val :=
  (by decide +kernel : ∀ t : Fin grid0.N, _)

/-- The argument, by name. -/
abbrev a0 (c : Dev nD) : FVec Ideal S32x16 .f32 := m ((c : Thread nD τ).loc main_arg0)

/-- A block's table is the argument. -/
theorem blk0 (c : Dev nD) (t : Fin cfg0.N) (k : Fin 32) (h : Fin 16) :
    (show FVec Ideal S32x16 .f32 from iblk m c 0 t) (ix2 k h) = a0 m c (ix2 k h) := by
  blk_point [iblk, V, idx t]

theorem point (d : Dev nD) (t : Fin cfg0.N) (p : Fin 2) (hp : p.val = t.val) (h : Fin 16) (r : Fin 128) (c : Fin 256) :
    outsAt0 m d t (ix4 0 h r c) = REF (a0 m d) (ix4 p h r c) := by
  obtain ⟨k, hk⟩ := bucket_lt (n := r.val + p.val * 128 - c.val) (by omega)
  rw [ref_at (a0 m d) p h r c k hk]
  unfold outsAt0
  rw [out_at, tile_at, bucket_at, (idx t).2.2, ← hp, hk, pick_eq _ k 32 _ k.isLt, column_at, column_at]
  exact congrArg₂ (fun a b : EReal => (a - b) * Ideal.ofBits .f32 0x3FB8AA3B#32) (blk0 m d t k h) (blk0 m d t 31 h)

/-- The result array after the run is the reference's term of the argument. -/
theorem final (c : Dev nD) : (dats m 0 c).arrAt 1 (cfgs 0).N = REF (a0 m c) := by
  refine (dats m 0 c).arrAt_eq_of_covers 1 _ (by decide +kernel) fun t _ y => ?_
  blk_simp
  rw [after0_1]
  have ht : t.val < 2 := lt_of_lt_of_eq t.isLt (by decide)
  idx_vars y
  have h0 : y0 = 0 := Fin.ext (by have := y0.isLt; omega)
  subst h0
  refine (point m c t ⟨t.val, ht⟩ rfl y1 y2 y3).trans (congrArg _ ?_)
  blk_ext [idx t]

end Cert.BiasIdeal.Value

end
-- ==== Proof.BiasClaim.lean ====
module

public import proofs.«01_k».proof.Defs
public import proofs.«01_k».proof.Proof.Gen.BiasIdeal.Value
public import proofs.«01_k».proof.Proof.BiasValue
public import Idealize.ShloMosaic.Adequacy
public import Idealize.ShloMosaic.Init

@[expose] public section

set_option maxRecDepth 16384

noncomputable section

namespace Cert.Proof

open Idealize.ShloMosaic Idealize.SL.Sem

/-- The bias tiles' run and their reference's end with the same result. -/
theorem algebraic_bias : @algebraic_BiasIdeal_BiasReferenceIdeal Cert.BiasIdeal.Gen.facts Cert.BiasReferenceIdeal.Gen.facts := by
  intro m g m' g' _ hagree
  refine ⟨fun c => (Cert.BiasIdeal.Gen.dats m 0 c).arrAt 1 Cert.BiasIdeal.cfg0.N,
    Cert.BiasIdeal.Value.run_blocks m g, ?_⟩
  refine (θ_run _ _ _).mono (fun r h c => ⟨(h c).1.trans ?_, (h c).2⟩) (Cert.BiasReferenceIdeal.Value.run m' g')
  have h0 := hagree c
  refine (Cert.BiasReferenceIdeal.Spec.res_eq m' c).trans ?_
  rw [h0]
  exact (Cert.BiasIdeal.Value.final m c).symm

end Cert.Proof

end
-- ==== Proof.lean ====
module

public import proofs.«01_k».proof.Defs
public import proofs.«01_k».proof.Proof.Gen.Bias
public import proofs.«01_k».proof.Proof.Gen.Bias.Skeleton
public import proofs.«01_k».proof.Proof.Gen.Bias.Launch
public import proofs.«01_k».proof.Proof.Gen.Bias.Points
public import proofs.«01_k».proof.Proof.Gen.Bias.Frame
public import proofs.«01_k».proof.Proof.Gen.BiasIdeal
public import proofs.«01_k».proof.Proof.Gen.BiasIdeal.Skeleton
public import proofs.«01_k».proof.Proof.Gen.BiasIdeal.Launch
public import proofs.«01_k».proof.Proof.Gen.BiasIdeal.Points
public import proofs.«01_k».proof.Proof.Gen.BiasIdeal.Frame
public import proofs.«01_k».proof.Proof.Gen.BiasReferenceIdeal
public import proofs.«01_k».proof.Proof.Gen.BiasIdeal.Value
public import proofs.«01_k».proof.Proof.Gen.BiasReferenceIdeal.Run
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnReferenceIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeReferenceIdeal
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjReferenceIdeal
public import proofs.«01_k».proof.Proof.Gen.Disc
public import proofs.«01_k».proof.Proof.Gen.Disc.Skeleton
public import proofs.«01_k».proof.Proof.Gen.Disc.Launch
public import proofs.«01_k».proof.Proof.Gen.Disc.Points
public import proofs.«01_k».proof.Proof.Gen.Disc.Frame
public import proofs.«01_k».proof.Proof.Gen.DiscIdeal
public import proofs.«01_k».proof.Proof.Gen.DiscIdeal.Skeleton
public import proofs.«01_k».proof.Proof.Gen.DiscIdeal.Launch
public import proofs.«01_k».proof.Proof.Gen.DiscIdeal.Points
public import proofs.«01_k».proof.Proof.Gen.DiscIdeal.Frame
public import proofs.«01_k».proof.Proof.Gen.DiscReferenceIdeal
public import proofs.«01_k».proof.Proof.Gen.Pool
public import proofs.«01_k».proof.Proof.Gen.Pool.Skeleton
public import proofs.«01_k».proof.Proof.Gen.Pool.Launch
public import proofs.«01_k».proof.Proof.Gen.Pool.Points
public import proofs.«01_k».proof.Proof.Gen.Pool.Frame
public import proofs.«01_k».proof.Proof.Gen.PoolIdeal
public import proofs.«01_k».proof.Proof.Gen.PoolIdeal.Skeleton
public import proofs.«01_k».proof.Proof.Gen.PoolIdeal.Launch
public import proofs.«01_k».proof.Proof.Gen.PoolIdeal.Points
public import proofs.«01_k».proof.Proof.Gen.PoolIdeal.Frame
public import proofs.«01_k».proof.Proof.Gen.PoolReferenceIdeal
public import proofs.«01_k».proof.Proof.Gen.FfnIdeal.Value
public import proofs.«01_k».proof.Proof.Gen.MergeIdeal.Value
public import proofs.«01_k».proof.Proof.Gen.InProjIdeal.Value
public import proofs.«01_k».proof.Proof.Gen.DiscIdeal.Value
public import proofs.«01_k».proof.Proof.Gen.PoolIdeal.Value
public import proofs.«01_k».proof.Proof.Gen.FfnReferenceIdeal.Run
public import proofs.«01_k».proof.Proof.Gen.MergeReferenceIdeal.Run
public import proofs.«01_k».proof.Proof.Gen.InProjReferenceIdeal.Run
public import proofs.«01_k».proof.Proof.Gen.DiscReferenceIdeal.Run
public import proofs.«01_k».proof.Proof.Gen.PoolReferenceIdeal.Run
public import proofs.«01_k».proof.Proof.Gen.ReferenceIdeal.Run
public import proofs.«01_k».proof.Proof.S5BFrame
public import proofs.«01_k».proof.Proof.S5Claim
public import proofs.«01_k».proof.Proof.FfnClaim
public import proofs.«01_k».proof.Proof.MergeClaim
public import proofs.«01_k».proof.Proof.InProjClaim
public import proofs.«01_k».proof.Proof.DiscClaim
public import proofs.«01_k».proof.Proof.PoolClaim
public import proofs.«01_k».proof.Proof.BiasClaim
public import Idealize.ShloMosaic.Adequacy
public import Idealize.ShloMosaic.Init

@[expose] public section

noncomputable section

/-! The claims -/

namespace Cert.Proof

open Idealize.ShloMosaic Idealize.SL.Sem

/-- `FfnReferenceIdeal` runs to the end and leaves its arguments as they were. -/
theorem frame_FfnReference : @quiescent_FfnReferenceIdeal Cert.FfnReferenceIdeal.Gen.facts := fun m ρ _ =>
  (θ_run _ _ _).mono (fun _ h => ⟨fun c => (h c).2, sem_eq_zero_of_no_sems (by decide) _⟩)
    (Cert.FfnReferenceIdeal.Value.run m ρ)

/-- `MergeReferenceIdeal` runs to the end and leaves its arguments as they were. -/
theorem frame_MergeReference : @quiescent_MergeReferenceIdeal Cert.MergeReferenceIdeal.Gen.facts := fun m ρ _ =>
  (θ_run _ _ _).mono (fun _ h => ⟨fun c => (h c).2, sem_eq_zero_of_no_sems (by decide) _⟩)
    (Cert.MergeReferenceIdeal.Value.run m ρ)

/-- `InProjReferenceIdeal` runs to the end and leaves its arguments as they were. -/
theorem frame_InProjReference : @quiescent_InProjReferenceIdeal Cert.InProjReferenceIdeal.Gen.facts := fun m ρ _ =>
  (θ_run _ _ _).mono (fun _ h => ⟨fun c => (h c).2.2.2, sem_eq_zero_of_no_sems (by decide) _⟩)
    (Cert.InProjReferenceIdeal.Value.run m ρ)

/-- `DiscReferenceIdeal` runs to the end and leaves its arguments as they were. -/
theorem frame_DiscReference : @quiescent_DiscReferenceIdeal Cert.DiscReferenceIdeal.Gen.facts := fun m ρ _ =>
  (θ_run _ _ _).mono (fun _ h => ⟨fun c => (h c).2.2.2.2, sem_eq_zero_of_no_sems (by decide) _⟩)
    (Cert.DiscReferenceIdeal.Value.run m ρ)

/-- `PoolReferenceIdeal` runs to the end and leaves its arguments as they were. -/
theorem frame_PoolReference : @quiescent_PoolReferenceIdeal Cert.PoolReferenceIdeal.Gen.facts := fun m ρ _ =>
  (θ_run _ _ _).mono (fun _ h => ⟨fun c => (h c).2, sem_eq_zero_of_no_sems (by decide) _⟩)
    (Cert.PoolReferenceIdeal.Value.run m ρ)

/-- `BiasReferenceIdeal` runs to the end and leaves its arguments as they were. -/
theorem frame_BiasReference : @quiescent_BiasReferenceIdeal Cert.BiasReferenceIdeal.Gen.facts := fun m ρ _ =>
  (θ_run _ _ _).mono (fun _ h => ⟨fun c => (h c).2, sem_eq_zero_of_no_sems (by decide) _⟩)
    (Cert.BiasReferenceIdeal.Value.run m ρ)

/-- All the claims: the programs' facts, the frames, and for each call that its idealization keeps the program and that
    the call and its reference end with the same results. -/
theorem claim : Cert.Claim := ⟨Cert.Kernel.Gen.facts,
  Cert.KernelIdeal.Gen.facts,
  Cert.ReferenceIdeal.Gen.facts,
  Cert.Ffn.Gen.facts,
  Cert.FfnIdeal.Gen.facts,
  Cert.FfnReferenceIdeal.Gen.facts,
  Cert.Merge.Gen.facts,
  Cert.MergeIdeal.Gen.facts,
  Cert.MergeReferenceIdeal.Gen.facts,
  Cert.InProj.Gen.facts,
  Cert.InProjIdeal.Gen.facts,
  Cert.InProjReferenceIdeal.Gen.facts,
  Cert.Disc.Gen.facts,
  Cert.DiscIdeal.Gen.facts,
  Cert.DiscReferenceIdeal.Gen.facts,
  Cert.Pool.Gen.facts,
  Cert.PoolIdeal.Gen.facts,
  Cert.PoolReferenceIdeal.Gen.facts,
  Cert.Bias.Gen.facts,
  Cert.BiasIdeal.Gen.facts,
  Cert.BiasReferenceIdeal.Gen.facts,
  fun m ρ _ => Cert.Kernel.S5.frame m ρ,
  fun m ρ _ => Cert.KernelIdeal.S5.frame m ρ,
  frame_Reference,
  fun m ρ _ => Cert.Ffn.Gen.frame m ρ,
  fun m ρ _ => Cert.FfnIdeal.Gen.frame m ρ,
  frame_FfnReference,
  fun m ρ _ => Cert.Merge.Gen.frame m ρ,
  fun m ρ _ => Cert.MergeIdeal.Gen.frame m ρ,
  frame_MergeReference,
  fun m ρ _ => Cert.InProj.Gen.frame m ρ,
  fun m ρ _ => Cert.InProjIdeal.Gen.frame m ρ,
  frame_InProjReference,
  fun m ρ _ => Cert.Disc.Gen.frame m ρ,
  fun m ρ _ => Cert.DiscIdeal.Gen.frame m ρ,
  frame_DiscReference,
  fun m ρ _ => Cert.Pool.Gen.frame m ρ,
  fun m ρ _ => Cert.PoolIdeal.Gen.frame m ρ,
  frame_PoolReference,
  fun m ρ _ => Cert.Bias.Gen.frame m ρ,
  fun m ρ _ => Cert.BiasIdeal.Gen.frame m ρ,
  frame_BiasReference,
  trivial,
  algebraic_s5,
  trivial,
  algebraic_ffn,
  trivial,
  algebraic_merge,
  trivial,
  algebraic_in_proj,
  trivial,
  algebraic_disc,
  trivial,
  algebraic_pool,
  trivial,
  algebraic_bias⟩

end Cert.Proof

end
